-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x13312 : Shape := ⟨3, ![96, 1, 13312]⟩
abbrev S13312x16384 : Shape := ⟨2, ![13312, 16384]⟩
abbrev S416x16384 : Shape := ⟨2, ![416, 16384]⟩
abbrev S96x13312 : Shape := ⟨2, ![96, 13312]⟩
abbrev S96x16384 : Shape := ⟨2, ![96, 16384]⟩
abbrev S6x3328x512 : Shape := ⟨3, ![6, 3328, 512]⟩
abbrev S2x96x512 : Shape := ⟨3, ![2, 96, 512]⟩
abbrev S4 : Shape := ⟨1, ![4]⟩
abbrev S6 : Shape := ⟨1, ![6]⟩
abbrev S2 : Shape := ⟨1, ![2]⟩
abbrev S1 : Shape := ⟨1, ![1]⟩
abbrev S_ : Shape := ⟨0, ![]⟩
abbrev S96x3328 : Shape := ⟨2, ![96, 3328]⟩
abbrev S1x3328x512 : Shape := ⟨3, ![1, 3328, 512]⟩
abbrev S3328x512 : Shape := ⟨2, ![3328, 512]⟩
abbrev S1x32x256 : Shape := ⟨3, ![1, 32, 256]⟩
abbrev S32x256 : Shape := ⟨2, ![32, 256]⟩
abbrev S1x256 : Shape := ⟨2, ![1, 256]⟩
abbrev S256x256 : Shape := ⟨2, ![256, 256]⟩
abbrev S96x256 : Shape := ⟨2, ![96, 256]⟩
abbrev S96x512 : Shape := ⟨2, ![96, 512]⟩
abbrev S1x96x512 : Shape := ⟨3, ![1, 96, 512]⟩
abbrev S1x96x256 : Shape := ⟨3, ![1, 96, 256]⟩
abbrev S96x1x16384 : Shape := ⟨3, ![96, 1, 16384]⟩

abbrev nBuf : Space → Nat
  | .hbm => 6
  | .vmem => 4
  | .smem => 0
  | _ => 0

abbrev bufTy : (tb : Table) → Fin (tcTables nBuf tb) → BufTy
  | .hbm, ⟨0, _⟩ => ⟨S96x1x13312, .bf16⟩
  | .hbm, ⟨1, _⟩ => ⟨S13312x16384, .i8⟩
  | .hbm, ⟨2, _⟩ => ⟨S416x16384, .f32⟩
  | .hbm, ⟨3, _⟩ => ⟨S96x13312, .bf16⟩
  | .hbm, ⟨4, _⟩ => ⟨S96x16384, .bf16⟩
  | .hbm, ⟨5, _⟩ => ⟨S96x1x16384, .bf16⟩
  | .local _ .vmem, ⟨0, _⟩ => ⟨S416x16384, .f32⟩
  | .local _ .vmem, ⟨1, _⟩ => ⟨S96x13312, .bf16⟩
  | .local _ .vmem, ⟨2, _⟩ => ⟨S6x3328x512, .i8⟩
  | .local _ .vmem, ⟨3, _⟩ => ⟨S2x96x512, .bf16⟩
  | _, _ => ⟨S96x1x13312, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0

abbrev nD : Nat := 1
abbrev τ : Topo := Topo.v7x

variable {F : FTy → Type} [FloatOps F]

abbrev grid0 : Pipeline.Grid := .none

@[reducible] def k0_t1_loop : Scf.Loop 32 :=
  let c0_i32_42_r0 : BitVec 32 := 0#32
  let c32_i32_r0 : BitVec 32 := 32#32
  let v41_r0 : BitVec 32 := Scalar.addi c0_i32_42_r0 c32_i32_r0
  let c1_i32_43_r0 : BitVec 32 := 1#32
  ⟨c0_i32_42_r0, v41_r0, c1_i32_43_r0⟩
def k0_off1 (k0_t1 : Fin k0_t1_loop.trips) (c0_i32_56_r0 : BitVec 32) : Fin 1 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_r0 : BitVec 32 := 6#32
  let c0_i32_72_r0 : BitVec 32 := 0#32
  let v84_r0 : BitVec 1 := Scalar.cmpi .eq c6_i32_r0 c0_i32_72_r0
  let c1_i32_73_r0 : BitVec 32 := 1#32
  let v85_r0 : BitVec 32 := Scalar.select v84_r0 c1_i32_73_r0 c6_i32_r0
  let v86_r0 : BitVec 32 := Scalar.remsi v53_r0 v85_r0
  let c0_i32_75_r0 : BitVec 32 := 0#32
  let v88_r0 : BitVec 1 := Scalar.cmpi .slt v86_r0 c0_i32_75_r0
  let c0_i32_76_r0 : BitVec 32 := 0#32
  let v89_r0 : BitVec 1 := Scalar.cmpi .slt v85_r0 c0_i32_76_r0
  let v90_r0 : BitVec 1 := Scalar.xori v88_r0 v89_r0
  let c0_i32_74_r0 : BitVec 32 := 0#32
  let v87_r0 : BitVec 1 := Scalar.cmpi .ne v86_r0 c0_i32_74_r0
  let v91_r0 : BitVec 1 := Scalar.andi v90_r0 v87_r0
  let v92_r0 : BitVec 32 := Scalar.addi v86_r0 v85_r0
  let v93_r0 : BitVec 32 := Scalar.select v91_r0 v92_r0 v86_r0
  ![v93_r0.toNat]
def k0_off2 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_r0 : BitVec 32 := 6#32
  let c0_i32_72_r0 : BitVec 32 := 0#32
  let v84_r0 : BitVec 1 := Scalar.cmpi .eq c6_i32_r0 c0_i32_72_r0
  let c1_i32_73_r0 : BitVec 32 := 1#32
  let v85_r0 : BitVec 32 := Scalar.select v84_r0 c1_i32_73_r0 c6_i32_r0
  let v86_r0 : BitVec 32 := Scalar.remsi v53_r0 v85_r0
  let c0_i32_75_r0 : BitVec 32 := 0#32
  let v88_r0 : BitVec 1 := Scalar.cmpi .slt v86_r0 c0_i32_75_r0
  let c0_i32_76_r0 : BitVec 32 := 0#32
  let v89_r0 : BitVec 1 := Scalar.cmpi .slt v85_r0 c0_i32_76_r0
  let v90_r0 : BitVec 1 := Scalar.xori v88_r0 v89_r0
  let c0_i32_74_r0 : BitVec 32 := 0#32
  let v87_r0 : BitVec 1 := Scalar.cmpi .ne v86_r0 c0_i32_74_r0
  let v91_r0 : BitVec 1 := Scalar.andi v90_r0 v87_r0
  let v92_r0 : BitVec 32 := Scalar.addi v86_r0 v85_r0
  let v93_r0 : BitVec 32 := Scalar.select v91_r0 v92_r0 v86_r0
  let c0_i32_79_r0 : BitVec 32 := 0#32
  let c0_i32_80_r0 : BitVec 32 := 0#32
  ![v93_r0.toNat, 0, 0]
def k0_off3 (k0_t1 : Fin k0_t1_loop.trips) (c0_i32_56_r0 : BitVec 32) : Fin 2 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c4_i32_66_r0 : BitVec 32 := 4#32
  let c0_i32_67_r0 : BitVec 32 := 0#32
  let v74_r0 : BitVec 1 := Scalar.cmpi .eq c4_i32_66_r0 c0_i32_67_r0
  let c1_i32_68_r0 : BitVec 32 := 1#32
  let v75_r0 : BitVec 32 := Scalar.select v74_r0 c1_i32_68_r0 c4_i32_66_r0
  let v76_r0 : BitVec 32 := Scalar.remsi v53_r0 v75_r0
  let c0_i32_70_r0 : BitVec 32 := 0#32
  let v78_r0 : BitVec 1 := Scalar.cmpi .slt v76_r0 c0_i32_70_r0
  let c0_i32_71_r0 : BitVec 32 := 0#32
  let v79_r0 : BitVec 1 := Scalar.cmpi .slt v75_r0 c0_i32_71_r0
  let v80_r0 : BitVec 1 := Scalar.xori v78_r0 v79_r0
  let c0_i32_69_r0 : BitVec 32 := 0#32
  let v77_r0 : BitVec 1 := Scalar.cmpi .ne v76_r0 c0_i32_69_r0
  let v81_r0 : BitVec 1 := Scalar.andi v80_r0 v77_r0
  let v82_r0 : BitVec 32 := Scalar.addi v76_r0 v75_r0
  let v83_r0 : BitVec 32 := Scalar.select v81_r0 v82_r0 v76_r0
  let c3328_i32_77_r0 : BitVec 32 := 3328#32
  let v94_r0 : BitVec 32 := Scalar.muli v83_r0 c3328_i32_77_r0
  let c0_i32_60_r0 : BitVec 32 := 0#32
  let v58_r0 : BitVec 1 := Scalar.cmpi .sgt v53_r0 c0_i32_60_r0
  let v59_r0 : BitVec 32 := Scalar.extui v58_r0
  let c0_i32_61_r0 : BitVec 32 := 0#32
  let v60_r0 : BitVec 1 := Scalar.cmpi .slt v53_r0 c0_i32_61_r0
  let v61_r0 : BitVec 32 := Scalar.extui v60_r0
  let v62_r0 : BitVec 32 := Scalar.subi v59_r0 v61_r0
  let c4_i32_59_r0 : BitVec 32 := 4#32
  let c0_i32_62_r0 : BitVec 32 := 0#32
  let v63_r0 : BitVec 1 := Scalar.cmpi .sgt c4_i32_59_r0 c0_i32_62_r0
  let v64_r0 : BitVec 32 := Scalar.extui v63_r0
  let c0_i32_63_r0 : BitVec 32 := 0#32
  let v65_r0 : BitVec 1 := Scalar.cmpi .slt c4_i32_59_r0 c0_i32_63_r0
  let v66_r0 : BitVec 32 := Scalar.extui v65_r0
  let v67_r0 : BitVec 32 := Scalar.subi v64_r0 v66_r0
  let v68_r0 : BitVec 1 := Scalar.cmpi .ne v62_r0 v67_r0
  let v69_r0 : BitVec 32 := Scalar.remsi v53_r0 c4_i32_59_r0
  let c0_i32_64_r0 : BitVec 32 := 0#32
  let v70_r0 : BitVec 1 := Scalar.cmpi .ne v69_r0 c0_i32_64_r0
  let v71_r0 : BitVec 1 := Scalar.andi v68_r0 v70_r0
  let v57_r0 : BitVec 32 := Scalar.divsi v53_r0 c4_i32_59_r0
  let c1_i32_65_r0 : BitVec 32 := 1#32
  let v72_r0 : BitVec 32 := Scalar.subi v57_r0 c1_i32_65_r0
  let v73_r0 : BitVec 32 := Scalar.select v71_r0 v72_r0 v57_r0
  let c512_i32_78_r0 : BitVec 32 := 512#32
  let v95_r0 : BitVec 32 := Scalar.muli v73_r0 c512_i32_78_r0
  ![v94_r0.toNat, v95_r0.toNat]
def k0_cond2 (k0_t1 : Fin k0_t1_loop.trips) : BitVec 1 :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let c0_i32_56_r0 : BitVec 32 := 0#32
  let v53_r0 : BitVec 32 := Scalar.addi v52_r0 c0_i32_56_r0
  let c6_i32_81_r0 : BitVec 32 := 6#32
  let v101_r0 : BitVec 32 := Scalar.addi v53_r0 c6_i32_81_r0
  let c1_i32_82_r0 : BitVec 32 := 1#32
  let v102_r0 : BitVec 32 := Scalar.subi v101_r0 c1_i32_82_r0
  let c128_i32_r0 : BitVec 32 := 128#32
  let v103_r0 : BitVec 1 := Scalar.cmpi .slt v102_r0 c128_i32_r0
  let v104_r0 : BitVec 32 := Scalar.extui v103_r0
  let c0_i32_83_r0 : BitVec 32 := 0#32
  let v105_r0 : BitVec 1 := Scalar.cmpi .ne v104_r0 c0_i32_83_r0
  v105_r0

def k0_off4 (k0_t1 : Fin k0_t1_loop.trips) : Fin 1 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let c0_i32_56_r0 : BitVec 32 := 0#32
  let v53_r0 : BitVec 32 := Scalar.addi v52_r0 c0_i32_56_r0
  let c6_i32_2496_r0 : BitVec 32 := 6#32
  let v9053_r0 : BitVec 32 := Scalar.addi v53_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  ![v9091_r0.toNat]
def k0_off5 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let c0_i32_56_r0 : BitVec 32 := 0#32
  let v53_r0 : BitVec 32 := Scalar.addi v52_r0 c0_i32_56_r0
  let c6_i32_2496_r0 : BitVec 32 := 6#32
  let v9053_r0 : BitVec 32 := Scalar.addi v53_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  let c0_i32_2519_r0 : BitVec 32 := 0#32
  let c0_i32_2520_r0 : BitVec 32 := 0#32
  ![v9091_r0.toNat, 0, 0]
def k0_off6 (k0_t1 : Fin k0_t1_loop.trips) : Fin 2 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let c0_i32_56_r0 : BitVec 32 := 0#32
  let v53_r0 : BitVec 32 := Scalar.addi v52_r0 c0_i32_56_r0
  let c6_i32_2496_r0 : BitVec 32 := 6#32
  let v9053_r0 : BitVec 32 := Scalar.addi v53_r0 c6_i32_2496_r0
  let c1_i32_2497_r0 : BitVec 32 := 1#32
  let v9054_r0 : BitVec 32 := Scalar.subi v9053_r0 c1_i32_2497_r0
  let c4_i32_2505_r0 : BitVec 32 := 4#32
  let c0_i32_2506_r0 : BitVec 32 := 0#32
  let v9072_r0 : BitVec 1 := Scalar.cmpi .eq c4_i32_2505_r0 c0_i32_2506_r0
  let c1_i32_2507_r0 : BitVec 32 := 1#32
  let v9073_r0 : BitVec 32 := Scalar.select v9072_r0 c1_i32_2507_r0 c4_i32_2505_r0
  let v9074_r0 : BitVec 32 := Scalar.remsi v9054_r0 v9073_r0
  let c0_i32_2509_r0 : BitVec 32 := 0#32
  let v9076_r0 : BitVec 1 := Scalar.cmpi .slt v9074_r0 c0_i32_2509_r0
  let c0_i32_2510_r0 : BitVec 32 := 0#32
  let v9077_r0 : BitVec 1 := Scalar.cmpi .slt v9073_r0 c0_i32_2510_r0
  let v9078_r0 : BitVec 1 := Scalar.xori v9076_r0 v9077_r0
  let c0_i32_2508_r0 : BitVec 32 := 0#32
  let v9075_r0 : BitVec 1 := Scalar.cmpi .ne v9074_r0 c0_i32_2508_r0
  let v9079_r0 : BitVec 1 := Scalar.andi v9078_r0 v9075_r0
  let v9080_r0 : BitVec 32 := Scalar.addi v9074_r0 v9073_r0
  let v9081_r0 : BitVec 32 := Scalar.select v9079_r0 v9080_r0 v9074_r0
  let c3328_i32_2517_r0 : BitVec 32 := 3328#32
  let v9092_r0 : BitVec 32 := Scalar.muli v9081_r0 c3328_i32_2517_r0
  let c0_i32_2499_r0 : BitVec 32 := 0#32
  let v9056_r0 : BitVec 1 := Scalar.cmpi .sgt v9054_r0 c0_i32_2499_r0
  let v9057_r0 : BitVec 32 := Scalar.extui v9056_r0
  let c0_i32_2500_r0 : BitVec 32 := 0#32
  let v9058_r0 : BitVec 1 := Scalar.cmpi .slt v9054_r0 c0_i32_2500_r0
  let v9059_r0 : BitVec 32 := Scalar.extui v9058_r0
  let v9060_r0 : BitVec 32 := Scalar.subi v9057_r0 v9059_r0
  let c4_i32_2498_r0 : BitVec 32 := 4#32
  let c0_i32_2501_r0 : BitVec 32 := 0#32
  let v9061_r0 : BitVec 1 := Scalar.cmpi .sgt c4_i32_2498_r0 c0_i32_2501_r0
  let v9062_r0 : BitVec 32 := Scalar.extui v9061_r0
  let c0_i32_2502_r0 : BitVec 32 := 0#32
  let v9063_r0 : BitVec 1 := Scalar.cmpi .slt c4_i32_2498_r0 c0_i32_2502_r0
  let v9064_r0 : BitVec 32 := Scalar.extui v9063_r0
  let v9065_r0 : BitVec 32 := Scalar.subi v9062_r0 v9064_r0
  let v9066_r0 : BitVec 1 := Scalar.cmpi .ne v9060_r0 v9065_r0
  let v9067_r0 : BitVec 32 := Scalar.remsi v9054_r0 c4_i32_2498_r0
  let c0_i32_2503_r0 : BitVec 32 := 0#32
  let v9068_r0 : BitVec 1 := Scalar.cmpi .ne v9067_r0 c0_i32_2503_r0
  let v9069_r0 : BitVec 1 := Scalar.andi v9066_r0 v9068_r0
  let v9055_r0 : BitVec 32 := Scalar.divsi v9054_r0 c4_i32_2498_r0
  let c1_i32_2504_r0 : BitVec 32 := 1#32
  let v9070_r0 : BitVec 32 := Scalar.subi v9055_r0 c1_i32_2504_r0
  let v9071_r0 : BitVec 32 := Scalar.select v9069_r0 v9070_r0 v9055_r0
  let c512_i32_2518_r0 : BitVec 32 := 512#32
  let v9093_r0 : BitVec 32 := Scalar.muli v9071_r0 c512_i32_2518_r0
  ![v9092_r0.toNat, v9093_r0.toNat]
def k0_off7 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v118_r0 : Index := Scalar.indexCast v115_r0
  let c0_r0 : Index := 0#32
  let c0_92_r0 : Index := 0#32
  ![v118_r0.toNat, 0, 0]
def k0_off8 (k0_t1 : Fin k0_t1_loop.trips) (c0_i32_91_r0 : BitVec 32) : Fin 2 → Nat :=
  let c0_93_r0 : Index := 0#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v121_r0 : Index := Scalar.indexCast v117_r0
  ![0, v121_r0.toNat]
def k0_off9 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v128_r0 : Index := Scalar.indexCast v115_r0
  let c32_r0 : Index := 32#32
  let c0_94_r0 : Index := 0#32
  ![v128_r0.toNat, 32, 0]
def k0_off10 (k0_t1 : Fin k0_t1_loop.trips) (c0_i32_91_r0 : BitVec 32) : Fin 2 → Nat :=
  let c1_r0 : Index := 1#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v131_r0 : Index := Scalar.indexCast v117_r0
  ![1, v131_r0.toNat]
def k0_off11 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v138_r0 : Index := Scalar.indexCast v115_r0
  let c64_r0 : Index := 64#32
  let c0_95_r0 : Index := 0#32
  ![v138_r0.toNat, 64, 0]
def k0_off12 (k0_t1 : Fin k0_t1_loop.trips) (c0_i32_91_r0 : BitVec 32) : Fin 2 → Nat :=
  let c2_r0 : Index := 2#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v141_r0 : Index := Scalar.indexCast v117_r0
  ![2, v141_r0.toNat]
def k0_off13 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v148_r0 : Index := Scalar.indexCast v115_r0
  let c96_r0 : Index := 96#32
  let c0_96_r0 : Index := 0#32
  ![v148_r0.toNat, 96, 0]
def k0_off14 (k0_t1 : Fin k0_t1_loop.trips) (c0_i32_91_r0 : BitVec 32) : Fin 2 → Nat :=
  let c3_r0 : Index := 3#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v151_r0 : Index := Scalar.indexCast v117_r0
  ![3, v151_r0.toNat]
def k0_off15 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v158_r0 : Index := Scalar.indexCast v115_r0
  let c128_r0 : Index := 128#32
  let c0_97_r0 : Index := 0#32
  ![v158_r0.toNat, 128, 0]
def k0_off16 (k0_t1 : Fin k0_t1_loop.trips) (c0_i32_91_r0 : BitVec 32) : Fin 2 → Nat :=
  let c4_r0 : Index := 4#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v161_r0 : Index := Scalar.indexCast v117_r0
  ![4, v161_r0.toNat]
def k0_off17 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v168_r0 : Index := Scalar.indexCast v115_r0
  let c160_r0 : Index := 160#32
  let c0_98_r0 : Index := 0#32
  ![v168_r0.toNat, 160, 0]
def k0_off18 (k0_t1 : Fin k0_t1_loop.trips) (c0_i32_91_r0 : BitVec 32) : Fin 2 → Nat :=
  let c5_r0 : Index := 5#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v171_r0 : Index := Scalar.indexCast v117_r0
  ![5, v171_r0.toNat]
def k0_off19 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v178_r0 : Index := Scalar.indexCast v115_r0
  let c192_r0 : Index := 192#32
  let c0_99_r0 : Index := 0#32
  ![v178_r0.toNat, 192, 0]
def k0_off20 (k0_t1 : Fin k0_t1_loop.trips) (c0_i32_91_r0 : BitVec 32) : Fin 2 → Nat :=
  let c6_r0 : Index := 6#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v181_r0 : Index := Scalar.indexCast v117_r0
  ![6, v181_r0.toNat]
def k0_off21 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v188_r0 : Index := Scalar.indexCast v115_r0
  let c224_r0 : Index := 224#32
  let c0_100_r0 : Index := 0#32
  ![v188_r0.toNat, 224, 0]
def k0_off22 (k0_t1 : Fin k0_t1_loop.trips) (c0_i32_91_r0 : BitVec 32) : Fin 2 → Nat :=
  let c7_r0 : Index := 7#32
  let c0_i32_42_r0 : BitVec 32 := 0#32
  let c1_i32_43_r0 : BitVec 32 := 1#32
  let arg10_r0 : BitVec 32 := Scf.iv c0_i32_42_r0 c1_i32_43_r0 k0_t1
  let c512_i32_90_r0 : BitVec 32 := 512#32
  let v116_r0 : BitVec 32 := Scalar.muli arg10_r0 c512_i32_90_r0
  let v117_r0 : BitVec 32 := Scalar.addi v116_r0 c0_i32_91_r0
  let v191_r0 : Index := Scalar.indexCast v117_r0
  ![7, v191_r0.toNat]
def k0_off23 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v201_r0 : Index := Scalar.indexCast v115_r0
  let c0_102_r0 : Index := 0#32
  let c256_r0 : Index := 256#32
  ![v201_r0.toNat, 0, 256]
def k0_off24 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v211_r0 : Index := Scalar.indexCast v115_r0
  let c32_104_r0 : Index := 32#32
  let c256_105_r0 : Index := 256#32
  ![v211_r0.toNat, 32, 256]
def k0_off25 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v221_r0 : Index := Scalar.indexCast v115_r0
  let c64_107_r0 : Index := 64#32
  let c256_108_r0 : Index := 256#32
  ![v221_r0.toNat, 64, 256]
def k0_off26 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v231_r0 : Index := Scalar.indexCast v115_r0
  let c96_110_r0 : Index := 96#32
  let c256_111_r0 : Index := 256#32
  ![v231_r0.toNat, 96, 256]
def k0_off27 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v241_r0 : Index := Scalar.indexCast v115_r0
  let c128_113_r0 : Index := 128#32
  let c256_114_r0 : Index := 256#32
  ![v241_r0.toNat, 128, 256]
def k0_off28 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v251_r0 : Index := Scalar.indexCast v115_r0
  let c160_116_r0 : Index := 160#32
  let c256_117_r0 : Index := 256#32
  ![v251_r0.toNat, 160, 256]
def k0_off29 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v261_r0 : Index := Scalar.indexCast v115_r0
  let c192_119_r0 : Index := 192#32
  let c256_120_r0 : Index := 256#32
  ![v261_r0.toNat, 192, 256]
def k0_off30 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v271_r0 : Index := Scalar.indexCast v115_r0
  let c224_122_r0 : Index := 224#32
  let c256_123_r0 : Index := 256#32
  ![v271_r0.toNat, 224, 256]
def k0_off31 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v285_r0 : Index := Scalar.indexCast v115_r0
  let c256_129_r0 : Index := 256#32
  let c0_130_r0 : Index := 0#32
  ![v285_r0.toNat, 256, 0]
def k0_off32 (k0_t1 : Fin k0_t1_loop.trips) (c0_i32_128_r0 : BitVec 32) : Fin 2 → Nat :=
  let c8_r0 : Index := 8#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v288_r0 : Index := Scalar.indexCast v284_r0
  ![8, v288_r0.toNat]
def k0_off33 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v295_r0 : Index := Scalar.indexCast v115_r0
  let c288_r0 : Index := 288#32
  let c0_131_r0 : Index := 0#32
  ![v295_r0.toNat, 288, 0]
def k0_off34 (k0_t1 : Fin k0_t1_loop.trips) (c0_i32_128_r0 : BitVec 32) : Fin 2 → Nat :=
  let c9_r0 : Index := 9#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v298_r0 : Index := Scalar.indexCast v284_r0
  ![9, v298_r0.toNat]
def k0_off35 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v305_r0 : Index := Scalar.indexCast v115_r0
  let c320_r0 : Index := 320#32
  let c0_132_r0 : Index := 0#32
  ![v305_r0.toNat, 320, 0]
def k0_off36 (k0_t1 : Fin k0_t1_loop.trips) (c0_i32_128_r0 : BitVec 32) : Fin 2 → Nat :=
  let c10_r0 : Index := 10#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v308_r0 : Index := Scalar.indexCast v284_r0
  ![10, v308_r0.toNat]
def k0_off37 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v315_r0 : Index := Scalar.indexCast v115_r0
  let c352_r0 : Index := 352#32
  let c0_133_r0 : Index := 0#32
  ![v315_r0.toNat, 352, 0]
def k0_off38 (k0_t1 : Fin k0_t1_loop.trips) (c0_i32_128_r0 : BitVec 32) : Fin 2 → Nat :=
  let c11_r0 : Index := 11#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v318_r0 : Index := Scalar.indexCast v284_r0
  ![11, v318_r0.toNat]
def k0_off39 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v325_r0 : Index := Scalar.indexCast v115_r0
  let c384_r0 : Index := 384#32
  let c0_134_r0 : Index := 0#32
  ![v325_r0.toNat, 384, 0]
def k0_off40 (k0_t1 : Fin k0_t1_loop.trips) (c0_i32_128_r0 : BitVec 32) : Fin 2 → Nat :=
  let c12_r0 : Index := 12#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v328_r0 : Index := Scalar.indexCast v284_r0
  ![12, v328_r0.toNat]
def k0_off41 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v335_r0 : Index := Scalar.indexCast v115_r0
  let c416_r0 : Index := 416#32
  let c0_135_r0 : Index := 0#32
  ![v335_r0.toNat, 416, 0]
def k0_off42 (k0_t1 : Fin k0_t1_loop.trips) (c0_i32_128_r0 : BitVec 32) : Fin 2 → Nat :=
  let c13_r0 : Index := 13#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v338_r0 : Index := Scalar.indexCast v284_r0
  ![13, v338_r0.toNat]
def k0_off43 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v345_r0 : Index := Scalar.indexCast v115_r0
  let c448_r0 : Index := 448#32
  let c0_136_r0 : Index := 0#32
  ![v345_r0.toNat, 448, 0]
def k0_off44 (k0_t1 : Fin k0_t1_loop.trips) (c0_i32_128_r0 : BitVec 32) : Fin 2 → Nat :=
  let c14_r0 : Index := 14#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v348_r0 : Index := Scalar.indexCast v284_r0
  ![14, v348_r0.toNat]
def k0_off45 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v355_r0 : Index := Scalar.indexCast v115_r0
  let c480_r0 : Index := 480#32
  let c0_137_r0 : Index := 0#32
  ![v355_r0.toNat, 480, 0]
def k0_off46 (k0_t1 : Fin k0_t1_loop.trips) (c0_i32_128_r0 : BitVec 32) : Fin 2 → Nat :=
  let c15_r0 : Index := 15#32
  let c0_i32_42_r0 : BitVec 32 := 0#32
  let c1_i32_43_r0 : BitVec 32 := 1#32
  let arg10_r0 : BitVec 32 := Scf.iv c0_i32_42_r0 c1_i32_43_r0 k0_t1
  let c512_i32_127_r0 : BitVec 32 := 512#32
  let v283_r0 : BitVec 32 := Scalar.muli arg10_r0 c512_i32_127_r0
  let v284_r0 : BitVec 32 := Scalar.addi v283_r0 c0_i32_128_r0
  let v358_r0 : Index := Scalar.indexCast v284_r0
  ![15, v358_r0.toNat]
def k0_off47 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v368_r0 : Index := Scalar.indexCast v115_r0
  let c256_140_r0 : Index := 256#32
  let c256_141_r0 : Index := 256#32
  ![v368_r0.toNat, 256, 256]
def k0_off48 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v378_r0 : Index := Scalar.indexCast v115_r0
  let c288_143_r0 : Index := 288#32
  let c256_144_r0 : Index := 256#32
  ![v378_r0.toNat, 288, 256]
def k0_off49 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v388_r0 : Index := Scalar.indexCast v115_r0
  let c320_146_r0 : Index := 320#32
  let c256_147_r0 : Index := 256#32
  ![v388_r0.toNat, 320, 256]
def k0_off50 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v398_r0 : Index := Scalar.indexCast v115_r0
  let c352_149_r0 : Index := 352#32
  let c256_150_r0 : Index := 256#32
  ![v398_r0.toNat, 352, 256]
def k0_off51 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v408_r0 : Index := Scalar.indexCast v115_r0
  let c384_152_r0 : Index := 384#32
  let c256_153_r0 : Index := 256#32
  ![v408_r0.toNat, 384, 256]
def k0_off52 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v418_r0 : Index := Scalar.indexCast v115_r0
  let c416_155_r0 : Index := 416#32
  let c256_156_r0 : Index := 256#32
  ![v418_r0.toNat, 416, 256]
def k0_off53 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v428_r0 : Index := Scalar.indexCast v115_r0
  let c448_158_r0 : Index := 448#32
  let c256_159_r0 : Index := 256#32
  ![v428_r0.toNat, 448, 256]
def k0_off54 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v438_r0 : Index := Scalar.indexCast v115_r0
  let c480_161_r0 : Index := 480#32
  let c256_162_r0 : Index := 256#32
  ![v438_r0.toNat, 480, 256]
def k0_off55 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v452_r0 : Index := Scalar.indexCast v115_r0
  let c512_r0 : Index := 512#32
  let c0_168_r0 : Index := 0#32
  ![v452_r0.toNat, 512, 0]
def k0_off56 (k0_t1 : Fin k0_t1_loop.trips) (c0_i32_167_r0 : BitVec 32) : Fin 2 → Nat :=
  let c16_r0 : Index := 16#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v455_r0 : Index := Scalar.indexCast v451_r0
  ![16, v455_r0.toNat]
def k0_off57 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v462_r0 : Index := Scalar.indexCast v115_r0
  let c544_r0 : Index := 544#32
  let c0_169_r0 : Index := 0#32
  ![v462_r0.toNat, 544, 0]
def k0_off58 (k0_t1 : Fin k0_t1_loop.trips) (c0_i32_167_r0 : BitVec 32) : Fin 2 → Nat :=
  let c17_r0 : Index := 17#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v465_r0 : Index := Scalar.indexCast v451_r0
  ![17, v465_r0.toNat]
def k0_off59 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v472_r0 : Index := Scalar.indexCast v115_r0
  let c576_r0 : Index := 576#32
  let c0_170_r0 : Index := 0#32
  ![v472_r0.toNat, 576, 0]
def k0_off60 (k0_t1 : Fin k0_t1_loop.trips) (c0_i32_167_r0 : BitVec 32) : Fin 2 → Nat :=
  let c18_r0 : Index := 18#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v475_r0 : Index := Scalar.indexCast v451_r0
  ![18, v475_r0.toNat]
def k0_off61 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v482_r0 : Index := Scalar.indexCast v115_r0
  let c608_r0 : Index := 608#32
  let c0_171_r0 : Index := 0#32
  ![v482_r0.toNat, 608, 0]
def k0_off62 (k0_t1 : Fin k0_t1_loop.trips) (c0_i32_167_r0 : BitVec 32) : Fin 2 → Nat :=
  let c19_r0 : Index := 19#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v485_r0 : Index := Scalar.indexCast v451_r0
  ![19, v485_r0.toNat]
def k0_off63 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v492_r0 : Index := Scalar.indexCast v115_r0
  let c640_r0 : Index := 640#32
  let c0_172_r0 : Index := 0#32
  ![v492_r0.toNat, 640, 0]
def k0_off64 (k0_t1 : Fin k0_t1_loop.trips) (c0_i32_167_r0 : BitVec 32) : Fin 2 → Nat :=
  let c20_r0 : Index := 20#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v495_r0 : Index := Scalar.indexCast v451_r0
  ![20, v495_r0.toNat]
def k0_off65 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v502_r0 : Index := Scalar.indexCast v115_r0
  let c672_r0 : Index := 672#32
  let c0_173_r0 : Index := 0#32
  ![v502_r0.toNat, 672, 0]
def k0_off66 (k0_t1 : Fin k0_t1_loop.trips) (c0_i32_167_r0 : BitVec 32) : Fin 2 → Nat :=
  let c21_r0 : Index := 21#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v505_r0 : Index := Scalar.indexCast v451_r0
  ![21, v505_r0.toNat]
def k0_off67 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v512_r0 : Index := Scalar.indexCast v115_r0
  let c704_r0 : Index := 704#32
  let c0_174_r0 : Index := 0#32
  ![v512_r0.toNat, 704, 0]
def k0_off68 (k0_t1 : Fin k0_t1_loop.trips) (c0_i32_167_r0 : BitVec 32) : Fin 2 → Nat :=
  let c22_r0 : Index := 22#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v515_r0 : Index := Scalar.indexCast v451_r0
  ![22, v515_r0.toNat]
def k0_off69 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v522_r0 : Index := Scalar.indexCast v115_r0
  let c736_r0 : Index := 736#32
  let c0_175_r0 : Index := 0#32
  ![v522_r0.toNat, 736, 0]
def k0_off70 (k0_t1 : Fin k0_t1_loop.trips) (c0_i32_167_r0 : BitVec 32) : Fin 2 → Nat :=
  let c23_r0 : Index := 23#32
  let c0_i32_42_r0 : BitVec 32 := 0#32
  let c1_i32_43_r0 : BitVec 32 := 1#32
  let arg10_r0 : BitVec 32 := Scf.iv c0_i32_42_r0 c1_i32_43_r0 k0_t1
  let c512_i32_166_r0 : BitVec 32 := 512#32
  let v450_r0 : BitVec 32 := Scalar.muli arg10_r0 c512_i32_166_r0
  let v451_r0 : BitVec 32 := Scalar.addi v450_r0 c0_i32_167_r0
  let v525_r0 : Index := Scalar.indexCast v451_r0
  ![23, v525_r0.toNat]
def k0_off71 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v535_r0 : Index := Scalar.indexCast v115_r0
  let c512_178_r0 : Index := 512#32
  let c256_179_r0 : Index := 256#32
  ![v535_r0.toNat, 512, 256]
def k0_off72 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v545_r0 : Index := Scalar.indexCast v115_r0
  let c544_181_r0 : Index := 544#32
  let c256_182_r0 : Index := 256#32
  ![v545_r0.toNat, 544, 256]
def k0_off73 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v555_r0 : Index := Scalar.indexCast v115_r0
  let c576_184_r0 : Index := 576#32
  let c256_185_r0 : Index := 256#32
  ![v555_r0.toNat, 576, 256]
def k0_off74 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v565_r0 : Index := Scalar.indexCast v115_r0
  let c608_187_r0 : Index := 608#32
  let c256_188_r0 : Index := 256#32
  ![v565_r0.toNat, 608, 256]
def k0_off75 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v575_r0 : Index := Scalar.indexCast v115_r0
  let c640_190_r0 : Index := 640#32
  let c256_191_r0 : Index := 256#32
  ![v575_r0.toNat, 640, 256]
def k0_off76 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v585_r0 : Index := Scalar.indexCast v115_r0
  let c672_193_r0 : Index := 672#32
  let c256_194_r0 : Index := 256#32
  ![v585_r0.toNat, 672, 256]
def k0_off77 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v595_r0 : Index := Scalar.indexCast v115_r0
  let c704_196_r0 : Index := 704#32
  let c256_197_r0 : Index := 256#32
  ![v595_r0.toNat, 704, 256]
def k0_off78 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v605_r0 : Index := Scalar.indexCast v115_r0
  let c736_199_r0 : Index := 736#32
  let c256_200_r0 : Index := 256#32
  ![v605_r0.toNat, 736, 256]
def k0_off79 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v619_r0 : Index := Scalar.indexCast v115_r0
  let c768_r0 : Index := 768#32
  let c0_206_r0 : Index := 0#32
  ![v619_r0.toNat, 768, 0]
def k0_off80 (k0_t1 : Fin k0_t1_loop.trips) (c0_i32_205_r0 : BitVec 32) : Fin 2 → Nat :=
  let c24_r0 : Index := 24#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v622_r0 : Index := Scalar.indexCast v618_r0
  ![24, v622_r0.toNat]
def k0_off81 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v629_r0 : Index := Scalar.indexCast v115_r0
  let c800_r0 : Index := 800#32
  let c0_207_r0 : Index := 0#32
  ![v629_r0.toNat, 800, 0]
def k0_off82 (k0_t1 : Fin k0_t1_loop.trips) (c0_i32_205_r0 : BitVec 32) : Fin 2 → Nat :=
  let c25_r0 : Index := 25#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v632_r0 : Index := Scalar.indexCast v618_r0
  ![25, v632_r0.toNat]
def k0_off83 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v639_r0 : Index := Scalar.indexCast v115_r0
  let c832_r0 : Index := 832#32
  let c0_208_r0 : Index := 0#32
  ![v639_r0.toNat, 832, 0]
def k0_off84 (k0_t1 : Fin k0_t1_loop.trips) (c0_i32_205_r0 : BitVec 32) : Fin 2 → Nat :=
  let c26_r0 : Index := 26#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v642_r0 : Index := Scalar.indexCast v618_r0
  ![26, v642_r0.toNat]
def k0_off85 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v649_r0 : Index := Scalar.indexCast v115_r0
  let c864_r0 : Index := 864#32
  let c0_209_r0 : Index := 0#32
  ![v649_r0.toNat, 864, 0]
def k0_off86 (k0_t1 : Fin k0_t1_loop.trips) (c0_i32_205_r0 : BitVec 32) : Fin 2 → Nat :=
  let c27_r0 : Index := 27#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v652_r0 : Index := Scalar.indexCast v618_r0
  ![27, v652_r0.toNat]
def k0_off87 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v659_r0 : Index := Scalar.indexCast v115_r0
  let c896_r0 : Index := 896#32
  let c0_210_r0 : Index := 0#32
  ![v659_r0.toNat, 896, 0]
def k0_off88 (k0_t1 : Fin k0_t1_loop.trips) (c0_i32_205_r0 : BitVec 32) : Fin 2 → Nat :=
  let c28_r0 : Index := 28#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v662_r0 : Index := Scalar.indexCast v618_r0
  ![28, v662_r0.toNat]
def k0_off89 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v669_r0 : Index := Scalar.indexCast v115_r0
  let c928_r0 : Index := 928#32
  let c0_211_r0 : Index := 0#32
  ![v669_r0.toNat, 928, 0]
def k0_off90 (k0_t1 : Fin k0_t1_loop.trips) (c0_i32_205_r0 : BitVec 32) : Fin 2 → Nat :=
  let c29_r0 : Index := 29#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v672_r0 : Index := Scalar.indexCast v618_r0
  ![29, v672_r0.toNat]
def k0_off91 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v679_r0 : Index := Scalar.indexCast v115_r0
  let c960_r0 : Index := 960#32
  let c0_212_r0 : Index := 0#32
  ![v679_r0.toNat, 960, 0]
def k0_off92 (k0_t1 : Fin k0_t1_loop.trips) (c0_i32_205_r0 : BitVec 32) : Fin 2 → Nat :=
  let c30_r0 : Index := 30#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v682_r0 : Index := Scalar.indexCast v618_r0
  ![30, v682_r0.toNat]
def k0_off93 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v689_r0 : Index := Scalar.indexCast v115_r0
  let c992_r0 : Index := 992#32
  let c0_213_r0 : Index := 0#32
  ![v689_r0.toNat, 992, 0]
def k0_off94 (k0_t1 : Fin k0_t1_loop.trips) (c0_i32_205_r0 : BitVec 32) : Fin 2 → Nat :=
  let c31_r0 : Index := 31#32
  let c0_i32_42_r0 : BitVec 32 := 0#32
  let c1_i32_43_r0 : BitVec 32 := 1#32
  let arg10_r0 : BitVec 32 := Scf.iv c0_i32_42_r0 c1_i32_43_r0 k0_t1
  let c512_i32_204_r0 : BitVec 32 := 512#32
  let v617_r0 : BitVec 32 := Scalar.muli arg10_r0 c512_i32_204_r0
  let v618_r0 : BitVec 32 := Scalar.addi v617_r0 c0_i32_205_r0
  let v692_r0 : Index := Scalar.indexCast v618_r0
  ![31, v692_r0.toNat]
def k0_off95 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v702_r0 : Index := Scalar.indexCast v115_r0
  let c768_216_r0 : Index := 768#32
  let c256_217_r0 : Index := 256#32
  ![v702_r0.toNat, 768, 256]
def k0_off96 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v712_r0 : Index := Scalar.indexCast v115_r0
  let c800_219_r0 : Index := 800#32
  let c256_220_r0 : Index := 256#32
  ![v712_r0.toNat, 800, 256]
def k0_off97 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v722_r0 : Index := Scalar.indexCast v115_r0
  let c832_222_r0 : Index := 832#32
  let c256_223_r0 : Index := 256#32
  ![v722_r0.toNat, 832, 256]
def k0_off98 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v732_r0 : Index := Scalar.indexCast v115_r0
  let c864_225_r0 : Index := 864#32
  let c256_226_r0 : Index := 256#32
  ![v732_r0.toNat, 864, 256]
def k0_off99 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v742_r0 : Index := Scalar.indexCast v115_r0
  let c896_228_r0 : Index := 896#32
  let c256_229_r0 : Index := 256#32
  ![v742_r0.toNat, 896, 256]
def k0_off100 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v752_r0 : Index := Scalar.indexCast v115_r0
  let c928_231_r0 : Index := 928#32
  let c256_232_r0 : Index := 256#32
  ![v752_r0.toNat, 928, 256]
def k0_off101 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v762_r0 : Index := Scalar.indexCast v115_r0
  let c960_234_r0 : Index := 960#32
  let c256_235_r0 : Index := 256#32
  ![v762_r0.toNat, 960, 256]
def k0_off102 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v772_r0 : Index := Scalar.indexCast v115_r0
  let c992_237_r0 : Index := 992#32
  let c256_238_r0 : Index := 256#32
  ![v772_r0.toNat, 992, 256]
def k0_off103 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v786_r0 : Index := Scalar.indexCast v115_r0
  let c1024_r0 : Index := 1024#32
  let c0_244_r0 : Index := 0#32
  ![v786_r0.toNat, 1024, 0]
def k0_off104 (k0_t1 : Fin k0_t1_loop.trips) (c0_i32_243_r0 : BitVec 32) : Fin 2 → Nat :=
  let c32_245_r0 : Index := 32#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v789_r0 : Index := Scalar.indexCast v785_r0
  ![32, v789_r0.toNat]
def k0_off105 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v796_r0 : Index := Scalar.indexCast v115_r0
  let c1056_r0 : Index := 1056#32
  let c0_246_r0 : Index := 0#32
  ![v796_r0.toNat, 1056, 0]
def k0_off106 (k0_t1 : Fin k0_t1_loop.trips) (c0_i32_243_r0 : BitVec 32) : Fin 2 → Nat :=
  let c33_r0 : Index := 33#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v799_r0 : Index := Scalar.indexCast v785_r0
  ![33, v799_r0.toNat]
def k0_off107 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v806_r0 : Index := Scalar.indexCast v115_r0
  let c1088_r0 : Index := 1088#32
  let c0_247_r0 : Index := 0#32
  ![v806_r0.toNat, 1088, 0]
def k0_off108 (k0_t1 : Fin k0_t1_loop.trips) (c0_i32_243_r0 : BitVec 32) : Fin 2 → Nat :=
  let c34_r0 : Index := 34#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v809_r0 : Index := Scalar.indexCast v785_r0
  ![34, v809_r0.toNat]
def k0_off109 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v816_r0 : Index := Scalar.indexCast v115_r0
  let c1120_r0 : Index := 1120#32
  let c0_248_r0 : Index := 0#32
  ![v816_r0.toNat, 1120, 0]
def k0_off110 (k0_t1 : Fin k0_t1_loop.trips) (c0_i32_243_r0 : BitVec 32) : Fin 2 → Nat :=
  let c35_r0 : Index := 35#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v819_r0 : Index := Scalar.indexCast v785_r0
  ![35, v819_r0.toNat]
def k0_off111 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v826_r0 : Index := Scalar.indexCast v115_r0
  let c1152_r0 : Index := 1152#32
  let c0_249_r0 : Index := 0#32
  ![v826_r0.toNat, 1152, 0]
def k0_off112 (k0_t1 : Fin k0_t1_loop.trips) (c0_i32_243_r0 : BitVec 32) : Fin 2 → Nat :=
  let c36_r0 : Index := 36#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v829_r0 : Index := Scalar.indexCast v785_r0
  ![36, v829_r0.toNat]
def k0_off113 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v836_r0 : Index := Scalar.indexCast v115_r0
  let c1184_r0 : Index := 1184#32
  let c0_250_r0 : Index := 0#32
  ![v836_r0.toNat, 1184, 0]
def k0_off114 (k0_t1 : Fin k0_t1_loop.trips) (c0_i32_243_r0 : BitVec 32) : Fin 2 → Nat :=
  let c37_r0 : Index := 37#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v839_r0 : Index := Scalar.indexCast v785_r0
  ![37, v839_r0.toNat]
def k0_off115 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v846_r0 : Index := Scalar.indexCast v115_r0
  let c1216_r0 : Index := 1216#32
  let c0_251_r0 : Index := 0#32
  ![v846_r0.toNat, 1216, 0]
def k0_off116 (k0_t1 : Fin k0_t1_loop.trips) (c0_i32_243_r0 : BitVec 32) : Fin 2 → Nat :=
  let c38_r0 : Index := 38#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v849_r0 : Index := Scalar.indexCast v785_r0
  ![38, v849_r0.toNat]
def k0_off117 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v856_r0 : Index := Scalar.indexCast v115_r0
  let c1248_r0 : Index := 1248#32
  let c0_252_r0 : Index := 0#32
  ![v856_r0.toNat, 1248, 0]
def k0_off118 (k0_t1 : Fin k0_t1_loop.trips) (c0_i32_243_r0 : BitVec 32) : Fin 2 → Nat :=
  let c39_r0 : Index := 39#32
  let c0_i32_42_r0 : BitVec 32 := 0#32
  let c1_i32_43_r0 : BitVec 32 := 1#32
  let arg10_r0 : BitVec 32 := Scf.iv c0_i32_42_r0 c1_i32_43_r0 k0_t1
  let c512_i32_242_r0 : BitVec 32 := 512#32
  let v784_r0 : BitVec 32 := Scalar.muli arg10_r0 c512_i32_242_r0
  let v785_r0 : BitVec 32 := Scalar.addi v784_r0 c0_i32_243_r0
  let v859_r0 : Index := Scalar.indexCast v785_r0
  ![39, v859_r0.toNat]
def k0_off119 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v869_r0 : Index := Scalar.indexCast v115_r0
  let c1024_255_r0 : Index := 1024#32
  let c256_256_r0 : Index := 256#32
  ![v869_r0.toNat, 1024, 256]
def k0_off120 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v879_r0 : Index := Scalar.indexCast v115_r0
  let c1056_258_r0 : Index := 1056#32
  let c256_259_r0 : Index := 256#32
  ![v879_r0.toNat, 1056, 256]
def k0_off121 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v889_r0 : Index := Scalar.indexCast v115_r0
  let c1088_261_r0 : Index := 1088#32
  let c256_262_r0 : Index := 256#32
  ![v889_r0.toNat, 1088, 256]
def k0_off122 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v899_r0 : Index := Scalar.indexCast v115_r0
  let c1120_264_r0 : Index := 1120#32
  let c256_265_r0 : Index := 256#32
  ![v899_r0.toNat, 1120, 256]
def k0_off123 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v909_r0 : Index := Scalar.indexCast v115_r0
  let c1152_267_r0 : Index := 1152#32
  let c256_268_r0 : Index := 256#32
  ![v909_r0.toNat, 1152, 256]
def k0_off124 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v919_r0 : Index := Scalar.indexCast v115_r0
  let c1184_270_r0 : Index := 1184#32
  let c256_271_r0 : Index := 256#32
  ![v919_r0.toNat, 1184, 256]
def k0_off125 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v929_r0 : Index := Scalar.indexCast v115_r0
  let c1216_273_r0 : Index := 1216#32
  let c256_274_r0 : Index := 256#32
  ![v929_r0.toNat, 1216, 256]
def k0_off126 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v939_r0 : Index := Scalar.indexCast v115_r0
  let c1248_276_r0 : Index := 1248#32
  let c256_277_r0 : Index := 256#32
  ![v939_r0.toNat, 1248, 256]
def k0_off127 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v953_r0 : Index := Scalar.indexCast v115_r0
  let c1280_r0 : Index := 1280#32
  let c0_283_r0 : Index := 0#32
  ![v953_r0.toNat, 1280, 0]
def k0_off128 (k0_t1 : Fin k0_t1_loop.trips) (c0_i32_282_r0 : BitVec 32) : Fin 2 → Nat :=
  let c40_r0 : Index := 40#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v956_r0 : Index := Scalar.indexCast v952_r0
  ![40, v956_r0.toNat]
def k0_off129 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v963_r0 : Index := Scalar.indexCast v115_r0
  let c1312_r0 : Index := 1312#32
  let c0_284_r0 : Index := 0#32
  ![v963_r0.toNat, 1312, 0]
def k0_off130 (k0_t1 : Fin k0_t1_loop.trips) (c0_i32_282_r0 : BitVec 32) : Fin 2 → Nat :=
  let c41_r0 : Index := 41#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v966_r0 : Index := Scalar.indexCast v952_r0
  ![41, v966_r0.toNat]
def k0_off131 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v973_r0 : Index := Scalar.indexCast v115_r0
  let c1344_r0 : Index := 1344#32
  let c0_285_r0 : Index := 0#32
  ![v973_r0.toNat, 1344, 0]
def k0_off132 (k0_t1 : Fin k0_t1_loop.trips) (c0_i32_282_r0 : BitVec 32) : Fin 2 → Nat :=
  let c42_r0 : Index := 42#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v976_r0 : Index := Scalar.indexCast v952_r0
  ![42, v976_r0.toNat]
def k0_off133 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v983_r0 : Index := Scalar.indexCast v115_r0
  let c1376_r0 : Index := 1376#32
  let c0_286_r0 : Index := 0#32
  ![v983_r0.toNat, 1376, 0]
def k0_off134 (k0_t1 : Fin k0_t1_loop.trips) (c0_i32_282_r0 : BitVec 32) : Fin 2 → Nat :=
  let c43_r0 : Index := 43#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v986_r0 : Index := Scalar.indexCast v952_r0
  ![43, v986_r0.toNat]
def k0_off135 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v993_r0 : Index := Scalar.indexCast v115_r0
  let c1408_r0 : Index := 1408#32
  let c0_287_r0 : Index := 0#32
  ![v993_r0.toNat, 1408, 0]
def k0_off136 (k0_t1 : Fin k0_t1_loop.trips) (c0_i32_282_r0 : BitVec 32) : Fin 2 → Nat :=
  let c44_r0 : Index := 44#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v996_r0 : Index := Scalar.indexCast v952_r0
  ![44, v996_r0.toNat]
def k0_off137 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1003_r0 : Index := Scalar.indexCast v115_r0
  let c1440_r0 : Index := 1440#32
  let c0_288_r0 : Index := 0#32
  ![v1003_r0.toNat, 1440, 0]
def k0_off138 (k0_t1 : Fin k0_t1_loop.trips) (c0_i32_282_r0 : BitVec 32) : Fin 2 → Nat :=
  let c45_r0 : Index := 45#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v1006_r0 : Index := Scalar.indexCast v952_r0
  ![45, v1006_r0.toNat]
def k0_off139 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1013_r0 : Index := Scalar.indexCast v115_r0
  let c1472_r0 : Index := 1472#32
  let c0_289_r0 : Index := 0#32
  ![v1013_r0.toNat, 1472, 0]
def k0_off140 (k0_t1 : Fin k0_t1_loop.trips) (c0_i32_282_r0 : BitVec 32) : Fin 2 → Nat :=
  let c46_r0 : Index := 46#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v1016_r0 : Index := Scalar.indexCast v952_r0
  ![46, v1016_r0.toNat]
def k0_off141 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1023_r0 : Index := Scalar.indexCast v115_r0
  let c1504_r0 : Index := 1504#32
  let c0_290_r0 : Index := 0#32
  ![v1023_r0.toNat, 1504, 0]
def k0_off142 (k0_t1 : Fin k0_t1_loop.trips) (c0_i32_282_r0 : BitVec 32) : Fin 2 → Nat :=
  let c47_r0 : Index := 47#32
  let c0_i32_42_r0 : BitVec 32 := 0#32
  let c1_i32_43_r0 : BitVec 32 := 1#32
  let arg10_r0 : BitVec 32 := Scf.iv c0_i32_42_r0 c1_i32_43_r0 k0_t1
  let c512_i32_281_r0 : BitVec 32 := 512#32
  let v951_r0 : BitVec 32 := Scalar.muli arg10_r0 c512_i32_281_r0
  let v952_r0 : BitVec 32 := Scalar.addi v951_r0 c0_i32_282_r0
  let v1026_r0 : Index := Scalar.indexCast v952_r0
  ![47, v1026_r0.toNat]
def k0_off143 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1036_r0 : Index := Scalar.indexCast v115_r0
  let c1280_293_r0 : Index := 1280#32
  let c256_294_r0 : Index := 256#32
  ![v1036_r0.toNat, 1280, 256]
def k0_off144 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1046_r0 : Index := Scalar.indexCast v115_r0
  let c1312_296_r0 : Index := 1312#32
  let c256_297_r0 : Index := 256#32
  ![v1046_r0.toNat, 1312, 256]
def k0_off145 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1056_r0 : Index := Scalar.indexCast v115_r0
  let c1344_299_r0 : Index := 1344#32
  let c256_300_r0 : Index := 256#32
  ![v1056_r0.toNat, 1344, 256]
def k0_off146 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1066_r0 : Index := Scalar.indexCast v115_r0
  let c1376_302_r0 : Index := 1376#32
  let c256_303_r0 : Index := 256#32
  ![v1066_r0.toNat, 1376, 256]
def k0_off147 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1076_r0 : Index := Scalar.indexCast v115_r0
  let c1408_305_r0 : Index := 1408#32
  let c256_306_r0 : Index := 256#32
  ![v1076_r0.toNat, 1408, 256]
def k0_off148 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1086_r0 : Index := Scalar.indexCast v115_r0
  let c1440_308_r0 : Index := 1440#32
  let c256_309_r0 : Index := 256#32
  ![v1086_r0.toNat, 1440, 256]
def k0_off149 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1096_r0 : Index := Scalar.indexCast v115_r0
  let c1472_311_r0 : Index := 1472#32
  let c256_312_r0 : Index := 256#32
  ![v1096_r0.toNat, 1472, 256]
def k0_off150 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1106_r0 : Index := Scalar.indexCast v115_r0
  let c1504_314_r0 : Index := 1504#32
  let c256_315_r0 : Index := 256#32
  ![v1106_r0.toNat, 1504, 256]
def k0_off151 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1120_r0 : Index := Scalar.indexCast v115_r0
  let c1536_r0 : Index := 1536#32
  let c0_321_r0 : Index := 0#32
  ![v1120_r0.toNat, 1536, 0]
def k0_off152 (k0_t1 : Fin k0_t1_loop.trips) (c0_i32_320_r0 : BitVec 32) : Fin 2 → Nat :=
  let c48_r0 : Index := 48#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1123_r0 : Index := Scalar.indexCast v1119_r0
  ![48, v1123_r0.toNat]
def k0_off153 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1130_r0 : Index := Scalar.indexCast v115_r0
  let c1568_r0 : Index := 1568#32
  let c0_322_r0 : Index := 0#32
  ![v1130_r0.toNat, 1568, 0]
def k0_off154 (k0_t1 : Fin k0_t1_loop.trips) (c0_i32_320_r0 : BitVec 32) : Fin 2 → Nat :=
  let c49_r0 : Index := 49#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1133_r0 : Index := Scalar.indexCast v1119_r0
  ![49, v1133_r0.toNat]
def k0_off155 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1140_r0 : Index := Scalar.indexCast v115_r0
  let c1600_r0 : Index := 1600#32
  let c0_323_r0 : Index := 0#32
  ![v1140_r0.toNat, 1600, 0]
def k0_off156 (k0_t1 : Fin k0_t1_loop.trips) (c0_i32_320_r0 : BitVec 32) : Fin 2 → Nat :=
  let c50_r0 : Index := 50#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1143_r0 : Index := Scalar.indexCast v1119_r0
  ![50, v1143_r0.toNat]
def k0_off157 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1150_r0 : Index := Scalar.indexCast v115_r0
  let c1632_r0 : Index := 1632#32
  let c0_324_r0 : Index := 0#32
  ![v1150_r0.toNat, 1632, 0]
def k0_off158 (k0_t1 : Fin k0_t1_loop.trips) (c0_i32_320_r0 : BitVec 32) : Fin 2 → Nat :=
  let c51_r0 : Index := 51#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1153_r0 : Index := Scalar.indexCast v1119_r0
  ![51, v1153_r0.toNat]
def k0_off159 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1160_r0 : Index := Scalar.indexCast v115_r0
  let c1664_r0 : Index := 1664#32
  let c0_325_r0 : Index := 0#32
  ![v1160_r0.toNat, 1664, 0]
def k0_off160 (k0_t1 : Fin k0_t1_loop.trips) (c0_i32_320_r0 : BitVec 32) : Fin 2 → Nat :=
  let c52_r0 : Index := 52#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1163_r0 : Index := Scalar.indexCast v1119_r0
  ![52, v1163_r0.toNat]
def k0_off161 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1170_r0 : Index := Scalar.indexCast v115_r0
  let c1696_r0 : Index := 1696#32
  let c0_326_r0 : Index := 0#32
  ![v1170_r0.toNat, 1696, 0]
def k0_off162 (k0_t1 : Fin k0_t1_loop.trips) (c0_i32_320_r0 : BitVec 32) : Fin 2 → Nat :=
  let c53_r0 : Index := 53#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1173_r0 : Index := Scalar.indexCast v1119_r0
  ![53, v1173_r0.toNat]
def k0_off163 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1180_r0 : Index := Scalar.indexCast v115_r0
  let c1728_r0 : Index := 1728#32
  let c0_327_r0 : Index := 0#32
  ![v1180_r0.toNat, 1728, 0]
def k0_off164 (k0_t1 : Fin k0_t1_loop.trips) (c0_i32_320_r0 : BitVec 32) : Fin 2 → Nat :=
  let c54_r0 : Index := 54#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1183_r0 : Index := Scalar.indexCast v1119_r0
  ![54, v1183_r0.toNat]
def k0_off165 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1190_r0 : Index := Scalar.indexCast v115_r0
  let c1760_r0 : Index := 1760#32
  let c0_328_r0 : Index := 0#32
  ![v1190_r0.toNat, 1760, 0]
def k0_off166 (k0_t1 : Fin k0_t1_loop.trips) (c0_i32_320_r0 : BitVec 32) : Fin 2 → Nat :=
  let c55_r0 : Index := 55#32
  let c0_i32_42_r0 : BitVec 32 := 0#32
  let c1_i32_43_r0 : BitVec 32 := 1#32
  let arg10_r0 : BitVec 32 := Scf.iv c0_i32_42_r0 c1_i32_43_r0 k0_t1
  let c512_i32_319_r0 : BitVec 32 := 512#32
  let v1118_r0 : BitVec 32 := Scalar.muli arg10_r0 c512_i32_319_r0
  let v1119_r0 : BitVec 32 := Scalar.addi v1118_r0 c0_i32_320_r0
  let v1193_r0 : Index := Scalar.indexCast v1119_r0
  ![55, v1193_r0.toNat]
def k0_off167 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1203_r0 : Index := Scalar.indexCast v115_r0
  let c1536_331_r0 : Index := 1536#32
  let c256_332_r0 : Index := 256#32
  ![v1203_r0.toNat, 1536, 256]
def k0_off168 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1213_r0 : Index := Scalar.indexCast v115_r0
  let c1568_334_r0 : Index := 1568#32
  let c256_335_r0 : Index := 256#32
  ![v1213_r0.toNat, 1568, 256]
def k0_off169 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1223_r0 : Index := Scalar.indexCast v115_r0
  let c1600_337_r0 : Index := 1600#32
  let c256_338_r0 : Index := 256#32
  ![v1223_r0.toNat, 1600, 256]
def k0_off170 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1233_r0 : Index := Scalar.indexCast v115_r0
  let c1632_340_r0 : Index := 1632#32
  let c256_341_r0 : Index := 256#32
  ![v1233_r0.toNat, 1632, 256]
def k0_off171 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1243_r0 : Index := Scalar.indexCast v115_r0
  let c1664_343_r0 : Index := 1664#32
  let c256_344_r0 : Index := 256#32
  ![v1243_r0.toNat, 1664, 256]
def k0_off172 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1253_r0 : Index := Scalar.indexCast v115_r0
  let c1696_346_r0 : Index := 1696#32
  let c256_347_r0 : Index := 256#32
  ![v1253_r0.toNat, 1696, 256]
def k0_off173 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1263_r0 : Index := Scalar.indexCast v115_r0
  let c1728_349_r0 : Index := 1728#32
  let c256_350_r0 : Index := 256#32
  ![v1263_r0.toNat, 1728, 256]
def k0_off174 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1273_r0 : Index := Scalar.indexCast v115_r0
  let c1760_352_r0 : Index := 1760#32
  let c256_353_r0 : Index := 256#32
  ![v1273_r0.toNat, 1760, 256]
def k0_off175 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1287_r0 : Index := Scalar.indexCast v115_r0
  let c1792_r0 : Index := 1792#32
  let c0_359_r0 : Index := 0#32
  ![v1287_r0.toNat, 1792, 0]
def k0_off176 (k0_t1 : Fin k0_t1_loop.trips) (c0_i32_358_r0 : BitVec 32) : Fin 2 → Nat :=
  let c56_r0 : Index := 56#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1290_r0 : Index := Scalar.indexCast v1286_r0
  ![56, v1290_r0.toNat]
def k0_off177 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1297_r0 : Index := Scalar.indexCast v115_r0
  let c1824_r0 : Index := 1824#32
  let c0_360_r0 : Index := 0#32
  ![v1297_r0.toNat, 1824, 0]
def k0_off178 (k0_t1 : Fin k0_t1_loop.trips) (c0_i32_358_r0 : BitVec 32) : Fin 2 → Nat :=
  let c57_r0 : Index := 57#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1300_r0 : Index := Scalar.indexCast v1286_r0
  ![57, v1300_r0.toNat]
def k0_off179 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1307_r0 : Index := Scalar.indexCast v115_r0
  let c1856_r0 : Index := 1856#32
  let c0_361_r0 : Index := 0#32
  ![v1307_r0.toNat, 1856, 0]
def k0_off180 (k0_t1 : Fin k0_t1_loop.trips) (c0_i32_358_r0 : BitVec 32) : Fin 2 → Nat :=
  let c58_r0 : Index := 58#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1310_r0 : Index := Scalar.indexCast v1286_r0
  ![58, v1310_r0.toNat]
def k0_off181 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1317_r0 : Index := Scalar.indexCast v115_r0
  let c1888_r0 : Index := 1888#32
  let c0_362_r0 : Index := 0#32
  ![v1317_r0.toNat, 1888, 0]
def k0_off182 (k0_t1 : Fin k0_t1_loop.trips) (c0_i32_358_r0 : BitVec 32) : Fin 2 → Nat :=
  let c59_r0 : Index := 59#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1320_r0 : Index := Scalar.indexCast v1286_r0
  ![59, v1320_r0.toNat]
def k0_off183 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1327_r0 : Index := Scalar.indexCast v115_r0
  let c1920_r0 : Index := 1920#32
  let c0_363_r0 : Index := 0#32
  ![v1327_r0.toNat, 1920, 0]
def k0_off184 (k0_t1 : Fin k0_t1_loop.trips) (c0_i32_358_r0 : BitVec 32) : Fin 2 → Nat :=
  let c60_r0 : Index := 60#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1330_r0 : Index := Scalar.indexCast v1286_r0
  ![60, v1330_r0.toNat]
def k0_off185 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1337_r0 : Index := Scalar.indexCast v115_r0
  let c1952_r0 : Index := 1952#32
  let c0_364_r0 : Index := 0#32
  ![v1337_r0.toNat, 1952, 0]
def k0_off186 (k0_t1 : Fin k0_t1_loop.trips) (c0_i32_358_r0 : BitVec 32) : Fin 2 → Nat :=
  let c61_r0 : Index := 61#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1340_r0 : Index := Scalar.indexCast v1286_r0
  ![61, v1340_r0.toNat]
def k0_off187 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1347_r0 : Index := Scalar.indexCast v115_r0
  let c1984_r0 : Index := 1984#32
  let c0_365_r0 : Index := 0#32
  ![v1347_r0.toNat, 1984, 0]
def k0_off188 (k0_t1 : Fin k0_t1_loop.trips) (c0_i32_358_r0 : BitVec 32) : Fin 2 → Nat :=
  let c62_r0 : Index := 62#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1350_r0 : Index := Scalar.indexCast v1286_r0
  ![62, v1350_r0.toNat]
def k0_off189 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1357_r0 : Index := Scalar.indexCast v115_r0
  let c2016_r0 : Index := 2016#32
  let c0_366_r0 : Index := 0#32
  ![v1357_r0.toNat, 2016, 0]
def k0_off190 (k0_t1 : Fin k0_t1_loop.trips) (c0_i32_358_r0 : BitVec 32) : Fin 2 → Nat :=
  let c63_r0 : Index := 63#32
  let c0_i32_42_r0 : BitVec 32 := 0#32
  let c1_i32_43_r0 : BitVec 32 := 1#32
  let arg10_r0 : BitVec 32 := Scf.iv c0_i32_42_r0 c1_i32_43_r0 k0_t1
  let c512_i32_357_r0 : BitVec 32 := 512#32
  let v1285_r0 : BitVec 32 := Scalar.muli arg10_r0 c512_i32_357_r0
  let v1286_r0 : BitVec 32 := Scalar.addi v1285_r0 c0_i32_358_r0
  let v1360_r0 : Index := Scalar.indexCast v1286_r0
  ![63, v1360_r0.toNat]
def k0_off191 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1370_r0 : Index := Scalar.indexCast v115_r0
  let c1792_369_r0 : Index := 1792#32
  let c256_370_r0 : Index := 256#32
  ![v1370_r0.toNat, 1792, 256]
def k0_off192 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1380_r0 : Index := Scalar.indexCast v115_r0
  let c1824_372_r0 : Index := 1824#32
  let c256_373_r0 : Index := 256#32
  ![v1380_r0.toNat, 1824, 256]
def k0_off193 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1390_r0 : Index := Scalar.indexCast v115_r0
  let c1856_375_r0 : Index := 1856#32
  let c256_376_r0 : Index := 256#32
  ![v1390_r0.toNat, 1856, 256]
def k0_off194 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1400_r0 : Index := Scalar.indexCast v115_r0
  let c1888_378_r0 : Index := 1888#32
  let c256_379_r0 : Index := 256#32
  ![v1400_r0.toNat, 1888, 256]
def k0_off195 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1410_r0 : Index := Scalar.indexCast v115_r0
  let c1920_381_r0 : Index := 1920#32
  let c256_382_r0 : Index := 256#32
  ![v1410_r0.toNat, 1920, 256]
def k0_off196 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1420_r0 : Index := Scalar.indexCast v115_r0
  let c1952_384_r0 : Index := 1952#32
  let c256_385_r0 : Index := 256#32
  ![v1420_r0.toNat, 1952, 256]
def k0_off197 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1430_r0 : Index := Scalar.indexCast v115_r0
  let c1984_387_r0 : Index := 1984#32
  let c256_388_r0 : Index := 256#32
  ![v1430_r0.toNat, 1984, 256]
def k0_off198 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1440_r0 : Index := Scalar.indexCast v115_r0
  let c2016_390_r0 : Index := 2016#32
  let c256_391_r0 : Index := 256#32
  ![v1440_r0.toNat, 2016, 256]
def k0_off199 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1454_r0 : Index := Scalar.indexCast v115_r0
  let c2048_r0 : Index := 2048#32
  let c0_397_r0 : Index := 0#32
  ![v1454_r0.toNat, 2048, 0]
def k0_off200 (k0_t1 : Fin k0_t1_loop.trips) (c0_i32_396_r0 : BitVec 32) : Fin 2 → Nat :=
  let c64_398_r0 : Index := 64#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1457_r0 : Index := Scalar.indexCast v1453_r0
  ![64, v1457_r0.toNat]
def k0_off201 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1464_r0 : Index := Scalar.indexCast v115_r0
  let c2080_r0 : Index := 2080#32
  let c0_399_r0 : Index := 0#32
  ![v1464_r0.toNat, 2080, 0]
def k0_off202 (k0_t1 : Fin k0_t1_loop.trips) (c0_i32_396_r0 : BitVec 32) : Fin 2 → Nat :=
  let c65_r0 : Index := 65#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1467_r0 : Index := Scalar.indexCast v1453_r0
  ![65, v1467_r0.toNat]
def k0_off203 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1474_r0 : Index := Scalar.indexCast v115_r0
  let c2112_r0 : Index := 2112#32
  let c0_400_r0 : Index := 0#32
  ![v1474_r0.toNat, 2112, 0]
def k0_off204 (k0_t1 : Fin k0_t1_loop.trips) (c0_i32_396_r0 : BitVec 32) : Fin 2 → Nat :=
  let c66_r0 : Index := 66#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1477_r0 : Index := Scalar.indexCast v1453_r0
  ![66, v1477_r0.toNat]
def k0_off205 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1484_r0 : Index := Scalar.indexCast v115_r0
  let c2144_r0 : Index := 2144#32
  let c0_401_r0 : Index := 0#32
  ![v1484_r0.toNat, 2144, 0]
def k0_off206 (k0_t1 : Fin k0_t1_loop.trips) (c0_i32_396_r0 : BitVec 32) : Fin 2 → Nat :=
  let c67_r0 : Index := 67#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1487_r0 : Index := Scalar.indexCast v1453_r0
  ![67, v1487_r0.toNat]
def k0_off207 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1494_r0 : Index := Scalar.indexCast v115_r0
  let c2176_r0 : Index := 2176#32
  let c0_402_r0 : Index := 0#32
  ![v1494_r0.toNat, 2176, 0]
def k0_off208 (k0_t1 : Fin k0_t1_loop.trips) (c0_i32_396_r0 : BitVec 32) : Fin 2 → Nat :=
  let c68_r0 : Index := 68#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1497_r0 : Index := Scalar.indexCast v1453_r0
  ![68, v1497_r0.toNat]
def k0_off209 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1504_r0 : Index := Scalar.indexCast v115_r0
  let c2208_r0 : Index := 2208#32
  let c0_403_r0 : Index := 0#32
  ![v1504_r0.toNat, 2208, 0]
def k0_off210 (k0_t1 : Fin k0_t1_loop.trips) (c0_i32_396_r0 : BitVec 32) : Fin 2 → Nat :=
  let c69_r0 : Index := 69#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1507_r0 : Index := Scalar.indexCast v1453_r0
  ![69, v1507_r0.toNat]
def k0_off211 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1514_r0 : Index := Scalar.indexCast v115_r0
  let c2240_r0 : Index := 2240#32
  let c0_404_r0 : Index := 0#32
  ![v1514_r0.toNat, 2240, 0]
def k0_off212 (k0_t1 : Fin k0_t1_loop.trips) (c0_i32_396_r0 : BitVec 32) : Fin 2 → Nat :=
  let c70_r0 : Index := 70#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1517_r0 : Index := Scalar.indexCast v1453_r0
  ![70, v1517_r0.toNat]
def k0_off213 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1524_r0 : Index := Scalar.indexCast v115_r0
  let c2272_r0 : Index := 2272#32
  let c0_405_r0 : Index := 0#32
  ![v1524_r0.toNat, 2272, 0]
def k0_off214 (k0_t1 : Fin k0_t1_loop.trips) (c0_i32_396_r0 : BitVec 32) : Fin 2 → Nat :=
  let c71_r0 : Index := 71#32
  let c0_i32_42_r0 : BitVec 32 := 0#32
  let c1_i32_43_r0 : BitVec 32 := 1#32
  let arg10_r0 : BitVec 32 := Scf.iv c0_i32_42_r0 c1_i32_43_r0 k0_t1
  let c512_i32_395_r0 : BitVec 32 := 512#32
  let v1452_r0 : BitVec 32 := Scalar.muli arg10_r0 c512_i32_395_r0
  let v1453_r0 : BitVec 32 := Scalar.addi v1452_r0 c0_i32_396_r0
  let v1527_r0 : Index := Scalar.indexCast v1453_r0
  ![71, v1527_r0.toNat]
def k0_off215 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1537_r0 : Index := Scalar.indexCast v115_r0
  let c2048_408_r0 : Index := 2048#32
  let c256_409_r0 : Index := 256#32
  ![v1537_r0.toNat, 2048, 256]
def k0_off216 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1547_r0 : Index := Scalar.indexCast v115_r0
  let c2080_411_r0 : Index := 2080#32
  let c256_412_r0 : Index := 256#32
  ![v1547_r0.toNat, 2080, 256]
def k0_off217 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1557_r0 : Index := Scalar.indexCast v115_r0
  let c2112_414_r0 : Index := 2112#32
  let c256_415_r0 : Index := 256#32
  ![v1557_r0.toNat, 2112, 256]
def k0_off218 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1567_r0 : Index := Scalar.indexCast v115_r0
  let c2144_417_r0 : Index := 2144#32
  let c256_418_r0 : Index := 256#32
  ![v1567_r0.toNat, 2144, 256]
def k0_off219 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1577_r0 : Index := Scalar.indexCast v115_r0
  let c2176_420_r0 : Index := 2176#32
  let c256_421_r0 : Index := 256#32
  ![v1577_r0.toNat, 2176, 256]
def k0_off220 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1587_r0 : Index := Scalar.indexCast v115_r0
  let c2208_423_r0 : Index := 2208#32
  let c256_424_r0 : Index := 256#32
  ![v1587_r0.toNat, 2208, 256]
def k0_off221 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1597_r0 : Index := Scalar.indexCast v115_r0
  let c2240_426_r0 : Index := 2240#32
  let c256_427_r0 : Index := 256#32
  ![v1597_r0.toNat, 2240, 256]
def k0_off222 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1607_r0 : Index := Scalar.indexCast v115_r0
  let c2272_429_r0 : Index := 2272#32
  let c256_430_r0 : Index := 256#32
  ![v1607_r0.toNat, 2272, 256]
def k0_off223 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1621_r0 : Index := Scalar.indexCast v115_r0
  let c2304_r0 : Index := 2304#32
  let c0_436_r0 : Index := 0#32
  ![v1621_r0.toNat, 2304, 0]
def k0_off224 (k0_t1 : Fin k0_t1_loop.trips) (c0_i32_435_r0 : BitVec 32) : Fin 2 → Nat :=
  let c72_r0 : Index := 72#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1624_r0 : Index := Scalar.indexCast v1620_r0
  ![72, v1624_r0.toNat]
def k0_off225 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1631_r0 : Index := Scalar.indexCast v115_r0
  let c2336_r0 : Index := 2336#32
  let c0_437_r0 : Index := 0#32
  ![v1631_r0.toNat, 2336, 0]
def k0_off226 (k0_t1 : Fin k0_t1_loop.trips) (c0_i32_435_r0 : BitVec 32) : Fin 2 → Nat :=
  let c73_r0 : Index := 73#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1634_r0 : Index := Scalar.indexCast v1620_r0
  ![73, v1634_r0.toNat]
def k0_off227 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1641_r0 : Index := Scalar.indexCast v115_r0
  let c2368_r0 : Index := 2368#32
  let c0_438_r0 : Index := 0#32
  ![v1641_r0.toNat, 2368, 0]
def k0_off228 (k0_t1 : Fin k0_t1_loop.trips) (c0_i32_435_r0 : BitVec 32) : Fin 2 → Nat :=
  let c74_r0 : Index := 74#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1644_r0 : Index := Scalar.indexCast v1620_r0
  ![74, v1644_r0.toNat]
def k0_off229 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1651_r0 : Index := Scalar.indexCast v115_r0
  let c2400_r0 : Index := 2400#32
  let c0_439_r0 : Index := 0#32
  ![v1651_r0.toNat, 2400, 0]
def k0_off230 (k0_t1 : Fin k0_t1_loop.trips) (c0_i32_435_r0 : BitVec 32) : Fin 2 → Nat :=
  let c75_r0 : Index := 75#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1654_r0 : Index := Scalar.indexCast v1620_r0
  ![75, v1654_r0.toNat]
def k0_off231 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1661_r0 : Index := Scalar.indexCast v115_r0
  let c2432_r0 : Index := 2432#32
  let c0_440_r0 : Index := 0#32
  ![v1661_r0.toNat, 2432, 0]
def k0_off232 (k0_t1 : Fin k0_t1_loop.trips) (c0_i32_435_r0 : BitVec 32) : Fin 2 → Nat :=
  let c76_r0 : Index := 76#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1664_r0 : Index := Scalar.indexCast v1620_r0
  ![76, v1664_r0.toNat]
def k0_off233 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1671_r0 : Index := Scalar.indexCast v115_r0
  let c2464_r0 : Index := 2464#32
  let c0_441_r0 : Index := 0#32
  ![v1671_r0.toNat, 2464, 0]
def k0_off234 (k0_t1 : Fin k0_t1_loop.trips) (c0_i32_435_r0 : BitVec 32) : Fin 2 → Nat :=
  let c77_r0 : Index := 77#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1674_r0 : Index := Scalar.indexCast v1620_r0
  ![77, v1674_r0.toNat]
def k0_off235 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1681_r0 : Index := Scalar.indexCast v115_r0
  let c2496_r0 : Index := 2496#32
  let c0_442_r0 : Index := 0#32
  ![v1681_r0.toNat, 2496, 0]
def k0_off236 (k0_t1 : Fin k0_t1_loop.trips) (c0_i32_435_r0 : BitVec 32) : Fin 2 → Nat :=
  let c78_r0 : Index := 78#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1684_r0 : Index := Scalar.indexCast v1620_r0
  ![78, v1684_r0.toNat]
def k0_off237 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1691_r0 : Index := Scalar.indexCast v115_r0
  let c2528_r0 : Index := 2528#32
  let c0_443_r0 : Index := 0#32
  ![v1691_r0.toNat, 2528, 0]
def k0_off238 (k0_t1 : Fin k0_t1_loop.trips) (c0_i32_435_r0 : BitVec 32) : Fin 2 → Nat :=
  let c79_r0 : Index := 79#32
  let c0_i32_42_r0 : BitVec 32 := 0#32
  let c1_i32_43_r0 : BitVec 32 := 1#32
  let arg10_r0 : BitVec 32 := Scf.iv c0_i32_42_r0 c1_i32_43_r0 k0_t1
  let c512_i32_434_r0 : BitVec 32 := 512#32
  let v1619_r0 : BitVec 32 := Scalar.muli arg10_r0 c512_i32_434_r0
  let v1620_r0 : BitVec 32 := Scalar.addi v1619_r0 c0_i32_435_r0
  let v1694_r0 : Index := Scalar.indexCast v1620_r0
  ![79, v1694_r0.toNat]
def k0_off239 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1704_r0 : Index := Scalar.indexCast v115_r0
  let c2304_446_r0 : Index := 2304#32
  let c256_447_r0 : Index := 256#32
  ![v1704_r0.toNat, 2304, 256]
def k0_off240 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1714_r0 : Index := Scalar.indexCast v115_r0
  let c2336_449_r0 : Index := 2336#32
  let c256_450_r0 : Index := 256#32
  ![v1714_r0.toNat, 2336, 256]
def k0_off241 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1724_r0 : Index := Scalar.indexCast v115_r0
  let c2368_452_r0 : Index := 2368#32
  let c256_453_r0 : Index := 256#32
  ![v1724_r0.toNat, 2368, 256]
def k0_off242 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1734_r0 : Index := Scalar.indexCast v115_r0
  let c2400_455_r0 : Index := 2400#32
  let c256_456_r0 : Index := 256#32
  ![v1734_r0.toNat, 2400, 256]
def k0_off243 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1744_r0 : Index := Scalar.indexCast v115_r0
  let c2432_458_r0 : Index := 2432#32
  let c256_459_r0 : Index := 256#32
  ![v1744_r0.toNat, 2432, 256]
def k0_off244 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1754_r0 : Index := Scalar.indexCast v115_r0
  let c2464_461_r0 : Index := 2464#32
  let c256_462_r0 : Index := 256#32
  ![v1754_r0.toNat, 2464, 256]
def k0_off245 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1764_r0 : Index := Scalar.indexCast v115_r0
  let c2496_464_r0 : Index := 2496#32
  let c256_465_r0 : Index := 256#32
  ![v1764_r0.toNat, 2496, 256]
def k0_off246 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1774_r0 : Index := Scalar.indexCast v115_r0
  let c2528_467_r0 : Index := 2528#32
  let c256_468_r0 : Index := 256#32
  ![v1774_r0.toNat, 2528, 256]
def k0_off247 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1788_r0 : Index := Scalar.indexCast v115_r0
  let c2560_r0 : Index := 2560#32
  let c0_474_r0 : Index := 0#32
  ![v1788_r0.toNat, 2560, 0]
def k0_off248 (k0_t1 : Fin k0_t1_loop.trips) (c0_i32_473_r0 : BitVec 32) : Fin 2 → Nat :=
  let c80_r0 : Index := 80#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1791_r0 : Index := Scalar.indexCast v1787_r0
  ![80, v1791_r0.toNat]
def k0_off249 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1798_r0 : Index := Scalar.indexCast v115_r0
  let c2592_r0 : Index := 2592#32
  let c0_475_r0 : Index := 0#32
  ![v1798_r0.toNat, 2592, 0]
def k0_off250 (k0_t1 : Fin k0_t1_loop.trips) (c0_i32_473_r0 : BitVec 32) : Fin 2 → Nat :=
  let c81_r0 : Index := 81#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1801_r0 : Index := Scalar.indexCast v1787_r0
  ![81, v1801_r0.toNat]
def k0_off251 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1808_r0 : Index := Scalar.indexCast v115_r0
  let c2624_r0 : Index := 2624#32
  let c0_476_r0 : Index := 0#32
  ![v1808_r0.toNat, 2624, 0]
def k0_off252 (k0_t1 : Fin k0_t1_loop.trips) (c0_i32_473_r0 : BitVec 32) : Fin 2 → Nat :=
  let c82_r0 : Index := 82#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1811_r0 : Index := Scalar.indexCast v1787_r0
  ![82, v1811_r0.toNat]
def k0_off253 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1818_r0 : Index := Scalar.indexCast v115_r0
  let c2656_r0 : Index := 2656#32
  let c0_477_r0 : Index := 0#32
  ![v1818_r0.toNat, 2656, 0]
def k0_off254 (k0_t1 : Fin k0_t1_loop.trips) (c0_i32_473_r0 : BitVec 32) : Fin 2 → Nat :=
  let c83_r0 : Index := 83#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1821_r0 : Index := Scalar.indexCast v1787_r0
  ![83, v1821_r0.toNat]
def k0_off255 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1828_r0 : Index := Scalar.indexCast v115_r0
  let c2688_r0 : Index := 2688#32
  let c0_478_r0 : Index := 0#32
  ![v1828_r0.toNat, 2688, 0]
def k0_off256 (k0_t1 : Fin k0_t1_loop.trips) (c0_i32_473_r0 : BitVec 32) : Fin 2 → Nat :=
  let c84_r0 : Index := 84#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1831_r0 : Index := Scalar.indexCast v1787_r0
  ![84, v1831_r0.toNat]
def k0_off257 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1838_r0 : Index := Scalar.indexCast v115_r0
  let c2720_r0 : Index := 2720#32
  let c0_479_r0 : Index := 0#32
  ![v1838_r0.toNat, 2720, 0]
def k0_off258 (k0_t1 : Fin k0_t1_loop.trips) (c0_i32_473_r0 : BitVec 32) : Fin 2 → Nat :=
  let c85_r0 : Index := 85#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1841_r0 : Index := Scalar.indexCast v1787_r0
  ![85, v1841_r0.toNat]
def k0_off259 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1848_r0 : Index := Scalar.indexCast v115_r0
  let c2752_r0 : Index := 2752#32
  let c0_480_r0 : Index := 0#32
  ![v1848_r0.toNat, 2752, 0]
def k0_off260 (k0_t1 : Fin k0_t1_loop.trips) (c0_i32_473_r0 : BitVec 32) : Fin 2 → Nat :=
  let c86_r0 : Index := 86#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1851_r0 : Index := Scalar.indexCast v1787_r0
  ![86, v1851_r0.toNat]
def k0_off261 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1858_r0 : Index := Scalar.indexCast v115_r0
  let c2784_r0 : Index := 2784#32
  let c0_481_r0 : Index := 0#32
  ![v1858_r0.toNat, 2784, 0]
def k0_off262 (k0_t1 : Fin k0_t1_loop.trips) (c0_i32_473_r0 : BitVec 32) : Fin 2 → Nat :=
  let c87_r0 : Index := 87#32
  let c0_i32_42_r0 : BitVec 32 := 0#32
  let c1_i32_43_r0 : BitVec 32 := 1#32
  let arg10_r0 : BitVec 32 := Scf.iv c0_i32_42_r0 c1_i32_43_r0 k0_t1
  let c512_i32_472_r0 : BitVec 32 := 512#32
  let v1786_r0 : BitVec 32 := Scalar.muli arg10_r0 c512_i32_472_r0
  let v1787_r0 : BitVec 32 := Scalar.addi v1786_r0 c0_i32_473_r0
  let v1861_r0 : Index := Scalar.indexCast v1787_r0
  ![87, v1861_r0.toNat]
def k0_off263 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1871_r0 : Index := Scalar.indexCast v115_r0
  let c2560_484_r0 : Index := 2560#32
  let c256_485_r0 : Index := 256#32
  ![v1871_r0.toNat, 2560, 256]
def k0_off264 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1881_r0 : Index := Scalar.indexCast v115_r0
  let c2592_487_r0 : Index := 2592#32
  let c256_488_r0 : Index := 256#32
  ![v1881_r0.toNat, 2592, 256]
def k0_off265 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1891_r0 : Index := Scalar.indexCast v115_r0
  let c2624_490_r0 : Index := 2624#32
  let c256_491_r0 : Index := 256#32
  ![v1891_r0.toNat, 2624, 256]
def k0_off266 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1901_r0 : Index := Scalar.indexCast v115_r0
  let c2656_493_r0 : Index := 2656#32
  let c256_494_r0 : Index := 256#32
  ![v1901_r0.toNat, 2656, 256]
def k0_off267 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1911_r0 : Index := Scalar.indexCast v115_r0
  let c2688_496_r0 : Index := 2688#32
  let c256_497_r0 : Index := 256#32
  ![v1911_r0.toNat, 2688, 256]
def k0_off268 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1921_r0 : Index := Scalar.indexCast v115_r0
  let c2720_499_r0 : Index := 2720#32
  let c256_500_r0 : Index := 256#32
  ![v1921_r0.toNat, 2720, 256]
def k0_off269 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1931_r0 : Index := Scalar.indexCast v115_r0
  let c2752_502_r0 : Index := 2752#32
  let c256_503_r0 : Index := 256#32
  ![v1931_r0.toNat, 2752, 256]
def k0_off270 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1941_r0 : Index := Scalar.indexCast v115_r0
  let c2784_505_r0 : Index := 2784#32
  let c256_506_r0 : Index := 256#32
  ![v1941_r0.toNat, 2784, 256]
def k0_off271 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1955_r0 : Index := Scalar.indexCast v115_r0
  let c2816_r0 : Index := 2816#32
  let c0_512_r0 : Index := 0#32
  ![v1955_r0.toNat, 2816, 0]
def k0_off272 (k0_t1 : Fin k0_t1_loop.trips) (c0_i32_511_r0 : BitVec 32) : Fin 2 → Nat :=
  let c88_r0 : Index := 88#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v1958_r0 : Index := Scalar.indexCast v1954_r0
  ![88, v1958_r0.toNat]
def k0_off273 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1965_r0 : Index := Scalar.indexCast v115_r0
  let c2848_r0 : Index := 2848#32
  let c0_513_r0 : Index := 0#32
  ![v1965_r0.toNat, 2848, 0]
def k0_off274 (k0_t1 : Fin k0_t1_loop.trips) (c0_i32_511_r0 : BitVec 32) : Fin 2 → Nat :=
  let c89_r0 : Index := 89#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v1968_r0 : Index := Scalar.indexCast v1954_r0
  ![89, v1968_r0.toNat]
def k0_off275 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1975_r0 : Index := Scalar.indexCast v115_r0
  let c2880_r0 : Index := 2880#32
  let c0_514_r0 : Index := 0#32
  ![v1975_r0.toNat, 2880, 0]
def k0_off276 (k0_t1 : Fin k0_t1_loop.trips) (c0_i32_511_r0 : BitVec 32) : Fin 2 → Nat :=
  let c90_r0 : Index := 90#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v1978_r0 : Index := Scalar.indexCast v1954_r0
  ![90, v1978_r0.toNat]
def k0_off277 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1985_r0 : Index := Scalar.indexCast v115_r0
  let c2912_r0 : Index := 2912#32
  let c0_515_r0 : Index := 0#32
  ![v1985_r0.toNat, 2912, 0]
def k0_off278 (k0_t1 : Fin k0_t1_loop.trips) (c0_i32_511_r0 : BitVec 32) : Fin 2 → Nat :=
  let c91_r0 : Index := 91#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v1988_r0 : Index := Scalar.indexCast v1954_r0
  ![91, v1988_r0.toNat]
def k0_off279 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v1995_r0 : Index := Scalar.indexCast v115_r0
  let c2944_r0 : Index := 2944#32
  let c0_516_r0 : Index := 0#32
  ![v1995_r0.toNat, 2944, 0]
def k0_off280 (k0_t1 : Fin k0_t1_loop.trips) (c0_i32_511_r0 : BitVec 32) : Fin 2 → Nat :=
  let c92_r0 : Index := 92#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v1998_r0 : Index := Scalar.indexCast v1954_r0
  ![92, v1998_r0.toNat]
def k0_off281 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2005_r0 : Index := Scalar.indexCast v115_r0
  let c2976_r0 : Index := 2976#32
  let c0_517_r0 : Index := 0#32
  ![v2005_r0.toNat, 2976, 0]
def k0_off282 (k0_t1 : Fin k0_t1_loop.trips) (c0_i32_511_r0 : BitVec 32) : Fin 2 → Nat :=
  let c93_r0 : Index := 93#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v2008_r0 : Index := Scalar.indexCast v1954_r0
  ![93, v2008_r0.toNat]
def k0_off283 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2015_r0 : Index := Scalar.indexCast v115_r0
  let c3008_r0 : Index := 3008#32
  let c0_518_r0 : Index := 0#32
  ![v2015_r0.toNat, 3008, 0]
def k0_off284 (k0_t1 : Fin k0_t1_loop.trips) (c0_i32_511_r0 : BitVec 32) : Fin 2 → Nat :=
  let c94_r0 : Index := 94#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v2018_r0 : Index := Scalar.indexCast v1954_r0
  ![94, v2018_r0.toNat]
def k0_off285 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2025_r0 : Index := Scalar.indexCast v115_r0
  let c3040_r0 : Index := 3040#32
  let c0_519_r0 : Index := 0#32
  ![v2025_r0.toNat, 3040, 0]
def k0_off286 (k0_t1 : Fin k0_t1_loop.trips) (c0_i32_511_r0 : BitVec 32) : Fin 2 → Nat :=
  let c95_r0 : Index := 95#32
  let c0_i32_42_r0 : BitVec 32 := 0#32
  let c1_i32_43_r0 : BitVec 32 := 1#32
  let arg10_r0 : BitVec 32 := Scf.iv c0_i32_42_r0 c1_i32_43_r0 k0_t1
  let c512_i32_510_r0 : BitVec 32 := 512#32
  let v1953_r0 : BitVec 32 := Scalar.muli arg10_r0 c512_i32_510_r0
  let v1954_r0 : BitVec 32 := Scalar.addi v1953_r0 c0_i32_511_r0
  let v2028_r0 : Index := Scalar.indexCast v1954_r0
  ![95, v2028_r0.toNat]
def k0_off287 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2038_r0 : Index := Scalar.indexCast v115_r0
  let c2816_522_r0 : Index := 2816#32
  let c256_523_r0 : Index := 256#32
  ![v2038_r0.toNat, 2816, 256]
def k0_off288 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2048_r0 : Index := Scalar.indexCast v115_r0
  let c2848_525_r0 : Index := 2848#32
  let c256_526_r0 : Index := 256#32
  ![v2048_r0.toNat, 2848, 256]
def k0_off289 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2058_r0 : Index := Scalar.indexCast v115_r0
  let c2880_528_r0 : Index := 2880#32
  let c256_529_r0 : Index := 256#32
  ![v2058_r0.toNat, 2880, 256]
def k0_off290 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2068_r0 : Index := Scalar.indexCast v115_r0
  let c2912_531_r0 : Index := 2912#32
  let c256_532_r0 : Index := 256#32
  ![v2068_r0.toNat, 2912, 256]
def k0_off291 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2078_r0 : Index := Scalar.indexCast v115_r0
  let c2944_534_r0 : Index := 2944#32
  let c256_535_r0 : Index := 256#32
  ![v2078_r0.toNat, 2944, 256]
def k0_off292 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2088_r0 : Index := Scalar.indexCast v115_r0
  let c2976_537_r0 : Index := 2976#32
  let c256_538_r0 : Index := 256#32
  ![v2088_r0.toNat, 2976, 256]
def k0_off293 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2098_r0 : Index := Scalar.indexCast v115_r0
  let c3008_540_r0 : Index := 3008#32
  let c256_541_r0 : Index := 256#32
  ![v2098_r0.toNat, 3008, 256]
def k0_off294 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2108_r0 : Index := Scalar.indexCast v115_r0
  let c3040_543_r0 : Index := 3040#32
  let c256_544_r0 : Index := 256#32
  ![v2108_r0.toNat, 3040, 256]
def k0_off295 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2122_r0 : Index := Scalar.indexCast v115_r0
  let c3072_r0 : Index := 3072#32
  let c0_550_r0 : Index := 0#32
  ![v2122_r0.toNat, 3072, 0]
def k0_off296 (k0_t1 : Fin k0_t1_loop.trips) (c0_i32_549_r0 : BitVec 32) : Fin 2 → Nat :=
  let c96_551_r0 : Index := 96#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2125_r0 : Index := Scalar.indexCast v2121_r0
  ![96, v2125_r0.toNat]
def k0_off297 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2132_r0 : Index := Scalar.indexCast v115_r0
  let c3104_r0 : Index := 3104#32
  let c0_552_r0 : Index := 0#32
  ![v2132_r0.toNat, 3104, 0]
def k0_off298 (k0_t1 : Fin k0_t1_loop.trips) (c0_i32_549_r0 : BitVec 32) : Fin 2 → Nat :=
  let c97_r0 : Index := 97#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2135_r0 : Index := Scalar.indexCast v2121_r0
  ![97, v2135_r0.toNat]
def k0_off299 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2142_r0 : Index := Scalar.indexCast v115_r0
  let c3136_r0 : Index := 3136#32
  let c0_553_r0 : Index := 0#32
  ![v2142_r0.toNat, 3136, 0]
def k0_off300 (k0_t1 : Fin k0_t1_loop.trips) (c0_i32_549_r0 : BitVec 32) : Fin 2 → Nat :=
  let c98_r0 : Index := 98#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2145_r0 : Index := Scalar.indexCast v2121_r0
  ![98, v2145_r0.toNat]
def k0_off301 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2152_r0 : Index := Scalar.indexCast v115_r0
  let c3168_r0 : Index := 3168#32
  let c0_554_r0 : Index := 0#32
  ![v2152_r0.toNat, 3168, 0]
def k0_off302 (k0_t1 : Fin k0_t1_loop.trips) (c0_i32_549_r0 : BitVec 32) : Fin 2 → Nat :=
  let c99_r0 : Index := 99#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2155_r0 : Index := Scalar.indexCast v2121_r0
  ![99, v2155_r0.toNat]
def k0_off303 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2162_r0 : Index := Scalar.indexCast v115_r0
  let c3200_r0 : Index := 3200#32
  let c0_555_r0 : Index := 0#32
  ![v2162_r0.toNat, 3200, 0]
def k0_off304 (k0_t1 : Fin k0_t1_loop.trips) (c0_i32_549_r0 : BitVec 32) : Fin 2 → Nat :=
  let c100_r0 : Index := 100#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2165_r0 : Index := Scalar.indexCast v2121_r0
  ![100, v2165_r0.toNat]
def k0_off305 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2172_r0 : Index := Scalar.indexCast v115_r0
  let c3232_r0 : Index := 3232#32
  let c0_556_r0 : Index := 0#32
  ![v2172_r0.toNat, 3232, 0]
def k0_off306 (k0_t1 : Fin k0_t1_loop.trips) (c0_i32_549_r0 : BitVec 32) : Fin 2 → Nat :=
  let c101_r0 : Index := 101#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2175_r0 : Index := Scalar.indexCast v2121_r0
  ![101, v2175_r0.toNat]
def k0_off307 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2182_r0 : Index := Scalar.indexCast v115_r0
  let c3264_r0 : Index := 3264#32
  let c0_557_r0 : Index := 0#32
  ![v2182_r0.toNat, 3264, 0]
def k0_off308 (k0_t1 : Fin k0_t1_loop.trips) (c0_i32_549_r0 : BitVec 32) : Fin 2 → Nat :=
  let c102_r0 : Index := 102#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2185_r0 : Index := Scalar.indexCast v2121_r0
  ![102, v2185_r0.toNat]
def k0_off309 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2192_r0 : Index := Scalar.indexCast v115_r0
  let c3296_r0 : Index := 3296#32
  let c0_558_r0 : Index := 0#32
  ![v2192_r0.toNat, 3296, 0]
def k0_off310 (k0_t1 : Fin k0_t1_loop.trips) (c0_i32_549_r0 : BitVec 32) : Fin 2 → Nat :=
  let c103_r0 : Index := 103#32
  let c0_i32_42_r0 : BitVec 32 := 0#32
  let c1_i32_43_r0 : BitVec 32 := 1#32
  let arg10_r0 : BitVec 32 := Scf.iv c0_i32_42_r0 c1_i32_43_r0 k0_t1
  let c512_i32_548_r0 : BitVec 32 := 512#32
  let v2120_r0 : BitVec 32 := Scalar.muli arg10_r0 c512_i32_548_r0
  let v2121_r0 : BitVec 32 := Scalar.addi v2120_r0 c0_i32_549_r0
  let v2195_r0 : Index := Scalar.indexCast v2121_r0
  ![103, v2195_r0.toNat]
def k0_off311 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2205_r0 : Index := Scalar.indexCast v115_r0
  let c3072_561_r0 : Index := 3072#32
  let c256_562_r0 : Index := 256#32
  ![v2205_r0.toNat, 3072, 256]
def k0_off312 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2215_r0 : Index := Scalar.indexCast v115_r0
  let c3104_564_r0 : Index := 3104#32
  let c256_565_r0 : Index := 256#32
  ![v2215_r0.toNat, 3104, 256]
def k0_off313 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2225_r0 : Index := Scalar.indexCast v115_r0
  let c3136_567_r0 : Index := 3136#32
  let c256_568_r0 : Index := 256#32
  ![v2225_r0.toNat, 3136, 256]
def k0_off314 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2235_r0 : Index := Scalar.indexCast v115_r0
  let c3168_570_r0 : Index := 3168#32
  let c256_571_r0 : Index := 256#32
  ![v2235_r0.toNat, 3168, 256]
def k0_off315 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2245_r0 : Index := Scalar.indexCast v115_r0
  let c3200_573_r0 : Index := 3200#32
  let c256_574_r0 : Index := 256#32
  ![v2245_r0.toNat, 3200, 256]
def k0_off316 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2255_r0 : Index := Scalar.indexCast v115_r0
  let c3232_576_r0 : Index := 3232#32
  let c256_577_r0 : Index := 256#32
  ![v2255_r0.toNat, 3232, 256]
def k0_off317 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2265_r0 : Index := Scalar.indexCast v115_r0
  let c3264_579_r0 : Index := 3264#32
  let c256_580_r0 : Index := 256#32
  ![v2265_r0.toNat, 3264, 256]
def k0_off318 (k0_t1 : Fin k0_t1_loop.trips) (c0_i32_56_r0 : BitVec 32) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_55_r0 : BitVec 32 := 4#32
  let v52_r0 : BitVec 32 := Scalar.muli arg10_r0 c4_i32_55_r0
  let v53_r0 : BitVec 32 := Scalar.addi v52_r0 c0_i32_56_r0
  let c6_i32_84_r0 : BitVec 32 := 6#32
  let c0_i32_85_r0 : BitVec 32 := 0#32
  let v106_r0 : BitVec 1 := Scalar.cmpi .eq c6_i32_84_r0 c0_i32_85_r0
  let c1_i32_86_r0 : BitVec 32 := 1#32
  let v107_r0 : BitVec 32 := Scalar.select v106_r0 c1_i32_86_r0 c6_i32_84_r0
  let v108_r0 : BitVec 32 := Scalar.remsi v53_r0 v107_r0
  let c0_i32_88_r0 : BitVec 32 := 0#32
  let v110_r0 : BitVec 1 := Scalar.cmpi .slt v108_r0 c0_i32_88_r0
  let c0_i32_89_r0 : BitVec 32 := 0#32
  let v111_r0 : BitVec 1 := Scalar.cmpi .slt v107_r0 c0_i32_89_r0
  let v112_r0 : BitVec 1 := Scalar.xori v110_r0 v111_r0
  let c0_i32_87_r0 : BitVec 32 := 0#32
  let v109_r0 : BitVec 1 := Scalar.cmpi .ne v108_r0 c0_i32_87_r0
  let v113_r0 : BitVec 1 := Scalar.andi v112_r0 v109_r0
  let v114_r0 : BitVec 32 := Scalar.addi v108_r0 v107_r0
  let v115_r0 : BitVec 32 := Scalar.select v113_r0 v114_r0 v108_r0
  let v2275_r0 : Index := Scalar.indexCast v115_r0
  let c3296_582_r0 : Index := 3296#32
  let c256_583_r0 : Index := 256#32
  ![v2275_r0.toNat, 3296, 256]
def k0_cond4 (k0_t1 : Fin k0_t1_loop.trips) : BitVec 1 :=
  let c0_i32_42_r0 : BitVec 32 := 0#32
  let c1_i32_43_r0 : BitVec 32 := 1#32
  let arg10_r0 : BitVec 32 := Scf.iv c0_i32_42_r0 c1_i32_43_r0 k0_t1
  let c4_i32_587_r0 : BitVec 32 := 4#32
  let v2287_r0 : BitVec 32 := Scalar.muli arg10_r0 c4_i32_587_r0
  let c1_i32_588_r0 : BitVec 32 := 1#32
  let v2288_r0 : BitVec 32 := Scalar.addi v2287_r0 c1_i32_588_r0
  let c6_i32_614_r0 : BitVec 32 := 6#32
  let v2336_r0 : BitVec 32 := Scalar.addi v2288_r0 c6_i32_614_r0
  let c1_i32_615_r0 : BitVec 32 := 1#32
  let v2337_r0 : BitVec 32 := Scalar.subi v2336_r0 c1_i32_615_r0
  let c128_i32_616_r0 : BitVec 32 := 128#32
  let v2338_r0 : BitVec 1 := Scalar.cmpi .slt v2337_r0 c128_i32_616_r0
  let v2339_r0 : BitVec 32 := Scalar.extui v2338_r0
  let c0_i32_617_r0 : BitVec 32 := 0#32
  let v2340_r0 : BitVec 1 := Scalar.cmpi .ne v2339_r0 c0_i32_617_r0
  v2340_r0

def k0_off319 (k0_t1 : Fin k0_t1_loop.trips) : Fin 1 → Nat :=
  let c0_i32_42_r0 : BitVec 32 := 0#32
  let c1_i32_43_r0 : BitVec 32 := 1#32
  let arg10_r0 : BitVec 32 := Scf.iv c0_i32_42_r0 c1_i32_43_r0 k0_t1
  let c4_i32_587_r0 : BitVec 32 := 4#32
  let v2287_r0 : BitVec 32 := Scalar.muli arg10_r0 c4_i32_587_r0
  let c1_i32_588_r0 : BitVec 32 := 1#32
  let v2288_r0 : BitVec 32 := Scalar.addi v2287_r0 c1_i32_588_r0
  let c6_i32_2496_r0 : BitVec 32 := 6#32
  let v9053_r0 : BitVec 32 := Scalar.addi v2288_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  ![v9091_r0.toNat]
def k0_off320 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_587_r0 : BitVec 32 := 4#32
  let v2287_r0 : BitVec 32 := Scalar.muli arg10_r0 c4_i32_587_r0
  let c1_i32_588_r0 : BitVec 32 := 1#32
  let v2288_r0 : BitVec 32 := Scalar.addi v2287_r0 c1_i32_588_r0
  let c6_i32_2496_r0 : BitVec 32 := 6#32
  let v9053_r0 : BitVec 32 := Scalar.addi v2288_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  let c0_i32_2519_r0 : BitVec 32 := 0#32
  let c0_i32_2520_r0 : BitVec 32 := 0#32
  ![v9091_r0.toNat, 0, 0]
def k0_off321 (k0_t1 : Fin k0_t1_loop.trips) : Fin 2 → Nat :=
  let c0_i32_42_r0 : BitVec 32 := 0#32
  let c1_i32_43_r0 : BitVec 32 := 1#32
  let arg10_r0 : BitVec 32 := Scf.iv c0_i32_42_r0 c1_i32_43_r0 k0_t1
  let c4_i32_587_r0 : BitVec 32 := 4#32
  let v2287_r0 : BitVec 32 := Scalar.muli arg10_r0 c4_i32_587_r0
  let c1_i32_588_r0 : BitVec 32 := 1#32
  let v2288_r0 : BitVec 32 := Scalar.addi v2287_r0 c1_i32_588_r0
  let c6_i32_2496_r0 : BitVec 32 := 6#32
  let v9053_r0 : BitVec 32 := Scalar.addi v2288_r0 c6_i32_2496_r0
  let c1_i32_2497_r0 : BitVec 32 := 1#32
  let v9054_r0 : BitVec 32 := Scalar.subi v9053_r0 c1_i32_2497_r0
  let c4_i32_2505_r0 : BitVec 32 := 4#32
  let c0_i32_2506_r0 : BitVec 32 := 0#32
  let v9072_r0 : BitVec 1 := Scalar.cmpi .eq c4_i32_2505_r0 c0_i32_2506_r0
  let c1_i32_2507_r0 : BitVec 32 := 1#32
  let v9073_r0 : BitVec 32 := Scalar.select v9072_r0 c1_i32_2507_r0 c4_i32_2505_r0
  let v9074_r0 : BitVec 32 := Scalar.remsi v9054_r0 v9073_r0
  let c0_i32_2509_r0 : BitVec 32 := 0#32
  let v9076_r0 : BitVec 1 := Scalar.cmpi .slt v9074_r0 c0_i32_2509_r0
  let c0_i32_2510_r0 : BitVec 32 := 0#32
  let v9077_r0 : BitVec 1 := Scalar.cmpi .slt v9073_r0 c0_i32_2510_r0
  let v9078_r0 : BitVec 1 := Scalar.xori v9076_r0 v9077_r0
  let c0_i32_2508_r0 : BitVec 32 := 0#32
  let v9075_r0 : BitVec 1 := Scalar.cmpi .ne v9074_r0 c0_i32_2508_r0
  let v9079_r0 : BitVec 1 := Scalar.andi v9078_r0 v9075_r0
  let v9080_r0 : BitVec 32 := Scalar.addi v9074_r0 v9073_r0
  let v9081_r0 : BitVec 32 := Scalar.select v9079_r0 v9080_r0 v9074_r0
  let c3328_i32_2517_r0 : BitVec 32 := 3328#32
  let v9092_r0 : BitVec 32 := Scalar.muli v9081_r0 c3328_i32_2517_r0
  let c0_i32_2499_r0 : BitVec 32 := 0#32
  let v9056_r0 : BitVec 1 := Scalar.cmpi .sgt v9054_r0 c0_i32_2499_r0
  let v9057_r0 : BitVec 32 := Scalar.extui v9056_r0
  let c0_i32_2500_r0 : BitVec 32 := 0#32
  let v9058_r0 : BitVec 1 := Scalar.cmpi .slt v9054_r0 c0_i32_2500_r0
  let v9059_r0 : BitVec 32 := Scalar.extui v9058_r0
  let v9060_r0 : BitVec 32 := Scalar.subi v9057_r0 v9059_r0
  let c4_i32_2498_r0 : BitVec 32 := 4#32
  let c0_i32_2501_r0 : BitVec 32 := 0#32
  let v9061_r0 : BitVec 1 := Scalar.cmpi .sgt c4_i32_2498_r0 c0_i32_2501_r0
  let v9062_r0 : BitVec 32 := Scalar.extui v9061_r0
  let c0_i32_2502_r0 : BitVec 32 := 0#32
  let v9063_r0 : BitVec 1 := Scalar.cmpi .slt c4_i32_2498_r0 c0_i32_2502_r0
  let v9064_r0 : BitVec 32 := Scalar.extui v9063_r0
  let v9065_r0 : BitVec 32 := Scalar.subi v9062_r0 v9064_r0
  let v9066_r0 : BitVec 1 := Scalar.cmpi .ne v9060_r0 v9065_r0
  let v9067_r0 : BitVec 32 := Scalar.remsi v9054_r0 c4_i32_2498_r0
  let c0_i32_2503_r0 : BitVec 32 := 0#32
  let v9068_r0 : BitVec 1 := Scalar.cmpi .ne v9067_r0 c0_i32_2503_r0
  let v9069_r0 : BitVec 1 := Scalar.andi v9066_r0 v9068_r0
  let v9055_r0 : BitVec 32 := Scalar.divsi v9054_r0 c4_i32_2498_r0
  let c1_i32_2504_r0 : BitVec 32 := 1#32
  let v9070_r0 : BitVec 32 := Scalar.subi v9055_r0 c1_i32_2504_r0
  let v9071_r0 : BitVec 32 := Scalar.select v9069_r0 v9070_r0 v9055_r0
  let c512_i32_2518_r0 : BitVec 32 := 512#32
  let v9093_r0 : BitVec 32 := Scalar.muli v9071_r0 c512_i32_2518_r0
  ![v9092_r0.toNat, v9093_r0.toNat]
def k0_off322 (k0_t1 : Fin k0_t1_loop.trips) (c0_i32_625_r0 : BitVec 32) : Fin 2 → Nat :=
  let c104_r0 : Index := 104#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2356_r0 : Index := Scalar.indexCast v2352_r0
  ![104, v2356_r0.toNat]
def k0_off323 (k0_t1 : Fin k0_t1_loop.trips) (c0_i32_625_r0 : BitVec 32) : Fin 2 → Nat :=
  let c105_r0 : Index := 105#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2366_r0 : Index := Scalar.indexCast v2352_r0
  ![105, v2366_r0.toNat]
def k0_off324 (k0_t1 : Fin k0_t1_loop.trips) (c0_i32_625_r0 : BitVec 32) : Fin 2 → Nat :=
  let c106_r0 : Index := 106#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2376_r0 : Index := Scalar.indexCast v2352_r0
  ![106, v2376_r0.toNat]
def k0_off325 (k0_t1 : Fin k0_t1_loop.trips) (c0_i32_625_r0 : BitVec 32) : Fin 2 → Nat :=
  let c107_r0 : Index := 107#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2386_r0 : Index := Scalar.indexCast v2352_r0
  ![107, v2386_r0.toNat]
def k0_off326 (k0_t1 : Fin k0_t1_loop.trips) (c0_i32_625_r0 : BitVec 32) : Fin 2 → Nat :=
  let c108_r0 : Index := 108#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2396_r0 : Index := Scalar.indexCast v2352_r0
  ![108, v2396_r0.toNat]
def k0_off327 (k0_t1 : Fin k0_t1_loop.trips) (c0_i32_625_r0 : BitVec 32) : Fin 2 → Nat :=
  let c109_r0 : Index := 109#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2406_r0 : Index := Scalar.indexCast v2352_r0
  ![109, v2406_r0.toNat]
def k0_off328 (k0_t1 : Fin k0_t1_loop.trips) (c0_i32_625_r0 : BitVec 32) : Fin 2 → Nat :=
  let c110_r0 : Index := 110#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2416_r0 : Index := Scalar.indexCast v2352_r0
  ![110, v2416_r0.toNat]
def k0_off329 (k0_t1 : Fin k0_t1_loop.trips) (c0_i32_625_r0 : BitVec 32) : Fin 2 → Nat :=
  let c111_r0 : Index := 111#32
  let c0_i32_42_r0 : BitVec 32 := 0#32
  let c1_i32_43_r0 : BitVec 32 := 1#32
  let arg10_r0 : BitVec 32 := Scf.iv c0_i32_42_r0 c1_i32_43_r0 k0_t1
  let c512_i32_624_r0 : BitVec 32 := 512#32
  let v2351_r0 : BitVec 32 := Scalar.muli arg10_r0 c512_i32_624_r0
  let v2352_r0 : BitVec 32 := Scalar.addi v2351_r0 c0_i32_625_r0
  let v2426_r0 : Index := Scalar.indexCast v2352_r0
  ![111, v2426_r0.toNat]
def k0_off330 (k0_t1 : Fin k0_t1_loop.trips) (c0_i32_670_r0 : BitVec 32) : Fin 2 → Nat :=
  let c112_r0 : Index := 112#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2523_r0 : Index := Scalar.indexCast v2519_r0
  ![112, v2523_r0.toNat]
def k0_off331 (k0_t1 : Fin k0_t1_loop.trips) (c0_i32_670_r0 : BitVec 32) : Fin 2 → Nat :=
  let c113_r0 : Index := 113#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2533_r0 : Index := Scalar.indexCast v2519_r0
  ![113, v2533_r0.toNat]
def k0_off332 (k0_t1 : Fin k0_t1_loop.trips) (c0_i32_670_r0 : BitVec 32) : Fin 2 → Nat :=
  let c114_r0 : Index := 114#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2543_r0 : Index := Scalar.indexCast v2519_r0
  ![114, v2543_r0.toNat]
def k0_off333 (k0_t1 : Fin k0_t1_loop.trips) (c0_i32_670_r0 : BitVec 32) : Fin 2 → Nat :=
  let c115_r0 : Index := 115#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2553_r0 : Index := Scalar.indexCast v2519_r0
  ![115, v2553_r0.toNat]
def k0_off334 (k0_t1 : Fin k0_t1_loop.trips) (c0_i32_670_r0 : BitVec 32) : Fin 2 → Nat :=
  let c116_r0 : Index := 116#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2563_r0 : Index := Scalar.indexCast v2519_r0
  ![116, v2563_r0.toNat]
def k0_off335 (k0_t1 : Fin k0_t1_loop.trips) (c0_i32_670_r0 : BitVec 32) : Fin 2 → Nat :=
  let c117_r0 : Index := 117#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2573_r0 : Index := Scalar.indexCast v2519_r0
  ![117, v2573_r0.toNat]
def k0_off336 (k0_t1 : Fin k0_t1_loop.trips) (c0_i32_670_r0 : BitVec 32) : Fin 2 → Nat :=
  let c118_r0 : Index := 118#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2583_r0 : Index := Scalar.indexCast v2519_r0
  ![118, v2583_r0.toNat]
def k0_off337 (k0_t1 : Fin k0_t1_loop.trips) (c0_i32_670_r0 : BitVec 32) : Fin 2 → Nat :=
  let c119_r0 : Index := 119#32
  let c0_i32_42_r0 : BitVec 32 := 0#32
  let c1_i32_43_r0 : BitVec 32 := 1#32
  let arg10_r0 : BitVec 32 := Scf.iv c0_i32_42_r0 c1_i32_43_r0 k0_t1
  let c512_i32_669_r0 : BitVec 32 := 512#32
  let v2518_r0 : BitVec 32 := Scalar.muli arg10_r0 c512_i32_669_r0
  let v2519_r0 : BitVec 32 := Scalar.addi v2518_r0 c0_i32_670_r0
  let v2593_r0 : Index := Scalar.indexCast v2519_r0
  ![119, v2593_r0.toNat]
def k0_off338 (k0_t1 : Fin k0_t1_loop.trips) (c0_i32_715_r0 : BitVec 32) : Fin 2 → Nat :=
  let c120_r0 : Index := 120#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2690_r0 : Index := Scalar.indexCast v2686_r0
  ![120, v2690_r0.toNat]
def k0_off339 (k0_t1 : Fin k0_t1_loop.trips) (c0_i32_715_r0 : BitVec 32) : Fin 2 → Nat :=
  let c121_r0 : Index := 121#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2700_r0 : Index := Scalar.indexCast v2686_r0
  ![121, v2700_r0.toNat]
def k0_off340 (k0_t1 : Fin k0_t1_loop.trips) (c0_i32_715_r0 : BitVec 32) : Fin 2 → Nat :=
  let c122_r0 : Index := 122#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2710_r0 : Index := Scalar.indexCast v2686_r0
  ![122, v2710_r0.toNat]
def k0_off341 (k0_t1 : Fin k0_t1_loop.trips) (c0_i32_715_r0 : BitVec 32) : Fin 2 → Nat :=
  let c123_r0 : Index := 123#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2720_r0 : Index := Scalar.indexCast v2686_r0
  ![123, v2720_r0.toNat]
def k0_off342 (k0_t1 : Fin k0_t1_loop.trips) (c0_i32_715_r0 : BitVec 32) : Fin 2 → Nat :=
  let c124_r0 : Index := 124#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2730_r0 : Index := Scalar.indexCast v2686_r0
  ![124, v2730_r0.toNat]
def k0_off343 (k0_t1 : Fin k0_t1_loop.trips) (c0_i32_715_r0 : BitVec 32) : Fin 2 → Nat :=
  let c125_r0 : Index := 125#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2740_r0 : Index := Scalar.indexCast v2686_r0
  ![125, v2740_r0.toNat]
def k0_off344 (k0_t1 : Fin k0_t1_loop.trips) (c0_i32_715_r0 : BitVec 32) : Fin 2 → Nat :=
  let c126_r0 : Index := 126#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2750_r0 : Index := Scalar.indexCast v2686_r0
  ![126, v2750_r0.toNat]
def k0_off345 (k0_t1 : Fin k0_t1_loop.trips) (c0_i32_715_r0 : BitVec 32) : Fin 2 → Nat :=
  let c127_r0 : Index := 127#32
  let c0_i32_42_r0 : BitVec 32 := 0#32
  let c1_i32_43_r0 : BitVec 32 := 1#32
  let arg10_r0 : BitVec 32 := Scf.iv c0_i32_42_r0 c1_i32_43_r0 k0_t1
  let c512_i32_714_r0 : BitVec 32 := 512#32
  let v2685_r0 : BitVec 32 := Scalar.muli arg10_r0 c512_i32_714_r0
  let v2686_r0 : BitVec 32 := Scalar.addi v2685_r0 c0_i32_715_r0
  let v2760_r0 : Index := Scalar.indexCast v2686_r0
  ![127, v2760_r0.toNat]
def k0_off346 (k0_t1 : Fin k0_t1_loop.trips) (c0_i32_760_r0 : BitVec 32) : Fin 2 → Nat :=
  let c128_763_r0 : Index := 128#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2857_r0 : Index := Scalar.indexCast v2853_r0
  ![128, v2857_r0.toNat]
def k0_off347 (k0_t1 : Fin k0_t1_loop.trips) (c0_i32_760_r0 : BitVec 32) : Fin 2 → Nat :=
  let c129_r0 : Index := 129#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2867_r0 : Index := Scalar.indexCast v2853_r0
  ![129, v2867_r0.toNat]
def k0_off348 (k0_t1 : Fin k0_t1_loop.trips) (c0_i32_760_r0 : BitVec 32) : Fin 2 → Nat :=
  let c130_r0 : Index := 130#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2877_r0 : Index := Scalar.indexCast v2853_r0
  ![130, v2877_r0.toNat]
def k0_off349 (k0_t1 : Fin k0_t1_loop.trips) (c0_i32_760_r0 : BitVec 32) : Fin 2 → Nat :=
  let c131_r0 : Index := 131#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2887_r0 : Index := Scalar.indexCast v2853_r0
  ![131, v2887_r0.toNat]
def k0_off350 (k0_t1 : Fin k0_t1_loop.trips) (c0_i32_760_r0 : BitVec 32) : Fin 2 → Nat :=
  let c132_r0 : Index := 132#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2897_r0 : Index := Scalar.indexCast v2853_r0
  ![132, v2897_r0.toNat]
def k0_off351 (k0_t1 : Fin k0_t1_loop.trips) (c0_i32_760_r0 : BitVec 32) : Fin 2 → Nat :=
  let c133_r0 : Index := 133#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2907_r0 : Index := Scalar.indexCast v2853_r0
  ![133, v2907_r0.toNat]
def k0_off352 (k0_t1 : Fin k0_t1_loop.trips) (c0_i32_760_r0 : BitVec 32) : Fin 2 → Nat :=
  let c134_r0 : Index := 134#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2917_r0 : Index := Scalar.indexCast v2853_r0
  ![134, v2917_r0.toNat]
def k0_off353 (k0_t1 : Fin k0_t1_loop.trips) (c0_i32_760_r0 : BitVec 32) : Fin 2 → Nat :=
  let c135_r0 : Index := 135#32
  let c0_i32_42_r0 : BitVec 32 := 0#32
  let c1_i32_43_r0 : BitVec 32 := 1#32
  let arg10_r0 : BitVec 32 := Scf.iv c0_i32_42_r0 c1_i32_43_r0 k0_t1
  let c512_i32_759_r0 : BitVec 32 := 512#32
  let v2852_r0 : BitVec 32 := Scalar.muli arg10_r0 c512_i32_759_r0
  let v2853_r0 : BitVec 32 := Scalar.addi v2852_r0 c0_i32_760_r0
  let v2927_r0 : Index := Scalar.indexCast v2853_r0
  ![135, v2927_r0.toNat]
def k0_off354 (k0_t1 : Fin k0_t1_loop.trips) (c0_i32_806_r0 : BitVec 32) : Fin 2 → Nat :=
  let c136_r0 : Index := 136#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3024_r0 : Index := Scalar.indexCast v3020_r0
  ![136, v3024_r0.toNat]
def k0_off355 (k0_t1 : Fin k0_t1_loop.trips) (c0_i32_806_r0 : BitVec 32) : Fin 2 → Nat :=
  let c137_r0 : Index := 137#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3034_r0 : Index := Scalar.indexCast v3020_r0
  ![137, v3034_r0.toNat]
def k0_off356 (k0_t1 : Fin k0_t1_loop.trips) (c0_i32_806_r0 : BitVec 32) : Fin 2 → Nat :=
  let c138_r0 : Index := 138#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3044_r0 : Index := Scalar.indexCast v3020_r0
  ![138, v3044_r0.toNat]
def k0_off357 (k0_t1 : Fin k0_t1_loop.trips) (c0_i32_806_r0 : BitVec 32) : Fin 2 → Nat :=
  let c139_r0 : Index := 139#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3054_r0 : Index := Scalar.indexCast v3020_r0
  ![139, v3054_r0.toNat]
def k0_off358 (k0_t1 : Fin k0_t1_loop.trips) (c0_i32_806_r0 : BitVec 32) : Fin 2 → Nat :=
  let c140_r0 : Index := 140#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3064_r0 : Index := Scalar.indexCast v3020_r0
  ![140, v3064_r0.toNat]
def k0_off359 (k0_t1 : Fin k0_t1_loop.trips) (c0_i32_806_r0 : BitVec 32) : Fin 2 → Nat :=
  let c141_r0 : Index := 141#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3074_r0 : Index := Scalar.indexCast v3020_r0
  ![141, v3074_r0.toNat]
def k0_off360 (k0_t1 : Fin k0_t1_loop.trips) (c0_i32_806_r0 : BitVec 32) : Fin 2 → Nat :=
  let c142_r0 : Index := 142#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3084_r0 : Index := Scalar.indexCast v3020_r0
  ![142, v3084_r0.toNat]
def k0_off361 (k0_t1 : Fin k0_t1_loop.trips) (c0_i32_806_r0 : BitVec 32) : Fin 2 → Nat :=
  let c143_r0 : Index := 143#32
  let c0_i32_42_r0 : BitVec 32 := 0#32
  let c1_i32_43_r0 : BitVec 32 := 1#32
  let arg10_r0 : BitVec 32 := Scf.iv c0_i32_42_r0 c1_i32_43_r0 k0_t1
  let c512_i32_805_r0 : BitVec 32 := 512#32
  let v3019_r0 : BitVec 32 := Scalar.muli arg10_r0 c512_i32_805_r0
  let v3020_r0 : BitVec 32 := Scalar.addi v3019_r0 c0_i32_806_r0
  let v3094_r0 : Index := Scalar.indexCast v3020_r0
  ![143, v3094_r0.toNat]
def k0_off362 (k0_t1 : Fin k0_t1_loop.trips) (c0_i32_851_r0 : BitVec 32) : Fin 2 → Nat :=
  let c144_r0 : Index := 144#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3191_r0 : Index := Scalar.indexCast v3187_r0
  ![144, v3191_r0.toNat]
def k0_off363 (k0_t1 : Fin k0_t1_loop.trips) (c0_i32_851_r0 : BitVec 32) : Fin 2 → Nat :=
  let c145_r0 : Index := 145#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3201_r0 : Index := Scalar.indexCast v3187_r0
  ![145, v3201_r0.toNat]
def k0_off364 (k0_t1 : Fin k0_t1_loop.trips) (c0_i32_851_r0 : BitVec 32) : Fin 2 → Nat :=
  let c146_r0 : Index := 146#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3211_r0 : Index := Scalar.indexCast v3187_r0
  ![146, v3211_r0.toNat]
def k0_off365 (k0_t1 : Fin k0_t1_loop.trips) (c0_i32_851_r0 : BitVec 32) : Fin 2 → Nat :=
  let c147_r0 : Index := 147#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3221_r0 : Index := Scalar.indexCast v3187_r0
  ![147, v3221_r0.toNat]
def k0_off366 (k0_t1 : Fin k0_t1_loop.trips) (c0_i32_851_r0 : BitVec 32) : Fin 2 → Nat :=
  let c148_r0 : Index := 148#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3231_r0 : Index := Scalar.indexCast v3187_r0
  ![148, v3231_r0.toNat]
def k0_off367 (k0_t1 : Fin k0_t1_loop.trips) (c0_i32_851_r0 : BitVec 32) : Fin 2 → Nat :=
  let c149_r0 : Index := 149#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3241_r0 : Index := Scalar.indexCast v3187_r0
  ![149, v3241_r0.toNat]
def k0_off368 (k0_t1 : Fin k0_t1_loop.trips) (c0_i32_851_r0 : BitVec 32) : Fin 2 → Nat :=
  let c150_r0 : Index := 150#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3251_r0 : Index := Scalar.indexCast v3187_r0
  ![150, v3251_r0.toNat]
def k0_off369 (k0_t1 : Fin k0_t1_loop.trips) (c0_i32_851_r0 : BitVec 32) : Fin 2 → Nat :=
  let c151_r0 : Index := 151#32
  let c0_i32_42_r0 : BitVec 32 := 0#32
  let c1_i32_43_r0 : BitVec 32 := 1#32
  let arg10_r0 : BitVec 32 := Scf.iv c0_i32_42_r0 c1_i32_43_r0 k0_t1
  let c512_i32_850_r0 : BitVec 32 := 512#32
  let v3186_r0 : BitVec 32 := Scalar.muli arg10_r0 c512_i32_850_r0
  let v3187_r0 : BitVec 32 := Scalar.addi v3186_r0 c0_i32_851_r0
  let v3261_r0 : Index := Scalar.indexCast v3187_r0
  ![151, v3261_r0.toNat]
def k0_off370 (k0_t1 : Fin k0_t1_loop.trips) (c0_i32_896_r0 : BitVec 32) : Fin 2 → Nat :=
  let c152_r0 : Index := 152#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3358_r0 : Index := Scalar.indexCast v3354_r0
  ![152, v3358_r0.toNat]
def k0_off371 (k0_t1 : Fin k0_t1_loop.trips) (c0_i32_896_r0 : BitVec 32) : Fin 2 → Nat :=
  let c153_r0 : Index := 153#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3368_r0 : Index := Scalar.indexCast v3354_r0
  ![153, v3368_r0.toNat]
def k0_off372 (k0_t1 : Fin k0_t1_loop.trips) (c0_i32_896_r0 : BitVec 32) : Fin 2 → Nat :=
  let c154_r0 : Index := 154#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3378_r0 : Index := Scalar.indexCast v3354_r0
  ![154, v3378_r0.toNat]
def k0_off373 (k0_t1 : Fin k0_t1_loop.trips) (c0_i32_896_r0 : BitVec 32) : Fin 2 → Nat :=
  let c155_r0 : Index := 155#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3388_r0 : Index := Scalar.indexCast v3354_r0
  ![155, v3388_r0.toNat]
def k0_off374 (k0_t1 : Fin k0_t1_loop.trips) (c0_i32_896_r0 : BitVec 32) : Fin 2 → Nat :=
  let c156_r0 : Index := 156#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3398_r0 : Index := Scalar.indexCast v3354_r0
  ![156, v3398_r0.toNat]
def k0_off375 (k0_t1 : Fin k0_t1_loop.trips) (c0_i32_896_r0 : BitVec 32) : Fin 2 → Nat :=
  let c157_r0 : Index := 157#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3408_r0 : Index := Scalar.indexCast v3354_r0
  ![157, v3408_r0.toNat]
def k0_off376 (k0_t1 : Fin k0_t1_loop.trips) (c0_i32_896_r0 : BitVec 32) : Fin 2 → Nat :=
  let c158_r0 : Index := 158#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3418_r0 : Index := Scalar.indexCast v3354_r0
  ![158, v3418_r0.toNat]
def k0_off377 (k0_t1 : Fin k0_t1_loop.trips) (c0_i32_896_r0 : BitVec 32) : Fin 2 → Nat :=
  let c159_r0 : Index := 159#32
  let c0_i32_42_r0 : BitVec 32 := 0#32
  let c1_i32_43_r0 : BitVec 32 := 1#32
  let arg10_r0 : BitVec 32 := Scf.iv c0_i32_42_r0 c1_i32_43_r0 k0_t1
  let c512_i32_895_r0 : BitVec 32 := 512#32
  let v3353_r0 : BitVec 32 := Scalar.muli arg10_r0 c512_i32_895_r0
  let v3354_r0 : BitVec 32 := Scalar.addi v3353_r0 c0_i32_896_r0
  let v3428_r0 : Index := Scalar.indexCast v3354_r0
  ![159, v3428_r0.toNat]
def k0_off378 (k0_t1 : Fin k0_t1_loop.trips) (c0_i32_941_r0 : BitVec 32) : Fin 2 → Nat :=
  let c160_944_r0 : Index := 160#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3525_r0 : Index := Scalar.indexCast v3521_r0
  ![160, v3525_r0.toNat]
def k0_off379 (k0_t1 : Fin k0_t1_loop.trips) (c0_i32_941_r0 : BitVec 32) : Fin 2 → Nat :=
  let c161_r0 : Index := 161#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3535_r0 : Index := Scalar.indexCast v3521_r0
  ![161, v3535_r0.toNat]
def k0_off380 (k0_t1 : Fin k0_t1_loop.trips) (c0_i32_941_r0 : BitVec 32) : Fin 2 → Nat :=
  let c162_r0 : Index := 162#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3545_r0 : Index := Scalar.indexCast v3521_r0
  ![162, v3545_r0.toNat]
def k0_off381 (k0_t1 : Fin k0_t1_loop.trips) (c0_i32_941_r0 : BitVec 32) : Fin 2 → Nat :=
  let c163_r0 : Index := 163#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3555_r0 : Index := Scalar.indexCast v3521_r0
  ![163, v3555_r0.toNat]
def k0_off382 (k0_t1 : Fin k0_t1_loop.trips) (c0_i32_941_r0 : BitVec 32) : Fin 2 → Nat :=
  let c164_r0 : Index := 164#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3565_r0 : Index := Scalar.indexCast v3521_r0
  ![164, v3565_r0.toNat]
def k0_off383 (k0_t1 : Fin k0_t1_loop.trips) (c0_i32_941_r0 : BitVec 32) : Fin 2 → Nat :=
  let c165_r0 : Index := 165#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3575_r0 : Index := Scalar.indexCast v3521_r0
  ![165, v3575_r0.toNat]
def k0_off384 (k0_t1 : Fin k0_t1_loop.trips) (c0_i32_941_r0 : BitVec 32) : Fin 2 → Nat :=
  let c166_r0 : Index := 166#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3585_r0 : Index := Scalar.indexCast v3521_r0
  ![166, v3585_r0.toNat]
def k0_off385 (k0_t1 : Fin k0_t1_loop.trips) (c0_i32_941_r0 : BitVec 32) : Fin 2 → Nat :=
  let c167_r0 : Index := 167#32
  let c0_i32_42_r0 : BitVec 32 := 0#32
  let c1_i32_43_r0 : BitVec 32 := 1#32
  let arg10_r0 : BitVec 32 := Scf.iv c0_i32_42_r0 c1_i32_43_r0 k0_t1
  let c512_i32_940_r0 : BitVec 32 := 512#32
  let v3520_r0 : BitVec 32 := Scalar.muli arg10_r0 c512_i32_940_r0
  let v3521_r0 : BitVec 32 := Scalar.addi v3520_r0 c0_i32_941_r0
  let v3595_r0 : Index := Scalar.indexCast v3521_r0
  ![167, v3595_r0.toNat]
def k0_off386 (k0_t1 : Fin k0_t1_loop.trips) (c0_i32_987_r0 : BitVec 32) : Fin 2 → Nat :=
  let c168_r0 : Index := 168#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3692_r0 : Index := Scalar.indexCast v3688_r0
  ![168, v3692_r0.toNat]
def k0_off387 (k0_t1 : Fin k0_t1_loop.trips) (c0_i32_987_r0 : BitVec 32) : Fin 2 → Nat :=
  let c169_r0 : Index := 169#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3702_r0 : Index := Scalar.indexCast v3688_r0
  ![169, v3702_r0.toNat]
def k0_off388 (k0_t1 : Fin k0_t1_loop.trips) (c0_i32_987_r0 : BitVec 32) : Fin 2 → Nat :=
  let c170_r0 : Index := 170#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3712_r0 : Index := Scalar.indexCast v3688_r0
  ![170, v3712_r0.toNat]
def k0_off389 (k0_t1 : Fin k0_t1_loop.trips) (c0_i32_987_r0 : BitVec 32) : Fin 2 → Nat :=
  let c171_r0 : Index := 171#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3722_r0 : Index := Scalar.indexCast v3688_r0
  ![171, v3722_r0.toNat]
def k0_off390 (k0_t1 : Fin k0_t1_loop.trips) (c0_i32_987_r0 : BitVec 32) : Fin 2 → Nat :=
  let c172_r0 : Index := 172#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3732_r0 : Index := Scalar.indexCast v3688_r0
  ![172, v3732_r0.toNat]
def k0_off391 (k0_t1 : Fin k0_t1_loop.trips) (c0_i32_987_r0 : BitVec 32) : Fin 2 → Nat :=
  let c173_r0 : Index := 173#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3742_r0 : Index := Scalar.indexCast v3688_r0
  ![173, v3742_r0.toNat]
def k0_off392 (k0_t1 : Fin k0_t1_loop.trips) (c0_i32_987_r0 : BitVec 32) : Fin 2 → Nat :=
  let c174_r0 : Index := 174#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3752_r0 : Index := Scalar.indexCast v3688_r0
  ![174, v3752_r0.toNat]
def k0_off393 (k0_t1 : Fin k0_t1_loop.trips) (c0_i32_987_r0 : BitVec 32) : Fin 2 → Nat :=
  let c175_r0 : Index := 175#32
  let c0_i32_42_r0 : BitVec 32 := 0#32
  let c1_i32_43_r0 : BitVec 32 := 1#32
  let arg10_r0 : BitVec 32 := Scf.iv c0_i32_42_r0 c1_i32_43_r0 k0_t1
  let c512_i32_986_r0 : BitVec 32 := 512#32
  let v3687_r0 : BitVec 32 := Scalar.muli arg10_r0 c512_i32_986_r0
  let v3688_r0 : BitVec 32 := Scalar.addi v3687_r0 c0_i32_987_r0
  let v3762_r0 : Index := Scalar.indexCast v3688_r0
  ![175, v3762_r0.toNat]
def k0_off394 (k0_t1 : Fin k0_t1_loop.trips) (c0_i32_1032_r0 : BitVec 32) : Fin 2 → Nat :=
  let c176_r0 : Index := 176#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3859_r0 : Index := Scalar.indexCast v3855_r0
  ![176, v3859_r0.toNat]
def k0_off395 (k0_t1 : Fin k0_t1_loop.trips) (c0_i32_1032_r0 : BitVec 32) : Fin 2 → Nat :=
  let c177_r0 : Index := 177#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3869_r0 : Index := Scalar.indexCast v3855_r0
  ![177, v3869_r0.toNat]
def k0_off396 (k0_t1 : Fin k0_t1_loop.trips) (c0_i32_1032_r0 : BitVec 32) : Fin 2 → Nat :=
  let c178_r0 : Index := 178#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3879_r0 : Index := Scalar.indexCast v3855_r0
  ![178, v3879_r0.toNat]
def k0_off397 (k0_t1 : Fin k0_t1_loop.trips) (c0_i32_1032_r0 : BitVec 32) : Fin 2 → Nat :=
  let c179_r0 : Index := 179#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3889_r0 : Index := Scalar.indexCast v3855_r0
  ![179, v3889_r0.toNat]
def k0_off398 (k0_t1 : Fin k0_t1_loop.trips) (c0_i32_1032_r0 : BitVec 32) : Fin 2 → Nat :=
  let c180_r0 : Index := 180#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3899_r0 : Index := Scalar.indexCast v3855_r0
  ![180, v3899_r0.toNat]
def k0_off399 (k0_t1 : Fin k0_t1_loop.trips) (c0_i32_1032_r0 : BitVec 32) : Fin 2 → Nat :=
  let c181_r0 : Index := 181#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3909_r0 : Index := Scalar.indexCast v3855_r0
  ![181, v3909_r0.toNat]
def k0_off400 (k0_t1 : Fin k0_t1_loop.trips) (c0_i32_1032_r0 : BitVec 32) : Fin 2 → Nat :=
  let c182_r0 : Index := 182#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3919_r0 : Index := Scalar.indexCast v3855_r0
  ![182, v3919_r0.toNat]
def k0_off401 (k0_t1 : Fin k0_t1_loop.trips) (c0_i32_1032_r0 : BitVec 32) : Fin 2 → Nat :=
  let c183_r0 : Index := 183#32
  let c0_i32_42_r0 : BitVec 32 := 0#32
  let c1_i32_43_r0 : BitVec 32 := 1#32
  let arg10_r0 : BitVec 32 := Scf.iv c0_i32_42_r0 c1_i32_43_r0 k0_t1
  let c512_i32_1031_r0 : BitVec 32 := 512#32
  let v3854_r0 : BitVec 32 := Scalar.muli arg10_r0 c512_i32_1031_r0
  let v3855_r0 : BitVec 32 := Scalar.addi v3854_r0 c0_i32_1032_r0
  let v3929_r0 : Index := Scalar.indexCast v3855_r0
  ![183, v3929_r0.toNat]
def k0_off402 (k0_t1 : Fin k0_t1_loop.trips) (c0_i32_1077_r0 : BitVec 32) : Fin 2 → Nat :=
  let c184_r0 : Index := 184#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4026_r0 : Index := Scalar.indexCast v4022_r0
  ![184, v4026_r0.toNat]
def k0_off403 (k0_t1 : Fin k0_t1_loop.trips) (c0_i32_1077_r0 : BitVec 32) : Fin 2 → Nat :=
  let c185_r0 : Index := 185#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4036_r0 : Index := Scalar.indexCast v4022_r0
  ![185, v4036_r0.toNat]
def k0_off404 (k0_t1 : Fin k0_t1_loop.trips) (c0_i32_1077_r0 : BitVec 32) : Fin 2 → Nat :=
  let c186_r0 : Index := 186#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4046_r0 : Index := Scalar.indexCast v4022_r0
  ![186, v4046_r0.toNat]
def k0_off405 (k0_t1 : Fin k0_t1_loop.trips) (c0_i32_1077_r0 : BitVec 32) : Fin 2 → Nat :=
  let c187_r0 : Index := 187#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4056_r0 : Index := Scalar.indexCast v4022_r0
  ![187, v4056_r0.toNat]
def k0_off406 (k0_t1 : Fin k0_t1_loop.trips) (c0_i32_1077_r0 : BitVec 32) : Fin 2 → Nat :=
  let c188_r0 : Index := 188#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4066_r0 : Index := Scalar.indexCast v4022_r0
  ![188, v4066_r0.toNat]
def k0_off407 (k0_t1 : Fin k0_t1_loop.trips) (c0_i32_1077_r0 : BitVec 32) : Fin 2 → Nat :=
  let c189_r0 : Index := 189#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4076_r0 : Index := Scalar.indexCast v4022_r0
  ![189, v4076_r0.toNat]
def k0_off408 (k0_t1 : Fin k0_t1_loop.trips) (c0_i32_1077_r0 : BitVec 32) : Fin 2 → Nat :=
  let c190_r0 : Index := 190#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4086_r0 : Index := Scalar.indexCast v4022_r0
  ![190, v4086_r0.toNat]
def k0_off409 (k0_t1 : Fin k0_t1_loop.trips) (c0_i32_1077_r0 : BitVec 32) : Fin 2 → Nat :=
  let c191_r0 : Index := 191#32
  let c0_i32_42_r0 : BitVec 32 := 0#32
  let c1_i32_43_r0 : BitVec 32 := 1#32
  let arg10_r0 : BitVec 32 := Scf.iv c0_i32_42_r0 c1_i32_43_r0 k0_t1
  let c512_i32_1076_r0 : BitVec 32 := 512#32
  let v4021_r0 : BitVec 32 := Scalar.muli arg10_r0 c512_i32_1076_r0
  let v4022_r0 : BitVec 32 := Scalar.addi v4021_r0 c0_i32_1077_r0
  let v4096_r0 : Index := Scalar.indexCast v4022_r0
  ![191, v4096_r0.toNat]
def k0_off410 (k0_t1 : Fin k0_t1_loop.trips) (c0_i32_1122_r0 : BitVec 32) : Fin 2 → Nat :=
  let c192_1125_r0 : Index := 192#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4193_r0 : Index := Scalar.indexCast v4189_r0
  ![192, v4193_r0.toNat]
def k0_off411 (k0_t1 : Fin k0_t1_loop.trips) (c0_i32_1122_r0 : BitVec 32) : Fin 2 → Nat :=
  let c193_r0 : Index := 193#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4203_r0 : Index := Scalar.indexCast v4189_r0
  ![193, v4203_r0.toNat]
def k0_off412 (k0_t1 : Fin k0_t1_loop.trips) (c0_i32_1122_r0 : BitVec 32) : Fin 2 → Nat :=
  let c194_r0 : Index := 194#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4213_r0 : Index := Scalar.indexCast v4189_r0
  ![194, v4213_r0.toNat]
def k0_off413 (k0_t1 : Fin k0_t1_loop.trips) (c0_i32_1122_r0 : BitVec 32) : Fin 2 → Nat :=
  let c195_r0 : Index := 195#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4223_r0 : Index := Scalar.indexCast v4189_r0
  ![195, v4223_r0.toNat]
def k0_off414 (k0_t1 : Fin k0_t1_loop.trips) (c0_i32_1122_r0 : BitVec 32) : Fin 2 → Nat :=
  let c196_r0 : Index := 196#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4233_r0 : Index := Scalar.indexCast v4189_r0
  ![196, v4233_r0.toNat]
def k0_off415 (k0_t1 : Fin k0_t1_loop.trips) (c0_i32_1122_r0 : BitVec 32) : Fin 2 → Nat :=
  let c197_r0 : Index := 197#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4243_r0 : Index := Scalar.indexCast v4189_r0
  ![197, v4243_r0.toNat]
def k0_off416 (k0_t1 : Fin k0_t1_loop.trips) (c0_i32_1122_r0 : BitVec 32) : Fin 2 → Nat :=
  let c198_r0 : Index := 198#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4253_r0 : Index := Scalar.indexCast v4189_r0
  ![198, v4253_r0.toNat]
def k0_off417 (k0_t1 : Fin k0_t1_loop.trips) (c0_i32_1122_r0 : BitVec 32) : Fin 2 → Nat :=
  let c199_r0 : Index := 199#32
  let c0_i32_42_r0 : BitVec 32 := 0#32
  let c1_i32_43_r0 : BitVec 32 := 1#32
  let arg10_r0 : BitVec 32 := Scf.iv c0_i32_42_r0 c1_i32_43_r0 k0_t1
  let c512_i32_1121_r0 : BitVec 32 := 512#32
  let v4188_r0 : BitVec 32 := Scalar.muli arg10_r0 c512_i32_1121_r0
  let v4189_r0 : BitVec 32 := Scalar.addi v4188_r0 c0_i32_1122_r0
  let v4263_r0 : Index := Scalar.indexCast v4189_r0
  ![199, v4263_r0.toNat]
def k0_off418 (k0_t1 : Fin k0_t1_loop.trips) (c0_i32_1168_r0 : BitVec 32) : Fin 2 → Nat :=
  let c200_r0 : Index := 200#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4360_r0 : Index := Scalar.indexCast v4356_r0
  ![200, v4360_r0.toNat]
def k0_off419 (k0_t1 : Fin k0_t1_loop.trips) (c0_i32_1168_r0 : BitVec 32) : Fin 2 → Nat :=
  let c201_r0 : Index := 201#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4370_r0 : Index := Scalar.indexCast v4356_r0
  ![201, v4370_r0.toNat]
def k0_off420 (k0_t1 : Fin k0_t1_loop.trips) (c0_i32_1168_r0 : BitVec 32) : Fin 2 → Nat :=
  let c202_r0 : Index := 202#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4380_r0 : Index := Scalar.indexCast v4356_r0
  ![202, v4380_r0.toNat]
def k0_off421 (k0_t1 : Fin k0_t1_loop.trips) (c0_i32_1168_r0 : BitVec 32) : Fin 2 → Nat :=
  let c203_r0 : Index := 203#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4390_r0 : Index := Scalar.indexCast v4356_r0
  ![203, v4390_r0.toNat]
def k0_off422 (k0_t1 : Fin k0_t1_loop.trips) (c0_i32_1168_r0 : BitVec 32) : Fin 2 → Nat :=
  let c204_r0 : Index := 204#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4400_r0 : Index := Scalar.indexCast v4356_r0
  ![204, v4400_r0.toNat]
def k0_off423 (k0_t1 : Fin k0_t1_loop.trips) (c0_i32_1168_r0 : BitVec 32) : Fin 2 → Nat :=
  let c205_r0 : Index := 205#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4410_r0 : Index := Scalar.indexCast v4356_r0
  ![205, v4410_r0.toNat]
def k0_off424 (k0_t1 : Fin k0_t1_loop.trips) (c0_i32_1168_r0 : BitVec 32) : Fin 2 → Nat :=
  let c206_r0 : Index := 206#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4420_r0 : Index := Scalar.indexCast v4356_r0
  ![206, v4420_r0.toNat]
def k0_off425 (k0_t1 : Fin k0_t1_loop.trips) (c0_i32_1168_r0 : BitVec 32) : Fin 2 → Nat :=
  let c207_r0 : Index := 207#32
  let c0_i32_42_r0 : BitVec 32 := 0#32
  let c1_i32_43_r0 : BitVec 32 := 1#32
  let arg10_r0 : BitVec 32 := Scf.iv c0_i32_42_r0 c1_i32_43_r0 k0_t1
  let c512_i32_1167_r0 : BitVec 32 := 512#32
  let v4355_r0 : BitVec 32 := Scalar.muli arg10_r0 c512_i32_1167_r0
  let v4356_r0 : BitVec 32 := Scalar.addi v4355_r0 c0_i32_1168_r0
  let v4430_r0 : Index := Scalar.indexCast v4356_r0
  ![207, v4430_r0.toNat]
def k0_cond6 (k0_t1 : Fin k0_t1_loop.trips) : BitVec 1 :=
  let c0_i32_42_r0 : BitVec 32 := 0#32
  let c1_i32_43_r0 : BitVec 32 := 1#32
  let arg10_r0 : BitVec 32 := Scf.iv c0_i32_42_r0 c1_i32_43_r0 k0_t1
  let c4_i32_1212_r0 : BitVec 32 := 4#32
  let v4522_r0 : BitVec 32 := Scalar.muli arg10_r0 c4_i32_1212_r0
  let c2_i32_1213_r0 : BitVec 32 := 2#32
  let v4523_r0 : BitVec 32 := Scalar.addi v4522_r0 c2_i32_1213_r0
  let c6_i32_1239_r0 : BitVec 32 := 6#32
  let v4571_r0 : BitVec 32 := Scalar.addi v4523_r0 c6_i32_1239_r0
  let c1_i32_1240_r0 : BitVec 32 := 1#32
  let v4572_r0 : BitVec 32 := Scalar.subi v4571_r0 c1_i32_1240_r0
  let c128_i32_1241_r0 : BitVec 32 := 128#32
  let v4573_r0 : BitVec 1 := Scalar.cmpi .slt v4572_r0 c128_i32_1241_r0
  let v4574_r0 : BitVec 32 := Scalar.extui v4573_r0
  let c0_i32_1242_r0 : BitVec 32 := 0#32
  let v4575_r0 : BitVec 1 := Scalar.cmpi .ne v4574_r0 c0_i32_1242_r0
  v4575_r0

def k0_off426 (k0_t1 : Fin k0_t1_loop.trips) : Fin 1 → Nat :=
  let c0_i32_42_r0 : BitVec 32 := 0#32
  let c1_i32_43_r0 : BitVec 32 := 1#32
  let arg10_r0 : BitVec 32 := Scf.iv c0_i32_42_r0 c1_i32_43_r0 k0_t1
  let c4_i32_1212_r0 : BitVec 32 := 4#32
  let v4522_r0 : BitVec 32 := Scalar.muli arg10_r0 c4_i32_1212_r0
  let c2_i32_1213_r0 : BitVec 32 := 2#32
  let v4523_r0 : BitVec 32 := Scalar.addi v4522_r0 c2_i32_1213_r0
  let c6_i32_2496_r0 : BitVec 32 := 6#32
  let v9053_r0 : BitVec 32 := Scalar.addi v4523_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  ![v9091_r0.toNat]
def k0_off427 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_1212_r0 : BitVec 32 := 4#32
  let v4522_r0 : BitVec 32 := Scalar.muli arg10_r0 c4_i32_1212_r0
  let c2_i32_1213_r0 : BitVec 32 := 2#32
  let v4523_r0 : BitVec 32 := Scalar.addi v4522_r0 c2_i32_1213_r0
  let c6_i32_2496_r0 : BitVec 32 := 6#32
  let v9053_r0 : BitVec 32 := Scalar.addi v4523_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  let c0_i32_2519_r0 : BitVec 32 := 0#32
  let c0_i32_2520_r0 : BitVec 32 := 0#32
  ![v9091_r0.toNat, 0, 0]
def k0_off428 (k0_t1 : Fin k0_t1_loop.trips) : Fin 2 → Nat :=
  let c0_i32_42_r0 : BitVec 32 := 0#32
  let c1_i32_43_r0 : BitVec 32 := 1#32
  let arg10_r0 : BitVec 32 := Scf.iv c0_i32_42_r0 c1_i32_43_r0 k0_t1
  let c4_i32_1212_r0 : BitVec 32 := 4#32
  let v4522_r0 : BitVec 32 := Scalar.muli arg10_r0 c4_i32_1212_r0
  let c2_i32_1213_r0 : BitVec 32 := 2#32
  let v4523_r0 : BitVec 32 := Scalar.addi v4522_r0 c2_i32_1213_r0
  let c6_i32_2496_r0 : BitVec 32 := 6#32
  let v9053_r0 : BitVec 32 := Scalar.addi v4523_r0 c6_i32_2496_r0
  let c1_i32_2497_r0 : BitVec 32 := 1#32
  let v9054_r0 : BitVec 32 := Scalar.subi v9053_r0 c1_i32_2497_r0
  let c4_i32_2505_r0 : BitVec 32 := 4#32
  let c0_i32_2506_r0 : BitVec 32 := 0#32
  let v9072_r0 : BitVec 1 := Scalar.cmpi .eq c4_i32_2505_r0 c0_i32_2506_r0
  let c1_i32_2507_r0 : BitVec 32 := 1#32
  let v9073_r0 : BitVec 32 := Scalar.select v9072_r0 c1_i32_2507_r0 c4_i32_2505_r0
  let v9074_r0 : BitVec 32 := Scalar.remsi v9054_r0 v9073_r0
  let c0_i32_2509_r0 : BitVec 32 := 0#32
  let v9076_r0 : BitVec 1 := Scalar.cmpi .slt v9074_r0 c0_i32_2509_r0
  let c0_i32_2510_r0 : BitVec 32 := 0#32
  let v9077_r0 : BitVec 1 := Scalar.cmpi .slt v9073_r0 c0_i32_2510_r0
  let v9078_r0 : BitVec 1 := Scalar.xori v9076_r0 v9077_r0
  let c0_i32_2508_r0 : BitVec 32 := 0#32
  let v9075_r0 : BitVec 1 := Scalar.cmpi .ne v9074_r0 c0_i32_2508_r0
  let v9079_r0 : BitVec 1 := Scalar.andi v9078_r0 v9075_r0
  let v9080_r0 : BitVec 32 := Scalar.addi v9074_r0 v9073_r0
  let v9081_r0 : BitVec 32 := Scalar.select v9079_r0 v9080_r0 v9074_r0
  let c3328_i32_2517_r0 : BitVec 32 := 3328#32
  let v9092_r0 : BitVec 32 := Scalar.muli v9081_r0 c3328_i32_2517_r0
  let c0_i32_2499_r0 : BitVec 32 := 0#32
  let v9056_r0 : BitVec 1 := Scalar.cmpi .sgt v9054_r0 c0_i32_2499_r0
  let v9057_r0 : BitVec 32 := Scalar.extui v9056_r0
  let c0_i32_2500_r0 : BitVec 32 := 0#32
  let v9058_r0 : BitVec 1 := Scalar.cmpi .slt v9054_r0 c0_i32_2500_r0
  let v9059_r0 : BitVec 32 := Scalar.extui v9058_r0
  let v9060_r0 : BitVec 32 := Scalar.subi v9057_r0 v9059_r0
  let c4_i32_2498_r0 : BitVec 32 := 4#32
  let c0_i32_2501_r0 : BitVec 32 := 0#32
  let v9061_r0 : BitVec 1 := Scalar.cmpi .sgt c4_i32_2498_r0 c0_i32_2501_r0
  let v9062_r0 : BitVec 32 := Scalar.extui v9061_r0
  let c0_i32_2502_r0 : BitVec 32 := 0#32
  let v9063_r0 : BitVec 1 := Scalar.cmpi .slt c4_i32_2498_r0 c0_i32_2502_r0
  let v9064_r0 : BitVec 32 := Scalar.extui v9063_r0
  let v9065_r0 : BitVec 32 := Scalar.subi v9062_r0 v9064_r0
  let v9066_r0 : BitVec 1 := Scalar.cmpi .ne v9060_r0 v9065_r0
  let v9067_r0 : BitVec 32 := Scalar.remsi v9054_r0 c4_i32_2498_r0
  let c0_i32_2503_r0 : BitVec 32 := 0#32
  let v9068_r0 : BitVec 1 := Scalar.cmpi .ne v9067_r0 c0_i32_2503_r0
  let v9069_r0 : BitVec 1 := Scalar.andi v9066_r0 v9068_r0
  let v9055_r0 : BitVec 32 := Scalar.divsi v9054_r0 c4_i32_2498_r0
  let c1_i32_2504_r0 : BitVec 32 := 1#32
  let v9070_r0 : BitVec 32 := Scalar.subi v9055_r0 c1_i32_2504_r0
  let v9071_r0 : BitVec 32 := Scalar.select v9069_r0 v9070_r0 v9055_r0
  let c512_i32_2518_r0 : BitVec 32 := 512#32
  let v9093_r0 : BitVec 32 := Scalar.muli v9071_r0 c512_i32_2518_r0
  ![v9092_r0.toNat, v9093_r0.toNat]
def k0_off429 (k0_t1 : Fin k0_t1_loop.trips) (c0_i32_1250_r0 : BitVec 32) : Fin 2 → Nat :=
  let c208_r0 : Index := 208#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4591_r0 : Index := Scalar.indexCast v4587_r0
  ![208, v4591_r0.toNat]
def k0_off430 (k0_t1 : Fin k0_t1_loop.trips) (c0_i32_1250_r0 : BitVec 32) : Fin 2 → Nat :=
  let c209_r0 : Index := 209#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4601_r0 : Index := Scalar.indexCast v4587_r0
  ![209, v4601_r0.toNat]
def k0_off431 (k0_t1 : Fin k0_t1_loop.trips) (c0_i32_1250_r0 : BitVec 32) : Fin 2 → Nat :=
  let c210_r0 : Index := 210#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4611_r0 : Index := Scalar.indexCast v4587_r0
  ![210, v4611_r0.toNat]
def k0_off432 (k0_t1 : Fin k0_t1_loop.trips) (c0_i32_1250_r0 : BitVec 32) : Fin 2 → Nat :=
  let c211_r0 : Index := 211#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4621_r0 : Index := Scalar.indexCast v4587_r0
  ![211, v4621_r0.toNat]
def k0_off433 (k0_t1 : Fin k0_t1_loop.trips) (c0_i32_1250_r0 : BitVec 32) : Fin 2 → Nat :=
  let c212_r0 : Index := 212#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4631_r0 : Index := Scalar.indexCast v4587_r0
  ![212, v4631_r0.toNat]
def k0_off434 (k0_t1 : Fin k0_t1_loop.trips) (c0_i32_1250_r0 : BitVec 32) : Fin 2 → Nat :=
  let c213_r0 : Index := 213#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4641_r0 : Index := Scalar.indexCast v4587_r0
  ![213, v4641_r0.toNat]
def k0_off435 (k0_t1 : Fin k0_t1_loop.trips) (c0_i32_1250_r0 : BitVec 32) : Fin 2 → Nat :=
  let c214_r0 : Index := 214#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4651_r0 : Index := Scalar.indexCast v4587_r0
  ![214, v4651_r0.toNat]
def k0_off436 (k0_t1 : Fin k0_t1_loop.trips) (c0_i32_1250_r0 : BitVec 32) : Fin 2 → Nat :=
  let c215_r0 : Index := 215#32
  let c0_i32_42_r0 : BitVec 32 := 0#32
  let c1_i32_43_r0 : BitVec 32 := 1#32
  let arg10_r0 : BitVec 32 := Scf.iv c0_i32_42_r0 c1_i32_43_r0 k0_t1
  let c512_i32_1249_r0 : BitVec 32 := 512#32
  let v4586_r0 : BitVec 32 := Scalar.muli arg10_r0 c512_i32_1249_r0
  let v4587_r0 : BitVec 32 := Scalar.addi v4586_r0 c0_i32_1250_r0
  let v4661_r0 : Index := Scalar.indexCast v4587_r0
  ![215, v4661_r0.toNat]
def k0_off437 (k0_t1 : Fin k0_t1_loop.trips) (c0_i32_1295_r0 : BitVec 32) : Fin 2 → Nat :=
  let c216_r0 : Index := 216#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4758_r0 : Index := Scalar.indexCast v4754_r0
  ![216, v4758_r0.toNat]
def k0_off438 (k0_t1 : Fin k0_t1_loop.trips) (c0_i32_1295_r0 : BitVec 32) : Fin 2 → Nat :=
  let c217_r0 : Index := 217#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4768_r0 : Index := Scalar.indexCast v4754_r0
  ![217, v4768_r0.toNat]
def k0_off439 (k0_t1 : Fin k0_t1_loop.trips) (c0_i32_1295_r0 : BitVec 32) : Fin 2 → Nat :=
  let c218_r0 : Index := 218#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4778_r0 : Index := Scalar.indexCast v4754_r0
  ![218, v4778_r0.toNat]
def k0_off440 (k0_t1 : Fin k0_t1_loop.trips) (c0_i32_1295_r0 : BitVec 32) : Fin 2 → Nat :=
  let c219_r0 : Index := 219#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4788_r0 : Index := Scalar.indexCast v4754_r0
  ![219, v4788_r0.toNat]
def k0_off441 (k0_t1 : Fin k0_t1_loop.trips) (c0_i32_1295_r0 : BitVec 32) : Fin 2 → Nat :=
  let c220_r0 : Index := 220#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4798_r0 : Index := Scalar.indexCast v4754_r0
  ![220, v4798_r0.toNat]
def k0_off442 (k0_t1 : Fin k0_t1_loop.trips) (c0_i32_1295_r0 : BitVec 32) : Fin 2 → Nat :=
  let c221_r0 : Index := 221#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4808_r0 : Index := Scalar.indexCast v4754_r0
  ![221, v4808_r0.toNat]
def k0_off443 (k0_t1 : Fin k0_t1_loop.trips) (c0_i32_1295_r0 : BitVec 32) : Fin 2 → Nat :=
  let c222_r0 : Index := 222#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4818_r0 : Index := Scalar.indexCast v4754_r0
  ![222, v4818_r0.toNat]
def k0_off444 (k0_t1 : Fin k0_t1_loop.trips) (c0_i32_1295_r0 : BitVec 32) : Fin 2 → Nat :=
  let c223_r0 : Index := 223#32
  let c0_i32_42_r0 : BitVec 32 := 0#32
  let c1_i32_43_r0 : BitVec 32 := 1#32
  let arg10_r0 : BitVec 32 := Scf.iv c0_i32_42_r0 c1_i32_43_r0 k0_t1
  let c512_i32_1294_r0 : BitVec 32 := 512#32
  let v4753_r0 : BitVec 32 := Scalar.muli arg10_r0 c512_i32_1294_r0
  let v4754_r0 : BitVec 32 := Scalar.addi v4753_r0 c0_i32_1295_r0
  let v4828_r0 : Index := Scalar.indexCast v4754_r0
  ![223, v4828_r0.toNat]
def k0_off445 (k0_t1 : Fin k0_t1_loop.trips) (c0_i32_1340_r0 : BitVec 32) : Fin 2 → Nat :=
  let c224_1343_r0 : Index := 224#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4925_r0 : Index := Scalar.indexCast v4921_r0
  ![224, v4925_r0.toNat]
def k0_off446 (k0_t1 : Fin k0_t1_loop.trips) (c0_i32_1340_r0 : BitVec 32) : Fin 2 → Nat :=
  let c225_r0 : Index := 225#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4935_r0 : Index := Scalar.indexCast v4921_r0
  ![225, v4935_r0.toNat]
def k0_off447 (k0_t1 : Fin k0_t1_loop.trips) (c0_i32_1340_r0 : BitVec 32) : Fin 2 → Nat :=
  let c226_r0 : Index := 226#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4945_r0 : Index := Scalar.indexCast v4921_r0
  ![226, v4945_r0.toNat]
def k0_off448 (k0_t1 : Fin k0_t1_loop.trips) (c0_i32_1340_r0 : BitVec 32) : Fin 2 → Nat :=
  let c227_r0 : Index := 227#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4955_r0 : Index := Scalar.indexCast v4921_r0
  ![227, v4955_r0.toNat]
def k0_off449 (k0_t1 : Fin k0_t1_loop.trips) (c0_i32_1340_r0 : BitVec 32) : Fin 2 → Nat :=
  let c228_r0 : Index := 228#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4965_r0 : Index := Scalar.indexCast v4921_r0
  ![228, v4965_r0.toNat]
def k0_off450 (k0_t1 : Fin k0_t1_loop.trips) (c0_i32_1340_r0 : BitVec 32) : Fin 2 → Nat :=
  let c229_r0 : Index := 229#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4975_r0 : Index := Scalar.indexCast v4921_r0
  ![229, v4975_r0.toNat]
def k0_off451 (k0_t1 : Fin k0_t1_loop.trips) (c0_i32_1340_r0 : BitVec 32) : Fin 2 → Nat :=
  let c230_r0 : Index := 230#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4985_r0 : Index := Scalar.indexCast v4921_r0
  ![230, v4985_r0.toNat]
def k0_off452 (k0_t1 : Fin k0_t1_loop.trips) (c0_i32_1340_r0 : BitVec 32) : Fin 2 → Nat :=
  let c231_r0 : Index := 231#32
  let c0_i32_42_r0 : BitVec 32 := 0#32
  let c1_i32_43_r0 : BitVec 32 := 1#32
  let arg10_r0 : BitVec 32 := Scf.iv c0_i32_42_r0 c1_i32_43_r0 k0_t1
  let c512_i32_1339_r0 : BitVec 32 := 512#32
  let v4920_r0 : BitVec 32 := Scalar.muli arg10_r0 c512_i32_1339_r0
  let v4921_r0 : BitVec 32 := Scalar.addi v4920_r0 c0_i32_1340_r0
  let v4995_r0 : Index := Scalar.indexCast v4921_r0
  ![231, v4995_r0.toNat]
def k0_off453 (k0_t1 : Fin k0_t1_loop.trips) (c0_i32_1386_r0 : BitVec 32) : Fin 2 → Nat :=
  let c232_r0 : Index := 232#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5092_r0 : Index := Scalar.indexCast v5088_r0
  ![232, v5092_r0.toNat]
def k0_off454 (k0_t1 : Fin k0_t1_loop.trips) (c0_i32_1386_r0 : BitVec 32) : Fin 2 → Nat :=
  let c233_r0 : Index := 233#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5102_r0 : Index := Scalar.indexCast v5088_r0
  ![233, v5102_r0.toNat]
def k0_off455 (k0_t1 : Fin k0_t1_loop.trips) (c0_i32_1386_r0 : BitVec 32) : Fin 2 → Nat :=
  let c234_r0 : Index := 234#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5112_r0 : Index := Scalar.indexCast v5088_r0
  ![234, v5112_r0.toNat]
def k0_off456 (k0_t1 : Fin k0_t1_loop.trips) (c0_i32_1386_r0 : BitVec 32) : Fin 2 → Nat :=
  let c235_r0 : Index := 235#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5122_r0 : Index := Scalar.indexCast v5088_r0
  ![235, v5122_r0.toNat]
def k0_off457 (k0_t1 : Fin k0_t1_loop.trips) (c0_i32_1386_r0 : BitVec 32) : Fin 2 → Nat :=
  let c236_r0 : Index := 236#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5132_r0 : Index := Scalar.indexCast v5088_r0
  ![236, v5132_r0.toNat]
def k0_off458 (k0_t1 : Fin k0_t1_loop.trips) (c0_i32_1386_r0 : BitVec 32) : Fin 2 → Nat :=
  let c237_r0 : Index := 237#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5142_r0 : Index := Scalar.indexCast v5088_r0
  ![237, v5142_r0.toNat]
def k0_off459 (k0_t1 : Fin k0_t1_loop.trips) (c0_i32_1386_r0 : BitVec 32) : Fin 2 → Nat :=
  let c238_r0 : Index := 238#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5152_r0 : Index := Scalar.indexCast v5088_r0
  ![238, v5152_r0.toNat]
def k0_off460 (k0_t1 : Fin k0_t1_loop.trips) (c0_i32_1386_r0 : BitVec 32) : Fin 2 → Nat :=
  let c239_r0 : Index := 239#32
  let c0_i32_42_r0 : BitVec 32 := 0#32
  let c1_i32_43_r0 : BitVec 32 := 1#32
  let arg10_r0 : BitVec 32 := Scf.iv c0_i32_42_r0 c1_i32_43_r0 k0_t1
  let c512_i32_1385_r0 : BitVec 32 := 512#32
  let v5087_r0 : BitVec 32 := Scalar.muli arg10_r0 c512_i32_1385_r0
  let v5088_r0 : BitVec 32 := Scalar.addi v5087_r0 c0_i32_1386_r0
  let v5162_r0 : Index := Scalar.indexCast v5088_r0
  ![239, v5162_r0.toNat]
def k0_off461 (k0_t1 : Fin k0_t1_loop.trips) (c0_i32_1431_r0 : BitVec 32) : Fin 2 → Nat :=
  let c240_r0 : Index := 240#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5259_r0 : Index := Scalar.indexCast v5255_r0
  ![240, v5259_r0.toNat]
def k0_off462 (k0_t1 : Fin k0_t1_loop.trips) (c0_i32_1431_r0 : BitVec 32) : Fin 2 → Nat :=
  let c241_r0 : Index := 241#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5269_r0 : Index := Scalar.indexCast v5255_r0
  ![241, v5269_r0.toNat]
def k0_off463 (k0_t1 : Fin k0_t1_loop.trips) (c0_i32_1431_r0 : BitVec 32) : Fin 2 → Nat :=
  let c242_r0 : Index := 242#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5279_r0 : Index := Scalar.indexCast v5255_r0
  ![242, v5279_r0.toNat]
def k0_off464 (k0_t1 : Fin k0_t1_loop.trips) (c0_i32_1431_r0 : BitVec 32) : Fin 2 → Nat :=
  let c243_r0 : Index := 243#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5289_r0 : Index := Scalar.indexCast v5255_r0
  ![243, v5289_r0.toNat]
def k0_off465 (k0_t1 : Fin k0_t1_loop.trips) (c0_i32_1431_r0 : BitVec 32) : Fin 2 → Nat :=
  let c244_r0 : Index := 244#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5299_r0 : Index := Scalar.indexCast v5255_r0
  ![244, v5299_r0.toNat]
def k0_off466 (k0_t1 : Fin k0_t1_loop.trips) (c0_i32_1431_r0 : BitVec 32) : Fin 2 → Nat :=
  let c245_r0 : Index := 245#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5309_r0 : Index := Scalar.indexCast v5255_r0
  ![245, v5309_r0.toNat]
def k0_off467 (k0_t1 : Fin k0_t1_loop.trips) (c0_i32_1431_r0 : BitVec 32) : Fin 2 → Nat :=
  let c246_r0 : Index := 246#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5319_r0 : Index := Scalar.indexCast v5255_r0
  ![246, v5319_r0.toNat]
def k0_off468 (k0_t1 : Fin k0_t1_loop.trips) (c0_i32_1431_r0 : BitVec 32) : Fin 2 → Nat :=
  let c247_r0 : Index := 247#32
  let c0_i32_42_r0 : BitVec 32 := 0#32
  let c1_i32_43_r0 : BitVec 32 := 1#32
  let arg10_r0 : BitVec 32 := Scf.iv c0_i32_42_r0 c1_i32_43_r0 k0_t1
  let c512_i32_1430_r0 : BitVec 32 := 512#32
  let v5254_r0 : BitVec 32 := Scalar.muli arg10_r0 c512_i32_1430_r0
  let v5255_r0 : BitVec 32 := Scalar.addi v5254_r0 c0_i32_1431_r0
  let v5329_r0 : Index := Scalar.indexCast v5255_r0
  ![247, v5329_r0.toNat]
def k0_off469 (k0_t1 : Fin k0_t1_loop.trips) (c0_i32_1476_r0 : BitVec 32) : Fin 2 → Nat :=
  let c248_r0 : Index := 248#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5426_r0 : Index := Scalar.indexCast v5422_r0
  ![248, v5426_r0.toNat]
def k0_off470 (k0_t1 : Fin k0_t1_loop.trips) (c0_i32_1476_r0 : BitVec 32) : Fin 2 → Nat :=
  let c249_r0 : Index := 249#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5436_r0 : Index := Scalar.indexCast v5422_r0
  ![249, v5436_r0.toNat]
def k0_off471 (k0_t1 : Fin k0_t1_loop.trips) (c0_i32_1476_r0 : BitVec 32) : Fin 2 → Nat :=
  let c250_r0 : Index := 250#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5446_r0 : Index := Scalar.indexCast v5422_r0
  ![250, v5446_r0.toNat]
def k0_off472 (k0_t1 : Fin k0_t1_loop.trips) (c0_i32_1476_r0 : BitVec 32) : Fin 2 → Nat :=
  let c251_r0 : Index := 251#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5456_r0 : Index := Scalar.indexCast v5422_r0
  ![251, v5456_r0.toNat]
def k0_off473 (k0_t1 : Fin k0_t1_loop.trips) (c0_i32_1476_r0 : BitVec 32) : Fin 2 → Nat :=
  let c252_r0 : Index := 252#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5466_r0 : Index := Scalar.indexCast v5422_r0
  ![252, v5466_r0.toNat]
def k0_off474 (k0_t1 : Fin k0_t1_loop.trips) (c0_i32_1476_r0 : BitVec 32) : Fin 2 → Nat :=
  let c253_r0 : Index := 253#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5476_r0 : Index := Scalar.indexCast v5422_r0
  ![253, v5476_r0.toNat]
def k0_off475 (k0_t1 : Fin k0_t1_loop.trips) (c0_i32_1476_r0 : BitVec 32) : Fin 2 → Nat :=
  let c254_r0 : Index := 254#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5486_r0 : Index := Scalar.indexCast v5422_r0
  ![254, v5486_r0.toNat]
def k0_off476 (k0_t1 : Fin k0_t1_loop.trips) (c0_i32_1476_r0 : BitVec 32) : Fin 2 → Nat :=
  let c255_r0 : Index := 255#32
  let c0_i32_42_r0 : BitVec 32 := 0#32
  let c1_i32_43_r0 : BitVec 32 := 1#32
  let arg10_r0 : BitVec 32 := Scf.iv c0_i32_42_r0 c1_i32_43_r0 k0_t1
  let c512_i32_1475_r0 : BitVec 32 := 512#32
  let v5421_r0 : BitVec 32 := Scalar.muli arg10_r0 c512_i32_1475_r0
  let v5422_r0 : BitVec 32 := Scalar.addi v5421_r0 c0_i32_1476_r0
  let v5496_r0 : Index := Scalar.indexCast v5422_r0
  ![255, v5496_r0.toNat]
def k0_off477 (k0_t1 : Fin k0_t1_loop.trips) (c0_i32_1521_r0 : BitVec 32) : Fin 2 → Nat :=
  let c256_1524_r0 : Index := 256#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5593_r0 : Index := Scalar.indexCast v5589_r0
  ![256, v5593_r0.toNat]
def k0_off478 (k0_t1 : Fin k0_t1_loop.trips) (c0_i32_1521_r0 : BitVec 32) : Fin 2 → Nat :=
  let c257_r0 : Index := 257#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5603_r0 : Index := Scalar.indexCast v5589_r0
  ![257, v5603_r0.toNat]
def k0_off479 (k0_t1 : Fin k0_t1_loop.trips) (c0_i32_1521_r0 : BitVec 32) : Fin 2 → Nat :=
  let c258_r0 : Index := 258#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5613_r0 : Index := Scalar.indexCast v5589_r0
  ![258, v5613_r0.toNat]
def k0_off480 (k0_t1 : Fin k0_t1_loop.trips) (c0_i32_1521_r0 : BitVec 32) : Fin 2 → Nat :=
  let c259_r0 : Index := 259#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5623_r0 : Index := Scalar.indexCast v5589_r0
  ![259, v5623_r0.toNat]
def k0_off481 (k0_t1 : Fin k0_t1_loop.trips) (c0_i32_1521_r0 : BitVec 32) : Fin 2 → Nat :=
  let c260_r0 : Index := 260#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5633_r0 : Index := Scalar.indexCast v5589_r0
  ![260, v5633_r0.toNat]
def k0_off482 (k0_t1 : Fin k0_t1_loop.trips) (c0_i32_1521_r0 : BitVec 32) : Fin 2 → Nat :=
  let c261_r0 : Index := 261#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5643_r0 : Index := Scalar.indexCast v5589_r0
  ![261, v5643_r0.toNat]
def k0_off483 (k0_t1 : Fin k0_t1_loop.trips) (c0_i32_1521_r0 : BitVec 32) : Fin 2 → Nat :=
  let c262_r0 : Index := 262#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5653_r0 : Index := Scalar.indexCast v5589_r0
  ![262, v5653_r0.toNat]
def k0_off484 (k0_t1 : Fin k0_t1_loop.trips) (c0_i32_1521_r0 : BitVec 32) : Fin 2 → Nat :=
  let c263_r0 : Index := 263#32
  let c0_i32_42_r0 : BitVec 32 := 0#32
  let c1_i32_43_r0 : BitVec 32 := 1#32
  let arg10_r0 : BitVec 32 := Scf.iv c0_i32_42_r0 c1_i32_43_r0 k0_t1
  let c512_i32_1520_r0 : BitVec 32 := 512#32
  let v5588_r0 : BitVec 32 := Scalar.muli arg10_r0 c512_i32_1520_r0
  let v5589_r0 : BitVec 32 := Scalar.addi v5588_r0 c0_i32_1521_r0
  let v5663_r0 : Index := Scalar.indexCast v5589_r0
  ![263, v5663_r0.toNat]
def k0_off485 (k0_t1 : Fin k0_t1_loop.trips) (c0_i32_1567_r0 : BitVec 32) : Fin 2 → Nat :=
  let c264_r0 : Index := 264#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5760_r0 : Index := Scalar.indexCast v5756_r0
  ![264, v5760_r0.toNat]
def k0_off486 (k0_t1 : Fin k0_t1_loop.trips) (c0_i32_1567_r0 : BitVec 32) : Fin 2 → Nat :=
  let c265_r0 : Index := 265#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5770_r0 : Index := Scalar.indexCast v5756_r0
  ![265, v5770_r0.toNat]
def k0_off487 (k0_t1 : Fin k0_t1_loop.trips) (c0_i32_1567_r0 : BitVec 32) : Fin 2 → Nat :=
  let c266_r0 : Index := 266#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5780_r0 : Index := Scalar.indexCast v5756_r0
  ![266, v5780_r0.toNat]
def k0_off488 (k0_t1 : Fin k0_t1_loop.trips) (c0_i32_1567_r0 : BitVec 32) : Fin 2 → Nat :=
  let c267_r0 : Index := 267#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5790_r0 : Index := Scalar.indexCast v5756_r0
  ![267, v5790_r0.toNat]
def k0_off489 (k0_t1 : Fin k0_t1_loop.trips) (c0_i32_1567_r0 : BitVec 32) : Fin 2 → Nat :=
  let c268_r0 : Index := 268#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5800_r0 : Index := Scalar.indexCast v5756_r0
  ![268, v5800_r0.toNat]
def k0_off490 (k0_t1 : Fin k0_t1_loop.trips) (c0_i32_1567_r0 : BitVec 32) : Fin 2 → Nat :=
  let c269_r0 : Index := 269#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5810_r0 : Index := Scalar.indexCast v5756_r0
  ![269, v5810_r0.toNat]
def k0_off491 (k0_t1 : Fin k0_t1_loop.trips) (c0_i32_1567_r0 : BitVec 32) : Fin 2 → Nat :=
  let c270_r0 : Index := 270#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5820_r0 : Index := Scalar.indexCast v5756_r0
  ![270, v5820_r0.toNat]
def k0_off492 (k0_t1 : Fin k0_t1_loop.trips) (c0_i32_1567_r0 : BitVec 32) : Fin 2 → Nat :=
  let c271_r0 : Index := 271#32
  let c0_i32_42_r0 : BitVec 32 := 0#32
  let c1_i32_43_r0 : BitVec 32 := 1#32
  let arg10_r0 : BitVec 32 := Scf.iv c0_i32_42_r0 c1_i32_43_r0 k0_t1
  let c512_i32_1566_r0 : BitVec 32 := 512#32
  let v5755_r0 : BitVec 32 := Scalar.muli arg10_r0 c512_i32_1566_r0
  let v5756_r0 : BitVec 32 := Scalar.addi v5755_r0 c0_i32_1567_r0
  let v5830_r0 : Index := Scalar.indexCast v5756_r0
  ![271, v5830_r0.toNat]
def k0_off493 (k0_t1 : Fin k0_t1_loop.trips) (c0_i32_1612_r0 : BitVec 32) : Fin 2 → Nat :=
  let c272_r0 : Index := 272#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5927_r0 : Index := Scalar.indexCast v5923_r0
  ![272, v5927_r0.toNat]
def k0_off494 (k0_t1 : Fin k0_t1_loop.trips) (c0_i32_1612_r0 : BitVec 32) : Fin 2 → Nat :=
  let c273_r0 : Index := 273#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5937_r0 : Index := Scalar.indexCast v5923_r0
  ![273, v5937_r0.toNat]
def k0_off495 (k0_t1 : Fin k0_t1_loop.trips) (c0_i32_1612_r0 : BitVec 32) : Fin 2 → Nat :=
  let c274_r0 : Index := 274#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5947_r0 : Index := Scalar.indexCast v5923_r0
  ![274, v5947_r0.toNat]
def k0_off496 (k0_t1 : Fin k0_t1_loop.trips) (c0_i32_1612_r0 : BitVec 32) : Fin 2 → Nat :=
  let c275_r0 : Index := 275#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5957_r0 : Index := Scalar.indexCast v5923_r0
  ![275, v5957_r0.toNat]
def k0_off497 (k0_t1 : Fin k0_t1_loop.trips) (c0_i32_1612_r0 : BitVec 32) : Fin 2 → Nat :=
  let c276_r0 : Index := 276#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5967_r0 : Index := Scalar.indexCast v5923_r0
  ![276, v5967_r0.toNat]
def k0_off498 (k0_t1 : Fin k0_t1_loop.trips) (c0_i32_1612_r0 : BitVec 32) : Fin 2 → Nat :=
  let c277_r0 : Index := 277#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5977_r0 : Index := Scalar.indexCast v5923_r0
  ![277, v5977_r0.toNat]
def k0_off499 (k0_t1 : Fin k0_t1_loop.trips) (c0_i32_1612_r0 : BitVec 32) : Fin 2 → Nat :=
  let c278_r0 : Index := 278#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5987_r0 : Index := Scalar.indexCast v5923_r0
  ![278, v5987_r0.toNat]
def k0_off500 (k0_t1 : Fin k0_t1_loop.trips) (c0_i32_1612_r0 : BitVec 32) : Fin 2 → Nat :=
  let c279_r0 : Index := 279#32
  let c0_i32_42_r0 : BitVec 32 := 0#32
  let c1_i32_43_r0 : BitVec 32 := 1#32
  let arg10_r0 : BitVec 32 := Scf.iv c0_i32_42_r0 c1_i32_43_r0 k0_t1
  let c512_i32_1611_r0 : BitVec 32 := 512#32
  let v5922_r0 : BitVec 32 := Scalar.muli arg10_r0 c512_i32_1611_r0
  let v5923_r0 : BitVec 32 := Scalar.addi v5922_r0 c0_i32_1612_r0
  let v5997_r0 : Index := Scalar.indexCast v5923_r0
  ![279, v5997_r0.toNat]
def k0_off501 (k0_t1 : Fin k0_t1_loop.trips) (c0_i32_1657_r0 : BitVec 32) : Fin 2 → Nat :=
  let c280_r0 : Index := 280#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6094_r0 : Index := Scalar.indexCast v6090_r0
  ![280, v6094_r0.toNat]
def k0_off502 (k0_t1 : Fin k0_t1_loop.trips) (c0_i32_1657_r0 : BitVec 32) : Fin 2 → Nat :=
  let c281_r0 : Index := 281#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6104_r0 : Index := Scalar.indexCast v6090_r0
  ![281, v6104_r0.toNat]
def k0_off503 (k0_t1 : Fin k0_t1_loop.trips) (c0_i32_1657_r0 : BitVec 32) : Fin 2 → Nat :=
  let c282_r0 : Index := 282#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6114_r0 : Index := Scalar.indexCast v6090_r0
  ![282, v6114_r0.toNat]
def k0_off504 (k0_t1 : Fin k0_t1_loop.trips) (c0_i32_1657_r0 : BitVec 32) : Fin 2 → Nat :=
  let c283_r0 : Index := 283#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6124_r0 : Index := Scalar.indexCast v6090_r0
  ![283, v6124_r0.toNat]
def k0_off505 (k0_t1 : Fin k0_t1_loop.trips) (c0_i32_1657_r0 : BitVec 32) : Fin 2 → Nat :=
  let c284_r0 : Index := 284#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6134_r0 : Index := Scalar.indexCast v6090_r0
  ![284, v6134_r0.toNat]
def k0_off506 (k0_t1 : Fin k0_t1_loop.trips) (c0_i32_1657_r0 : BitVec 32) : Fin 2 → Nat :=
  let c285_r0 : Index := 285#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6144_r0 : Index := Scalar.indexCast v6090_r0
  ![285, v6144_r0.toNat]
def k0_off507 (k0_t1 : Fin k0_t1_loop.trips) (c0_i32_1657_r0 : BitVec 32) : Fin 2 → Nat :=
  let c286_r0 : Index := 286#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6154_r0 : Index := Scalar.indexCast v6090_r0
  ![286, v6154_r0.toNat]
def k0_off508 (k0_t1 : Fin k0_t1_loop.trips) (c0_i32_1657_r0 : BitVec 32) : Fin 2 → Nat :=
  let c287_r0 : Index := 287#32
  let c0_i32_42_r0 : BitVec 32 := 0#32
  let c1_i32_43_r0 : BitVec 32 := 1#32
  let arg10_r0 : BitVec 32 := Scf.iv c0_i32_42_r0 c1_i32_43_r0 k0_t1
  let c512_i32_1656_r0 : BitVec 32 := 512#32
  let v6089_r0 : BitVec 32 := Scalar.muli arg10_r0 c512_i32_1656_r0
  let v6090_r0 : BitVec 32 := Scalar.addi v6089_r0 c0_i32_1657_r0
  let v6164_r0 : Index := Scalar.indexCast v6090_r0
  ![287, v6164_r0.toNat]
def k0_off509 (k0_t1 : Fin k0_t1_loop.trips) (c0_i32_1702_r0 : BitVec 32) : Fin 2 → Nat :=
  let c288_1705_r0 : Index := 288#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6261_r0 : Index := Scalar.indexCast v6257_r0
  ![288, v6261_r0.toNat]
def k0_off510 (k0_t1 : Fin k0_t1_loop.trips) (c0_i32_1702_r0 : BitVec 32) : Fin 2 → Nat :=
  let c289_r0 : Index := 289#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6271_r0 : Index := Scalar.indexCast v6257_r0
  ![289, v6271_r0.toNat]
def k0_off511 (k0_t1 : Fin k0_t1_loop.trips) (c0_i32_1702_r0 : BitVec 32) : Fin 2 → Nat :=
  let c290_r0 : Index := 290#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6281_r0 : Index := Scalar.indexCast v6257_r0
  ![290, v6281_r0.toNat]
def k0_off512 (k0_t1 : Fin k0_t1_loop.trips) (c0_i32_1702_r0 : BitVec 32) : Fin 2 → Nat :=
  let c291_r0 : Index := 291#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6291_r0 : Index := Scalar.indexCast v6257_r0
  ![291, v6291_r0.toNat]
def k0_off513 (k0_t1 : Fin k0_t1_loop.trips) (c0_i32_1702_r0 : BitVec 32) : Fin 2 → Nat :=
  let c292_r0 : Index := 292#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6301_r0 : Index := Scalar.indexCast v6257_r0
  ![292, v6301_r0.toNat]
def k0_off514 (k0_t1 : Fin k0_t1_loop.trips) (c0_i32_1702_r0 : BitVec 32) : Fin 2 → Nat :=
  let c293_r0 : Index := 293#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6311_r0 : Index := Scalar.indexCast v6257_r0
  ![293, v6311_r0.toNat]
def k0_off515 (k0_t1 : Fin k0_t1_loop.trips) (c0_i32_1702_r0 : BitVec 32) : Fin 2 → Nat :=
  let c294_r0 : Index := 294#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6321_r0 : Index := Scalar.indexCast v6257_r0
  ![294, v6321_r0.toNat]
def k0_off516 (k0_t1 : Fin k0_t1_loop.trips) (c0_i32_1702_r0 : BitVec 32) : Fin 2 → Nat :=
  let c295_r0 : Index := 295#32
  let c0_i32_42_r0 : BitVec 32 := 0#32
  let c1_i32_43_r0 : BitVec 32 := 1#32
  let arg10_r0 : BitVec 32 := Scf.iv c0_i32_42_r0 c1_i32_43_r0 k0_t1
  let c512_i32_1701_r0 : BitVec 32 := 512#32
  let v6256_r0 : BitVec 32 := Scalar.muli arg10_r0 c512_i32_1701_r0
  let v6257_r0 : BitVec 32 := Scalar.addi v6256_r0 c0_i32_1702_r0
  let v6331_r0 : Index := Scalar.indexCast v6257_r0
  ![295, v6331_r0.toNat]
def k0_off517 (k0_t1 : Fin k0_t1_loop.trips) (c0_i32_1748_r0 : BitVec 32) : Fin 2 → Nat :=
  let c296_r0 : Index := 296#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6428_r0 : Index := Scalar.indexCast v6424_r0
  ![296, v6428_r0.toNat]
def k0_off518 (k0_t1 : Fin k0_t1_loop.trips) (c0_i32_1748_r0 : BitVec 32) : Fin 2 → Nat :=
  let c297_r0 : Index := 297#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6438_r0 : Index := Scalar.indexCast v6424_r0
  ![297, v6438_r0.toNat]
def k0_off519 (k0_t1 : Fin k0_t1_loop.trips) (c0_i32_1748_r0 : BitVec 32) : Fin 2 → Nat :=
  let c298_r0 : Index := 298#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6448_r0 : Index := Scalar.indexCast v6424_r0
  ![298, v6448_r0.toNat]
def k0_off520 (k0_t1 : Fin k0_t1_loop.trips) (c0_i32_1748_r0 : BitVec 32) : Fin 2 → Nat :=
  let c299_r0 : Index := 299#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6458_r0 : Index := Scalar.indexCast v6424_r0
  ![299, v6458_r0.toNat]
def k0_off521 (k0_t1 : Fin k0_t1_loop.trips) (c0_i32_1748_r0 : BitVec 32) : Fin 2 → Nat :=
  let c300_r0 : Index := 300#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6468_r0 : Index := Scalar.indexCast v6424_r0
  ![300, v6468_r0.toNat]
def k0_off522 (k0_t1 : Fin k0_t1_loop.trips) (c0_i32_1748_r0 : BitVec 32) : Fin 2 → Nat :=
  let c301_r0 : Index := 301#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6478_r0 : Index := Scalar.indexCast v6424_r0
  ![301, v6478_r0.toNat]
def k0_off523 (k0_t1 : Fin k0_t1_loop.trips) (c0_i32_1748_r0 : BitVec 32) : Fin 2 → Nat :=
  let c302_r0 : Index := 302#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6488_r0 : Index := Scalar.indexCast v6424_r0
  ![302, v6488_r0.toNat]
def k0_off524 (k0_t1 : Fin k0_t1_loop.trips) (c0_i32_1748_r0 : BitVec 32) : Fin 2 → Nat :=
  let c303_r0 : Index := 303#32
  let c0_i32_42_r0 : BitVec 32 := 0#32
  let c1_i32_43_r0 : BitVec 32 := 1#32
  let arg10_r0 : BitVec 32 := Scf.iv c0_i32_42_r0 c1_i32_43_r0 k0_t1
  let c512_i32_1747_r0 : BitVec 32 := 512#32
  let v6423_r0 : BitVec 32 := Scalar.muli arg10_r0 c512_i32_1747_r0
  let v6424_r0 : BitVec 32 := Scalar.addi v6423_r0 c0_i32_1748_r0
  let v6498_r0 : Index := Scalar.indexCast v6424_r0
  ![303, v6498_r0.toNat]
def k0_off525 (k0_t1 : Fin k0_t1_loop.trips) (c0_i32_1793_r0 : BitVec 32) : Fin 2 → Nat :=
  let c304_r0 : Index := 304#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6595_r0 : Index := Scalar.indexCast v6591_r0
  ![304, v6595_r0.toNat]
def k0_off526 (k0_t1 : Fin k0_t1_loop.trips) (c0_i32_1793_r0 : BitVec 32) : Fin 2 → Nat :=
  let c305_r0 : Index := 305#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6605_r0 : Index := Scalar.indexCast v6591_r0
  ![305, v6605_r0.toNat]
def k0_off527 (k0_t1 : Fin k0_t1_loop.trips) (c0_i32_1793_r0 : BitVec 32) : Fin 2 → Nat :=
  let c306_r0 : Index := 306#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6615_r0 : Index := Scalar.indexCast v6591_r0
  ![306, v6615_r0.toNat]
def k0_off528 (k0_t1 : Fin k0_t1_loop.trips) (c0_i32_1793_r0 : BitVec 32) : Fin 2 → Nat :=
  let c307_r0 : Index := 307#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6625_r0 : Index := Scalar.indexCast v6591_r0
  ![307, v6625_r0.toNat]
def k0_off529 (k0_t1 : Fin k0_t1_loop.trips) (c0_i32_1793_r0 : BitVec 32) : Fin 2 → Nat :=
  let c308_r0 : Index := 308#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6635_r0 : Index := Scalar.indexCast v6591_r0
  ![308, v6635_r0.toNat]
def k0_off530 (k0_t1 : Fin k0_t1_loop.trips) (c0_i32_1793_r0 : BitVec 32) : Fin 2 → Nat :=
  let c309_r0 : Index := 309#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6645_r0 : Index := Scalar.indexCast v6591_r0
  ![309, v6645_r0.toNat]
def k0_off531 (k0_t1 : Fin k0_t1_loop.trips) (c0_i32_1793_r0 : BitVec 32) : Fin 2 → Nat :=
  let c310_r0 : Index := 310#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6655_r0 : Index := Scalar.indexCast v6591_r0
  ![310, v6655_r0.toNat]
def k0_off532 (k0_t1 : Fin k0_t1_loop.trips) (c0_i32_1793_r0 : BitVec 32) : Fin 2 → Nat :=
  let c311_r0 : Index := 311#32
  let c0_i32_42_r0 : BitVec 32 := 0#32
  let c1_i32_43_r0 : BitVec 32 := 1#32
  let arg10_r0 : BitVec 32 := Scf.iv c0_i32_42_r0 c1_i32_43_r0 k0_t1
  let c512_i32_1792_r0 : BitVec 32 := 512#32
  let v6590_r0 : BitVec 32 := Scalar.muli arg10_r0 c512_i32_1792_r0
  let v6591_r0 : BitVec 32 := Scalar.addi v6590_r0 c0_i32_1793_r0
  let v6665_r0 : Index := Scalar.indexCast v6591_r0
  ![311, v6665_r0.toNat]
def k0_cond8 (k0_t1 : Fin k0_t1_loop.trips) : BitVec 1 :=
  let c0_i32_42_r0 : BitVec 32 := 0#32
  let c1_i32_43_r0 : BitVec 32 := 1#32
  let arg10_r0 : BitVec 32 := Scf.iv c0_i32_42_r0 c1_i32_43_r0 k0_t1
  let c4_i32_1837_r0 : BitVec 32 := 4#32
  let v6757_r0 : BitVec 32 := Scalar.muli arg10_r0 c4_i32_1837_r0
  let c3_i32_1838_r0 : BitVec 32 := 3#32
  let v6758_r0 : BitVec 32 := Scalar.addi v6757_r0 c3_i32_1838_r0
  let c6_i32_1864_r0 : BitVec 32 := 6#32
  let v6806_r0 : BitVec 32 := Scalar.addi v6758_r0 c6_i32_1864_r0
  let c1_i32_1865_r0 : BitVec 32 := 1#32
  let v6807_r0 : BitVec 32 := Scalar.subi v6806_r0 c1_i32_1865_r0
  let c128_i32_1866_r0 : BitVec 32 := 128#32
  let v6808_r0 : BitVec 1 := Scalar.cmpi .slt v6807_r0 c128_i32_1866_r0
  let v6809_r0 : BitVec 32 := Scalar.extui v6808_r0
  let c0_i32_1867_r0 : BitVec 32 := 0#32
  let v6810_r0 : BitVec 1 := Scalar.cmpi .ne v6809_r0 c0_i32_1867_r0
  v6810_r0

def k0_off533 (k0_t1 : Fin k0_t1_loop.trips) : Fin 1 → Nat :=
  let c0_i32_42_r0 : BitVec 32 := 0#32
  let c1_i32_43_r0 : BitVec 32 := 1#32
  let arg10_r0 : BitVec 32 := Scf.iv c0_i32_42_r0 c1_i32_43_r0 k0_t1
  let c4_i32_1837_r0 : BitVec 32 := 4#32
  let v6757_r0 : BitVec 32 := Scalar.muli arg10_r0 c4_i32_1837_r0
  let c3_i32_1838_r0 : BitVec 32 := 3#32
  let v6758_r0 : BitVec 32 := Scalar.addi v6757_r0 c3_i32_1838_r0
  let c6_i32_2496_r0 : BitVec 32 := 6#32
  let v9053_r0 : BitVec 32 := Scalar.addi v6758_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  ![v9091_r0.toNat]
def k0_off534 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c4_i32_1837_r0 : BitVec 32 := 4#32
  let v6757_r0 : BitVec 32 := Scalar.muli arg10_r0 c4_i32_1837_r0
  let c3_i32_1838_r0 : BitVec 32 := 3#32
  let v6758_r0 : BitVec 32 := Scalar.addi v6757_r0 c3_i32_1838_r0
  let c6_i32_2496_r0 : BitVec 32 := 6#32
  let v9053_r0 : BitVec 32 := Scalar.addi v6758_r0 c6_i32_2496_r0
  let c1_i32_2497_r0 : BitVec 32 := 1#32
  let v9054_r0 : BitVec 32 := Scalar.subi v9053_r0 c1_i32_2497_r0
  let c6_i32_2511_r0 : BitVec 32 := 6#32
  let c0_i32_2512_r0 : BitVec 32 := 0#32
  let v9082_r0 : BitVec 1 := Scalar.cmpi .eq c6_i32_2511_r0 c0_i32_2512_r0
  let c1_i32_2513_r0 : BitVec 32 := 1#32
  let v9083_r0 : BitVec 32 := Scalar.select v9082_r0 c1_i32_2513_r0 c6_i32_2511_r0
  let v9084_r0 : BitVec 32 := Scalar.remsi v9054_r0 v9083_r0
  let c0_i32_2515_r0 : BitVec 32 := 0#32
  let v9086_r0 : BitVec 1 := Scalar.cmpi .slt v9084_r0 c0_i32_2515_r0
  let c0_i32_2516_r0 : BitVec 32 := 0#32
  let v9087_r0 : BitVec 1 := Scalar.cmpi .slt v9083_r0 c0_i32_2516_r0
  let v9088_r0 : BitVec 1 := Scalar.xori v9086_r0 v9087_r0
  let c0_i32_2514_r0 : BitVec 32 := 0#32
  let v9085_r0 : BitVec 1 := Scalar.cmpi .ne v9084_r0 c0_i32_2514_r0
  let v9089_r0 : BitVec 1 := Scalar.andi v9088_r0 v9085_r0
  let v9090_r0 : BitVec 32 := Scalar.addi v9084_r0 v9083_r0
  let v9091_r0 : BitVec 32 := Scalar.select v9089_r0 v9090_r0 v9084_r0
  let c0_i32_2519_r0 : BitVec 32 := 0#32
  let c0_i32_2520_r0 : BitVec 32 := 0#32
  ![v9091_r0.toNat, 0, 0]
def k0_off535 (k0_t1 : Fin k0_t1_loop.trips) : Fin 2 → Nat :=
  let c0_i32_42_r0 : BitVec 32 := 0#32
  let c1_i32_43_r0 : BitVec 32 := 1#32
  let arg10_r0 : BitVec 32 := Scf.iv c0_i32_42_r0 c1_i32_43_r0 k0_t1
  let c4_i32_1837_r0 : BitVec 32 := 4#32
  let v6757_r0 : BitVec 32 := Scalar.muli arg10_r0 c4_i32_1837_r0
  let c3_i32_1838_r0 : BitVec 32 := 3#32
  let v6758_r0 : BitVec 32 := Scalar.addi v6757_r0 c3_i32_1838_r0
  let c6_i32_2496_r0 : BitVec 32 := 6#32
  let v9053_r0 : BitVec 32 := Scalar.addi v6758_r0 c6_i32_2496_r0
  let c1_i32_2497_r0 : BitVec 32 := 1#32
  let v9054_r0 : BitVec 32 := Scalar.subi v9053_r0 c1_i32_2497_r0
  let c4_i32_2505_r0 : BitVec 32 := 4#32
  let c0_i32_2506_r0 : BitVec 32 := 0#32
  let v9072_r0 : BitVec 1 := Scalar.cmpi .eq c4_i32_2505_r0 c0_i32_2506_r0
  let c1_i32_2507_r0 : BitVec 32 := 1#32
  let v9073_r0 : BitVec 32 := Scalar.select v9072_r0 c1_i32_2507_r0 c4_i32_2505_r0
  let v9074_r0 : BitVec 32 := Scalar.remsi v9054_r0 v9073_r0
  let c0_i32_2509_r0 : BitVec 32 := 0#32
  let v9076_r0 : BitVec 1 := Scalar.cmpi .slt v9074_r0 c0_i32_2509_r0
  let c0_i32_2510_r0 : BitVec 32 := 0#32
  let v9077_r0 : BitVec 1 := Scalar.cmpi .slt v9073_r0 c0_i32_2510_r0
  let v9078_r0 : BitVec 1 := Scalar.xori v9076_r0 v9077_r0
  let c0_i32_2508_r0 : BitVec 32 := 0#32
  let v9075_r0 : BitVec 1 := Scalar.cmpi .ne v9074_r0 c0_i32_2508_r0
  let v9079_r0 : BitVec 1 := Scalar.andi v9078_r0 v9075_r0
  let v9080_r0 : BitVec 32 := Scalar.addi v9074_r0 v9073_r0
  let v9081_r0 : BitVec 32 := Scalar.select v9079_r0 v9080_r0 v9074_r0
  let c3328_i32_2517_r0 : BitVec 32 := 3328#32
  let v9092_r0 : BitVec 32 := Scalar.muli v9081_r0 c3328_i32_2517_r0
  let c0_i32_2499_r0 : BitVec 32 := 0#32
  let v9056_r0 : BitVec 1 := Scalar.cmpi .sgt v9054_r0 c0_i32_2499_r0
  let v9057_r0 : BitVec 32 := Scalar.extui v9056_r0
  let c0_i32_2500_r0 : BitVec 32 := 0#32
  let v9058_r0 : BitVec 1 := Scalar.cmpi .slt v9054_r0 c0_i32_2500_r0
  let v9059_r0 : BitVec 32 := Scalar.extui v9058_r0
  let v9060_r0 : BitVec 32 := Scalar.subi v9057_r0 v9059_r0
  let c4_i32_2498_r0 : BitVec 32 := 4#32
  let c0_i32_2501_r0 : BitVec 32 := 0#32
  let v9061_r0 : BitVec 1 := Scalar.cmpi .sgt c4_i32_2498_r0 c0_i32_2501_r0
  let v9062_r0 : BitVec 32 := Scalar.extui v9061_r0
  let c0_i32_2502_r0 : BitVec 32 := 0#32
  let v9063_r0 : BitVec 1 := Scalar.cmpi .slt c4_i32_2498_r0 c0_i32_2502_r0
  let v9064_r0 : BitVec 32 := Scalar.extui v9063_r0
  let v9065_r0 : BitVec 32 := Scalar.subi v9062_r0 v9064_r0
  let v9066_r0 : BitVec 1 := Scalar.cmpi .ne v9060_r0 v9065_r0
  let v9067_r0 : BitVec 32 := Scalar.remsi v9054_r0 c4_i32_2498_r0
  let c0_i32_2503_r0 : BitVec 32 := 0#32
  let v9068_r0 : BitVec 1 := Scalar.cmpi .ne v9067_r0 c0_i32_2503_r0
  let v9069_r0 : BitVec 1 := Scalar.andi v9066_r0 v9068_r0
  let v9055_r0 : BitVec 32 := Scalar.divsi v9054_r0 c4_i32_2498_r0
  let c1_i32_2504_r0 : BitVec 32 := 1#32
  let v9070_r0 : BitVec 32 := Scalar.subi v9055_r0 c1_i32_2504_r0
  let v9071_r0 : BitVec 32 := Scalar.select v9069_r0 v9070_r0 v9055_r0
  let c512_i32_2518_r0 : BitVec 32 := 512#32
  let v9093_r0 : BitVec 32 := Scalar.muli v9071_r0 c512_i32_2518_r0
  ![v9092_r0.toNat, v9093_r0.toNat]
def k0_off536 (k0_t1 : Fin k0_t1_loop.trips) (c0_i32_1875_r0 : BitVec 32) : Fin 2 → Nat :=
  let c312_r0 : Index := 312#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6826_r0 : Index := Scalar.indexCast v6822_r0
  ![312, v6826_r0.toNat]
def k0_off537 (k0_t1 : Fin k0_t1_loop.trips) (c0_i32_1875_r0 : BitVec 32) : Fin 2 → Nat :=
  let c313_r0 : Index := 313#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6836_r0 : Index := Scalar.indexCast v6822_r0
  ![313, v6836_r0.toNat]
def k0_off538 (k0_t1 : Fin k0_t1_loop.trips) (c0_i32_1875_r0 : BitVec 32) : Fin 2 → Nat :=
  let c314_r0 : Index := 314#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6846_r0 : Index := Scalar.indexCast v6822_r0
  ![314, v6846_r0.toNat]
def k0_off539 (k0_t1 : Fin k0_t1_loop.trips) (c0_i32_1875_r0 : BitVec 32) : Fin 2 → Nat :=
  let c315_r0 : Index := 315#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6856_r0 : Index := Scalar.indexCast v6822_r0
  ![315, v6856_r0.toNat]
def k0_off540 (k0_t1 : Fin k0_t1_loop.trips) (c0_i32_1875_r0 : BitVec 32) : Fin 2 → Nat :=
  let c316_r0 : Index := 316#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6866_r0 : Index := Scalar.indexCast v6822_r0
  ![316, v6866_r0.toNat]
def k0_off541 (k0_t1 : Fin k0_t1_loop.trips) (c0_i32_1875_r0 : BitVec 32) : Fin 2 → Nat :=
  let c317_r0 : Index := 317#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6876_r0 : Index := Scalar.indexCast v6822_r0
  ![317, v6876_r0.toNat]
def k0_off542 (k0_t1 : Fin k0_t1_loop.trips) (c0_i32_1875_r0 : BitVec 32) : Fin 2 → Nat :=
  let c318_r0 : Index := 318#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6886_r0 : Index := Scalar.indexCast v6822_r0
  ![318, v6886_r0.toNat]
def k0_off543 (k0_t1 : Fin k0_t1_loop.trips) (c0_i32_1875_r0 : BitVec 32) : Fin 2 → Nat :=
  let c319_r0 : Index := 319#32
  let c0_i32_42_r0 : BitVec 32 := 0#32
  let c1_i32_43_r0 : BitVec 32 := 1#32
  let arg10_r0 : BitVec 32 := Scf.iv c0_i32_42_r0 c1_i32_43_r0 k0_t1
  let c512_i32_1874_r0 : BitVec 32 := 512#32
  let v6821_r0 : BitVec 32 := Scalar.muli arg10_r0 c512_i32_1874_r0
  let v6822_r0 : BitVec 32 := Scalar.addi v6821_r0 c0_i32_1875_r0
  let v6896_r0 : Index := Scalar.indexCast v6822_r0
  ![319, v6896_r0.toNat]
def k0_off544 (k0_t1 : Fin k0_t1_loop.trips) (c0_i32_1920_r0 : BitVec 32) : Fin 2 → Nat :=
  let c320_1923_r0 : Index := 320#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v6993_r0 : Index := Scalar.indexCast v6989_r0
  ![320, v6993_r0.toNat]
def k0_off545 (k0_t1 : Fin k0_t1_loop.trips) (c0_i32_1920_r0 : BitVec 32) : Fin 2 → Nat :=
  let c321_r0 : Index := 321#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7003_r0 : Index := Scalar.indexCast v6989_r0
  ![321, v7003_r0.toNat]
def k0_off546 (k0_t1 : Fin k0_t1_loop.trips) (c0_i32_1920_r0 : BitVec 32) : Fin 2 → Nat :=
  let c322_r0 : Index := 322#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7013_r0 : Index := Scalar.indexCast v6989_r0
  ![322, v7013_r0.toNat]
def k0_off547 (k0_t1 : Fin k0_t1_loop.trips) (c0_i32_1920_r0 : BitVec 32) : Fin 2 → Nat :=
  let c323_r0 : Index := 323#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7023_r0 : Index := Scalar.indexCast v6989_r0
  ![323, v7023_r0.toNat]
def k0_off548 (k0_t1 : Fin k0_t1_loop.trips) (c0_i32_1920_r0 : BitVec 32) : Fin 2 → Nat :=
  let c324_r0 : Index := 324#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7033_r0 : Index := Scalar.indexCast v6989_r0
  ![324, v7033_r0.toNat]
def k0_off549 (k0_t1 : Fin k0_t1_loop.trips) (c0_i32_1920_r0 : BitVec 32) : Fin 2 → Nat :=
  let c325_r0 : Index := 325#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7043_r0 : Index := Scalar.indexCast v6989_r0
  ![325, v7043_r0.toNat]
def k0_off550 (k0_t1 : Fin k0_t1_loop.trips) (c0_i32_1920_r0 : BitVec 32) : Fin 2 → Nat :=
  let c326_r0 : Index := 326#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7053_r0 : Index := Scalar.indexCast v6989_r0
  ![326, v7053_r0.toNat]
def k0_off551 (k0_t1 : Fin k0_t1_loop.trips) (c0_i32_1920_r0 : BitVec 32) : Fin 2 → Nat :=
  let c327_r0 : Index := 327#32
  let c0_i32_42_r0 : BitVec 32 := 0#32
  let c1_i32_43_r0 : BitVec 32 := 1#32
  let arg10_r0 : BitVec 32 := Scf.iv c0_i32_42_r0 c1_i32_43_r0 k0_t1
  let c512_i32_1919_r0 : BitVec 32 := 512#32
  let v6988_r0 : BitVec 32 := Scalar.muli arg10_r0 c512_i32_1919_r0
  let v6989_r0 : BitVec 32 := Scalar.addi v6988_r0 c0_i32_1920_r0
  let v7063_r0 : Index := Scalar.indexCast v6989_r0
  ![327, v7063_r0.toNat]
def k0_off552 (k0_t1 : Fin k0_t1_loop.trips) (c0_i32_1966_r0 : BitVec 32) : Fin 2 → Nat :=
  let c328_r0 : Index := 328#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7160_r0 : Index := Scalar.indexCast v7156_r0
  ![328, v7160_r0.toNat]
def k0_off553 (k0_t1 : Fin k0_t1_loop.trips) (c0_i32_1966_r0 : BitVec 32) : Fin 2 → Nat :=
  let c329_r0 : Index := 329#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7170_r0 : Index := Scalar.indexCast v7156_r0
  ![329, v7170_r0.toNat]
def k0_off554 (k0_t1 : Fin k0_t1_loop.trips) (c0_i32_1966_r0 : BitVec 32) : Fin 2 → Nat :=
  let c330_r0 : Index := 330#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7180_r0 : Index := Scalar.indexCast v7156_r0
  ![330, v7180_r0.toNat]
def k0_off555 (k0_t1 : Fin k0_t1_loop.trips) (c0_i32_1966_r0 : BitVec 32) : Fin 2 → Nat :=
  let c331_r0 : Index := 331#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7190_r0 : Index := Scalar.indexCast v7156_r0
  ![331, v7190_r0.toNat]
def k0_off556 (k0_t1 : Fin k0_t1_loop.trips) (c0_i32_1966_r0 : BitVec 32) : Fin 2 → Nat :=
  let c332_r0 : Index := 332#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7200_r0 : Index := Scalar.indexCast v7156_r0
  ![332, v7200_r0.toNat]
def k0_off557 (k0_t1 : Fin k0_t1_loop.trips) (c0_i32_1966_r0 : BitVec 32) : Fin 2 → Nat :=
  let c333_r0 : Index := 333#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7210_r0 : Index := Scalar.indexCast v7156_r0
  ![333, v7210_r0.toNat]
def k0_off558 (k0_t1 : Fin k0_t1_loop.trips) (c0_i32_1966_r0 : BitVec 32) : Fin 2 → Nat :=
  let c334_r0 : Index := 334#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7220_r0 : Index := Scalar.indexCast v7156_r0
  ![334, v7220_r0.toNat]
def k0_off559 (k0_t1 : Fin k0_t1_loop.trips) (c0_i32_1966_r0 : BitVec 32) : Fin 2 → Nat :=
  let c335_r0 : Index := 335#32
  let c0_i32_42_r0 : BitVec 32 := 0#32
  let c1_i32_43_r0 : BitVec 32 := 1#32
  let arg10_r0 : BitVec 32 := Scf.iv c0_i32_42_r0 c1_i32_43_r0 k0_t1
  let c512_i32_1965_r0 : BitVec 32 := 512#32
  let v7155_r0 : BitVec 32 := Scalar.muli arg10_r0 c512_i32_1965_r0
  let v7156_r0 : BitVec 32 := Scalar.addi v7155_r0 c0_i32_1966_r0
  let v7230_r0 : Index := Scalar.indexCast v7156_r0
  ![335, v7230_r0.toNat]
def k0_off560 (k0_t1 : Fin k0_t1_loop.trips) (c0_i32_2011_r0 : BitVec 32) : Fin 2 → Nat :=
  let c336_r0 : Index := 336#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7327_r0 : Index := Scalar.indexCast v7323_r0
  ![336, v7327_r0.toNat]
def k0_off561 (k0_t1 : Fin k0_t1_loop.trips) (c0_i32_2011_r0 : BitVec 32) : Fin 2 → Nat :=
  let c337_r0 : Index := 337#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7337_r0 : Index := Scalar.indexCast v7323_r0
  ![337, v7337_r0.toNat]
def k0_off562 (k0_t1 : Fin k0_t1_loop.trips) (c0_i32_2011_r0 : BitVec 32) : Fin 2 → Nat :=
  let c338_r0 : Index := 338#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7347_r0 : Index := Scalar.indexCast v7323_r0
  ![338, v7347_r0.toNat]
def k0_off563 (k0_t1 : Fin k0_t1_loop.trips) (c0_i32_2011_r0 : BitVec 32) : Fin 2 → Nat :=
  let c339_r0 : Index := 339#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7357_r0 : Index := Scalar.indexCast v7323_r0
  ![339, v7357_r0.toNat]
def k0_off564 (k0_t1 : Fin k0_t1_loop.trips) (c0_i32_2011_r0 : BitVec 32) : Fin 2 → Nat :=
  let c340_r0 : Index := 340#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7367_r0 : Index := Scalar.indexCast v7323_r0
  ![340, v7367_r0.toNat]
def k0_off565 (k0_t1 : Fin k0_t1_loop.trips) (c0_i32_2011_r0 : BitVec 32) : Fin 2 → Nat :=
  let c341_r0 : Index := 341#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7377_r0 : Index := Scalar.indexCast v7323_r0
  ![341, v7377_r0.toNat]
def k0_off566 (k0_t1 : Fin k0_t1_loop.trips) (c0_i32_2011_r0 : BitVec 32) : Fin 2 → Nat :=
  let c342_r0 : Index := 342#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7387_r0 : Index := Scalar.indexCast v7323_r0
  ![342, v7387_r0.toNat]
def k0_off567 (k0_t1 : Fin k0_t1_loop.trips) (c0_i32_2011_r0 : BitVec 32) : Fin 2 → Nat :=
  let c343_r0 : Index := 343#32
  let c0_i32_42_r0 : BitVec 32 := 0#32
  let c1_i32_43_r0 : BitVec 32 := 1#32
  let arg10_r0 : BitVec 32 := Scf.iv c0_i32_42_r0 c1_i32_43_r0 k0_t1
  let c512_i32_2010_r0 : BitVec 32 := 512#32
  let v7322_r0 : BitVec 32 := Scalar.muli arg10_r0 c512_i32_2010_r0
  let v7323_r0 : BitVec 32 := Scalar.addi v7322_r0 c0_i32_2011_r0
  let v7397_r0 : Index := Scalar.indexCast v7323_r0
  ![343, v7397_r0.toNat]
def k0_off568 (k0_t1 : Fin k0_t1_loop.trips) (c0_i32_2056_r0 : BitVec 32) : Fin 2 → Nat :=
  let c344_r0 : Index := 344#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7494_r0 : Index := Scalar.indexCast v7490_r0
  ![344, v7494_r0.toNat]
def k0_off569 (k0_t1 : Fin k0_t1_loop.trips) (c0_i32_2056_r0 : BitVec 32) : Fin 2 → Nat :=
  let c345_r0 : Index := 345#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7504_r0 : Index := Scalar.indexCast v7490_r0
  ![345, v7504_r0.toNat]
def k0_off570 (k0_t1 : Fin k0_t1_loop.trips) (c0_i32_2056_r0 : BitVec 32) : Fin 2 → Nat :=
  let c346_r0 : Index := 346#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7514_r0 : Index := Scalar.indexCast v7490_r0
  ![346, v7514_r0.toNat]
def k0_off571 (k0_t1 : Fin k0_t1_loop.trips) (c0_i32_2056_r0 : BitVec 32) : Fin 2 → Nat :=
  let c347_r0 : Index := 347#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7524_r0 : Index := Scalar.indexCast v7490_r0
  ![347, v7524_r0.toNat]
def k0_off572 (k0_t1 : Fin k0_t1_loop.trips) (c0_i32_2056_r0 : BitVec 32) : Fin 2 → Nat :=
  let c348_r0 : Index := 348#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7534_r0 : Index := Scalar.indexCast v7490_r0
  ![348, v7534_r0.toNat]
def k0_off573 (k0_t1 : Fin k0_t1_loop.trips) (c0_i32_2056_r0 : BitVec 32) : Fin 2 → Nat :=
  let c349_r0 : Index := 349#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7544_r0 : Index := Scalar.indexCast v7490_r0
  ![349, v7544_r0.toNat]
def k0_off574 (k0_t1 : Fin k0_t1_loop.trips) (c0_i32_2056_r0 : BitVec 32) : Fin 2 → Nat :=
  let c350_r0 : Index := 350#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7554_r0 : Index := Scalar.indexCast v7490_r0
  ![350, v7554_r0.toNat]
def k0_off575 (k0_t1 : Fin k0_t1_loop.trips) (c0_i32_2056_r0 : BitVec 32) : Fin 2 → Nat :=
  let c351_r0 : Index := 351#32
  let c0_i32_42_r0 : BitVec 32 := 0#32
  let c1_i32_43_r0 : BitVec 32 := 1#32
  let arg10_r0 : BitVec 32 := Scf.iv c0_i32_42_r0 c1_i32_43_r0 k0_t1
  let c512_i32_2055_r0 : BitVec 32 := 512#32
  let v7489_r0 : BitVec 32 := Scalar.muli arg10_r0 c512_i32_2055_r0
  let v7490_r0 : BitVec 32 := Scalar.addi v7489_r0 c0_i32_2056_r0
  let v7564_r0 : Index := Scalar.indexCast v7490_r0
  ![351, v7564_r0.toNat]
def k0_off576 (k0_t1 : Fin k0_t1_loop.trips) (c0_i32_2101_r0 : BitVec 32) : Fin 2 → Nat :=
  let c352_2104_r0 : Index := 352#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7661_r0 : Index := Scalar.indexCast v7657_r0
  ![352, v7661_r0.toNat]
def k0_off577 (k0_t1 : Fin k0_t1_loop.trips) (c0_i32_2101_r0 : BitVec 32) : Fin 2 → Nat :=
  let c353_r0 : Index := 353#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7671_r0 : Index := Scalar.indexCast v7657_r0
  ![353, v7671_r0.toNat]
def k0_off578 (k0_t1 : Fin k0_t1_loop.trips) (c0_i32_2101_r0 : BitVec 32) : Fin 2 → Nat :=
  let c354_r0 : Index := 354#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7681_r0 : Index := Scalar.indexCast v7657_r0
  ![354, v7681_r0.toNat]
def k0_off579 (k0_t1 : Fin k0_t1_loop.trips) (c0_i32_2101_r0 : BitVec 32) : Fin 2 → Nat :=
  let c355_r0 : Index := 355#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7691_r0 : Index := Scalar.indexCast v7657_r0
  ![355, v7691_r0.toNat]
def k0_off580 (k0_t1 : Fin k0_t1_loop.trips) (c0_i32_2101_r0 : BitVec 32) : Fin 2 → Nat :=
  let c356_r0 : Index := 356#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7701_r0 : Index := Scalar.indexCast v7657_r0
  ![356, v7701_r0.toNat]
def k0_off581 (k0_t1 : Fin k0_t1_loop.trips) (c0_i32_2101_r0 : BitVec 32) : Fin 2 → Nat :=
  let c357_r0 : Index := 357#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7711_r0 : Index := Scalar.indexCast v7657_r0
  ![357, v7711_r0.toNat]
def k0_off582 (k0_t1 : Fin k0_t1_loop.trips) (c0_i32_2101_r0 : BitVec 32) : Fin 2 → Nat :=
  let c358_r0 : Index := 358#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7721_r0 : Index := Scalar.indexCast v7657_r0
  ![358, v7721_r0.toNat]
def k0_off583 (k0_t1 : Fin k0_t1_loop.trips) (c0_i32_2101_r0 : BitVec 32) : Fin 2 → Nat :=
  let c359_r0 : Index := 359#32
  let c0_i32_42_r0 : BitVec 32 := 0#32
  let c1_i32_43_r0 : BitVec 32 := 1#32
  let arg10_r0 : BitVec 32 := Scf.iv c0_i32_42_r0 c1_i32_43_r0 k0_t1
  let c512_i32_2100_r0 : BitVec 32 := 512#32
  let v7656_r0 : BitVec 32 := Scalar.muli arg10_r0 c512_i32_2100_r0
  let v7657_r0 : BitVec 32 := Scalar.addi v7656_r0 c0_i32_2101_r0
  let v7731_r0 : Index := Scalar.indexCast v7657_r0
  ![359, v7731_r0.toNat]
def k0_off584 (k0_t1 : Fin k0_t1_loop.trips) (c0_i32_2147_r0 : BitVec 32) : Fin 2 → Nat :=
  let c360_r0 : Index := 360#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7828_r0 : Index := Scalar.indexCast v7824_r0
  ![360, v7828_r0.toNat]
def k0_off585 (k0_t1 : Fin k0_t1_loop.trips) (c0_i32_2147_r0 : BitVec 32) : Fin 2 → Nat :=
  let c361_r0 : Index := 361#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7838_r0 : Index := Scalar.indexCast v7824_r0
  ![361, v7838_r0.toNat]
def k0_off586 (k0_t1 : Fin k0_t1_loop.trips) (c0_i32_2147_r0 : BitVec 32) : Fin 2 → Nat :=
  let c362_r0 : Index := 362#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7848_r0 : Index := Scalar.indexCast v7824_r0
  ![362, v7848_r0.toNat]
def k0_off587 (k0_t1 : Fin k0_t1_loop.trips) (c0_i32_2147_r0 : BitVec 32) : Fin 2 → Nat :=
  let c363_r0 : Index := 363#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7858_r0 : Index := Scalar.indexCast v7824_r0
  ![363, v7858_r0.toNat]
def k0_off588 (k0_t1 : Fin k0_t1_loop.trips) (c0_i32_2147_r0 : BitVec 32) : Fin 2 → Nat :=
  let c364_r0 : Index := 364#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7868_r0 : Index := Scalar.indexCast v7824_r0
  ![364, v7868_r0.toNat]
def k0_off589 (k0_t1 : Fin k0_t1_loop.trips) (c0_i32_2147_r0 : BitVec 32) : Fin 2 → Nat :=
  let c365_r0 : Index := 365#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7878_r0 : Index := Scalar.indexCast v7824_r0
  ![365, v7878_r0.toNat]
def k0_off590 (k0_t1 : Fin k0_t1_loop.trips) (c0_i32_2147_r0 : BitVec 32) : Fin 2 → Nat :=
  let c366_r0 : Index := 366#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7888_r0 : Index := Scalar.indexCast v7824_r0
  ![366, v7888_r0.toNat]
def k0_off591 (k0_t1 : Fin k0_t1_loop.trips) (c0_i32_2147_r0 : BitVec 32) : Fin 2 → Nat :=
  let c367_r0 : Index := 367#32
  let c0_i32_42_r0 : BitVec 32 := 0#32
  let c1_i32_43_r0 : BitVec 32 := 1#32
  let arg10_r0 : BitVec 32 := Scf.iv c0_i32_42_r0 c1_i32_43_r0 k0_t1
  let c512_i32_2146_r0 : BitVec 32 := 512#32
  let v7823_r0 : BitVec 32 := Scalar.muli arg10_r0 c512_i32_2146_r0
  let v7824_r0 : BitVec 32 := Scalar.addi v7823_r0 c0_i32_2147_r0
  let v7898_r0 : Index := Scalar.indexCast v7824_r0
  ![367, v7898_r0.toNat]
def k0_off592 (k0_t1 : Fin k0_t1_loop.trips) (c0_i32_2192_r0 : BitVec 32) : Fin 2 → Nat :=
  let c368_r0 : Index := 368#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v7995_r0 : Index := Scalar.indexCast v7991_r0
  ![368, v7995_r0.toNat]
def k0_off593 (k0_t1 : Fin k0_t1_loop.trips) (c0_i32_2192_r0 : BitVec 32) : Fin 2 → Nat :=
  let c369_r0 : Index := 369#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8005_r0 : Index := Scalar.indexCast v7991_r0
  ![369, v8005_r0.toNat]
def k0_off594 (k0_t1 : Fin k0_t1_loop.trips) (c0_i32_2192_r0 : BitVec 32) : Fin 2 → Nat :=
  let c370_r0 : Index := 370#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8015_r0 : Index := Scalar.indexCast v7991_r0
  ![370, v8015_r0.toNat]
def k0_off595 (k0_t1 : Fin k0_t1_loop.trips) (c0_i32_2192_r0 : BitVec 32) : Fin 2 → Nat :=
  let c371_r0 : Index := 371#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8025_r0 : Index := Scalar.indexCast v7991_r0
  ![371, v8025_r0.toNat]
def k0_off596 (k0_t1 : Fin k0_t1_loop.trips) (c0_i32_2192_r0 : BitVec 32) : Fin 2 → Nat :=
  let c372_r0 : Index := 372#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8035_r0 : Index := Scalar.indexCast v7991_r0
  ![372, v8035_r0.toNat]
def k0_off597 (k0_t1 : Fin k0_t1_loop.trips) (c0_i32_2192_r0 : BitVec 32) : Fin 2 → Nat :=
  let c373_r0 : Index := 373#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8045_r0 : Index := Scalar.indexCast v7991_r0
  ![373, v8045_r0.toNat]
def k0_off598 (k0_t1 : Fin k0_t1_loop.trips) (c0_i32_2192_r0 : BitVec 32) : Fin 2 → Nat :=
  let c374_r0 : Index := 374#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8055_r0 : Index := Scalar.indexCast v7991_r0
  ![374, v8055_r0.toNat]
def k0_off599 (k0_t1 : Fin k0_t1_loop.trips) (c0_i32_2192_r0 : BitVec 32) : Fin 2 → Nat :=
  let c375_r0 : Index := 375#32
  let c0_i32_42_r0 : BitVec 32 := 0#32
  let c1_i32_43_r0 : BitVec 32 := 1#32
  let arg10_r0 : BitVec 32 := Scf.iv c0_i32_42_r0 c1_i32_43_r0 k0_t1
  let c512_i32_2191_r0 : BitVec 32 := 512#32
  let v7990_r0 : BitVec 32 := Scalar.muli arg10_r0 c512_i32_2191_r0
  let v7991_r0 : BitVec 32 := Scalar.addi v7990_r0 c0_i32_2192_r0
  let v8065_r0 : Index := Scalar.indexCast v7991_r0
  ![375, v8065_r0.toNat]
def k0_off600 (k0_t1 : Fin k0_t1_loop.trips) (c0_i32_2237_r0 : BitVec 32) : Fin 2 → Nat :=
  let c376_r0 : Index := 376#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8162_r0 : Index := Scalar.indexCast v8158_r0
  ![376, v8162_r0.toNat]
def k0_off601 (k0_t1 : Fin k0_t1_loop.trips) (c0_i32_2237_r0 : BitVec 32) : Fin 2 → Nat :=
  let c377_r0 : Index := 377#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8172_r0 : Index := Scalar.indexCast v8158_r0
  ![377, v8172_r0.toNat]
def k0_off602 (k0_t1 : Fin k0_t1_loop.trips) (c0_i32_2237_r0 : BitVec 32) : Fin 2 → Nat :=
  let c378_r0 : Index := 378#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8182_r0 : Index := Scalar.indexCast v8158_r0
  ![378, v8182_r0.toNat]
def k0_off603 (k0_t1 : Fin k0_t1_loop.trips) (c0_i32_2237_r0 : BitVec 32) : Fin 2 → Nat :=
  let c379_r0 : Index := 379#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8192_r0 : Index := Scalar.indexCast v8158_r0
  ![379, v8192_r0.toNat]
def k0_off604 (k0_t1 : Fin k0_t1_loop.trips) (c0_i32_2237_r0 : BitVec 32) : Fin 2 → Nat :=
  let c380_r0 : Index := 380#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8202_r0 : Index := Scalar.indexCast v8158_r0
  ![380, v8202_r0.toNat]
def k0_off605 (k0_t1 : Fin k0_t1_loop.trips) (c0_i32_2237_r0 : BitVec 32) : Fin 2 → Nat :=
  let c381_r0 : Index := 381#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8212_r0 : Index := Scalar.indexCast v8158_r0
  ![381, v8212_r0.toNat]
def k0_off606 (k0_t1 : Fin k0_t1_loop.trips) (c0_i32_2237_r0 : BitVec 32) : Fin 2 → Nat :=
  let c382_r0 : Index := 382#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8222_r0 : Index := Scalar.indexCast v8158_r0
  ![382, v8222_r0.toNat]
def k0_off607 (k0_t1 : Fin k0_t1_loop.trips) (c0_i32_2237_r0 : BitVec 32) : Fin 2 → Nat :=
  let c383_r0 : Index := 383#32
  let c0_i32_42_r0 : BitVec 32 := 0#32
  let c1_i32_43_r0 : BitVec 32 := 1#32
  let arg10_r0 : BitVec 32 := Scf.iv c0_i32_42_r0 c1_i32_43_r0 k0_t1
  let c512_i32_2236_r0 : BitVec 32 := 512#32
  let v8157_r0 : BitVec 32 := Scalar.muli arg10_r0 c512_i32_2236_r0
  let v8158_r0 : BitVec 32 := Scalar.addi v8157_r0 c0_i32_2237_r0
  let v8232_r0 : Index := Scalar.indexCast v8158_r0
  ![383, v8232_r0.toNat]
def k0_off608 (k0_t1 : Fin k0_t1_loop.trips) (c0_i32_2282_r0 : BitVec 32) : Fin 2 → Nat :=
  let c384_2285_r0 : Index := 384#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8329_r0 : Index := Scalar.indexCast v8325_r0
  ![384, v8329_r0.toNat]
def k0_off609 (k0_t1 : Fin k0_t1_loop.trips) (c0_i32_2282_r0 : BitVec 32) : Fin 2 → Nat :=
  let c385_r0 : Index := 385#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8339_r0 : Index := Scalar.indexCast v8325_r0
  ![385, v8339_r0.toNat]
def k0_off610 (k0_t1 : Fin k0_t1_loop.trips) (c0_i32_2282_r0 : BitVec 32) : Fin 2 → Nat :=
  let c386_r0 : Index := 386#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8349_r0 : Index := Scalar.indexCast v8325_r0
  ![386, v8349_r0.toNat]
def k0_off611 (k0_t1 : Fin k0_t1_loop.trips) (c0_i32_2282_r0 : BitVec 32) : Fin 2 → Nat :=
  let c387_r0 : Index := 387#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8359_r0 : Index := Scalar.indexCast v8325_r0
  ![387, v8359_r0.toNat]
def k0_off612 (k0_t1 : Fin k0_t1_loop.trips) (c0_i32_2282_r0 : BitVec 32) : Fin 2 → Nat :=
  let c388_r0 : Index := 388#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8369_r0 : Index := Scalar.indexCast v8325_r0
  ![388, v8369_r0.toNat]
def k0_off613 (k0_t1 : Fin k0_t1_loop.trips) (c0_i32_2282_r0 : BitVec 32) : Fin 2 → Nat :=
  let c389_r0 : Index := 389#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8379_r0 : Index := Scalar.indexCast v8325_r0
  ![389, v8379_r0.toNat]
def k0_off614 (k0_t1 : Fin k0_t1_loop.trips) (c0_i32_2282_r0 : BitVec 32) : Fin 2 → Nat :=
  let c390_r0 : Index := 390#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8389_r0 : Index := Scalar.indexCast v8325_r0
  ![390, v8389_r0.toNat]
def k0_off615 (k0_t1 : Fin k0_t1_loop.trips) (c0_i32_2282_r0 : BitVec 32) : Fin 2 → Nat :=
  let c391_r0 : Index := 391#32
  let c0_i32_42_r0 : BitVec 32 := 0#32
  let c1_i32_43_r0 : BitVec 32 := 1#32
  let arg10_r0 : BitVec 32 := Scf.iv c0_i32_42_r0 c1_i32_43_r0 k0_t1
  let c512_i32_2281_r0 : BitVec 32 := 512#32
  let v8324_r0 : BitVec 32 := Scalar.muli arg10_r0 c512_i32_2281_r0
  let v8325_r0 : BitVec 32 := Scalar.addi v8324_r0 c0_i32_2282_r0
  let v8399_r0 : Index := Scalar.indexCast v8325_r0
  ![391, v8399_r0.toNat]
def k0_off616 (k0_t1 : Fin k0_t1_loop.trips) (c0_i32_2328_r0 : BitVec 32) : Fin 2 → Nat :=
  let c392_r0 : Index := 392#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8496_r0 : Index := Scalar.indexCast v8492_r0
  ![392, v8496_r0.toNat]
def k0_off617 (k0_t1 : Fin k0_t1_loop.trips) (c0_i32_2328_r0 : BitVec 32) : Fin 2 → Nat :=
  let c393_r0 : Index := 393#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8506_r0 : Index := Scalar.indexCast v8492_r0
  ![393, v8506_r0.toNat]
def k0_off618 (k0_t1 : Fin k0_t1_loop.trips) (c0_i32_2328_r0 : BitVec 32) : Fin 2 → Nat :=
  let c394_r0 : Index := 394#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8516_r0 : Index := Scalar.indexCast v8492_r0
  ![394, v8516_r0.toNat]
def k0_off619 (k0_t1 : Fin k0_t1_loop.trips) (c0_i32_2328_r0 : BitVec 32) : Fin 2 → Nat :=
  let c395_r0 : Index := 395#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8526_r0 : Index := Scalar.indexCast v8492_r0
  ![395, v8526_r0.toNat]
def k0_off620 (k0_t1 : Fin k0_t1_loop.trips) (c0_i32_2328_r0 : BitVec 32) : Fin 2 → Nat :=
  let c396_r0 : Index := 396#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8536_r0 : Index := Scalar.indexCast v8492_r0
  ![396, v8536_r0.toNat]
def k0_off621 (k0_t1 : Fin k0_t1_loop.trips) (c0_i32_2328_r0 : BitVec 32) : Fin 2 → Nat :=
  let c397_r0 : Index := 397#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8546_r0 : Index := Scalar.indexCast v8492_r0
  ![397, v8546_r0.toNat]
def k0_off622 (k0_t1 : Fin k0_t1_loop.trips) (c0_i32_2328_r0 : BitVec 32) : Fin 2 → Nat :=
  let c398_r0 : Index := 398#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8556_r0 : Index := Scalar.indexCast v8492_r0
  ![398, v8556_r0.toNat]
def k0_off623 (k0_t1 : Fin k0_t1_loop.trips) (c0_i32_2328_r0 : BitVec 32) : Fin 2 → Nat :=
  let c399_r0 : Index := 399#32
  let c0_i32_42_r0 : BitVec 32 := 0#32
  let c1_i32_43_r0 : BitVec 32 := 1#32
  let arg10_r0 : BitVec 32 := Scf.iv c0_i32_42_r0 c1_i32_43_r0 k0_t1
  let c512_i32_2327_r0 : BitVec 32 := 512#32
  let v8491_r0 : BitVec 32 := Scalar.muli arg10_r0 c512_i32_2327_r0
  let v8492_r0 : BitVec 32 := Scalar.addi v8491_r0 c0_i32_2328_r0
  let v8566_r0 : Index := Scalar.indexCast v8492_r0
  ![399, v8566_r0.toNat]
def k0_off624 (k0_t1 : Fin k0_t1_loop.trips) (c0_i32_2373_r0 : BitVec 32) : Fin 2 → Nat :=
  let c400_r0 : Index := 400#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8663_r0 : Index := Scalar.indexCast v8659_r0
  ![400, v8663_r0.toNat]
def k0_off625 (k0_t1 : Fin k0_t1_loop.trips) (c0_i32_2373_r0 : BitVec 32) : Fin 2 → Nat :=
  let c401_r0 : Index := 401#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8673_r0 : Index := Scalar.indexCast v8659_r0
  ![401, v8673_r0.toNat]
def k0_off626 (k0_t1 : Fin k0_t1_loop.trips) (c0_i32_2373_r0 : BitVec 32) : Fin 2 → Nat :=
  let c402_r0 : Index := 402#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8683_r0 : Index := Scalar.indexCast v8659_r0
  ![402, v8683_r0.toNat]
def k0_off627 (k0_t1 : Fin k0_t1_loop.trips) (c0_i32_2373_r0 : BitVec 32) : Fin 2 → Nat :=
  let c403_r0 : Index := 403#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8693_r0 : Index := Scalar.indexCast v8659_r0
  ![403, v8693_r0.toNat]
def k0_off628 (k0_t1 : Fin k0_t1_loop.trips) (c0_i32_2373_r0 : BitVec 32) : Fin 2 → Nat :=
  let c404_r0 : Index := 404#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8703_r0 : Index := Scalar.indexCast v8659_r0
  ![404, v8703_r0.toNat]
def k0_off629 (k0_t1 : Fin k0_t1_loop.trips) (c0_i32_2373_r0 : BitVec 32) : Fin 2 → Nat :=
  let c405_r0 : Index := 405#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8713_r0 : Index := Scalar.indexCast v8659_r0
  ![405, v8713_r0.toNat]
def k0_off630 (k0_t1 : Fin k0_t1_loop.trips) (c0_i32_2373_r0 : BitVec 32) : Fin 2 → Nat :=
  let c406_r0 : Index := 406#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8723_r0 : Index := Scalar.indexCast v8659_r0
  ![406, v8723_r0.toNat]
def k0_off631 (k0_t1 : Fin k0_t1_loop.trips) (c0_i32_2373_r0 : BitVec 32) : Fin 2 → Nat :=
  let c407_r0 : Index := 407#32
  let c0_i32_42_r0 : BitVec 32 := 0#32
  let c1_i32_43_r0 : BitVec 32 := 1#32
  let arg10_r0 : BitVec 32 := Scf.iv c0_i32_42_r0 c1_i32_43_r0 k0_t1
  let c512_i32_2372_r0 : BitVec 32 := 512#32
  let v8658_r0 : BitVec 32 := Scalar.muli arg10_r0 c512_i32_2372_r0
  let v8659_r0 : BitVec 32 := Scalar.addi v8658_r0 c0_i32_2373_r0
  let v8733_r0 : Index := Scalar.indexCast v8659_r0
  ![407, v8733_r0.toNat]
def k0_off632 (k0_t1 : Fin k0_t1_loop.trips) (c0_i32_2418_r0 : BitVec 32) : Fin 2 → Nat :=
  let c408_r0 : Index := 408#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8830_r0 : Index := Scalar.indexCast v8826_r0
  ![408, v8830_r0.toNat]
def k0_off633 (k0_t1 : Fin k0_t1_loop.trips) (c0_i32_2418_r0 : BitVec 32) : Fin 2 → Nat :=
  let c409_r0 : Index := 409#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8840_r0 : Index := Scalar.indexCast v8826_r0
  ![409, v8840_r0.toNat]
def k0_off634 (k0_t1 : Fin k0_t1_loop.trips) (c0_i32_2418_r0 : BitVec 32) : Fin 2 → Nat :=
  let c410_r0 : Index := 410#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8850_r0 : Index := Scalar.indexCast v8826_r0
  ![410, v8850_r0.toNat]
def k0_off635 (k0_t1 : Fin k0_t1_loop.trips) (c0_i32_2418_r0 : BitVec 32) : Fin 2 → Nat :=
  let c411_r0 : Index := 411#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8860_r0 : Index := Scalar.indexCast v8826_r0
  ![411, v8860_r0.toNat]
def k0_off636 (k0_t1 : Fin k0_t1_loop.trips) (c0_i32_2418_r0 : BitVec 32) : Fin 2 → Nat :=
  let c412_r0 : Index := 412#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8870_r0 : Index := Scalar.indexCast v8826_r0
  ![412, v8870_r0.toNat]
def k0_off637 (k0_t1 : Fin k0_t1_loop.trips) (c0_i32_2418_r0 : BitVec 32) : Fin 2 → Nat :=
  let c413_r0 : Index := 413#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8880_r0 : Index := Scalar.indexCast v8826_r0
  ![413, v8880_r0.toNat]
def k0_off638 (k0_t1 : Fin k0_t1_loop.trips) (c0_i32_2418_r0 : BitVec 32) : Fin 2 → Nat :=
  let c414_r0 : Index := 414#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8890_r0 : Index := Scalar.indexCast v8826_r0
  ![414, v8890_r0.toNat]
def k0_off639 (k0_t1 : Fin k0_t1_loop.trips) (c0_i32_2418_r0 : BitVec 32) : Fin 2 → Nat :=
  let c415_r0 : Index := 415#32
  let c0_i32_42_r0 : BitVec 32 := 0#32
  let c1_i32_43_r0 : BitVec 32 := 1#32
  let arg10_r0 : BitVec 32 := Scf.iv c0_i32_42_r0 c1_i32_43_r0 k0_t1
  let c512_i32_2417_r0 : BitVec 32 := 512#32
  let v8825_r0 : BitVec 32 := Scalar.muli arg10_r0 c512_i32_2417_r0
  let v8826_r0 : BitVec 32 := Scalar.addi v8825_r0 c0_i32_2418_r0
  let v8900_r0 : Index := Scalar.indexCast v8826_r0
  ![415, v8900_r0.toNat]
def k0_cond9 (k0_t1 : Fin k0_t1_loop.trips) : BitVec 1 :=
  let c0_i32_42_r0 : BitVec 32 := 0#32
  let c1_i32_43_r0 : BitVec 32 := 1#32
  let arg10_r0 : BitVec 32 := Scf.iv c0_i32_42_r0 c1_i32_43_r0 k0_t1
  let c2_i32_2462_r0 : BitVec 32 := 2#32
  let v8992_r0 : BitVec 1 := Scalar.cmpi .sge arg10_r0 c2_i32_2462_r0
  let v8993_r0 : BitVec 32 := Scalar.extui v8992_r0
  let c0_i32_2463_r0 : BitVec 32 := 0#32
  let v8994_r0 : BitVec 1 := Scalar.cmpi .ne v8993_r0 c0_i32_2463_r0
  v8994_r0

def k0_off640 (k0_t1 : Fin k0_t1_loop.trips) : Fin 1 → Nat :=
  let c0_i32_42_r0 : BitVec 32 := 0#32
  let c1_i32_43_r0 : BitVec 32 := 1#32
  let arg10_r0 : BitVec 32 := Scf.iv c0_i32_42_r0 c1_i32_43_r0 k0_t1
  let c2_i32_2496_r0 : BitVec 32 := 2#32
  let v9053_r0 : BitVec 32 := Scalar.subi arg10_r0 c2_i32_2496_r0
  let c2_i32_2504_r0 : BitVec 32 := 2#32
  let c0_i32_2505_r0 : BitVec 32 := 0#32
  let v9065_r0 : BitVec 1 := Scalar.cmpi .eq c2_i32_2504_r0 c0_i32_2505_r0
  let c1_i32_2506_r0 : BitVec 32 := 1#32
  let v9066_r0 : BitVec 32 := Scalar.select v9065_r0 c1_i32_2506_r0 c2_i32_2504_r0
  let v9067_r0 : BitVec 32 := Scalar.remsi v9053_r0 v9066_r0
  let c0_i32_2508_r0 : BitVec 32 := 0#32
  let v9069_r0 : BitVec 1 := Scalar.cmpi .slt v9067_r0 c0_i32_2508_r0
  let c0_i32_2509_r0 : BitVec 32 := 0#32
  let v9070_r0 : BitVec 1 := Scalar.cmpi .slt v9066_r0 c0_i32_2509_r0
  let v9071_r0 : BitVec 1 := Scalar.xori v9069_r0 v9070_r0
  let c0_i32_2507_r0 : BitVec 32 := 0#32
  let v9068_r0 : BitVec 1 := Scalar.cmpi .ne v9067_r0 c0_i32_2507_r0
  let v9072_r0 : BitVec 1 := Scalar.andi v9071_r0 v9068_r0
  let v9073_r0 : BitVec 32 := Scalar.addi v9067_r0 v9066_r0
  let v9074_r0 : BitVec 32 := Scalar.select v9072_r0 v9073_r0 v9067_r0
  ![v9074_r0.toNat]
def k0_off641 (k0_t1 : Fin k0_t1_loop.trips) : Fin 2 → Nat :=
  let c0_i32_2510_r0 : BitVec 32 := 0#32
  let c0_i32_42_r0 : BitVec 32 := 0#32
  let c1_i32_43_r0 : BitVec 32 := 1#32
  let arg10_r0 : BitVec 32 := Scf.iv c0_i32_42_r0 c1_i32_43_r0 k0_t1
  let c2_i32_2496_r0 : BitVec 32 := 2#32
  let v9053_r0 : BitVec 32 := Scalar.subi arg10_r0 c2_i32_2496_r0
  let c512_i32_2503_r0 : BitVec 32 := 512#32
  let v9064_r0 : BitVec 32 := Scalar.muli v9053_r0 c512_i32_2503_r0
  ![0, v9064_r0.toNat]
def k0_off642 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c2_i32_2496_r0 : BitVec 32 := 2#32
  let v9053_r0 : BitVec 32 := Scalar.subi arg10_r0 c2_i32_2496_r0
  let c2_i32_2497_r0 : BitVec 32 := 2#32
  let c0_i32_2498_r0 : BitVec 32 := 0#32
  let v9054_r0 : BitVec 1 := Scalar.cmpi .eq c2_i32_2497_r0 c0_i32_2498_r0
  let c1_i32_2499_r0 : BitVec 32 := 1#32
  let v9055_r0 : BitVec 32 := Scalar.select v9054_r0 c1_i32_2499_r0 c2_i32_2497_r0
  let v9056_r0 : BitVec 32 := Scalar.remsi v9053_r0 v9055_r0
  let c0_i32_2501_r0 : BitVec 32 := 0#32
  let v9058_r0 : BitVec 1 := Scalar.cmpi .slt v9056_r0 c0_i32_2501_r0
  let c0_i32_2502_r0 : BitVec 32 := 0#32
  let v9059_r0 : BitVec 1 := Scalar.cmpi .slt v9055_r0 c0_i32_2502_r0
  let v9060_r0 : BitVec 1 := Scalar.xori v9058_r0 v9059_r0
  let c0_i32_2500_r0 : BitVec 32 := 0#32
  let v9057_r0 : BitVec 1 := Scalar.cmpi .ne v9056_r0 c0_i32_2500_r0
  let v9061_r0 : BitVec 1 := Scalar.andi v9060_r0 v9057_r0
  let v9062_r0 : BitVec 32 := Scalar.addi v9056_r0 v9055_r0
  let v9063_r0 : BitVec 32 := Scalar.select v9061_r0 v9062_r0 v9056_r0
  let c0_i32_2511_r0 : BitVec 32 := 0#32
  let c0_i32_2512_r0 : BitVec 32 := 0#32
  ![v9063_r0.toNat, 0, 0]
def k0_off643 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c2_i32_2464_r0 : BitVec 32 := 2#32
  let c0_i32_2465_r0 : BitVec 32 := 0#32
  let v8997_r0 : BitVec 1 := Scalar.cmpi .eq c2_i32_2464_r0 c0_i32_2465_r0
  let c1_i32_2466_r0 : BitVec 32 := 1#32
  let v8998_r0 : BitVec 32 := Scalar.select v8997_r0 c1_i32_2466_r0 c2_i32_2464_r0
  let v8999_r0 : BitVec 32 := Scalar.remsi arg10_r0 v8998_r0
  let c0_i32_2468_r0 : BitVec 32 := 0#32
  let v9001_r0 : BitVec 1 := Scalar.cmpi .slt v8999_r0 c0_i32_2468_r0
  let c0_i32_2469_r0 : BitVec 32 := 0#32
  let v9002_r0 : BitVec 1 := Scalar.cmpi .slt v8998_r0 c0_i32_2469_r0
  let v9003_r0 : BitVec 1 := Scalar.xori v9001_r0 v9002_r0
  let c0_i32_2467_r0 : BitVec 32 := 0#32
  let v9000_r0 : BitVec 1 := Scalar.cmpi .ne v8999_r0 c0_i32_2467_r0
  let v9004_r0 : BitVec 1 := Scalar.andi v9003_r0 v9000_r0
  let v9005_r0 : BitVec 32 := Scalar.addi v8999_r0 v8998_r0
  let v9006_r0 : BitVec 32 := Scalar.select v9004_r0 v9005_r0 v8999_r0
  let v9007_r0 : Index := Scalar.indexCast v9006_r0
  let c0_2470_r0 : Index := 0#32
  let c0_2471_r0 : Index := 0#32
  ![v9007_r0.toNat, 0, 0]
def k0_off644 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c2_i32_2472_r0 : BitVec 32 := 2#32
  let c0_i32_2473_r0 : BitVec 32 := 0#32
  let v9013_r0 : BitVec 1 := Scalar.cmpi .eq c2_i32_2472_r0 c0_i32_2473_r0
  let c1_i32_2474_r0 : BitVec 32 := 1#32
  let v9014_r0 : BitVec 32 := Scalar.select v9013_r0 c1_i32_2474_r0 c2_i32_2472_r0
  let v9015_r0 : BitVec 32 := Scalar.remsi arg10_r0 v9014_r0
  let c0_i32_2476_r0 : BitVec 32 := 0#32
  let v9017_r0 : BitVec 1 := Scalar.cmpi .slt v9015_r0 c0_i32_2476_r0
  let c0_i32_2477_r0 : BitVec 32 := 0#32
  let v9018_r0 : BitVec 1 := Scalar.cmpi .slt v9014_r0 c0_i32_2477_r0
  let v9019_r0 : BitVec 1 := Scalar.xori v9017_r0 v9018_r0
  let c0_i32_2475_r0 : BitVec 32 := 0#32
  let v9016_r0 : BitVec 1 := Scalar.cmpi .ne v9015_r0 c0_i32_2475_r0
  let v9020_r0 : BitVec 1 := Scalar.andi v9019_r0 v9016_r0
  let v9021_r0 : BitVec 32 := Scalar.addi v9015_r0 v9014_r0
  let v9022_r0 : BitVec 32 := Scalar.select v9020_r0 v9021_r0 v9015_r0
  let v9023_r0 : Index := Scalar.indexCast v9022_r0
  let c0_2478_r0 : Index := 0#32
  let c256_2479_r0 : Index := 256#32
  ![v9023_r0.toNat, 0, 256]
def k0_off645 (k0_t1 : Fin k0_t1_loop.trips) : Fin 1 → Nat :=
  let c0_i32_42_r0 : BitVec 32 := 0#32
  let c1_i32_43_r0 : BitVec 32 := 1#32
  let arg10_r0 : BitVec 32 := Scf.iv c0_i32_42_r0 c1_i32_43_r0 k0_t1
  let c2_i32_2487_r0 : BitVec 32 := 2#32
  let c0_i32_2488_r0 : BitVec 32 := 0#32
  let v9038_r0 : BitVec 1 := Scalar.cmpi .eq c2_i32_2487_r0 c0_i32_2488_r0
  let c1_i32_2489_r0 : BitVec 32 := 1#32
  let v9039_r0 : BitVec 32 := Scalar.select v9038_r0 c1_i32_2489_r0 c2_i32_2487_r0
  let v9040_r0 : BitVec 32 := Scalar.remsi arg10_r0 v9039_r0
  let c0_i32_2491_r0 : BitVec 32 := 0#32
  let v9042_r0 : BitVec 1 := Scalar.cmpi .slt v9040_r0 c0_i32_2491_r0
  let c0_i32_2492_r0 : BitVec 32 := 0#32
  let v9043_r0 : BitVec 1 := Scalar.cmpi .slt v9039_r0 c0_i32_2492_r0
  let v9044_r0 : BitVec 1 := Scalar.xori v9042_r0 v9043_r0
  let c0_i32_2490_r0 : BitVec 32 := 0#32
  let v9041_r0 : BitVec 1 := Scalar.cmpi .ne v9040_r0 c0_i32_2490_r0
  let v9045_r0 : BitVec 1 := Scalar.andi v9044_r0 v9041_r0
  let v9046_r0 : BitVec 32 := Scalar.addi v9040_r0 v9039_r0
  let v9047_r0 : BitVec 32 := Scalar.select v9045_r0 v9046_r0 v9040_r0
  ![v9047_r0.toNat]
def k0_off646 (k0_t1 : Fin k0_t1_loop.trips) : Fin 2 → Nat :=
  let c0_i32_2493_r0 : BitVec 32 := 0#32
  let c0_i32_42_r0 : BitVec 32 := 0#32
  let c1_i32_43_r0 : BitVec 32 := 1#32
  let arg10_r0 : BitVec 32 := Scf.iv c0_i32_42_r0 c1_i32_43_r0 k0_t1
  let c512_i32_2486_r0 : BitVec 32 := 512#32
  let v9037_r0 : BitVec 32 := Scalar.muli arg10_r0 c512_i32_2486_r0
  ![0, v9037_r0.toNat]
def k0_off647 (k0_t1 : Fin k0_t1_loop.trips) : Fin 3 → Nat :=
  let c0_i32_42_r0 : BitVec 32 := 0#32
  let c1_i32_43_r0 : BitVec 32 := 1#32
  let arg10_r0 : BitVec 32 := Scf.iv c0_i32_42_r0 c1_i32_43_r0 k0_t1
  let c2_i32_2480_r0 : BitVec 32 := 2#32
  let c0_i32_2481_r0 : BitVec 32 := 0#32
  let v9027_r0 : BitVec 1 := Scalar.cmpi .eq c2_i32_2480_r0 c0_i32_2481_r0
  let c1_i32_2482_r0 : BitVec 32 := 1#32
  let v9028_r0 : BitVec 32 := Scalar.select v9027_r0 c1_i32_2482_r0 c2_i32_2480_r0
  let v9029_r0 : BitVec 32 := Scalar.remsi arg10_r0 v9028_r0
  let c0_i32_2484_r0 : BitVec 32 := 0#32
  let v9031_r0 : BitVec 1 := Scalar.cmpi .slt v9029_r0 c0_i32_2484_r0
  let c0_i32_2485_r0 : BitVec 32 := 0#32
  let v9032_r0 : BitVec 1 := Scalar.cmpi .slt v9028_r0 c0_i32_2485_r0
  let v9033_r0 : BitVec 1 := Scalar.xori v9031_r0 v9032_r0
  let c0_i32_2483_r0 : BitVec 32 := 0#32
  let v9030_r0 : BitVec 1 := Scalar.cmpi .ne v9029_r0 c0_i32_2483_r0
  let v9034_r0 : BitVec 1 := Scalar.andi v9033_r0 v9030_r0
  let v9035_r0 : BitVec 32 := Scalar.addi v9029_r0 v9028_r0
  let v9036_r0 : BitVec 32 := Scalar.select v9034_r0 v9035_r0 v9029_r0
  let c0_i32_2494_r0 : BitVec 32 := 0#32
  let c0_i32_2495_r0 : BitVec 32 := 0#32
  ![v9036_r0.toNat, 0, 0]
abbrev stage0_0 : Fin 1 → Memref sig .tc .vmem S416x16384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S96x1x13312 : Shape := ⟨3, ![96, 1, 13312]⟩
abbrev S13312x16384 : Shape := ⟨2, ![13312, 16384]⟩
abbrev S416x16384 : Shape := ⟨2, ![416, 16384]⟩
abbrev S416x32x16384 : Shape := ⟨3, ![416, 32, 16384]⟩
abbrev S416x1x16384 : Shape := ⟨3, ![416, 1, 16384]⟩
abbrev S96x1x16384 : Shape := ⟨3, ![96, 1, 16384]⟩

abbrev nBuf : Space → Nat
  | .hbm => 13
  | .vmem => 0
  | .smem => 0
  | _ => 0

abbrev bufTy : (tb : Table) → Fin (tcTables nBuf tb) → BufTy
  | .hbm, ⟨0, _⟩ => ⟨S96x1x13312, .bf16⟩
  | .hbm, ⟨1, _⟩ => ⟨S13312x16384, .i8⟩
  | .hbm, ⟨2, _⟩ => ⟨S416x16384, .f32⟩
  | .hbm, ⟨3, _⟩ => ⟨S13312x16384, .i32⟩
  | .hbm, ⟨4, _⟩ => ⟨S13312x16384, .f32⟩
  | .hbm, ⟨5, _⟩ => ⟨S416x32x16384, .f32⟩
  | .hbm, ⟨6, _⟩ => ⟨S416x1x16384, .f32⟩
  | .hbm, ⟨7, _⟩ => ⟨S416x32x16384, .f32⟩
  | .hbm, ⟨8, _⟩ => ⟨S416x32x16384, .f32⟩
  | .hbm, ⟨9, _⟩ => ⟨S416x32x16384, .bf16⟩
  | .hbm, ⟨10, _⟩ => ⟨S13312x16384, .bf16⟩
  | .hbm, ⟨11, _⟩ => ⟨S96x1x16384, .f32⟩
  | .hbm, ⟨12, _⟩ => ⟨S96x1x16384, .bf16⟩
  | _, _ => ⟨S96x1x13312, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Proof.Rolled.lean ====
module

public import proofs.«01_k».proof.Proof.Gen.Kernel.Skeleton

@[expose] public section

noncomputable section

namespace Cert.Kernel.K

open Idealize.ShloMosaic Idealize.SL.Sem Cert.Kernel Cert.Kernel.Gen

variable {F : FTy → Type} [FloatOps F]

/-- The ring slot chunk `c` of trip `k` reads, as the kernel computes it. -/
def slotW (k : Fin k0_t1_loop.trips) (c : Nat) : Nat := k0_off9 k (BitVec.ofNat 32 c) 0

/-- The first column of unit `q`'s half of the panel of trip `k`, as the kernel computes it. -/
def colW (k : Fin k0_t1_loop.trips) (q : Nat) : Nat := k0_off10 k (BitVec.ofNat 32 (256 * q)) 1

/-- Where block `b` of unit `q`'s tile `t` of chunk `c` lies in the ring of weight slots. -/
def offC (k : Fin k0_t1_loop.trips) (c t q b : Nat) : Fin 3 → Nat := ![slotW k c, 256 * t + 32 * b, 256 * q]

/-- Where the scales of that block lie. -/
def offS (k : Fin k0_t1_loop.trips) (c t q b : Nat) : Fin 2 → Nat := ![(13 * c + t) * 8 + b, colW k q]

theorem slotW_lt : ∀ k : Fin k0_t1_loop.trips, ∀ c : Fin 4, slotW k c.val + 1 ≤ 6 := by decide +kernel
theorem colW_le : ∀ k : Fin k0_t1_loop.trips, ∀ q : Fin 2, colW k q.val + 256 ≤ 16384 := by decide +kernel

theorem offC_inb (k : Fin k0_t1_loop.trips) (c : Fin 4) (t : Fin 13) (q : Fin 2) (b : Fin 8) :
    ∀ a, offC k c.val t.val q.val b.val a + S1x32x256.size a ≤ S6x3328x512.size a := by
  intro a
  have h1 := slotW_lt k c
  have := t.isLt
  have := q.isLt
  have := b.isLt
  fin_cases a
  · exact h1
  · show 256 * t.val + 32 * b.val + 32 ≤ 3328
    omega
  · show 256 * q.val + 256 ≤ 512
    omega

theorem offS_inb (k : Fin k0_t1_loop.trips) (c : Fin 4) (t : Fin 13) (q : Fin 2) (b : Fin 8) :
    ∀ a, offS k c.val t.val q.val b.val a + S1x256.size a ≤ S416x16384.size a := by
  intro a
  have h1 := colW_le k q
  have := t.isLt
  have := c.isLt
  have := b.isLt
  fin_cases a
  · show (13 * c.val + t.val) * 8 + b.val + 1 ≤ 416
    omega
  · exact h1

theorem offX_inb (c : Fin 4) (t : Fin 13) :
    ∀ a, (![0, 256 * (13 * c.val + t.val)] : Fin 2 → Nat) a + S96x256.size a ≤ S96x13312.size a := by
  intro a
  have := t.isLt
  have := c.isLt
  fin_cases a
  · show 0 + 96 ≤ 96
    omega
  · show 256 * (13 * c.val + t.val) + 256 ≤ 13312
    omega

variable (arg2 : Memref sig .tc .vmem S416x16384 .f32) (arg4 : Memref sig .tc .vmem S96x13312 .bf16)
  (arg5 : Memref sig .tc .vmem S6x3328x512 .i8)

/-- Thirty-two rows of weights: the codes times their block's scales. -/
def wBlk (u : Vec F S1x32x256 .i8) (v : Vec F S1x256 .f32) : FVec F S32x256 .bf16 :=
  truncf .bf16 (mulf (extf .f32 (sitofp .bf16 (shapeCast S32x256 u shapeCasts_S1x32x256_S32x256) : FVec F S32x256 .bf16) bitsLt_bf16_f32)
    (broadcastTo S32x256 v broadcasts_S1x256_S32x256)) bitsLt_bf16_f32

/-- Eight blocks of weights one below the other: a tile. -/
def wTile (w : Fin 8 → FVec F S32x256 .bf16) : FVec F S256x256 .bf16 :=
  concatenate S256x256 0 [⟨S32x256, w 0⟩, ⟨S32x256, w 1⟩, ⟨S32x256, w 2⟩, ⟨S32x256, w 3⟩, ⟨S32x256, w 4⟩, ⟨S32x256, w 5⟩, ⟨S32x256, w 6⟩, ⟨S32x256, w 7⟩]
    concatenates_S32x256_S32x256_S32x256_S32x256_S32x256_S32x256_S32x256_S32x256_S256x256_d0

/-- Loading one block of weights. -/
def loadBlk (k : Fin k0_t1_loop.trips) (c : Fin 4) (t : Fin 13) (q : Fin 2) (b : Fin 8) :
    Prog (TpuEff nD τ sig (Elt F) Λ₀ .tc) (FVec F S32x256 .bf16) := do
  let u : Vec F S1x32x256 .i8 ← Prog.lift (.load arg5 (Rect.unit (s := S6x3328x512) (offC k c.val t.val q.val b.val) S1x32x256.size (offC_inb k c t q b)).toLoadRect (View.loadsAt_vmem h_S1x32x256))
  let v : Vec F S1x256 .f32 ← Prog.lift (.load arg2 (Rect.unit (s := S416x16384) (offS k c.val t.val q.val b.val) S1x256.size (offS_inb k c t q b)).toLoadRect (View.loadsAt_vmem h_S1x256))
  pure (wBlk u v)

/-- Loading a tile of weights, block by block. -/
def loadTile (k : Fin k0_t1_loop.trips) (c : Fin 4) (t : Fin 13) (q : Fin 2) :
    Prog (TpuEff nD τ sig (Elt F) Λ₀ .tc) (FVec F S256x256 .bf16) := do
  let w0 ← loadBlk arg2 arg5 k c t q 0
  let w1 ← loadBlk arg2 arg5 k c t q 1
  let w2 ← loadBlk arg2 arg5 k c t q 2
  let w3 ← loadBlk arg2 arg5 k c t q 3
  let w4 ← loadBlk arg2 arg5 k c t q 4
  let w5 ← loadBlk arg2 arg5 k c t q 5
  let w6 ← loadBlk arg2 arg5 k c t q 6
  let w7 ← loadBlk arg2 arg5 k c t q 7
  pure (wTile ![w0, w1, w2, w3, w4, w5, w6, w7])

/-- One tile of the contraction: both units' weights staged, and the columns of the left operand multiplied by them. -/
def tile (k : Fin k0_t1_loop.trips) (c : Fin 4) (t : Fin 13) (s : Mxu F) : Prog (TpuEff nD τ sig (Elt F) Λ₀ .tc) (Mxu F) := do
  let w0 ← loadTile arg2 arg5 k c t 0
  let s ← s.pushRhs 0 (Fin.ofNat 2 t.val) false w0
  let w1 ← loadTile arg2 arg5 k c t 1
  let s ← s.pushRhs 1 (Fin.ofNat 2 t.val) false w1
  let x : Vec F S96x256 .bf16 ← Prog.lift (.load arg4 (Rect.unit (s := S96x13312) ![0, 256 * (13 * c.val + t.val)] S96x256.size (offX_inb c t)).toLoadRect (View.loadsAt_vmem h_S96x256))
  pure ((s.accLhs 0 (Fin.ofNat 2 t.val) 0 (M := 96) (φ := .bf16) x fits_0_96).accLhs 1 (Fin.ofNat 2 t.val) 0 (M := 96) (φ := .bf16) x fits_0_96)

/-- Tiles `t, t + 1, …, t + n - 1` of a chunk. -/
def tilesFrom (k : Fin k0_t1_loop.trips) (c : Fin 4) : (n t : Nat) → t + n ≤ 13 → Mxu F → Prog (TpuEff nD τ sig (Elt F) Λ₀ .tc) (Mxu F)
  | 0, _, _, s => pure s
  | n + 1, t, h, s => (tile arg2 arg4 arg5 k c ⟨t, by omega⟩ s).bind fun s => tilesFrom k c n (t + 1) (by omega) s

variable (arg0 : Memref sig .tc .hbm S96x13312 .bf16) (harg0 : arg0.IsWhole) (arg1 : Memref sig .tc .hbm S13312x16384 .i8) (harg1 : arg1.IsWhole)
  (arg3 : Memref sig .tc .hbm S96x16384 .bf16) (harg3 : arg3.IsWhole) (harg4 : arg4.IsWhole) (harg5 : arg5.IsWhole)
  (arg6 : Memref sig .tc .vmem S2x96x512 .bf16) (harg6 : arg6.IsWhole) (arg7 : DmaSems sig S4) (arg8 : DmaSems sig S6) (arg9 : DmaSems sig S2)

theorem semX_inb (c : Fin 4) : ∀ a, (![c.val] : Fin 1 → Nat) a + S1.size a ≤ S4.size a := by revert c; decide
theorem colsX_inb (c : Fin 4) : ∀ a, (![0, 3328 * c.val] : Fin 2 → Nat) a + S96x3328.size a ≤ S96x13312.size a := by revert c; decide
theorem colsX_words (c : Fin 4) :
    (Rect.unit (s := S96x13312) ![0, 3328 * c.val] S96x3328.size (colsX_inb c)).WholeWords (EltTy.packing .bf16) := by revert c; decide

/-- In the first trip, waiting for the columns chunk `c` of the left operand. -/
def waitX (k : Fin k0_t1_loop.trips) (c : Fin 4) : Prog (TpuEff nD τ sig (Elt F) Λ₀ .tc) PUnit :=
  if Scalar.cmpi .ne (Scalar.extui (Scalar.cmpi .eq (Scf.iv 0#32 1#32 k) 0#32) : BitVec 32) 0#32 = 1#1 then
    Prog.lift (.waitDma2 ((arg7.slice (Rect.unit (s := S4) ![c.val] S1.size (semX_inb c))).squeeze S_ squeezes_S1_S_).sem
      (arg0.slice (Rect.unit (s := S96x13312) ![0, 3328 * c.val] S96x3328.size (colsX_inb c)) (fun _ => rfl))
      (arg4.slice (Rect.unit (s := S96x13312) ![0, 3328 * c.val] S96x3328.size (colsX_inb c)) (fun _ => rfl))
      (harg0.wordExact_slice rfl _ (colsX_words c)) (harg4.wordExact_slice rfl _ (colsX_words c)))
  else pure ⟨⟩

/-- Waiting for the weights of chunk `c` of the panel of trip `k`. -/
def waitW (k : Fin k0_t1_loop.trips) (c : Fin 4) : Prog (TpuEff nD τ sig (Elt F) Λ₀ .tc) PUnit :=
  Prog.lift (.waitDma2 ((arg8.slice (Rect.unit (s := S6) (k0_off1 k (BitVec.ofNat 32 c.val)) S1.size (k0_off1_inb k c))).squeeze S_ squeezes_S1_S_).sem
    (arg1.slice (Rect.unit (s := S13312x16384) (k0_off3 k (BitVec.ofNat 32 c.val)) S3328x512.size (k0_off3_inb k c)) (fun _ => rfl))
    ((arg5.slice (Rect.unit (s := S6x3328x512) (k0_off2 k (BitVec.ofNat 32 c.val)) S1x3328x512.size (k0_off2_inb k c)) (fun _ => rfl)).squeeze S3328x512 squeezes_S1x3328x512_S3328x512)
    (harg1.wordExact_slice rfl _ (k0_off3_wordsi8 k c)) ((harg5.wordExact_slice rfl _ (k0_off2_wordsi8 k c)).reshape _ _))

/-- Where the weights of step `n` go: a ring of six slots. -/
def offSlot (n : Nat) : Fin 3 → Nat := ![n % 6, 0, 0]
/-- Where the weights of step `n` come from. -/
def offSrc (n : Nat) : Fin 2 → Nat := ![3328 * (n % 4), 512 * (n / 4)]

theorem semW_inb (n : Nat) : ∀ a, (![n % 6] : Fin 1 → Nat) a + S1.size a ≤ S6.size a := by
  intro a
  fin_cases a
  show n % 6 + 1 ≤ 6
  omega
theorem offSlot_inb (n : Nat) : ∀ a, offSlot n a + S1x3328x512.size a ≤ S6x3328x512.size a := by
  intro a
  fin_cases a
  · show n % 6 + 1 ≤ 6
    omega
  · show 0 + 3328 ≤ 3328
    omega
  · show 0 + 512 ≤ 512
    omega
theorem offSrc_inb (n : Nat) (h : n < 128) : ∀ a, offSrc n a + S3328x512.size a ≤ S13312x16384.size a := by
  intro a
  fin_cases a
  · show 3328 * (n % 4) + 3328 ≤ 13312
    omega
  · show 512 * (n / 4) + 512 ≤ 16384
    omega
theorem offSlot_words (n : Nat) :
    (Rect.unit (s := S6x3328x512) (offSlot n) S1x3328x512.size (offSlot_inb n)).WholeWords (EltTy.packing .i8) := by
  have h : ∀ m : Fin 6, (Rect.unit (s := S6x3328x512) (offSlot m.val) S1x3328x512.size (offSlot_inb m.val)).WholeWords (EltTy.packing .i8) := by decide +kernel
  have e : offSlot n = offSlot (n % 6) := by simp only [offSlot, Nat.mod_mod]
  have := h ⟨n % 6, by omega⟩
  simpa only [e] using this
theorem offSrc_words : ∀ n : Fin 128,
    (Rect.unit (s := S13312x16384) (offSrc n.val) S3328x512.size (offSrc_inb n.val n.isLt)).WholeWords (EltTy.packing .i8) := by decide +kernel

/-- Starting the copy of the weights of step `n`, if there is such a step. -/
def startW (n : Nat) : Prog (TpuEff nD τ sig (Elt F) Λ₀ .tc) PUnit :=
  if h : n < 128 then
    Prog.lift (.enqueueDma
      (arg1.slice (Rect.unit (s := S13312x16384) (offSrc n) S3328x512.size (offSrc_inb n h)) (fun _ => rfl))
      (.here ((arg5.slice (Rect.unit (s := S6x3328x512) (offSlot n) S1x3328x512.size (offSlot_inb n)) (fun _ => rfl)).squeeze S3328x512 squeezes_S1x3328x512_S3328x512))
      (.dma ((arg8.slice (Rect.unit (s := S6) ![n % 6] S1.size (semW_inb n))).squeeze S_ squeezes_S1_S_).sem)
      (harg1.wordExact_slice rfl _ (offSrc_words ⟨n, h⟩)) ((harg5.wordExact_slice rfl _ (offSlot_words n)).reshape _ _) ⟨Or.inl rfl, trivial⟩)
  else pure ⟨⟩

/-- Chunk `c` of the panel of trip `k`: the waits, the copy started ahead, and the thirteen tiles. -/
def chunk (k : Fin k0_t1_loop.trips) (c : Fin 4) (s : Mxu F) : Prog (TpuEff nD τ sig (Elt F) Λ₀ .tc) (Mxu F) := do
  waitX arg4 arg0 harg0 harg4 arg7 k c
  waitW arg5 arg1 harg1 harg5 arg8 k c
  startW arg5 arg1 harg1 harg5 arg8 (4 * k.val + c.val + 5)
  tilesFrom arg2 arg4 arg5 k c 13 0 (by decide) s

/-- The first conditional of the panel's end: before the result's slot is written again, waiting for the copy that reads it. -/
def waitO (k : Fin k0_t1_loop.trips) : Prog (TpuEff nD τ sig (Elt F) Λ₀ .tc) PUnit :=
  if h : k0_cond9 k = 1#1 then
    Prog.lift (.waitDma2 ((arg9.slice (Rect.unit (s := S2) (k0_off640 k) S1.size (k0_off640_inb k h))).squeeze S_ squeezes_S1_S_).sem
      ((arg6.slice (Rect.unit (s := S2x96x512) (k0_off642 k) S1x96x512.size (k0_off642_inb k h)) (fun _ => rfl)).squeeze S96x512 squeezes_S1x96x512_S96x512)
      (arg3.slice (Rect.unit (s := S96x16384) (k0_off641 k) S96x512.size (k0_off641_inb k h)) (fun _ => rfl))
      ((harg6.wordExact_slice rfl _ (k0_off642_wordsbf16 k h)).reshape _ _) (harg3.wordExact_slice rfl _ (k0_off641_wordsbf16 k h)))
  else pure ⟨⟩

/-- The panel's end: the accumulators popped, rounded and stored in the result's slot, and the slot's copy out started. -/
def finish (k : Fin k0_t1_loop.trips) (s : Mxu F) : Prog (TpuEff nD τ sig (Elt F) Λ₀ .tc) (Mxu F) := do
  waitO arg3 harg3 arg6 harg6 arg9 k
  let _ : Vec F S1x96x256 .bf16 ← Prog.lift (.load arg6 (Rect.unit (s := S2x96x512) (k0_off643 k) S1x96x256.size (k0_off643_inb k)).toLoadRect (View.loadsAt_vmem h_S1x96x256))
  Prog.lift (.store arg6 (Rect.unit (s := S2x96x512) (k0_off643 k) S1x96x256.size (k0_off643_inb k)) (k0_pay808 (s.read 0 0 fits_0_96)) Finset.univ (View.stores_vmem h_S1x96x256 (harg6.storeExact_slice rfl _ (k0_off643_packedbf16 k)) (fun _ => rfl)) (.inl rfl))
  let _ : Vec F S1x96x256 .bf16 ← Prog.lift (.load arg6 (Rect.unit (s := S2x96x512) (k0_off644 k) S1x96x256.size (k0_off644_inb k)).toLoadRect (View.loadsAt_vmem h_S1x96x256))
  Prog.lift (.store arg6 (Rect.unit (s := S2x96x512) (k0_off644 k) S1x96x256.size (k0_off644_inb k)) (k0_pay809 ((s.pop 0 0 96 fits_0_96).read 1 0 fits_0_96)) Finset.univ (View.stores_vmem h_S1x96x256 (harg6.storeExact_slice rfl _ (k0_off644_packedbf16 k)) (fun _ => rfl)) (.inl rfl))
  Prog.lift (.enqueueDma
    ((arg6.slice (Rect.unit (s := S2x96x512) (k0_off647 k) S1x96x512.size (k0_off647_inb k)) (fun _ => rfl)).squeeze S96x512 squeezes_S1x96x512_S96x512)
    (.here (arg3.slice (Rect.unit (s := S96x16384) (k0_off646 k) S96x512.size (k0_off646_inb k)) (fun _ => rfl)))
    (.dma ((arg9.slice (Rect.unit (s := S2) (k0_off645 k) S1.size (k0_off645_inb k))).squeeze S_ squeezes_S1_S_).sem)
    ((harg6.wordExact_slice rfl _ (k0_off647_wordsbf16 k)).reshape _ _) (harg3.wordExact_slice rfl _ (k0_off646_wordsbf16 k)) ⟨Or.inl rfl, trivial⟩)
  pure ((s.pop 0 0 96 fits_0_96).pop 1 0 96 fits_0_96)

/-- One trip of the kernel's loop, rolled up: the four chunks of a panel and the panel's end. -/
def trip (k : Fin k0_t1_loop.trips) (s : Mxu F) : Prog (TpuEff nD τ sig (Elt F) Λ₀ .tc) (Mxu F) := do
  let s ← chunk arg2 arg4 arg5 arg0 harg0 arg1 harg1 harg4 harg5 arg7 arg8 k 0 s
  let s ← chunk arg2 arg4 arg5 arg0 harg0 arg1 harg1 harg4 harg5 arg7 arg8 k 1 s
  let s ← chunk arg2 arg4 arg5 arg0 harg0 arg1 harg1 harg4 harg5 arg7 arg8 k 2 s
  let s ← chunk arg2 arg4 arg5 arg0 harg0 arg1 harg1 harg4 harg5 arg7 arg8 k 3 s
  finish arg3 harg3 arg6 harg6 arg9 k s

end Cert.Kernel.K
-- ==== Proof.Fold.lean ====
module

public import proofs.«01_k».proof.Proof.Rolled

@[expose] public section

noncomputable section

namespace Cert.Kernel.K

open Idealize.ShloMosaic Idealize.SL.Sem Cert.Kernel Cert.Kernel.Gen

variable {F : FTy → Type} [FloatOps F]

/-- The left operand at a row and a column given as numbers. -/
def xAt (x : Vec F S96x13312 .bf16) (r c : Nat) : Elt F .bf16 := x (Mxu.ix (m := 96) (n := 13312) (Fin.ofNat 96 r) (Fin.ofNat 13312 c))
/-- The codes at a row and a column given as numbers. -/
def wAt (w : Vec F S13312x16384 .i8) (r c : Nat) : Elt F .i8 := w (Mxu.ix (m := 13312) (n := 16384) (Fin.ofNat 13312 r) (Fin.ofNat 16384 c))
/-- The scales at a row and a column given as numbers. -/
def dAt (d : Vec F S416x16384 .f32) (r c : Nat) : Elt F .f32 := d (Mxu.ix (m := 416) (n := 16384) (Fin.ofNat 416 r) (Fin.ofNat 16384 c))

variable (x : Vec F S96x13312 .bf16) (w : Vec F S13312x16384 .i8) (d : Vec F S416x16384 .f32)

/-- What a slot of the ring holds once the weights of step `n` have landed in it. -/
def wRing (n : Nat) : Vec F S6x3328x512 .i8 := fun i => wAt w (3328 * (n % 4) + (i 1).val) (512 * (n / 4) + (i 2).val)

/-- The codes of block `b` of unit `q`'s tile `t` of step `n`. -/
def codesV (n t q b : Nat) : Vec F S1x32x256 .i8 := fun i =>
  wAt w (3328 * (n % 4) + (256 * t + 32 * b + (i 1).val)) (512 * (n / 4) + (256 * q + (i 2).val))
/-- Their scales. -/
def scalesV (n t q b : Nat) : Vec F S1x256 .f32 := fun i => dAt d ((13 * (n % 4) + t) * 8 + b) (512 * (n / 4) + 256 * q + (i 1).val)
/-- The columns of the left operand that tile `t` of step `n` multiplies. -/
def colsV (n t : Nat) : Vec F S96x256 .bf16 := fun i => xAt x (i 0).val (256 * (13 * (n % 4) + t) + (i 1).val)

/-- The weights unit `q` is given for tile `t` of step `n`. -/
def tileW (n t q : Nat) : FVec F S256x256 .bf16 := wTile fun b => wBlk (codesV w n t q b.val) (scalesV d n t q b.val)

/-- The matrix units after tile `t` of step `n`. -/
def tileV (n t : Nat) (s : Mxu F) : Mxu F :=
  ((((s.pushed 0 (Fin.ofNat 2 t) false (tileW w d n t 0)).pushed 1 (Fin.ofNat 2 t) false (tileW w d n t 1)).accLhs 0 (Fin.ofNat 2 t) 0 (M := 96) (φ := .bf16)
    (colsV x n t) fits_0_96).accLhs 1 (Fin.ofNat 2 t) 0 (M := 96) (φ := .bf16) (colsV x n t) fits_0_96)

/-- The matrix units after tiles `t, …, t + m - 1` of step `n`. -/
def tilesV (n : Nat) : (m t : Nat) → Mxu F → Mxu F
  | 0, _, s => s
  | m + 1, t, s => tilesV n m (t + 1) (tileV x w d n t s)

/-- The matrix units after the four steps of panel `p`. -/
def panelV (p : Nat) (s : Mxu F) : Mxu F :=
  tilesV x w d (4 * p + 3) 13 0 (tilesV x w d (4 * p + 2) 13 0 (tilesV x w d (4 * p + 1) 13 0 (tilesV x w d (4 * p + 0) 13 0 s)))

/-- The matrix units before panel `p`. -/
def stateV : Nat → Mxu F
  | 0 => Mxu.init
  | p + 1 => ((panelV x w d p (stateV p)).pop 0 0 96 fits_0_96).pop 1 0 96 fits_0_96

/-- The matrix units when the accumulators of panel `p` are complete. -/
def fullV (p : Nat) : Mxu F := panelV x w d p (stateV x w d p)

/-- The first 256 columns of panel `p` of the result. -/
def leftV (p : Nat) : Vec F S1x96x256 .bf16 := k0_pay808 ((fullV x w d p).read 0 0 fits_0_96)
/-- The last 256 columns of panel `p` of the result. -/
def rightV (p : Nat) : Vec F S1x96x256 .bf16 := k0_pay809 (((fullV x w d p).pop 0 0 96 fits_0_96).read 1 0 fits_0_96)

/-- The result at a row and a column of panel `p`, both given as numbers. -/
def outAt (p r c : Nat) : Elt F .bf16 :=
  if c < 256 then leftV x w d p (fun a => match a with | ⟨0, _⟩ => (0 : Fin 1) | ⟨1, _⟩ => Fin.ofNat 96 r | ⟨2, _⟩ => Fin.ofNat 256 c)
  else rightV x w d p (fun a => match a with | ⟨0, _⟩ => (0 : Fin 1) | ⟨1, _⟩ => Fin.ofNat 96 r | ⟨2, _⟩ => Fin.ofNat 256 c)

/-- What a slot of the result's buffer holds once panel `p` has been stored in it. -/
def oBuf (p : Nat) : Vec F S2x96x512 .bf16 := fun i => outAt x w d p (i 1).val (i 2).val

/-- The whole result. -/
def outV : Vec F S96x16384 .bf16 := fun i => outAt x w d ((i 1).val / 512) (i 0).val ((i 1).val % 512)

/-! ## The matrix units' registers and liveness -/

/-- No staging register holds a tile, and only the rows the kernel uses can be live. -/
structure Clear (s : Mxu F) : Prop where
  reg : ∀ q r, s.reg q r = none
  live : ∀ q (R : Fin 1024), 96 ≤ R.val → s.live q R = false

theorem clear_init : Clear (Mxu.init : Mxu F) := ⟨fun _ _ => rfl, fun _ _ _ => rfl⟩

theorem clear_tileV {s : Mxu F} (h : Clear s) (n t : Nat) : Clear (tileV x w d n t s) := by
  constructor
  · intro q r
    unfold tileV
    by_cases h1 : q = 1 ∧ r = Fin.ofNat 2 t
    · obtain ⟨rfl, rfl⟩ := h1
      exact Mxu.reg_accLhs _ _ _ _ _ _
    · rw [Mxu.reg_accLhs_ne _ _ _ _ _ _ _ _ h1]
      by_cases h0 : q = 0 ∧ r = Fin.ofNat 2 t
      · obtain ⟨rfl, rfl⟩ := h0
        exact Mxu.reg_accLhs _ _ _ _ _ _
      · rw [Mxu.reg_accLhs_ne _ _ _ _ _ _ _ _ h0, Mxu.reg_pushed_ne _ _ _ _ _ _ _ h1, Mxu.reg_pushed_ne _ _ _ _ _ _ _ h0]
        exact h.reg q r
  · intro q R hR
    unfold tileV
    rw [Mxu.live_accLhs, Mxu.live_accLhs, if_neg (by omega), if_neg (by omega), Mxu.live_pushed, Mxu.live_pushed]
    exact h.live q R hR

theorem clear_tilesV (n m : Nat) : ∀ (t : Nat) {s : Mxu F}, Clear s → Clear (tilesV x w d n m t s) := by
  induction m with
  | zero => exact fun t s h => h
  | succ m ih => exact fun t s h => ih (t + 1) (clear_tileV x w d h n t)

theorem clear_panelV (p : Nat) {s : Mxu F} (h : Clear s) : Clear (panelV x w d p s) :=
  clear_tilesV _ _ _ _ _ _ (clear_tilesV _ _ _ _ _ _ (clear_tilesV _ _ _ _ _ _ (clear_tilesV _ _ _ _ _ _ h)))

/-- Reading both accumulators out leaves the matrix units drained. -/
theorem drained_pop {s : Mxu F} (h : Clear s) : ((s.pop 0 0 96 fits_0_96).pop 1 0 96 fits_0_96).Drained := by
  constructor
  · intro q r
    rw [Mxu.reg_pop, Mxu.reg_pop, h.reg q r]
    rfl
  · intro q R
    rw [Mxu.live_pop, Mxu.live_pop]
    by_cases hR : 96 ≤ R.val
    · rw [if_neg (by omega), if_neg (by omega), h.live q R hR]
    · have hq : q = 0 ∨ q = 1 := by revert q; decide
      rcases hq with rfl | rfl
      · rw [if_neg (by simp), if_pos ⟨rfl, by omega, by omega⟩]
      · rw [if_pos ⟨rfl, by omega, by omega⟩]

theorem clear_of_drained {s : Mxu F} (h : s.Drained) : Clear s :=
  ⟨fun q r => Option.isNone_iff_eq_none.mp (h.1 q r), fun q R _ => h.2 q R⟩

/-- Before every panel the matrix units are drained. -/
theorem drained_stateV : ∀ p : Nat, (stateV x w d p).Drained
  | 0 => Mxu.init_drained
  | p + 1 => drained_pop (clear_panelV x w d p (clear_of_drained (drained_stateV p)))

theorem clear_stateV (p : Nat) : Clear (stateV x w d p) := clear_of_drained (drained_stateV x w d p)

end Cert.Kernel.K
-- ==== Proof.Tile.lean ====
module

public import proofs.«01_k».proof.Proof.Fold
public import Idealize.ShloMosaic.Lib.Pipeline.FrameBody
public import Idealize.ShloMosaic.Lib.Tactic

@[expose] public section

noncomputable section

namespace Cert.Kernel.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's buffers: the left operand, the codes and the result as they lie outside, and the three the kernel copies through. -/
abbrev mX : Memref sig .tc .hbm S96x13312 .bf16 := Memref.whole main_v0
abbrev mW : Memref sig .tc .hbm S13312x16384 .i8 := Memref.whole main_arg1
abbrev mO : Memref sig .tc .hbm S96x16384 .bf16 := Memref.whole main_v1
abbrev bX : Memref sig .tc .vmem S96x13312 .bf16 := Memref.whole cc0_scratch0
abbrev bW : Memref sig .tc .vmem S6x3328x512 .i8 := Memref.whole cc0_scratch1
abbrev bO : Memref sig .tc .vmem S2x96x512 .bf16 := Memref.whole cc0_scratch2

/-- The elements of the ring that the weights of step `n` go to. -/
def slotSet (n : Nat) : Finset S6x3328x512.Idx := (Rect.unit (s := S6x3328x512) (offSlot n) S1x3328x512.size (offSlot_inb n)).set
/-- The columns chunk `c` of the left operand's buffer. -/
def colsSet (c : Fin 4) : Finset S96x13312.Idx := (Rect.unit (s := S96x13312) ![0, 3328 * c.val] S96x3328.size (colsX_inb c)).set

theorem mem_slotSet {n : Nat} {i : S6x3328x512.Idx} : i ∈ slotSet n ↔ (i 0).val = n % 6 := by
  unfold slotSet
  rw [Rect.mem_set_unit]
  constructor
  · intro h
    have h0 := h 0
    have e0 : offSlot n 0 = n % 6 := rfl
    have e1 : S1x3328x512.size 0 = 1 := rfl
    omega
  · intro h a
    have h1 : (i 1).val < 3328 := (i 1).isLt
    have h2 : (i 2).val < 512 := (i 2).isLt
    fin_cases a
    · show n % 6 ≤ (i 0).val ∧ (i 0).val < n % 6 + 1
      omega
    · show 0 ≤ (i 1).val ∧ (i 1).val < 0 + 3328
      omega
    · show 0 ≤ (i 2).val ∧ (i 2).val < 0 + 512
      omega

theorem mem_colsSet {c : Fin 4} {i : S96x13312.Idx} : i ∈ colsSet c ↔ 3328 * c.val ≤ (i 1).val ∧ (i 1).val < 3328 * c.val + 3328 := by
  unfold colsSet
  rw [Rect.mem_set_unit]
  constructor
  · intro h
    exact h 1
  · intro h a
    have h0 : (i 0).val < 96 := (i 0).isLt
    fin_cases a
    · show 0 ≤ (i 0).val ∧ (i 0).val < 0 + 96
      omega
    · exact h

theorem slotW_eq : ∀ k : Fin k0_t1_loop.trips, ∀ c : Fin 4, slotW k c.val = (4 * k.val + c.val) % 6 := by decide +kernel
theorem colW_eq : ∀ k : Fin k0_t1_loop.trips, ∀ q : Fin 2, colW k q.val = 512 * k.val + 256 * q.val := by decide +kernel

variable (c : Dev nD)

variable (x : Vec F S96x13312 .bf16) (w : Vec F S13312x16384 .i8) (d : Vec F S416x16384 .f32)

/-- The slot of step `n`, holding the weights of step `n`. -/
def slotPt (n : Nat) : sProp 𝕄 := (bW.view.loc (c : Thread nD τ)) ↦[slotSet n]{fullShare} (wRing w n : Buf (Elt F) (bW.view.loc (c : Thread nD τ)))
/-- Columns chunk `j` of the left operand's buffer, holding the left operand's. -/
def colsPt (j : Fin 4) : sProp 𝕄 := (bX.view.loc (c : Thread nD τ)) ↦[colsSet j]{fullShare} (x : Buf (Elt F) (bX.view.loc (c : Thread nD τ)))

abbrev W {α : Type} (p : Prog (TpuEff nD τ sig (Elt F) Λ₀ .tc) α) (Q : α → sProp 𝕄) : sProp 𝕄 :=
  wp frame (wpE (defs₀ (F := F)) Variants.none (c : Thread nD τ) none) Set.univ p Q

variable (arg2 : Memref sig .tc .vmem S416x16384 .f32)

/-- Running `p` from `P` leads to the result `v` and to `P'`. -/
def T {α : Type} (P : sProp 𝕄) (p : Prog (TpuEff nD τ sig (Elt F) Λ₀ .tc) α) (v : α) (P' : sProp 𝕄) : Prop :=
  ∀ Q : α → sProp 𝕄, iprop(P ∗ (P' -∗ Q v)) ⊢ W c p Q

variable {c} in
theorem T.bind {α β : Type} {P P' P'' : sProp 𝕄} {p : Prog (TpuEff nD τ sig (Elt F) Λ₀ .tc) α} {k : α → Prog (TpuEff nD τ sig (Elt F) Λ₀ .tc) β} {v : α} {u : β}
    (h : T c P p v P') (h' : T c P' (k v) u P'') : T c P (p >>= k) u P'' := by
  intro Q
  unfold W
  rw [wp_bind]
  iintro ⟨HP, HQ⟩
  iapply (h fun a => W c (k a) Q)
  isplitl [HP]
  · iexact HP
  iintro HP'
  iapply (h' Q)
  isplitl [HP']
  · iexact HP'
  iexact HQ

variable {c} in
theorem T.pure {α : Type} {P : sProp 𝕄} (v : α) : T c P (pure v) v P := by
  intro Q
  unfold W
  rw [wp_pure]
  iintro ⟨HP, HQ⟩
  imodintro
  iapply HQ
  iexact HP

variable {c} in
theorem T.conseq {α : Type} {P P' O O' : sProp 𝕄} {p : Prog (TpuEff nD τ sig (Elt F) Λ₀ .tc) α} {v : α}
    (h : T c P p v P') (h1 : O ⊢ P) (h2 : P' ⊢ O') : T c O p v O' := by
  intro Q
  iintro ⟨HP, HQ⟩
  iapply (h Q)
  isplitl [HP]
  · iapply h1; iexact HP
  iintro HP'
  iapply HQ
  iapply h2
  iexact HP'

variable {c} in
/-- What the program does not touch stays. -/
theorem T.framed {α : Type} {P P' : sProp 𝕄} {p : Prog (TpuEff nD τ sig (Elt F) Λ₀ .tc) α} {v : α}
    (h : T c P p v P') (R : sProp 𝕄) : T c iprop(P ∗ R) p v iprop(P' ∗ R) := by
  intro Q
  iintro ⟨⟨HP, HR⟩, HQ⟩
  iapply (h Q)
  isplitl [HP]
  · iexact HP
  iintro HP'
  iapply HQ
  isplitl [HP']
  · iexact HP'
  iexact HR

variable {c} in
theorem T.assume {α : Type} {P P' : sProp 𝕄} {A : Prop} {dA : Decidable A} {k : PLift A → Prog (TpuEff nD τ sig (Elt F) Λ₀ .tc) α} {v : α} (hA : A)
    (h : T c P (k ⟨hA⟩) v P') : T c P (.op (.assume A dA) k) v P' := by
  intro Q
  exact (h Q).trans (wp_assume (defs := defs₀ (F := F)) (c := (c : Thread nD τ)) Variants.none none Set.univ hA)

/-- What a tile's loads read: the step's slot of the ring, a chunk of columns of the left operand, and the scales, all of known contents. -/
def Reads (f2 : Buf (Elt F) (arg2.view.loc (c : Thread nD τ))) (n : Nat) (j : Fin 4) : sProp 𝕄 :=
  iprop(slotPt c w n ∗ colsPt c x j ∗ (arg2.view.loc (c : Thread nD τ) ↦[arg2.view.set]{fullShare} f2))

theorem readAt_slot (k : Fin k0_t1_loop.trips) (j : Fin 4) (t : Fin 13) (q : Fin 2) (b : Fin 8) :
    bW.view.readAt (Elt F) (Rect.unit (s := S6x3328x512) (offC k j.val t.val q.val b.val) S1x32x256.size (offC_inb k j t q b)).toLoadRect (wRing w (4 * k.val + j.val))
      = codesV w (4 * k.val + j.val) t.val q.val b.val := by
  funext i
  show wAt w _ _ = wAt w _ _
  congr 2
  · show 256 * t.val + 32 * b.val + 1 * (i 1).val = _
    omega
  · show 256 * q.val + 1 * (i 2).val = _
    omega

theorem readAt_scales (k : Fin k0_t1_loop.trips) (j : Fin 4) (t : Fin 13) (q : Fin 2) (b : Fin 8) :
    (fun i : S1x256.Idx => d ((Rect.unit (s := S416x16384) (offS k j.val t.val q.val b.val) S1x256.size (offS_inb k j t q b)).idx i))
      = scalesV d (4 * k.val + j.val) t.val q.val b.val := by
  funext i
  have hk : k.val < 32 := k.isLt
  have hq := q.isLt
  have ht := t.isLt
  have hb := b.isLt
  have hj := j.isLt
  have h0 : (i 0).val < 1 := (i 0).isLt
  have h1 : (i 1).val < 256 := (i 1).isLt
  show d _ = d _
  congr 1
  funext a
  apply Fin.ext
  fin_cases a
  · show (13 * j.val + t.val) * 8 + b.val + 1 * (i 0).val = ((13 * ((4 * k.val + j.val) % 4) + t.val) * 8 + b.val) % 416
    omega
  · show colW k q.val + 1 * (i 1).val = (512 * ((4 * k.val + j.val) / 4) + 256 * q.val + (i 1).val) % 16384
    rw [colW_eq]
    omega

theorem readAt_cols (k : Fin k0_t1_loop.trips) (j : Fin 4) (t : Fin 13) :
    bX.view.readAt (Elt F) (Rect.unit (s := S96x13312) ![0, 256 * (13 * j.val + t.val)] S96x256.size (offX_inb j t)).toLoadRect x
      = colsV x (4 * k.val + j.val) t.val := by
  funext i
  have ht := t.isLt
  have hj := j.isLt
  have h0 : (i 0).val < 96 := (i 0).isLt
  have h1 : (i 1).val < 256 := (i 1).isLt
  show x _ = x _
  congr 1
  funext a
  apply Fin.ext
  fin_cases a
  · show 0 + 1 * (i 0).val = (i 0).val % 96
    omega
  · show 256 * (13 * j.val + t.val) + 1 * (i 1).val = (256 * (13 * ((4 * k.val + j.val) % 4) + t.val) + (i 1).val) % 13312
    omega

theorem blk_sub (k : Fin k0_t1_loop.trips) (j : Fin 4) (t : Fin 13) (q : Fin 2) (b : Fin 8) :
    bW.view.setOn (Rect.unit (s := S6x3328x512) (offC k j.val t.val q.val b.val) S1x32x256.size (offC_inb k j t q b)).set ⊆ slotSet (4 * k.val + j.val) := by
  intro i hi
  obtain ⟨i', hi', rfl⟩ := Finset.mem_map.mp hi
  have h := Rect.mem_set_unit.mp hi' 0
  have e0 : offC k j.val t.val q.val b.val 0 = (4 * k.val + j.val) % 6 := slotW_eq k j
  have e1 : S1x32x256.size 0 = 1 := rfl
  rw [mem_slotSet]
  show (i' 0).val = _
  omega

theorem cols_sub (j : Fin 4) (t : Fin 13) :
    bX.view.setOn (Rect.unit (s := S96x13312) ![0, 256 * (13 * j.val + t.val)] S96x256.size (offX_inb j t)).set ⊆ colsSet j := by
  intro i hi
  obtain ⟨i', hi', rfl⟩ := Finset.mem_map.mp hi
  have h : 256 * (13 * j.val + t.val) ≤ (i' 1).val ∧ (i' 1).val < 256 * (13 * j.val + t.val) + 256 := Rect.mem_set_unit.mp hi' 1
  have ht := t.isLt
  rw [mem_colsSet]
  show 3328 * j.val ≤ (i' 1).val ∧ (i' 1).val < 3328 * j.val + 3328
  omega

variable (f2 : Buf (Elt F) (arg2.view.loc (c : Thread nD τ))) (hf2 : arg2.view.read (Elt F) f2 = d)
include hf2

theorem T_loadBlk (k : Fin k0_t1_loop.trips) (j : Fin 4) (t : Fin 13) (q : Fin 2) (b : Fin 8) :
    T c (Reads c x w arg2 f2 (4 * k.val + j.val) j) (loadBlk arg2 bW k j t q b)
      (wBlk (codesV w (4 * k.val + j.val) t.val q.val b.val) (scalesV d (4 * k.val + j.val) t.val q.val b.val)) (Reads c x w arg2 f2 (4 * k.val + j.val) j) := by
  intro Q
  have e : arg2.view.readAt (Elt F) (Rect.unit (s := S416x16384) (offS k j.val t.val q.val b.val) S1x256.size (offS_inb k j t q b)).toLoadRect f2
      = scalesV d (4 * k.val + j.val) t.val q.val b.val := by
    rw [← readAt_scales, ← hf2]; rfl
  rw [← e, ← readAt_slot]
  unfold Reads slotPt colsPt
  iintro ⟨⟨Hs, Hc, Hd⟩, HQ⟩
  iapply (wp_load (defs := defs₀ (F := F)) (c := (c : Thread nD τ)) Variants.none none Set.univ (m := bW) (S := slotSet (4 * k.val + j.val)) (blk_sub k j t q b)) $$ Hs
  iintro Hs
  iapply (wp_load (defs := defs₀ (F := F)) (c := (c : Thread nD τ)) Variants.none none Set.univ (m := arg2) (S := arg2.view.set) (View.setOn_subset_set _ _)) $$ Hd
  iintro Hd
  iapply (T.pure (c := c) (P := Reads c x w arg2 f2 (4 * k.val + j.val) j) _ Q)
  isplitl [Hs Hc Hd]
  · unfold Reads slotPt colsPt
    isplitl [Hs]
    · iexact Hs
    isplitl [Hc]
    · iexact Hc
    iexact Hd
  iexact HQ

theorem T_loadTile (k : Fin k0_t1_loop.trips) (j : Fin 4) (t : Fin 13) (q : Fin 2) :
    T c (Reads c x w arg2 f2 (4 * k.val + j.val) j) (loadTile arg2 bW k j t q)
      (tileW w d (4 * k.val + j.val) t.val q.val) (Reads c x w arg2 f2 (4 * k.val + j.val) j) := by
  have h := T_loadBlk c x w d arg2 f2 hf2 k j t q
  exact (h 0).bind <| (h 1).bind <| (h 2).bind <| (h 3).bind <| (h 4).bind <| (h 5).bind <| (h 6).bind <| (h 7).bind <| T.pure _

omit hf2 in
theorem T_loadX (k : Fin k0_t1_loop.trips) (j : Fin 4) (t : Fin 13) :
    T c (Reads c x w arg2 f2 (4 * k.val + j.val) j)
      (Prog.lift (.load bX (Rect.unit (s := S96x13312) ![0, 256 * (13 * j.val + t.val)] S96x256.size (offX_inb j t)).toLoadRect (View.loadsAt_vmem h_S96x256)))
      (colsV x (4 * k.val + j.val) t.val) (Reads c x w arg2 f2 (4 * k.val + j.val) j) := by
  intro Q
  rw [← readAt_cols]
  unfold Reads slotPt colsPt
  iintro ⟨⟨Hs, Hc, Hd⟩, HQ⟩
  iapply (wp_load (defs := defs₀ (F := F)) (c := (c : Thread nD τ)) Variants.none none Set.univ (m := bX) (S := colsSet j) (cols_sub j t)) $$ Hc
  iintro Hc
  iapply (T.pure (c := c) (P := Reads c x w arg2 f2 (4 * k.val + j.val) j) _ Q)
  isplitl [Hs Hc Hd]
  · unfold Reads slotPt colsPt
    isplitl [Hs]
    · iexact Hs
    isplitl [Hc]
    · iexact Hc
    iexact Hd
  iexact HQ

/-- One tile: the matrix units' state becomes `tileV`. -/
theorem T_tile (k : Fin k0_t1_loop.trips) (j : Fin 4) (t : Fin 13) {s : Mxu F} (hs : Clear s) :
    T c (Reads c x w arg2 f2 (4 * k.val + j.val) j) (tile arg2 bX bW k j t s)
      (tileV x w d (4 * k.val + j.val) t.val s) (Reads c x w arg2 f2 (4 * k.val + j.val) j) := by
  have h := T_loadTile c x w d arg2 f2 hf2 k j t
  refine (h 0).bind <| T.assume (Mxu.pushOk_of_none _ _ _ _ (hs.reg _ _)) <| (h 1).bind <| T.assume ?_ <| (T_loadX c x w arg2 f2 k j t).bind <| T.pure _
  refine Mxu.pushOk_of_none _ _ _ _ ?_
  rw [Mxu.reg_pushed_ne _ _ _ _ _ _ _ (fun h => absurd h.1 (by decide))]
  exact hs.reg _ _

theorem T_tiles (k : Fin k0_t1_loop.trips) (j : Fin 4) (m : Nat) : ∀ (t : Nat) (ht : t + m ≤ 13) {s : Mxu F} (hs : Clear s),
    T c (Reads c x w arg2 f2 (4 * k.val + j.val) j) (tilesFrom arg2 bX bW k j m t ht s)
      (tilesV x w d (4 * k.val + j.val) m t s) (Reads c x w arg2 f2 (4 * k.val + j.val) j) := by
  induction m with
  | zero => exact fun t ht s hs => T.pure _
  | succ m ih => exact fun t ht s hs => (T_tile c x w d arg2 f2 hf2 k j ⟨t, by omega⟩ hs).bind (ih (t + 1) _ (clear_tileV x w d hs _ _))

end Cert.Kernel.K
-- ==== Proof.Dma.lean ====
module

public import proofs.«01_k».proof.Proof.Tile
public import Idealize.ShloMosaic.Lib.Transfers
public import Idealize.ShloMosaic.Lib.Ring

@[expose] public section

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Separating conjunction is commutative and associative, so that two conjunctions of the same parts are equal. -/
instance sepComm {M : Type} [RA M] : _root_.Std.Commutative (α := sProp M) BIBase.sep :=
  ⟨fun P Q => _root_.Std.Commutative.comm (op := fun P Q : sProp M => BI.sep P Q) P Q⟩
instance sepAssoc {M : Type} [RA M] : _root_.Std.Associative (α := sProp M) BIBase.sep :=
  ⟨fun P Q R => _root_.Std.Associative.assoc (op := fun P Q : sProp M => BI.sep P Q) P Q R⟩

variable (c : Dev nD)

/-- What the core owes for the waits it has made: something. -/
def Owes : sProp 𝕄 := iprop(∃ W, owes (c : Thread nD τ) 0 W)

variable {c} in
/-- A step from `P` to `P'`, from any state that splits into `P` and a rest. -/
theorem T.use {α : Type} {P P' O O' : sProp 𝕄} {p : Prog (TpuEff nD τ sig (Elt F) Λ₀ .tc) α} {v : α}
    (h : T c P p v P') (R : sProp 𝕄) (e : O = iprop(P ∗ R)) (e' : iprop(P' ∗ R) = O') : T c O p v O' := by
  rw [e, ← e']
  exact h.framed R

variable {c} in
/-- Waiting for a copy in flight: what it delivers, and its semaphore at zero. -/
theorem T_wait {sp sp' : Space} {s s' : Shape} {e e' : EltTy} (sem : DmaSem sig) {srcw : Memref sig .tc sp' s' e'} {dstw : Memref sig .tc sp s e}
    {hsrc : srcw.view.WordExact} {hdst : dstw.view.WordExact} (N : ℕ) (hN : dstw.view.dmaCredit = N) (D : sProp 𝕄) :
    T c iprop(Flight (countersEmb (U := Pipeline.UD sig nD τ)) (c : Thread nD τ) (.dma sem) () N D ∗ Owes c)
      (Prog.lift (.waitDma2 sem srcw dstw hsrc hdst)) ⟨⟩ iprop(D ∗ semVal ((c : Thread nD τ), .dma sem) 0 ∗ Owes c) := by
  intro Q
  unfold Owes
  iintro ⟨⟨HF, %W, HO⟩, HQ⟩
  iapply (wp_waitLocal (countersEmb (U := Pipeline.UD sig nD τ)) (defs := defs₀ (F := F)) Variants.none (c : Thread nD τ) none () hN (D := D) (W := W)) $$ [HF HO]
  · isplitl [HF]
    · iexact HF
    iexact HO
  iintro ⟨HD, Hv, HO⟩
  iapply (T.pure (c := c) (P := iprop(D ∗ semVal ((c : Thread nD τ), .dma sem) 0 ∗ Owes c)) _ Q)
  isplitl [HD Hv HO]
  · isplitl [HD]
    · iexact HD
    isplitl [Hv]
    · iexact Hv
    unfold Owes
    iexists _
    iexact HO
  iexact HQ

/-- What a view's elements hold after a copy that the view then reads as the source. -/
theorem write_eq_of_read {sp : Space} {s : Shape} {e : EltTy} (v : View sig .tc sp s e) (f g : v.ty.Contents (Elt F)) (u : s.Idx → Elt F e)
    (h : v.read (Elt F) g = u) : ∀ i ∈ v.set, v.write (Elt F) f u Finset.univ i = g i := by
  intro i hi
  obtain ⟨j, -, rfl⟩ := Finset.mem_map.mp hi
  rw [View.write_emb_of_mem _ _ (Finset.mem_univ j), ← h, View.read_apply, cast_cast, cast_eq]

variable {c} in
/-- Starting a copy: what it will deliver is the destination reading as the source does, and the source back. -/
theorem T_copy {sp sp' : Space} {s : Shape} {e : EltTy} (sem : DmaSem sig) {src : Memref sig .tc sp' s e} {dst : Memref sig .tc sp s e}
    {hsrc : src.view.WordExact} {hdst : dst.view.WordExact} {hsem : DmaTarget.Typed (nD := nD) (τ := τ) (p := .tc) sp' (.dma sem) (.here dst)}
    (N : ℕ) (hN : dst.view.dmaCredit = N) (hN0 : 0 < N) (q : PosShare TreeShare) (fs : Buf (Elt F) (src.view.loc (c : Thread nD τ)))
    (g : Buf (Elt F) (dst.view.loc (c : Thread nD τ))) (hg : dst.view.read (Elt F) g = src.view.read (Elt F) fs) :
    T c iprop((src.view.loc (c : Thread nD τ) ↦[src.view.set]{q} fs) ∗ (∃ f, dst.view.loc (c : Thread nD τ) ↦[dst.view.set]{fullShare} f) ∗ semVal ((c : Thread nD τ), .dma sem) 0)
      (Prog.lift (.enqueueDma src (.here dst) (.dma sem) hsrc hdst hsem)) ⟨⟩
      (Flight (countersEmb (U := Pipeline.UD sig nD τ)) (c : Thread nD τ) (.dma sem) () N
        iprop((dst.view.loc (c : Thread nD τ) ↦[dst.view.set]{fullShare} g) ∗ (src.view.loc (c : Thread nD τ) ↦[src.view.set]{q} fs))) := by
  intro Q
  iintro ⟨⟨Hs, ⟨%f, Hd⟩, Hv⟩, HQ⟩
  iapply (wp_dmaLocal (countersEmb (U := Pipeline.UD sig nD τ)) (defs := defs₀ (F := F)) Variants.none (c : Thread nD τ) none (src := src) (dst := dst) (sm := .dma sem) () N hN hN0 (Finset.Subset.refl _)) $$ [Hs Hd Hv]
  · isplitl [Hs]
    · iexact Hs
    isplitl [Hd]
    · iexact Hd
    iexact Hv
  iintro HF
  iapply (T.pure (c := c) (P := (Flight (countersEmb (U := Pipeline.UD sig nD τ)) (c : Thread nD τ) (.dma sem) () N
        iprop((dst.view.loc (c : Thread nD τ) ↦[dst.view.set]{fullShare} g) ∗ (src.view.loc (c : Thread nD τ) ↦[src.view.set]{q} fs)))) _ Q)
  isplitl [HF]
  · rw [pointsTo_congr (f := g) (fun i hi => (write_eq_of_read dst.view f g _ hg i hi).symm)]
    iexact HF
  iexact HQ

end Cert.Kernel.K
-- ==== Proof.Ring.lean ====
module

public import proofs.«01_k».proof.Proof.Dma
public import Idealize.ShloMosaic.Lib.Pipeline.Value

@[expose] public section

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The copies' ends and their semaphores -/

/-- The semaphore of the copy of columns chunk `j` of the left operand. -/
abbrev semX (j : Fin 4) : DmaSem sig := ((cc0_scratch3.slice (Rect.unit (s := S4) ![j.val] S1.size (semX_inb j))).squeeze S_ squeezes_S1_S_).sem
/-- The semaphore of the copy of the weights of step `n`. -/
abbrev semW (n : Nat) : DmaSem sig := ((cc0_scratch4.slice (Rect.unit (s := S6) ![n % 6] S1.size (semW_inb n))).squeeze S_ squeezes_S1_S_).sem

abbrev srcX (j : Fin 4) : Memref sig .tc .hbm S96x3328 .bf16 := mX.slice (Rect.unit (s := S96x13312) ![0, 3328 * j.val] S96x3328.size (colsX_inb j)) (fun _ => rfl)
abbrev dstX (j : Fin 4) : Memref sig .tc .vmem S96x3328 .bf16 := bX.slice (Rect.unit (s := S96x13312) ![0, 3328 * j.val] S96x3328.size (colsX_inb j)) (fun _ => rfl)
abbrev srcW (n : Nat) (h : n < 128) : Memref sig .tc .hbm S3328x512 .i8 := mW.slice (Rect.unit (s := S13312x16384) (offSrc n) S3328x512.size (offSrc_inb n h)) (fun _ => rfl)
abbrev dstW (n : Nat) : Memref sig .tc .vmem S3328x512 .i8 :=
  (bW.slice (Rect.unit (s := S6x3328x512) (offSlot n) S1x3328x512.size (offSlot_inb n)) (fun _ => rfl)).squeeze S3328x512 squeezes_S1x3328x512_S3328x512

/-- What a copy of columns of the left operand, and one of weights, moves. -/
abbrev NX : ℕ := (dstX 0).view.dmaCredit
abbrev NW : ℕ := (dstW 0).view.dmaCredit
theorem NX_pos : 0 < NX := View.dmaCredit_pos _ (by decide)
theorem NW_pos : 0 < NW := View.dmaCredit_pos _ (by decide)

theorem set_dstX (j : Fin 4) : (dstX j).view.set = colsSet j := View.set_slice_whole _ _
theorem set_dstW (n : Nat) : (dstW n).view.set = slotSet n := (View.set_reshape _ _).trans (View.set_slice_whole _ _)

variable (c : Dev nD)
variable (x : Vec F S96x13312 .bf16) (w : Vec F S13312x16384 .i8) (d : Vec F S416x16384 .f32)

theorem read_dstX (j : Fin 4) : (dstX j).view.read (Elt F) x = (srcX j).view.read (Elt F) x := rfl

theorem read_dstW (n : Nat) (h : n < 128) : (dstW n).view.read (Elt F) (wRing w n) = (srcW n h).view.read (Elt F) w := by
  funext i
  have h0 : (i 0).val < 3328 := (i 0).isLt
  have h1 : (i 1).val < 512 := (i 1).isLt
  refine (shapeCast_dropUnit_apply ![3328, 512] (fun i : S1x3328x512.Idx => wRing w n ((Rect.unit (s := S6x3328x512) (offSlot n) S1x3328x512.size (offSlot_inb n)).idx i))
    (by decide) i).trans ?_
  show w _ = w _
  congr 1
  funext a
  apply Fin.ext
  fin_cases a
  · show (3328 * (n % 4) + (0 + 1 * (i 0).val)) % 13312 = 3328 * (n % 4) + 1 * (i 0).val
    omega
  · show (512 * (n / 4) + (0 + 1 * (i 1).val)) % 16384 = 512 * (n / 4) + 1 * (i 1).val
    omega

/-! ## The left operand's columns -/

/-- The share of the left operand that chunk `j`'s copy reads. -/
abbrev shX (j : Fin 4) : PosShare TreeShare := shareTokN fullShare j.val
abbrev ptX (j : Fin 4) (S : Finset S96x13312.Idx) : sProp 𝕄 := mX.view.loc (c : Thread nD τ) ↦[S]{shX j} (x : Buf (Elt F) (mX.view.loc (c : Thread nD τ)))

/-- Before chunk `j`'s copy: its columns of the buffer at anything, the semaphore at zero, a share of the operand. -/
def FreeX (j : Fin 4) : sProp 𝕄 :=
  iprop((∃ f, bX.view.loc (c : Thread nD τ) ↦[colsSet j]{fullShare} f) ∗ semVal ((c : Thread nD τ), .dma (semX j)) 0 ∗ ptX c x j Finset.univ)
/-- The copy in flight. -/
def FlightX (j : Fin 4) : sProp 𝕄 :=
  iprop(Flight (countersEmb (U := Pipeline.UD sig nD τ)) (c : Thread nD τ) (.dma (semX j)) () NX iprop(colsPt c x j ∗ ptX c x j (srcX j).view.set)
    ∗ ptX c x j (Finset.univ \ (srcX j).view.set))
/-- The copy done. -/
def LoadedX (j : Fin 4) : sProp 𝕄 :=
  iprop(colsPt c x j ∗ semVal ((c : Thread nD τ), .dma (semX j)) 0 ∗ ptX c x j Finset.univ)

theorem ptX_split (j : Fin 4) (I : Finset S96x13312.Idx) :
    ptX c x j Finset.univ = iprop(ptX c x j I ∗ ptX c x j (Finset.univ \ I)) :=
  Entails.antisymm (pointsTo_split_subset (Finset.subset_univ I)).1 (pointsTo_split_subset (Finset.subset_univ I)).2

theorem T_startX (j : Fin 4) {h1 : (srcX j).view.WordExact} {h2 : (dstX j).view.WordExact}
    {h3 : DmaTarget.Typed (nD := nD) (τ := τ) (p := .tc) .hbm (.dma (semX j)) (.here (dstX j))} :
    T c (FreeX c x j) (Prog.lift (.enqueueDma (srcX j) (.here (dstX j)) (.dma (semX j)) h1 h2 h3)) ⟨⟩ (FlightX c x j) := by
  have h := T_copy (c := c) (semX j) (src := srcX j) (dst := dstX j) (hsrc := h1) (hdst := h2) (hsem := h3) NX rfl NX_pos (shX j) x x (read_dstX x j)
  rw [set_dstX] at h
  replace h : T c iprop(ptX c x j (srcX j).view.set ∗ (∃ f, bX.view.loc (c : Thread nD τ) ↦[colsSet j]{fullShare} f) ∗ semVal ((c : Thread nD τ), .dma (semX j)) 0) _ (⟨⟩ : PUnit)
    (Flight (countersEmb (U := Pipeline.UD sig nD τ)) (c : Thread nD τ) (.dma (semX j)) () NX iprop(colsPt c x j ∗ ptX c x j (srcX j).view.set)) := h
  refine h.use (ptX c x j (Finset.univ \ (srcX j).view.set)) ?_ rfl
  unfold FreeX
  rw [ptX_split c x j (srcX j).view.set]
  ac_rfl

theorem T_waitX' (j : Fin 4) {h1 : (srcX j).view.WordExact} {h2 : (dstX j).view.WordExact} :
    T c iprop(FlightX c x j ∗ Owes c) (Prog.lift (.waitDma2 (semX j) (srcX j) (dstX j) h1 h2)) ⟨⟩ iprop(LoadedX c x j ∗ Owes c) := by
  have h := T_wait (c := c) (semX j) (srcw := srcX j) (dstw := dstX j) (hsrc := h1) (hdst := h2) NX rfl iprop(colsPt c x j ∗ ptX c x j (srcX j).view.set)
  refine h.use (ptX c x j (Finset.univ \ (srcX j).view.set)) ?_ ?_
  · unfold FlightX
    ac_rfl
  · unfold LoadedX
    rw [ptX_split c x j (srcX j).view.set]
    ac_rfl

/-! ## The ring of weights -/

abbrev shW (n : Nat) : PosShare TreeShare := shareTokN fullShare (n % 6)
abbrev ptW (n : Nat) (S : Finset S13312x16384.Idx) : sProp 𝕄 := mW.view.loc (c : Thread nD τ) ↦[S]{shW n} (w : Buf (Elt F) (mW.view.loc (c : Thread nD τ)))

/-- Step `n`'s slot free: at anything, its semaphore at zero, and a share of the codes. -/
def FreeW (n : Nat) : sProp 𝕄 :=
  iprop((∃ f, bW.view.loc (c : Thread nD τ) ↦[slotSet n]{fullShare} f) ∗ semVal ((c : Thread nD τ), .dma (semW n)) 0 ∗ ptW c w n Finset.univ)
/-- The copy of step `n`'s weights in flight. -/
def FlightW (n : Nat) (h : n < 128) : sProp 𝕄 :=
  iprop(Flight (countersEmb (U := Pipeline.UD sig nD τ)) (c : Thread nD τ) (.dma (semW n)) () NW iprop(slotPt c w n ∗ ptW c w n (srcW n h).view.set)
    ∗ ptW c w n (Finset.univ \ (srcW n h).view.set))
/-- Step `n`'s weights landed. -/
def LoadedW (n : Nat) : sProp 𝕄 :=
  iprop(slotPt c w n ∗ semVal ((c : Thread nD τ), .dma (semW n)) 0 ∗ ptW c w n Finset.univ)
/-- Step `n`'s slot once its copy is started, if there is such a step. -/
def InW (n : Nat) : sProp 𝕄 := if h : n < 128 then FlightW c w n h else FreeW c w n

theorem ptW_split (n : Nat) (I : Finset S13312x16384.Idx) :
    ptW c w n Finset.univ = iprop(ptW c w n I ∗ ptW c w n (Finset.univ \ I)) :=
  Entails.antisymm (pointsTo_split_subset (Finset.subset_univ I)).1 (pointsTo_split_subset (Finset.subset_univ I)).2

theorem T_enqW (n : Nat) (h : n < 128) {h1 : (srcW n h).view.WordExact} {h2 : (dstW n).view.WordExact}
    {h3 : DmaTarget.Typed (nD := nD) (τ := τ) (p := .tc) .hbm (.dma (semW n)) (.here (dstW n))} :
    T c (FreeW c w n) (Prog.lift (.enqueueDma (srcW n h) (.here (dstW n)) (.dma (semW n)) h1 h2 h3)) ⟨⟩ (InW c w n) := by
  have hc := T_copy (c := c) (semW n) (src := srcW n h) (dst := dstW n) (hsrc := h1) (hdst := h2) (hsem := h3) NW rfl NW_pos (shW n) w (wRing w n) (read_dstW w n h)
  rw [set_dstW] at hc
  replace hc : T c iprop(ptW c w n (srcW n h).view.set ∗ (∃ f, bW.view.loc (c : Thread nD τ) ↦[slotSet n]{fullShare} f) ∗ semVal ((c : Thread nD τ), .dma (semW n)) 0) _ (⟨⟩ : PUnit)
    (Flight (countersEmb (U := Pipeline.UD sig nD τ)) (c : Thread nD τ) (.dma (semW n)) () NW iprop(slotPt c w n ∗ ptW c w n (srcW n h).view.set)) := hc
  have e : InW c w n = FlightW c w n h := by unfold InW; rw [dif_pos h]
  rw [e]
  refine hc.use (ptW c w n (Finset.univ \ (srcW n h).view.set)) ?_ rfl
  unfold FreeW
  rw [ptW_split c w n (srcW n h).view.set]
  ac_rfl

theorem T_startW (n : Nat) : T c (FreeW c w n) (startW bW mW (Memref.isWhole_whole _) (Memref.isWhole_whole _) cc0_scratch4 n) ⟨⟩ (InW c w n) := by
  unfold startW
  by_cases h : n < 128
  · rw [dif_pos h]
    exact T_enqW c w n h
  · rw [dif_neg h]
    have e : InW c w n = FreeW c w n := by unfold InW; rw [dif_neg h]
    rw [e]
    exact T.pure _

theorem sem_congr {o o' : Fin 1 → Nat} (e : o = o') (b : ∀ a, o a + S1.size a ≤ S6.size a) (b' : ∀ a, o' a + S1.size a ≤ S6.size a) :
    ((cc0_scratch4.slice (Rect.unit (s := S6) o S1.size b)).squeeze S_ squeezes_S1_S_).sem
      = ((cc0_scratch4.slice (Rect.unit (s := S6) o' S1.size b')).squeeze S_ squeezes_S1_S_).sem := by
  subst e; rfl

theorem FreeW_add (n : Nat) : FreeW c w (n + 6) = FreeW c w n := by
  have e : (n + 6) % 6 = n % 6 := by omega
  have e1 : slotSet (n + 6) = slotSet n := by
    ext i; rw [mem_slotSet, mem_slotSet, e]
  have e2 : semW (n + 6) = semW n := sem_congr (by rw [e]) _ _
  unfold FreeW
  rw [e1, e2]
  unfold ptW shW
  rw [e]

theorem off1_eq : ∀ k : Fin k0_t1_loop.trips, ∀ j : Fin 4, k0_off1 k (BitVec.ofNat 32 j.val) = ![(4 * k.val + j.val) % 6] := by decide +kernel

theorem T_waitW (k : Fin k0_t1_loop.trips) (j : Fin 4) :
    T c iprop(InW c w (4 * k.val + j.val) ∗ Owes c) (waitW bW mW (Memref.isWhole_whole _) (Memref.isWhole_whole _) cc0_scratch4 k j) ⟨⟩
      iprop(LoadedW c w (4 * k.val + j.val) ∗ Owes c) := by
  have hk : k.val < 32 := k.isLt
  have hn : 4 * k.val + j.val < 128 := by have := j.isLt; omega
  unfold waitW
  rw [sem_congr (off1_eq k j) _ (semW_inb (4 * k.val + j.val))]
  have e : InW c w (4 * k.val + j.val) = FlightW c w (4 * k.val + j.val) hn := by unfold InW; rw [dif_pos hn]
  rw [e]
  generalize 4 * k.val + j.val = n at hn ⊢
  refine T.use (P := iprop(Flight (countersEmb (U := Pipeline.UD sig nD τ)) (c : Thread nD τ) (.dma (semW n)) () NW iprop(slotPt c w n ∗ ptW c w n (srcW n hn).view.set) ∗ Owes c))
    (P' := iprop(iprop(slotPt c w n ∗ ptW c w n (srcW n hn).view.set) ∗ semVal ((c : Thread nD τ), .dma (semW n)) 0 ∗ Owes c)) ?h
    (ptW c w n (Finset.univ \ (srcW n hn).view.set)) ?_ ?_
  case h =>
    apply T_wait
    rfl
  · unfold FlightW
    ac_rfl
  · unfold LoadedW
    rw [ptW_split c w n (srcW n hn).view.set]
    ac_rfl

theorem LoadedW_free (n : Nat) : LoadedW c w n ⊢ FreeW c w (n + 6) := by
  rw [FreeW_add]
  unfold LoadedW FreeW slotPt
  iintro ⟨H, Hr⟩
  isplitl [H]
  · iexists _
    iexact H
  iexact Hr

/-! ## A chunk -/

/-- Columns chunk `j` before chunk `j` of trip `k`: in flight before the first trip, landed later. -/
def XP (k : Nat) (j : Fin 4) : sProp 𝕄 := if k = 0 then FlightX c x j else LoadedX c x j

theorem waitX_iff : ∀ k : Fin k0_t1_loop.trips,
    (Scalar.cmpi .ne (Scalar.extui (Scalar.cmpi .eq (Scf.iv 0#32 1#32 k) 0#32) : BitVec 32) 0#32 = 1#1) ↔ k.val = 0 := by decide +kernel

theorem T_waitX (k : Fin k0_t1_loop.trips) (j : Fin 4) :
    T c iprop(XP c x k.val j ∗ Owes c) (waitX bX mX (Memref.isWhole_whole _) (Memref.isWhole_whole _) cc0_scratch3 k j) ⟨⟩ iprop(LoadedX c x j ∗ Owes c) := by
  unfold waitX XP
  by_cases hk : k.val = 0
  · rw [if_pos ((waitX_iff k).mpr hk), if_pos hk]
    exact T_waitX' c x j
  · rw [if_neg (fun h => hk ((waitX_iff k).mp h)), if_neg hk]
    exact T.pure _

/-- The ring before step `n`: five copies started, one slot free. -/
def RingS (n : Nat) : sProp 𝕄 :=
  iprop(InW c w n ∗ InW c w (n + 1) ∗ InW c w (n + 2) ∗ InW c w (n + 3) ∗ InW c w (n + 4) ∗ FreeW c w (n + 5))

theorem RingS_succ (n : Nat) : RingS c w (n + 1)
    = iprop(InW c w (n + 1) ∗ InW c w (n + 2) ∗ InW c w (n + 3) ∗ InW c w (n + 4) ∗ InW c w (n + 5) ∗ FreeW c w (n + 6)) := rfl

variable (arg2 : Memref sig .tc .vmem S416x16384 .f32) (f2 : Buf (Elt F) (arg2.view.loc (c : Thread nD τ))) (hf2 : arg2.view.read (Elt F) f2 = d)

/-- The scales, as the kernel holds them. -/
def Scales : sProp 𝕄 := arg2.view.loc (c : Thread nD τ) ↦[arg2.view.set]{fullShare} f2

include hf2 in
/-- Chunk `j` of trip `k`: its thirteen tiles are multiplied in, and the ring moves on by one step. -/
theorem T_chunk (k : Fin k0_t1_loop.trips) (j : Fin 4) {s : Mxu F} (hs : Clear s) :
    T c iprop(XP c x k.val j ∗ RingS c w (4 * k.val + j.val) ∗ Scales c arg2 f2 ∗ Owes c)
      (chunk arg2 bX bW mX (Memref.isWhole_whole _) mW (Memref.isWhole_whole _) (Memref.isWhole_whole _) (Memref.isWhole_whole _) cc0_scratch3 cc0_scratch4 k j s)
      (tilesV x w d (4 * k.val + j.val) 13 0 s)
      iprop(LoadedX c x j ∗ RingS c w (4 * k.val + j.val + 1) ∗ Scales c arg2 f2 ∗ Owes c) := by
  have h1 := T_waitX c x k j
  have h2 := T_waitW c w k j
  have h3 := T_startW c w (4 * k.val + j.val + 5)
  have h4 := T_tiles c x w d arg2 f2 hf2 k j 13 0 (by decide) hs
  have h5 := LoadedW_free c w (4 * k.val + j.val)
  unfold chunk
  generalize hn : 4 * k.val + j.val = n at h2 h3 h4 h5 ⊢
  rw [RingS_succ]
  refine T.bind (P' := iprop(LoadedX c x j ∗ RingS c w n ∗ Scales c arg2 f2 ∗ Owes c)) (h1.use iprop(RingS c w n ∗ Scales c arg2 f2) (by ac_rfl) (by ac_rfl)) ?_
  unfold RingS
  refine T.bind (P' := iprop(LoadedX c x j ∗ LoadedW c w n ∗ InW c w (n + 1) ∗ InW c w (n + 2) ∗ InW c w (n + 3) ∗ InW c w (n + 4) ∗ FreeW c w (n + 5) ∗ Scales c arg2 f2 ∗ Owes c))
    (h2.use iprop(LoadedX c x j ∗ InW c w (n + 1) ∗ InW c w (n + 2) ∗ InW c w (n + 3) ∗ InW c w (n + 4) ∗ FreeW c w (n + 5) ∗ Scales c arg2 f2) (by ac_rfl) (by ac_rfl)) ?_
  refine T.bind (P' := iprop(LoadedX c x j ∗ LoadedW c w n ∗ InW c w (n + 1) ∗ InW c w (n + 2) ∗ InW c w (n + 3) ∗ InW c w (n + 4) ∗ InW c w (n + 5) ∗ Scales c arg2 f2 ∗ Owes c))
    (h3.use iprop(LoadedX c x j ∗ LoadedW c w n ∗ InW c w (n + 1) ∗ InW c w (n + 2) ∗ InW c w (n + 3) ∗ InW c w (n + 4) ∗ Scales c arg2 f2 ∗ Owes c) (by ac_rfl) (by ac_rfl)) ?_
  refine T.conseq (T.use h4 iprop(semVal ((c : Thread nD τ), .dma (semX j)) 0 ∗ ptX c x j Finset.univ ∗ semVal ((c : Thread nD τ), .dma (semW n)) 0 ∗ ptW c w n Finset.univ
    ∗ InW c w (n + 1) ∗ InW c w (n + 2) ∗ InW c w (n + 3) ∗ InW c w (n + 4) ∗ InW c w (n + 5) ∗ Owes c) rfl rfl)
    (O' := iprop(LoadedX c x j ∗ (InW c w (n + 1) ∗ InW c w (n + 2) ∗ InW c w (n + 3) ∗ InW c w (n + 4) ∗ InW c w (n + 5) ∗ FreeW c w (n + 6)) ∗ Scales c arg2 f2 ∗ Owes c)) ?_ ?_
  · refine (Entails.of_eq ?_)
    unfold LoadedX LoadedW Reads Scales
    ac_rfl
  · refine (Entails.of_eq ?_).trans ((sep_mono_right h5 (P := iprop(LoadedX c x j ∗ InW c w (n + 1) ∗ InW c w (n + 2) ∗ InW c w (n + 3) ∗ InW c w (n + 4) ∗ InW c w (n + 5)
      ∗ Scales c arg2 f2 ∗ Owes c))).trans (Entails.of_eq ?_))
    · unfold LoadedX LoadedW Reads Scales
      ac_rfl
    · ac_rfl

end Cert.Kernel.K
-- ==== Proof.Out.lean ====
module

public import proofs.«01_k».proof.Proof.Ring
public import Idealize.ShloMosaic.Lib.Pipeline.Value

@[expose] public section

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The result's slots and their copies out -/

/-- The semaphore of the copy out of panel `p`. -/
abbrev semO (p : Nat) : DmaSem sig := ((cc0_scratch5.slice (Rect.unit (s := S2) ![p % 2] S1.size (by intro a; fin_cases a; show p % 2 + 1 ≤ 2; omega))).squeeze S_ squeezes_S1_S_).sem

theorem semO_congr {o o' : Fin 1 → Nat} (e : o = o') (b : ∀ a, o a + S1.size a ≤ S2.size a) (b' : ∀ a, o' a + S1.size a ≤ S2.size a) :
    ((cc0_scratch5.slice (Rect.unit (s := S2) o S1.size b)).squeeze S_ squeezes_S1_S_).sem
      = ((cc0_scratch5.slice (Rect.unit (s := S2) o' S1.size b')).squeeze S_ squeezes_S1_S_).sem := by
  subst e; rfl

/-- The slot of the result's buffer that panel `p` is stored in. -/
def oslot (p : Nat) : Finset S2x96x512.Idx := Finset.univ.filter fun i => (i 0).val = p % 2
/-- The columns of the result that make panel `p`. -/
def outSet (p : Nat) : Finset S96x16384.Idx := Finset.univ.filter fun i => (i 1).val / 512 = p

theorem mem_oslot {p : Nat} {i : S2x96x512.Idx} : i ∈ oslot p ↔ (i 0).val = p % 2 := by
  unfold oslot; rw [Finset.mem_filter]; exact ⟨fun h => h.2, fun h => ⟨Finset.mem_univ _, h⟩⟩
theorem mem_outSet {p : Nat} {i : S96x16384.Idx} : i ∈ outSet p ↔ (i 1).val / 512 = p := by
  unfold outSet; rw [Finset.mem_filter]; exact ⟨fun h => h.2, fun h => ⟨Finset.mem_univ _, h⟩⟩

abbrev slO (o : Fin 3 → Nat) (b : ∀ a, o a + S1x96x512.size a ≤ S2x96x512.size a) : Memref sig .tc .vmem S96x512 .bf16 :=
  (bO.slice (Rect.unit (s := S2x96x512) o S1x96x512.size b) (fun _ => rfl)).squeeze S96x512 squeezes_S1x96x512_S96x512
abbrev dsO (o : Fin 2 → Nat) (b : ∀ a, o a + S96x512.size a ≤ S96x16384.size a) : Memref sig .tc .hbm S96x512 .bf16 :=
  mO.slice (Rect.unit (s := S96x16384) o S96x512.size b) (fun _ => rfl)

theorem set_slO {p : Nat} {o : Fin 3 → Nat} (e : o = ![p % 2, 0, 0]) (b : ∀ a, o a + S1x96x512.size a ≤ S2x96x512.size a) : (slO o b).view.set = oslot p := by
  refine (View.set_reshape _ _).trans ((View.set_slice_whole _ _).trans ?_)
  subst e
  ext i
  rw [mem_oslot]
  refine Rect.mem_set_unit.trans ⟨fun h => ?_, fun h a => ?_⟩
  · have h0 : p % 2 ≤ (i 0).val ∧ (i 0).val < p % 2 + 1 := h 0
    omega
  · have h1 : (i 1).val < 96 := (i 1).isLt
    have h2 : (i 2).val < 512 := (i 2).isLt
    fin_cases a
    · show p % 2 ≤ (i 0).val ∧ (i 0).val < p % 2 + 1
      omega
    · show 0 ≤ (i 1).val ∧ (i 1).val < 0 + 96
      omega
    · show 0 ≤ (i 2).val ∧ (i 2).val < 0 + 512
      omega

theorem set_dsO {p : Nat} {o : Fin 2 → Nat} (e : o = ![0, 512 * p]) (b : ∀ a, o a + S96x512.size a ≤ S96x16384.size a) : (dsO o b).view.set = outSet p := by
  refine (View.set_slice_whole _ _).trans ?_
  subst e
  ext i
  rw [mem_outSet]
  refine Rect.mem_set_unit.trans ⟨fun h => ?_, fun h a => ?_⟩
  · have h0 : 512 * p ≤ (i 1).val ∧ (i 1).val < 512 * p + 512 := h 1
    omega
  · have h1 : (i 0).val < 96 := (i 0).isLt
    fin_cases a
    · show 0 ≤ (i 0).val ∧ (i 0).val < 0 + 96
      omega
    · show 512 * p ≤ (i 1).val ∧ (i 1).val < 512 * p + 512
      omega

variable (c : Dev nD)
variable (x : Vec F S96x13312 .bf16) (w : Vec F S13312x16384 .i8) (d : Vec F S416x16384 .f32)

theorem read_dsO {p : Nat} {o : Fin 2 → Nat} (e : o = ![0, 512 * p]) (b : ∀ a, o a + S96x512.size a ≤ S96x16384.size a)
    {o' : Fin 3 → Nat} (e' : o' = ![p % 2, 0, 0]) (b' : ∀ a, o' a + S1x96x512.size a ≤ S2x96x512.size a) :
    (dsO o b).view.read (Elt F) (outV x w d) = (slO o' b').view.read (Elt F) (oBuf x w d p) := by
  subst e e'
  funext i
  have h0 : (i 0).val < 96 := (i 0).isLt
  have h1 : (i 1).val < 512 := (i 1).isLt
  refine Eq.trans ?_ (shapeCast_dropUnit_apply ![96, 512] (fun i : S1x96x512.Idx => oBuf x w d p ((Rect.unit (s := S2x96x512) ![p % 2, 0, 0] S1x96x512.size b').idx i))
    (by decide) i).symm
  show outAt x w d ((512 * p + 1 * (i 1).val) / 512) (0 + 1 * (i 0).val) ((512 * p + 1 * (i 1).val) % 512) = outAt x w d p (0 + 1 * (i 0).val) (0 + 1 * (i 1).val)
  have e1 : (512 * p + 1 * (i 1).val) / 512 = p := by omega
  have e2 : (512 * p + 1 * (i 1).val) % 512 = 0 + 1 * (i 1).val := by omega
  rw [e1, e2]

/-- Panel `p`'s columns of the result, final. -/
def OutPt (p : Nat) : sProp 𝕄 := mO.view.loc (c : Thread nD τ) ↦[outSet p]{fullShare} (outV x w d : Buf (Elt F) (mO.view.loc (c : Thread nD τ)))
/-- Panel `p`'s columns of the result, at anything. -/
def OutAny (p : Nat) : sProp 𝕄 := iprop(∃ f, mO.view.loc (c : Thread nD τ) ↦[outSet p]{fullShare} f)
/-- The slot that holds panel `p`. -/
def SlotO (p : Nat) : sProp 𝕄 := bO.view.loc (c : Thread nD τ) ↦[oslot p]{fullShare} (oBuf x w d p : Buf (Elt F) (bO.view.loc (c : Thread nD τ)))

abbrev NO : ℕ := (dsO ![0, 0] (by decide)).view.dmaCredit
theorem NO_pos : 0 < NO := View.dmaCredit_pos _ (by decide)

/-- Panel `p`'s slot free, and its semaphore at zero. -/
def FreeO (p : Nat) : sProp 𝕄 := iprop((∃ f, bO.view.loc (c : Thread nD τ) ↦[oslot p]{fullShare} f) ∗ semVal ((c : Thread nD τ), .dma (semO p)) 0)
/-- Panel `p`'s copy out in flight. -/
def FlightO (p : Nat) : sProp 𝕄 :=
  Flight (countersEmb (U := Pipeline.UD sig nD τ)) (c : Thread nD τ) (.dma (semO p)) () NO iprop(OutPt c x w d p ∗ SlotO c x w d p)

theorem FreeO_add (p : Nat) : FreeO (F := F) c (p + 2) = FreeO c p := by
  have e : (p + 2) % 2 = p % 2 := by omega
  have e1 : oslot (p + 2) = oslot p := by
    ext i; rw [mem_oslot, mem_oslot, e]
  have e2 : semO (p + 2) = semO p := semO_congr (by rw [e]) _ _
  unfold FreeO
  rw [e1, e2]

theorem T_enqO {p : Nat} {o5 : Fin 1 → Nat} (e5 : o5 = ![p % 2]) (b5 : ∀ a, o5 a + S1.size a ≤ S2.size a)
    {o6 : Fin 2 → Nat} (e6 : o6 = ![0, 512 * p]) (b6 : ∀ a, o6 a + S96x512.size a ≤ S96x16384.size a)
    {o7 : Fin 3 → Nat} (e7 : o7 = ![p % 2, 0, 0]) (b7 : ∀ a, o7 a + S1x96x512.size a ≤ S2x96x512.size a)
    {h1 : (slO o7 b7).view.WordExact} {h2 : (dsO o6 b6).view.WordExact}
    {h3 : DmaTarget.Typed (nD := nD) (τ := τ) (p := .tc) .vmem (.dma ((cc0_scratch5.slice (Rect.unit (s := S2) o5 S1.size b5)).squeeze S_ squeezes_S1_S_).sem) (.here (dsO o6 b6))} :
    T c iprop(SlotO c x w d p ∗ OutAny c p ∗ semVal ((c : Thread nD τ), .dma (semO p)) 0)
      (Prog.lift (.enqueueDma (slO o7 b7) (.here (dsO o6 b6)) (.dma ((cc0_scratch5.slice (Rect.unit (s := S2) o5 S1.size b5)).squeeze S_ squeezes_S1_S_).sem) h1 h2 h3)) ⟨⟩
      (FlightO c x w d p) := by
  have h := T_copy (c := c) _ (src := slO o7 b7) (dst := dsO o6 b6) (hsrc := h1) (hdst := h2) (hsem := h3) NO rfl NO_pos fullShare (oBuf x w d p) (outV x w d)
    (read_dsO x w d e6 b6 e7 b7)
  rw [set_slO e7, set_dsO e6] at h
  subst e5
  exact h

theorem T_waitO' (p : Nat) {o : Fin 1 → Nat} (e : o = ![p % 2]) (b : ∀ a, o a + S1.size a ≤ S2.size a)
    {o6 : Fin 2 → Nat} (b6 : ∀ a, o6 a + S96x512.size a ≤ S96x16384.size a) {o7 : Fin 3 → Nat} (b7 : ∀ a, o7 a + S1x96x512.size a ≤ S2x96x512.size a)
    {h1 : (slO o7 b7).view.WordExact} {h2 : (dsO o6 b6).view.WordExact} :
    T c iprop(FlightO c x w d p ∗ Owes c)
      (Prog.lift (.waitDma2 ((cc0_scratch5.slice (Rect.unit (s := S2) o S1.size b)).squeeze S_ squeezes_S1_S_).sem (slO o7 b7) (dsO o6 b6) h1 h2)) ⟨⟩
      iprop(OutPt c x w d p ∗ FreeO c p ∗ Owes c) := by
  subst e
  refine T.conseq (P := iprop(FlightO c x w d p ∗ Owes c)) (P' := iprop(iprop(OutPt c x w d p ∗ SlotO c x w d p) ∗ semVal ((c : Thread nD τ), .dma (semO p)) 0 ∗ Owes c)) ?_ .rfl ?_
  · apply T_wait
    rfl
  · unfold FreeO SlotO
    iintro ⟨⟨HO, Hs⟩, Hv, Hw⟩
    isplitl [HO]
    · iexact HO
    isplitl [Hs Hv]
    · isplitl [Hs]
      · iexists _
        iexact Hs
      iexact Hv
    iexact Hw

variable {c} in
/-- What holds of every contents holds of some. -/
theorem T.ex {α β : Type} {P : β → sProp 𝕄} {R P' : sProp 𝕄} {p : Prog (TpuEff nD τ sig (Elt F) Λ₀ .tc) α} {v : α}
    (h : ∀ f, T c iprop(P f ∗ R) p v P') : T c iprop((∃ f, P f) ∗ R) p v P' := by
  intro Q
  iintro ⟨⟨⟨%f, HP⟩, HR⟩, HQ⟩
  iapply (h f Q)
  isplitl [HP HR]
  · isplitl [HP]
    · iexact HP
    iexact HR
  iexact HQ

/-! ## A panel's two halves stored -/

abbrev rO (o : Fin 3 → Nat) (b : ∀ a, o a + S1x96x256.size a ≤ S2x96x512.size a) : Rect S2x96x512 := Rect.unit (s := S2x96x512) o S1x96x256.size b

theorem half_sub {p q : Nat} {o : Fin 3 → Nat} (e : o = ![p % 2, 0, q]) (b : ∀ a, o a + S1x96x256.size a ≤ S2x96x512.size a)
    {i : S2x96x512.Idx} (hi : i ∈ (bO.access (rO o b)).setOn Finset.univ) : (i 0).val = p % 2 ∧ q ≤ (i 2).val ∧ (i 2).val < q + 256 := by
  subst e
  obtain ⟨j, -, rfl⟩ := Finset.mem_map.mp hi
  have h0 : (j 0).val < 1 := (j 0).isLt
  have h2 : (j 2).val < 256 := (j 2).isLt
  constructor
  · show p % 2 + 1 * (j 0).val = p % 2
    omega
  · show q ≤ q + 1 * (j 2).val ∧ q + 1 * (j 2).val < q + 256
    omega

theorem half_sub' {p q : Nat} {o : Fin 3 → Nat} (e : o = ![p % 2, 0, q]) (b : ∀ a, o a + S1x96x256.size a ≤ S2x96x512.size a) :
    bO.view.setOn (rO o b).set ⊆ oslot p := by
  intro i hi
  obtain ⟨i', hi', rfl⟩ := Finset.mem_map.mp hi
  subst e
  have h : p % 2 ≤ (i' 0).val ∧ (i' 0).val < p % 2 + 1 := Rect.mem_set_unit.mp hi' 0
  rw [mem_oslot]
  show (i' 0).val = _
  omega

abbrev SlotAt (p : Nat) (f : Buf (Elt F) (bO.view.loc (c : Thread nD τ))) : sProp 𝕄 := bO.view.loc (c : Thread nD τ) ↦[oslot p]{fullShare} f

theorem T_loadO {p q : Nat} {o : Fin 3 → Nat} (e : o = ![p % 2, 0, q]) (b : ∀ a, o a + S1x96x256.size a ≤ S2x96x512.size a) (f : Buf (Elt F) (bO.view.loc (c : Thread nD τ)))
    {h1 : bO.view.LoadsAt (rO o b).toLoadRect} :
    T c (SlotAt c p f) (Prog.lift (.load bO (rO o b).toLoadRect h1)) (bO.view.readAt (Elt F) (rO o b).toLoadRect f) (SlotAt c p f) := by
  intro Q
  iintro ⟨Hs, HQ⟩
  iapply (wp_load (defs := defs₀ (F := F)) (c := (c : Thread nD τ)) Variants.none none Set.univ (m := bO) (S := oslot p) (half_sub' e b)) $$ Hs
  iintro Hs
  iapply (T.pure (c := c) (P := SlotAt c p f) _ Q)
  isplitl [Hs]
  · iexact Hs
  iexact HQ

theorem T_storeO {p q : Nat} {o : Fin 3 → Nat} (e : o = ![p % 2, 0, q]) (b : ∀ a, o a + S1x96x256.size a ≤ S2x96x512.size a) (f : Buf (Elt F) (bO.view.loc (c : Thread nD τ)))
    (u : Vec F S1x96x256 .bf16) {h1 : (bO.access (rO o b)).Stores Finset.univ} {h2 : (Finset.univ : Finset (rO o b).shape.Idx) = Finset.univ ∨ ∀ a, (rO o b).stride a = 1} :
    T c (SlotAt c p f) (Prog.lift (.store bO (rO o b) u Finset.univ h1 h2)) ⟨⟩ (SlotAt c p ((bO.access (rO o b)).write (Elt F) f u Finset.univ)) := by
  intro Q
  iintro ⟨Hs, HQ⟩
  iapply (wp_store (defs := defs₀ (F := F)) (c := (c : Thread nD τ)) Variants.none none Set.univ (m := bO) (r := rO o b)
    (S := oslot p) (fun i hi => mem_oslot.mpr (half_sub e b hi).1)) $$ Hs
  iintro Hs
  iapply (T.pure (c := c) (P := SlotAt c p ((bO.access (rO o b)).write (Elt F) f u Finset.univ)) _ Q)
  isplitl [Hs]
  · iexact Hs
  iexact HQ

/-- An index of a half of a slot, from its row and column. -/
abbrev ixH (r c : Nat) : S1x96x256.Idx := fun a => match a with | ⟨0, _⟩ => (0 : Fin 1) | ⟨1, _⟩ => Fin.ofNat 96 r | ⟨2, _⟩ => Fin.ofNat 256 c

theorem ixH_eq (r c : Nat) : ixH r c = fun a => match a with | ⟨0, _⟩ => (0 : Fin 1) | ⟨1, _⟩ => Fin.ofNat 96 r | ⟨2, _⟩ => Fin.ofNat 256 c := by
  funext a
  fin_cases a <;> rfl

theorem emb_half {p q : Nat} {o : Fin 3 → Nat} (e : o = ![p % 2, 0, q]) (b : ∀ a, o a + S1x96x256.size a ≤ S2x96x512.size a) {i : S2x96x512.Idx}
    (hi : (i 0).val = p % 2) (hq : q + (i 2).val % 256 = (i 2).val) : (bO.access (rO o b)).emb (ixH (i 1).val (i 2).val) = i := by
  subst e
  have h1 : (i 1).val < 96 := (i 1).isLt
  funext a
  apply Fin.ext
  fin_cases a
  · show p % 2 + 1 * 0 = (i 0).val
    omega
  · show 0 + 1 * ((i 1).val % 96) = (i 1).val
    omega
  · show q + 1 * ((i 2).val % 256) = (i 2).val
    omega

theorem stored {p : Nat} {o3 : Fin 3 → Nat} (e3 : o3 = ![p % 2, 0, 0]) (b3 : ∀ a, o3 a + S1x96x256.size a ≤ S2x96x512.size a)
    {o4 : Fin 3 → Nat} (e4 : o4 = ![p % 2, 0, 256]) (b4 : ∀ a, o4 a + S1x96x256.size a ≤ S2x96x512.size a) (f : Buf (Elt F) (bO.view.loc (c : Thread nD τ))) :
    SlotAt c p ((bO.access (rO o4 b4)).write (Elt F) ((bO.access (rO o3 b3)).write (Elt F) f (leftV x w d p) Finset.univ) (rightV x w d p) Finset.univ) = SlotO c x w d p := by
  refine pointsTo_congr fun i hi => ?_
  have h2 : (i 2).val < 512 := (i 2).isLt
  rw [mem_oslot] at hi
  by_cases h : (i 2).val < 256
  · refine (View.write_of_not_mem _ _ _ (fun hm => ?_)).trans ?_
    · have := (half_sub e4 b4 hm).2.1
      omega
    · refine (congrArg _ (emb_half e3 b3 hi (by omega)).symm).trans ((View.write_emb_of_mem _ _ (Finset.mem_univ _)).trans ?_)
      show leftV x w d p _ = outAt x w d p (i 1).val (i 2).val
      unfold outAt
      rw [if_pos h]
      exact congrArg _ (ixH_eq _ _)
  · refine (congrArg _ (emb_half e4 b4 hi (by omega)).symm).trans ((View.write_emb_of_mem _ _ (Finset.mem_univ _)).trans ?_)
    show rightV x w d p _ = outAt x w d p (i 1).val (i 2).val
    unfold outAt
    rw [if_neg h]
    exact congrArg _ (ixH_eq _ _)

end Cert.Kernel.K
-- ==== Proof.TripEq.lean ====
module

public import proofs.«01_k».proof.Proof.Rolled
public import Idealize.ShloMosaic.Lib.Tactic

@[expose] public section

noncomputable section

namespace Cert.Kernel.K

open Idealize.ShloMosaic Idealize.SL.Sem Cert.Kernel Cert.Kernel.Gen

variable {F : FTy → Type} [FloatOps F]
variable (arg0 : Memref sig .tc .hbm S96x13312 .bf16) (harg0 : arg0.IsWhole) (arg1 : Memref sig .tc .hbm S13312x16384 .i8) (harg1 : arg1.IsWhole)
  (arg2 : Memref sig .tc .vmem S416x16384 .f32) (harg2 : arg2.IsWhole) (arg3 : Memref sig .tc .hbm S96x16384 .bf16) (harg3 : arg3.IsWhole)
  (arg4 : Memref sig .tc .vmem S96x13312 .bf16)
  (harg4 : arg4.IsWhole) (arg5 : Memref sig .tc .vmem S6x3328x512 .i8)  (harg5 : arg5.IsWhole)
  (arg6 : Memref sig .tc .vmem S2x96x512 .bf16) (harg6 : arg6.IsWhole) (arg7 : DmaSems sig S4) (arg8 : DmaSems sig S6) (arg9 : DmaSems sig S2)

theorem off4_eq : ∀ k : Fin k0_t1_loop.trips, k0_off4 k = ![(4 * k.val + 0 + 5) % 6] := by decide +kernel
theorem off5_eq : ∀ k : Fin k0_t1_loop.trips, k0_off5 k = offSlot (4 * k.val + 0 + 5) := by decide +kernel
theorem off6_eq : ∀ k : Fin k0_t1_loop.trips, k0_off6 k = offSrc (4 * k.val + 0 + 5) := by decide +kernel
theorem cond2_eq : ∀ k : Fin k0_t1_loop.trips, (k0_cond2 k = 1#1) = (4 * k.val + 0 + 5 < 128) := by
  have h : ∀ k : Fin k0_t1_loop.trips, (k0_cond2 k = 1#1) ↔ (4 * k.val + 0 + 5 < 128) := by decide +kernel
  exact fun k => propext (h k)
theorem off319_eq : ∀ k : Fin k0_t1_loop.trips, k0_off319 k = ![(4 * k.val + 1 + 5) % 6] := by decide +kernel
theorem off320_eq : ∀ k : Fin k0_t1_loop.trips, k0_off320 k = offSlot (4 * k.val + 1 + 5) := by decide +kernel
theorem off321_eq : ∀ k : Fin k0_t1_loop.trips, k0_off321 k = offSrc (4 * k.val + 1 + 5) := by decide +kernel
theorem cond4_eq : ∀ k : Fin k0_t1_loop.trips, (k0_cond4 k = 1#1) = (4 * k.val + 1 + 5 < 128) := by
  have h : ∀ k : Fin k0_t1_loop.trips, (k0_cond4 k = 1#1) ↔ (4 * k.val + 1 + 5 < 128) := by decide +kernel
  exact fun k => propext (h k)
theorem off426_eq : ∀ k : Fin k0_t1_loop.trips, k0_off426 k = ![(4 * k.val + 2 + 5) % 6] := by decide +kernel
theorem off427_eq : ∀ k : Fin k0_t1_loop.trips, k0_off427 k = offSlot (4 * k.val + 2 + 5) := by decide +kernel
theorem off428_eq : ∀ k : Fin k0_t1_loop.trips, k0_off428 k = offSrc (4 * k.val + 2 + 5) := by decide +kernel
theorem cond6_eq : ∀ k : Fin k0_t1_loop.trips, (k0_cond6 k = 1#1) = (4 * k.val + 2 + 5 < 128) := by
  have h : ∀ k : Fin k0_t1_loop.trips, (k0_cond6 k = 1#1) ↔ (4 * k.val + 2 + 5 < 128) := by decide +kernel
  exact fun k => propext (h k)
theorem off533_eq : ∀ k : Fin k0_t1_loop.trips, k0_off533 k = ![(4 * k.val + 3 + 5) % 6] := by decide +kernel
theorem off534_eq : ∀ k : Fin k0_t1_loop.trips, k0_off534 k = offSlot (4 * k.val + 3 + 5) := by decide +kernel
theorem off535_eq : ∀ k : Fin k0_t1_loop.trips, k0_off535 k = offSrc (4 * k.val + 3 + 5) := by decide +kernel
theorem cond8_eq : ∀ k : Fin k0_t1_loop.trips, (k0_cond8 k = 1#1) = (4 * k.val + 3 + 5 < 128) := by
  have h : ∀ k : Fin k0_t1_loop.trips, (k0_cond8 k = 1#1) ↔ (4 * k.val + 3 + 5 < 128) := by decide +kernel
  exact fun k => propext (h k)

/-- A conditional whose branches both go on with the same program, the first after one more. -/
theorem dite_join {E : Type → Type _} {β : Type} {c : Prop} [Decidable c] (e : c → Prog E PUnit) (J : Prog E β) :
    (if h : c then (e h >>= fun _ => J) else J) = ((if h : c then e h else pure ⟨⟩) >>= fun _ => J) := by
  split <;> simp only [pure_bind]

theorem ite_join {E : Type → Type _} {β : Type} {c : Prop} [Decidable c] (e : Prog E PUnit) (J : Prog E β) :
    (if c then (e >>= fun _ => J) else J) = ((if c then e else pure ⟨⟩) >>= fun _ => J) := by
  split <;> simp only [pure_bind]

/-- The copy of the weights of step `n`, its offsets as the kernel computes them. -/
theorem startW_eq {n : Nat} (h : n < 128) {o4 : Fin 1 → Nat} {o5 : Fin 3 → Nat} {o6 : Fin 2 → Nat} (e4 : o4 = ![n % 6]) (e5 : o5 = offSlot n)
    (e6 : o6 = offSrc n) (b4 : ∀ a, o4 a + S1.size a ≤ S6.size a) (b5 : ∀ a, o5 a + S1x3328x512.size a ≤ S6x3328x512.size a)
    (b6 : ∀ a, o6 a + S3328x512.size a ≤ S13312x16384.size a)
    (w5 : (Rect.unit (s := S6x3328x512) o5 S1x3328x512.size b5).WholeWords (EltTy.packing .i8))
    (w6 : (Rect.unit (s := S13312x16384) o6 S3328x512.size b6).WholeWords (EltTy.packing .i8)) :
    (Prog.lift (.enqueueDma
      (arg1.slice (Rect.unit (s := S13312x16384) o6 S3328x512.size b6) (fun _ => rfl))
      (.here ((arg5.slice (Rect.unit (s := S6x3328x512) o5 S1x3328x512.size b5) (fun _ => rfl)).squeeze S3328x512 squeezes_S1x3328x512_S3328x512))
      (.dma ((arg8.slice (Rect.unit (s := S6) o4 S1.size b4)).squeeze S_ squeezes_S1_S_).sem)
      (harg1.wordExact_slice rfl _ w6) ((harg5.wordExact_slice rfl _ w5).reshape _ _) ⟨Or.inl rfl, trivial⟩) :
      Prog (TpuEff nD τ sig (Elt F) Λ₀ .tc) PUnit) =
    Prog.lift (.enqueueDma
      (arg1.slice (Rect.unit (s := S13312x16384) (offSrc n) S3328x512.size (offSrc_inb n h)) (fun _ => rfl))
      (.here ((arg5.slice (Rect.unit (s := S6x3328x512) (offSlot n) S1x3328x512.size (offSlot_inb n)) (fun _ => rfl)).squeeze S3328x512 squeezes_S1x3328x512_S3328x512))
      (.dma ((arg8.slice (Rect.unit (s := S6) ![n % 6] S1.size (semW_inb n))).squeeze S_ squeezes_S1_S_).sem)
      (harg1.wordExact_slice rfl _ (offSrc_words ⟨n, h⟩)) ((harg5.wordExact_slice rfl _ (offSlot_words n)).reshape _ _) ⟨Or.inl rfl, trivial⟩) := by
  subst e4 e5 e6
  rfl

/-- The copy started ahead in chunk 0. -/
theorem startW_0 (k : Fin k0_t1_loop.trips) :
    (if h : k0_cond2 k = 1#1 then
      (Prog.lift (.enqueueDma
        (arg1.slice (Rect.unit (s := S13312x16384) (k0_off6 k) S3328x512.size (k0_off6_inb k h)) (fun _ => rfl))
        (.here ((arg5.slice (Rect.unit (s := S6x3328x512) (k0_off5 k) S1x3328x512.size (k0_off5_inb k h)) (fun _ => rfl)).squeeze S3328x512 squeezes_S1x3328x512_S3328x512))
        (.dma ((arg8.slice (Rect.unit (s := S6) (k0_off4 k) S1.size (k0_off4_inb k h))).squeeze S_ squeezes_S1_S_).sem)
        (harg1.wordExact_slice rfl _ (k0_off6_wordsi8 k h)) ((harg5.wordExact_slice rfl _ (k0_off5_wordsi8 k h)).reshape _ _) ⟨Or.inl rfl, trivial⟩) :
        Prog (TpuEff nD τ sig (Elt F) Λ₀ .tc) PUnit)
      else pure ⟨⟩) = startW arg5 arg1 harg1 harg5 arg8 (4 * k.val + 0 + 5) :=
  dite_congr (cond2_eq k) (fun h => startW_eq arg1 harg1 arg5 harg5 arg8 h (off4_eq k) (off5_eq k) (off6_eq k)
    (k0_off4_inb k ((cond2_eq k).mpr h)) (k0_off5_inb k ((cond2_eq k).mpr h)) (k0_off6_inb k ((cond2_eq k).mpr h))
    (k0_off5_wordsi8 k ((cond2_eq k).mpr h)) (k0_off6_wordsi8 k ((cond2_eq k).mpr h))) fun _ => rfl

/-- The copy started ahead in chunk 1. -/
theorem startW_1 (k : Fin k0_t1_loop.trips) :
    (if h : k0_cond4 k = 1#1 then
      (Prog.lift (.enqueueDma
        (arg1.slice (Rect.unit (s := S13312x16384) (k0_off321 k) S3328x512.size (k0_off321_inb k h)) (fun _ => rfl))
        (.here ((arg5.slice (Rect.unit (s := S6x3328x512) (k0_off320 k) S1x3328x512.size (k0_off320_inb k h)) (fun _ => rfl)).squeeze S3328x512 squeezes_S1x3328x512_S3328x512))
        (.dma ((arg8.slice (Rect.unit (s := S6) (k0_off319 k) S1.size (k0_off319_inb k h))).squeeze S_ squeezes_S1_S_).sem)
        (harg1.wordExact_slice rfl _ (k0_off321_wordsi8 k h)) ((harg5.wordExact_slice rfl _ (k0_off320_wordsi8 k h)).reshape _ _) ⟨Or.inl rfl, trivial⟩) :
        Prog (TpuEff nD τ sig (Elt F) Λ₀ .tc) PUnit)
      else pure ⟨⟩) = startW arg5 arg1 harg1 harg5 arg8 (4 * k.val + 1 + 5) :=
  dite_congr (cond4_eq k) (fun h => startW_eq arg1 harg1 arg5 harg5 arg8 h (off319_eq k) (off320_eq k) (off321_eq k)
    (k0_off319_inb k ((cond4_eq k).mpr h)) (k0_off320_inb k ((cond4_eq k).mpr h)) (k0_off321_inb k ((cond4_eq k).mpr h))
    (k0_off320_wordsi8 k ((cond4_eq k).mpr h)) (k0_off321_wordsi8 k ((cond4_eq k).mpr h))) fun _ => rfl

/-- The copy started ahead in chunk 2. -/
theorem startW_2 (k : Fin k0_t1_loop.trips) :
    (if h : k0_cond6 k = 1#1 then
      (Prog.lift (.enqueueDma
        (arg1.slice (Rect.unit (s := S13312x16384) (k0_off428 k) S3328x512.size (k0_off428_inb k h)) (fun _ => rfl))
        (.here ((arg5.slice (Rect.unit (s := S6x3328x512) (k0_off427 k) S1x3328x512.size (k0_off427_inb k h)) (fun _ => rfl)).squeeze S3328x512 squeezes_S1x3328x512_S3328x512))
        (.dma ((arg8.slice (Rect.unit (s := S6) (k0_off426 k) S1.size (k0_off426_inb k h))).squeeze S_ squeezes_S1_S_).sem)
        (harg1.wordExact_slice rfl _ (k0_off428_wordsi8 k h)) ((harg5.wordExact_slice rfl _ (k0_off427_wordsi8 k h)).reshape _ _) ⟨Or.inl rfl, trivial⟩) :
        Prog (TpuEff nD τ sig (Elt F) Λ₀ .tc) PUnit)
      else pure ⟨⟩) = startW arg5 arg1 harg1 harg5 arg8 (4 * k.val + 2 + 5) :=
  dite_congr (cond6_eq k) (fun h => startW_eq arg1 harg1 arg5 harg5 arg8 h (off426_eq k) (off427_eq k) (off428_eq k)
    (k0_off426_inb k ((cond6_eq k).mpr h)) (k0_off427_inb k ((cond6_eq k).mpr h)) (k0_off428_inb k ((cond6_eq k).mpr h))
    (k0_off427_wordsi8 k ((cond6_eq k).mpr h)) (k0_off428_wordsi8 k ((cond6_eq k).mpr h))) fun _ => rfl

/-- The copy started ahead in chunk 3. -/
theorem startW_3 (k : Fin k0_t1_loop.trips) :
    (if h : k0_cond8 k = 1#1 then
      (Prog.lift (.enqueueDma
        (arg1.slice (Rect.unit (s := S13312x16384) (k0_off535 k) S3328x512.size (k0_off535_inb k h)) (fun _ => rfl))
        (.here ((arg5.slice (Rect.unit (s := S6x3328x512) (k0_off534 k) S1x3328x512.size (k0_off534_inb k h)) (fun _ => rfl)).squeeze S3328x512 squeezes_S1x3328x512_S3328x512))
        (.dma ((arg8.slice (Rect.unit (s := S6) (k0_off533 k) S1.size (k0_off533_inb k h))).squeeze S_ squeezes_S1_S_).sem)
        (harg1.wordExact_slice rfl _ (k0_off535_wordsi8 k h)) ((harg5.wordExact_slice rfl _ (k0_off534_wordsi8 k h)).reshape _ _) ⟨Or.inl rfl, trivial⟩) :
        Prog (TpuEff nD τ sig (Elt F) Λ₀ .tc) PUnit)
      else pure ⟨⟩) = startW arg5 arg1 harg1 harg5 arg8 (4 * k.val + 3 + 5) :=
  dite_congr (cond8_eq k) (fun h => startW_eq arg1 harg1 arg5 harg5 arg8 h (off533_eq k) (off534_eq k) (off535_eq k)
    (k0_off533_inb k ((cond8_eq k).mpr h)) (k0_off534_inb k ((cond8_eq k).mpr h)) (k0_off535_inb k ((cond8_eq k).mpr h))
    (k0_off534_wordsi8 k ((cond8_eq k).mpr h)) (k0_off535_wordsi8 k ((cond8_eq k).mpr h))) fun _ => rfl

theorem bind_eq {E : Type → Type _} {α β : Type} {p p' : Prog E α} {K K' : α → Prog E β} (h : p = p') (h' : ∀ x, K x = K' x) :
    p >>= K = p' >>= K' := by
  obtain rfl := h
  exact congrArg _ (funext h')

set_option maxHeartbeats 1000000
set_option maxRecDepth 100000
/-- The printed trip is the rolled one. -/
theorem body_eq_trip (m0 : Mxu F) (k : Fin k0_t1_loop.trips) (s : Mxu F) :
    k0_t1_body arg0 harg0 arg1 harg1 arg2 harg2 arg3 harg3 arg4 harg4 arg5 harg5 arg6 harg6 arg7 arg8 arg9 m0 k s =
      trip arg2 arg4 arg5 arg0 harg0 arg1 harg1 arg3 harg3 harg4 harg5 arg6 harg6 arg7 arg8 arg9 k s := by
  unfold k0_t1_body k0_part208 k0_part209 k0_part210 k0_part211
  simp only [bind_assoc, pure_bind, dite_join, ite_join, dite_eq_ite, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part55_eq_skeleton, k0_part55_skel, k0_part56_eq_skeleton, k0_part56_skel, k0_part106_eq_skeleton, k0_part106_skel, k0_part107_eq_skeleton, k0_part107_skel, k0_part156_eq_skeleton, k0_part156_skel, k0_part157_eq_skeleton, k0_part157_skel, k0_part207_eq_skeleton, k0_part207_skel,
    startW_0 arg1 harg1 arg5 harg5 arg8 k, startW_1 arg1 harg1 arg5 harg5 arg8 k, startW_2 arg1 harg1 arg5 harg5 arg8 k, startW_3 arg1 harg1 arg5 harg5 arg8 k]
  unfold trip chunk finish
  simp only [bind_assoc, pure_bind]
  refine bind_eq ?_ fun _ => bind_eq ?_ fun _ => bind_eq ?_ fun _ => ?_
  · sl_kernel_rfl
  · sl_kernel_rfl
  · sl_kernel_rfl
  · sl_kernel_rfl

end Cert.Kernel.K
-- ==== Proof.Loop.lean ====
module

public import proofs.«01_k».proof.Proof.Out
public import proofs.«01_k».proof.Proof.TripEq
public import Idealize.ShloMosaic.Lib.Pipeline.Value

@[expose] public section

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (x : Vec F S96x13312 .bf16) (w : Vec F S13312x16384 .i8) (d : Vec F S416x16384 .f32)

/-! ## The panel's end -/

/-- Panel `k`'s slot before trip `k`: still being copied out for panel `k - 2`, if there is such a panel. -/
def PreO (k : Nat) : sProp 𝕄 := if 2 ≤ k then FlightO c x w d (k - 2) else FreeO c k
/-- The panels copied out before trip `k`. -/
def Done (k : Nat) : sProp 𝕄 := BI.bigSep (Finset.range (k - 2)) fun p => OutPt c x w d p
/-- The panels still to come. -/
def Todo (k : Nat) : sProp 𝕄 := BI.bigSep (Finset.Ico k 32) fun p => OutAny c p

theorem Done_succ {k : Nat} (h : 2 ≤ k) : Done c x w d (k + 1) = iprop(OutPt c x w d (k - 2) ∗ Done c x w d k) := by
  have e : k + 1 - 2 = (k - 2) + 1 := by omega
  unfold Done
  rw [e, Finset.range_add_one]
  exact BI.bigSep_insert (by simp)

theorem Todo_step {k : Nat} (h : k < 32) : Todo (F := F) c k = iprop(OutAny c k ∗ Todo c (k + 1)) := by
  have e : Finset.Ico k 32 = insert k (Finset.Ico (k + 1) 32) := by
    ext i
    simp only [Finset.mem_Ico, Finset.mem_insert]
    omega
  unfold Todo
  rw [e]
  exact BI.bigSep_insert (by simp)

theorem cond9_iff : ∀ k : Fin k0_t1_loop.trips, k0_cond9 k = 1#1 ↔ 2 ≤ k.val := by decide +kernel
theorem off640_eq : ∀ k : Fin k0_t1_loop.trips, k0_off640 k = ![k.val % 2] := by decide +kernel
theorem off643_eq : ∀ k : Fin k0_t1_loop.trips, k0_off643 k = ![k.val % 2, 0, 0] := by decide +kernel
theorem off644_eq : ∀ k : Fin k0_t1_loop.trips, k0_off644 k = ![k.val % 2, 0, 256] := by decide +kernel
theorem off645_eq : ∀ k : Fin k0_t1_loop.trips, k0_off645 k = ![k.val % 2] := by decide +kernel
theorem off646_eq : ∀ k : Fin k0_t1_loop.trips, k0_off646 k = ![0, 512 * k.val] := by decide +kernel
theorem off647_eq : ∀ k : Fin k0_t1_loop.trips, k0_off647 k = ![k.val % 2, 0, 0] := by decide +kernel

theorem T_waitO (k : Fin k0_t1_loop.trips) :
    T c iprop(PreO c x w d k.val ∗ Done c x w d k.val ∗ Owes c) (waitO mO (Memref.isWhole_whole _) bO (Memref.isWhole_whole _) cc0_scratch5 k) ⟨⟩
      iprop(FreeO c k.val ∗ Done c x w d (k.val + 1) ∗ Owes c) := by
  unfold waitO PreO
  by_cases h : 2 ≤ k.val
  · rw [dif_pos ((cond9_iff k).mpr h), if_pos h, Done_succ c x w d h]
    have e : FreeO (F := F) c k.val = FreeO c (k.val - 2) := by
      rw [← FreeO_add c (k.val - 2)]
      congr 1
      omega
    rw [e]
    have e' : k.val % 2 = (k.val - 2) % 2 := by omega
    exact (T_waitO' c x w d (k.val - 2) ((off640_eq k).trans (by rw [e'])) _ _ _).use (Done c x w d k.val) (by ac_rfl) (by ac_rfl)
  · rw [dif_neg (fun h' => h ((cond9_iff k).mp h')), if_neg h]
    have e : Done c x w d (k.val + 1) = Done c x w d k.val := by
      unfold Done
      congr 2
      omega
    rw [e]
    exact T.pure _

/-- The panel's end: the slot is taken back, filled with panel `k` and sent. -/
theorem T_finish (k : Fin k0_t1_loop.trips) :
    T c iprop(PreO c x w d k.val ∗ Done c x w d k.val ∗ Todo c k.val ∗ Owes c)
      (finish mO (Memref.isWhole_whole _) bO (Memref.isWhole_whole _) cc0_scratch5 k (fullV x w d k.val)) (stateV x w d (k.val + 1))
      iprop(PreO c x w d (k.val + 2) ∗ Done c x w d (k.val + 1) ∗ Todo c (k.val + 1) ∗ Owes c) := by
  have hk : k.val < 32 := k.isLt
  have e2 : PreO c x w d (k.val + 2) = FlightO c x w d k.val := by
    unfold PreO
    rw [if_pos (by omega)]
    rfl
  rw [e2, Todo_step c hk]
  unfold finish
  refine T.bind ((T_waitO c x w d k).use iprop(OutAny c k.val ∗ Todo c (k.val + 1)) (by ac_rfl) rfl) ?_
  refine T.conseq (P := iprop((∃ f, SlotAt c k.val f) ∗ semVal ((c : Thread nD τ), .dma (semO k.val)) 0 ∗ OutAny c k.val ∗ Done c x w d (k.val + 1) ∗ Todo c (k.val + 1) ∗ Owes c))
    (T.ex fun f => ?_) (Entails.of_eq ?_) .rfl
  · refine T.bind ((T_loadO c (off643_eq k) _ f).framed _) ?_
    refine T.bind ((T_storeO c (off643_eq k) _ f (leftV x w d k.val)).framed _) ?_
    refine T.bind ((T_loadO c (off644_eq k) _ _).framed _) ?_
    refine T.bind ((T_storeO c (off644_eq k) _ _ (rightV x w d k.val)).framed _) ?_
    rw [stored c x w d (off643_eq k) _ (off644_eq k) _]
    refine T.bind ((T_enqO c x w d (off645_eq k) _ (off646_eq k) _ (off647_eq k) _).use iprop(Done c x w d (k.val + 1) ∗ Todo c (k.val + 1) ∗ Owes c) (by ac_rfl) rfl) ?_
    exact T.pure _
  · unfold FreeO
    ac_rfl

/-! ## The loop -/

variable (arg2 : Memref sig .tc .vmem S416x16384 .f32) (f2 : Buf (Elt F) (arg2.view.loc (c : Thread nD τ))) (hf2 : arg2.view.read (Elt F) f2 = d)

/-- What the kernel holds before trip `k`. -/
def Inv (k : Nat) : sProp 𝕄 :=
  iprop(XP c x k 0 ∗ XP c x k 1 ∗ XP c x k 2 ∗ XP c x k 3 ∗ RingS c w (4 * k) ∗ Scales c arg2 f2 ∗ PreO c x w d k ∗ PreO c x w d (k + 1) ∗ Done c x w d k ∗ Todo c k ∗ Owes c)

theorem XP_succ (k : Nat) (j : Fin 4) : XP c x (k + 1) j = LoadedX c x j := if_neg (Nat.succ_ne_zero k)

include hf2 in
/-- One trip takes the state before panel `k` to the state before the next. -/
theorem T_trip (k : Fin k0_t1_loop.trips) :
    T c (Inv c x w d arg2 f2 k.val)
      (trip arg2 bX bW mX (Memref.isWhole_whole _) mW (Memref.isWhole_whole _) mO (Memref.isWhole_whole _) (Memref.isWhole_whole _) (Memref.isWhole_whole _)
        bO (Memref.isWhole_whole _) cc0_scratch3 cc0_scratch4 cc0_scratch5 k (stateV x w d k.val))
      (stateV x w d (k.val + 1)) (Inv c x w d arg2 f2 (k.val + 1)) := by
  have s0 := clear_stateV x w d k.val
  have s1 := clear_tilesV x w d (4 * k.val + 0) 13 0 s0
  have s2 := clear_tilesV x w d (4 * k.val + 1) 13 0 s1
  have s3 := clear_tilesV x w d (4 * k.val + 2) 13 0 s2
  have h0 := T_chunk c x w d arg2 f2 hf2 k 0 s0
  have h1 := T_chunk c x w d arg2 f2 hf2 k 1 s1
  have h2 := T_chunk c x w d arg2 f2 hf2 k 2 s2
  have h3 := T_chunk c x w d arg2 f2 hf2 k 3 s3
  have h4 := T_finish c x w d k
  unfold trip Inv
  rw [XP_succ, XP_succ, XP_succ, XP_succ]
  refine T.bind (h0.use iprop(XP c x k.val 1 ∗ XP c x k.val 2 ∗ XP c x k.val 3 ∗ PreO c x w d k.val ∗ PreO c x w d (k.val + 1) ∗ Done c x w d k.val ∗ Todo c k.val) ?_ rfl) ?_
  · show _ = iprop((XP c x k.val 0 ∗ RingS c w (4 * k.val) ∗ Scales c arg2 f2 ∗ Owes c) ∗ _)
    ac_rfl
  refine T.bind (h1.use iprop(LoadedX c x 0 ∗ XP c x k.val 2 ∗ XP c x k.val 3 ∗ PreO c x w d k.val ∗ PreO c x w d (k.val + 1) ∗ Done c x w d k.val ∗ Todo c k.val) ?_ rfl) ?_
  · show iprop((LoadedX c x 0 ∗ RingS c w (4 * k.val + 1) ∗ Scales c arg2 f2 ∗ Owes c) ∗ _) = iprop((XP c x k.val 1 ∗ RingS c w (4 * k.val + 1) ∗ Scales c arg2 f2 ∗ Owes c) ∗ _)
    ac_rfl
  refine T.bind (h2.use iprop(LoadedX c x 0 ∗ LoadedX c x 1 ∗ XP c x k.val 3 ∗ PreO c x w d k.val ∗ PreO c x w d (k.val + 1) ∗ Done c x w d k.val ∗ Todo c k.val) ?_ rfl) ?_
  · show iprop((LoadedX c x 1 ∗ RingS c w (4 * k.val + 2) ∗ Scales c arg2 f2 ∗ Owes c) ∗ _) = iprop((XP c x k.val 2 ∗ RingS c w (4 * k.val + 2) ∗ Scales c arg2 f2 ∗ Owes c) ∗ _)
    ac_rfl
  refine T.bind (h3.use iprop(LoadedX c x 0 ∗ LoadedX c x 1 ∗ LoadedX c x 2 ∗ PreO c x w d k.val ∗ PreO c x w d (k.val + 1) ∗ Done c x w d k.val ∗ Todo c k.val) ?_ rfl) ?_
  · show iprop((LoadedX c x 2 ∗ RingS c w (4 * k.val + 3) ∗ Scales c arg2 f2 ∗ Owes c) ∗ _) = iprop((XP c x k.val 3 ∗ RingS c w (4 * k.val + 3) ∗ Scales c arg2 f2 ∗ Owes c) ∗ _)
    ac_rfl
  refine h4.use iprop(LoadedX c x 0 ∗ LoadedX c x 1 ∗ LoadedX c x 2 ∗ LoadedX c x 3 ∗ RingS c w (4 * (k.val + 1)) ∗ Scales c arg2 f2 ∗ PreO c x w d (k.val + 1)) ?_ ?_
  · show iprop((LoadedX c x 3 ∗ RingS c w (4 * (k.val + 1)) ∗ Scales c arg2 f2 ∗ Owes c) ∗ _) = _
    ac_rfl
  · show _ = iprop(LoadedX c x 0 ∗ LoadedX c x 1 ∗ LoadedX c x 2 ∗ LoadedX c x 3 ∗ RingS c w (4 * (k.val + 1)) ∗ Scales c arg2 f2 ∗ PreO c x w d (k.val + 1) ∗ PreO c x w d (k.val + 2)
      ∗ Done c x w d (k.val + 1) ∗ Todo c (k.val + 1) ∗ Owes c)
    ac_rfl

variable {c} in
/-- A loop whose trips each take one state to the next takes the first state to the last. -/
theorem T.loop {σ : Type} {n : Nat} (lb ub st : BitVec n) (hok : Scf.OK lb ub st) (body : Fin (Scf.trips lb ub st) → σ → Prog (TpuEff nD τ sig (Elt F) Λ₀ .tc) σ)
    (I : Nat → sProp 𝕄) (s : Nat → σ) (h : ∀ k : Fin (Scf.trips lb ub st), T c (I k.val) (body k (s k.val)) (s (k.val + 1)) (I (k.val + 1))) :
    T c (I 0) (Scf.for lb ub st hok (s 0) body) (s (Scf.trips lb ub st)) (I (Scf.trips lb ub st)) := by
  intro Q
  have hb : ∀ (k : Fin (Scf.trips lb ub st)) (a : σ), (fun k a => iprop(⌜a = s k⌝ ∗ I k)) k.val a
      ⊢ wp frame (wpE (defs₀ (F := F)) Variants.none (c : Thread nD τ) none) Set.univ (body k a) ((fun k a => iprop(⌜a = s k⌝ ∗ I k)) (k.val + 1)) := by
    intro k a
    iintro ⟨%ha, HI⟩
    subst ha
    iapply (h k fun a => iprop(⌜a = s (k.val + 1)⌝ ∗ I (k.val + 1)))
    isplitl [HI]
    · iexact HI
    iintro HI
    isplitr
    · ipureintro; rfl
    iexact HI
  refine BIBase.Entails.trans ?_ (Scf.wp_for frame (wpE (defs₀ (F := F)) Variants.none (c : Thread nD τ) none) Set.univ lb ub st hok (s 0) body (fun k a => iprop(⌜a = s k⌝ ∗ I k)) hb)
  iintro ⟨HI, HQ⟩
  isplitl [HI]
  · isplitr
    · ipureintro; rfl
    iexact HI
  iintro %a ⟨%ha, HI⟩
  subst ha
  iapply HQ
  iexact HI

include hf2 in
/-- The kernel's loop. -/
theorem T_for (harg2 : arg2.IsWhole) (m0 : Mxu F) :
    T c (Inv c x w d arg2 f2 0)
      (Scf.for k0_t1_loop.lb k0_t1_loop.ub k0_t1_loop.st k0_t1_ok Mxu.init
        (k0_t1_body (F := F) mX (Memref.isWhole_whole _) mW (Memref.isWhole_whole _) arg2 harg2 mO (Memref.isWhole_whole _) bX (Memref.isWhole_whole _) bW (Memref.isWhole_whole _)
          bO (Memref.isWhole_whole _) cc0_scratch3 cc0_scratch4 cc0_scratch5 m0))
      (stateV x w d 32) (Inv c x w d arg2 f2 32) := by
  refine T.loop k0_t1_loop.lb k0_t1_loop.ub k0_t1_loop.st k0_t1_ok _ (Inv c x w d arg2 f2) (stateV x w d) fun k => ?_
  rw [body_eq_trip]
  exact T_trip c x w d arg2 f2 hf2 k

end Cert.Kernel.K
-- ==== Proof.Body.lean ====
module

public import proofs.«01_k».proof.Proof.Loop
public import Idealize.ShloMosaic.Lib.Pipeline.Value

@[expose] public section

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (x : Vec F S96x13312 .bf16) (w : Vec F S13312x16384 .i8) (d : Vec F S416x16384 .f32)
variable (arg2 : Memref sig .tc .vmem S416x16384 .f32) (f2 : Buf (Elt F) (arg2.view.loc (c : Thread nD τ))) (hf2 : arg2.view.read (Elt F) f2 = d)

theorem FreeW_congr {n m : Nat} (e : n % 6 = m % 6) : FreeW c w n = FreeW c w m := by
  have e1 : slotSet n = slotSet m := by
    ext i; rw [mem_slotSet, mem_slotSet, e]
  have e2 : semW n = semW m := sem_congr (by rw [e]) _ _
  unfold FreeW
  rw [e1, e2]
  unfold ptW shW
  rw [e]

theorem FreeO_congr {n m : Nat} (e : n % 2 = m % 2) : FreeO (F := F) c n = FreeO c m := by
  have e1 : oslot n = oslot m := by
    ext i; rw [mem_oslot, mem_oslot, e]
  have e2 : semO n = semO m := semO_congr (by rw [e]) _ _
  unfold FreeO
  rw [e1, e2]

/-- The six slots of the ring, free. -/
def Ring : sProp 𝕄 := iprop(FreeW c w 0 ∗ FreeW c w 1 ∗ FreeW c w 2 ∗ FreeW c w 3 ∗ FreeW c w 4 ∗ FreeW c w 5)

/-- After the last step every slot of the ring is free. -/
theorem RingS_last : RingS c w 128 = Ring c w := by
  have e : ∀ n, 128 ≤ n → InW c w n = FreeW c w n := fun n h => by unfold InW; rw [dif_neg (by omega)]
  unfold RingS Ring
  rw [e 128 (by omega), e (128 + 1) (by omega), e (128 + 2) (by omega), e (128 + 3) (by omega), e (128 + 4) (by omega),
    FreeW_congr c w (show 128 % 6 = 2 % 6 from rfl), FreeW_congr c w (show (128 + 1) % 6 = 3 % 6 from rfl), FreeW_congr c w (show (128 + 2) % 6 = 4 % 6 from rfl),
    FreeW_congr c w (show (128 + 3) % 6 = 5 % 6 from rfl), FreeW_congr c w (show (128 + 4) % 6 = 0 % 6 from rfl), FreeW_congr c w (show (128 + 5) % 6 = 1 % 6 from rfl)]
  ac_rfl

/-- What the kernel is given. -/
def Start : sProp 𝕄 :=
  iprop(FreeX c x 0 ∗ FreeX c x 1 ∗ FreeX c x 2 ∗ FreeX c x 3 ∗ Ring c w ∗ Scales c arg2 f2 ∗ FreeO c 0 ∗ FreeO c 1 ∗ Todo c 0 ∗ Owes c)
/-- What the kernel leaves: every panel of the result final. -/
def Final : sProp 𝕄 :=
  iprop(LoadedX c x 0 ∗ LoadedX c x 1 ∗ LoadedX c x 2 ∗ LoadedX c x 3 ∗ Ring c w ∗ Scales c arg2 f2 ∗ FreeO c 0 ∗ FreeO c 1
    ∗ (BI.bigSep (Finset.range 32) fun p => OutPt c x w d p) ∗ Owes c)

/-- The first copies started. -/
theorem T_part212 (harg2 : arg2.IsWhole) (R : sProp 𝕄) :
    T c iprop(FreeX c x 0 ∗ FreeX c x 1 ∗ FreeX c x 2 ∗ FreeW c w 0 ∗ FreeW c w 1 ∗ R)
      (k0_part212 (F := F) mX (Memref.isWhole_whole _) mW (Memref.isWhole_whole _) arg2 harg2 mO (Memref.isWhole_whole _) bX (Memref.isWhole_whole _) bW (Memref.isWhole_whole _)
        bO (Memref.isWhole_whole _) cc0_scratch3 cc0_scratch4 cc0_scratch5) Mxu.init
      iprop(FlightX c x 0 ∗ FlightX c x 1 ∗ FlightX c x 2 ∗ InW c w 0 ∗ InW c w 1 ∗ R) := by
  rw [k0_part212_eq_skeleton]
  unfold k0_part212_skel
  refine T.bind ((T_startX c x 0).use iprop(FreeX c x 1 ∗ FreeX c x 2 ∗ FreeW c w 0 ∗ FreeW c w 1 ∗ R) (by ac_rfl) rfl) ?_
  refine T.bind ((T_enqW c w 0 (by decide)).use iprop(FlightX c x 0 ∗ FreeX c x 1 ∗ FreeX c x 2 ∗ FreeW c w 1 ∗ R) (by ac_rfl) rfl) ?_
  refine T.bind ((T_startX c x 1).use iprop(FlightX c x 0 ∗ FreeX c x 2 ∗ InW c w 0 ∗ FreeW c w 1 ∗ R) (by ac_rfl) rfl) ?_
  refine T.bind ((T_enqW c w 1 (by decide)).use iprop(FlightX c x 0 ∗ FlightX c x 1 ∗ FreeX c x 2 ∗ InW c w 0 ∗ R) (by ac_rfl) rfl) ?_
  refine T.bind ((T_startX c x 2).use iprop(FlightX c x 0 ∗ FlightX c x 1 ∗ InW c w 0 ∗ InW c w 1 ∗ R) (by ac_rfl)
    (O' := iprop(FlightX c x 0 ∗ FlightX c x 1 ∗ FlightX c x 2 ∗ InW c w 0 ∗ InW c w 1 ∗ R)) (by ac_rfl)) ?_
  exact T.pure _

theorem Inv_zero : Inv c x w d arg2 f2 0 = iprop(FlightX c x 0 ∗ FlightX c x 1 ∗ FlightX c x 2 ∗ FlightX c x 3
    ∗ (InW c w 0 ∗ InW c w 1 ∗ InW c w 2 ∗ InW c w 3 ∗ InW c w 4 ∗ FreeW c w 5) ∗ Scales c arg2 f2 ∗ FreeO c 0 ∗ FreeO c 1 ∗ Done c x w d 0 ∗ Todo c 0 ∗ Owes c) := rfl

theorem Inv_last : Inv c x w d arg2 f2 32 = iprop(LoadedX c x 0 ∗ LoadedX c x 1 ∗ LoadedX c x 2 ∗ LoadedX c x 3
    ∗ RingS c w 128 ∗ Scales c arg2 f2 ∗ FlightO c x w d 30 ∗ FlightO c x w d 31 ∗ (BI.bigSep (Finset.range 30) fun p => OutPt c x w d p) ∗ Todo c 32 ∗ Owes c) := rfl

include hf2 in
/-- The loop, and the wait for the last copy but one. -/
theorem T_part213 (harg2 : arg2.IsWhole) :
    T c iprop(FlightX c x 0 ∗ FlightX c x 1 ∗ FlightX c x 2 ∗ FreeX c x 3 ∗ (InW c w 0 ∗ InW c w 1 ∗ FreeW c w 2 ∗ FreeW c w 3 ∗ FreeW c w 4 ∗ FreeW c w 5)
        ∗ Scales c arg2 f2 ∗ FreeO c 0 ∗ FreeO c 1 ∗ Done c x w d 0 ∗ Todo c 0 ∗ Owes c)
      (k0_part213 (F := F) mX (Memref.isWhole_whole _) mW (Memref.isWhole_whole _) arg2 harg2 mO (Memref.isWhole_whole _) bX (Memref.isWhole_whole _) bW (Memref.isWhole_whole _)
        bO (Memref.isWhole_whole _) cc0_scratch3 cc0_scratch4 cc0_scratch5 Mxu.init) (stateV x w d 32)
      iprop(LoadedX c x 0 ∗ LoadedX c x 1 ∗ LoadedX c x 2 ∗ LoadedX c x 3 ∗ RingS c w 128 ∗ Scales c arg2 f2 ∗ FreeO c 30 ∗ FlightO c x w d 31
        ∗ OutPt c x w d 30 ∗ (BI.bigSep (Finset.range 30) fun p => OutPt c x w d p) ∗ Todo c 32 ∗ Owes c) := by
  rw [k0_part213_eq_skeleton]
  unfold k0_part213_skel
  refine T.bind ((T_enqW c w 2 (by decide)).use iprop(FlightX c x 0 ∗ FlightX c x 1 ∗ FlightX c x 2 ∗ FreeX c x 3 ∗ (InW c w 0 ∗ InW c w 1 ∗ FreeW c w 3 ∗ FreeW c w 4 ∗ FreeW c w 5)
        ∗ Scales c arg2 f2 ∗ FreeO c 0 ∗ FreeO c 1 ∗ Done c x w d 0 ∗ Todo c 0 ∗ Owes c) (by ac_rfl) rfl) ?_
  refine T.bind ((T_startX c x 3).use iprop(FlightX c x 0 ∗ FlightX c x 1 ∗ FlightX c x 2 ∗ (InW c w 0 ∗ InW c w 1 ∗ InW c w 2 ∗ FreeW c w 3 ∗ FreeW c w 4 ∗ FreeW c w 5)
        ∗ Scales c arg2 f2 ∗ FreeO c 0 ∗ FreeO c 1 ∗ Done c x w d 0 ∗ Todo c 0 ∗ Owes c) (by ac_rfl) rfl) ?_
  refine T.bind ((T_enqW c w 3 (by decide)).use iprop(FlightX c x 0 ∗ FlightX c x 1 ∗ FlightX c x 2 ∗ FlightX c x 3 ∗ (InW c w 0 ∗ InW c w 1 ∗ InW c w 2 ∗ FreeW c w 4 ∗ FreeW c w 5)
        ∗ Scales c arg2 f2 ∗ FreeO c 0 ∗ FreeO c 1 ∗ Done c x w d 0 ∗ Todo c 0 ∗ Owes c) (by ac_rfl) rfl) ?_
  refine T.bind ((T_enqW c w 4 (by decide)).use iprop(FlightX c x 0 ∗ FlightX c x 1 ∗ FlightX c x 2 ∗ FlightX c x 3 ∗ (InW c w 0 ∗ InW c w 1 ∗ InW c w 2 ∗ InW c w 3 ∗ FreeW c w 5)
        ∗ Scales c arg2 f2 ∗ FreeO c 0 ∗ FreeO c 1 ∗ Done c x w d 0 ∗ Todo c 0 ∗ Owes c) (by ac_rfl) (O' := Inv c x w d arg2 f2 0) (by rw [Inv_zero]; ac_rfl)) ?_
  refine T.bind (T_for c x w d arg2 f2 hf2 harg2 Mxu.init) ?_
  rw [Inv_last]
  refine T.bind ((T_waitO' c x w d 30 (o := ![0]) rfl _ _ _).use iprop(LoadedX c x 0 ∗ LoadedX c x 1 ∗ LoadedX c x 2 ∗ LoadedX c x 3 ∗ RingS c w 128 ∗ Scales c arg2 f2
    ∗ FlightO c x w d 31 ∗ (BI.bigSep (Finset.range 30) fun p => OutPt c x w d p) ∗ Todo c 32) (by ac_rfl) rfl) ?_
  refine T.conseq (T.pure _) (Entails.of_eq ?_) .rfl
  ac_rfl

theorem range_32 : (BI.bigSep (Finset.range 32) fun p => OutPt c x w d p) = iprop(OutPt c x w d 31 ∗ OutPt c x w d 30 ∗ (BI.bigSep (Finset.range 30) fun p => OutPt c x w d p)) := by
  rw [show (32 : Nat) = 31 + 1 from rfl, Finset.range_add_one]
  refine (BI.bigSep_insert (by simp)).trans ?_
  rw [show (31 : Nat) = 30 + 1 from rfl, Finset.range_add_one]
  exact congrArg _ (BI.bigSep_insert (by simp))

include hf2 in
/-- The whole kernel: from what it is given to every panel of the result final. -/
theorem T_kernel (harg2 : arg2.IsWhole) :
    T c (Start c x w arg2 f2) (cc0_q8_0_linear (F := F) mX (Memref.isWhole_whole _) mW (Memref.isWhole_whole _) arg2 harg2 mO (Memref.isWhole_whole _) bX (Memref.isWhole_whole _) bW (Memref.isWhole_whole _)
        bO (Memref.isWhole_whole _) cc0_scratch3 cc0_scratch4 cc0_scratch5) ⟨⟩ (Final c x w d arg2 f2) := by
  have hD : Done c x w d 0 = (iprop(emp) : sProp 𝕄) := BI.bigSep_empty
  have hT : Todo (F := F) c 32 = (iprop(emp) : sProp 𝕄) := BI.bigSep_empty
  have h0 := T_part212 c x w arg2 harg2 iprop(FreeX c x 3 ∗ (FreeW c w 2 ∗ FreeW c w 3 ∗ FreeW c w 4 ∗ FreeW c w 5)
        ∗ Scales c arg2 f2 ∗ FreeO c 0 ∗ FreeO c 1 ∗ Todo c 0 ∗ Owes c)
  have h1 := T_part213 c x w d arg2 f2 hf2 harg2
  rw [hD] at h1
  rw [hT] at h1
  rw [cc0_q8_0_linear_eq_skeleton]
  unfold cc0_q8_0_linear_skel
  refine T.bind (T.conseq h0 (Entails.of_eq ?_) .rfl) ?_
  · unfold Start Ring
    ac_rfl
  refine T.bind (T.conseq h1 ?_ .rfl) ?_
  · iintro ⟨H1, H2, H3, H4, H5, H6, ⟨H7, H8, H9, H10⟩, H11, H12, H13, H14⟩
    isplitl [H1]; · iexact H1
    isplitl [H2]; · iexact H2
    isplitl [H3]; · iexact H3
    isplitl [H6]; · iexact H6
    isplitl [H4 H5 H7 H8 H9 H10]
    · isplitl [H4]; · iexact H4
      isplitl [H5]; · iexact H5
      isplitl [H7]; · iexact H7
      isplitl [H8]; · iexact H8
      isplitl [H9]; · iexact H9
      iexact H10
    isplitl [H11]; · iexact H11
    isplitl [H12]; · iexact H12
    isplitl [H13]; · iexact H13
    isplitr
    · iempintro
    iexact H14
  refine T.bind ((T_waitO' c x w d 31 (o := ![1]) rfl _ _ _).use iprop(LoadedX c x 0 ∗ LoadedX c x 1 ∗ LoadedX c x 2 ∗ LoadedX c x 3 ∗ RingS c w 128 ∗ Scales c arg2 f2
    ∗ FreeO c 30 ∗ OutPt c x w d 30 ∗ (BI.bigSep (Finset.range 30) fun p => OutPt c x w d p) ∗ emp) (by ac_rfl) rfl) ?_
  refine T.assume (drained_stateV x w d 32) (T.conseq (T.pure _) ?_ .rfl)
  unfold Final
  rw [RingS_last, range_32, FreeO_congr c (show 30 % 2 = 0 % 2 from rfl), FreeO_congr c (show 31 % 2 = 1 % 2 from rfl)]
  iintro ⟨⟨H1, H2, H3⟩, H4, H5, H6, H7, H8, H9, H10, H11, H12, H13⟩
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H2]; · iexact H2
  isplitl [H1 H11 H12]
  · isplitl [H1]; · iexact H1
    isplitl [H11]; · iexact H11
    iexact H12
  iexact H3

end Cert.Kernel.K
-- ==== Proof.Split.lean ====
module

public import proofs.«01_k».proof.Proof.Body
public import Idealize.ShloMosaic.Lib.Pipeline.FrameSuffixV
public import Idealize.ShloMosaic.Lib.Ring
public import proofs.«01_k».proof.Proof.Gen.Kernel.Frame

@[expose] public section

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer held whole is held part by part -/

theorem exists_blocks {ℓ : Loc nD τ sig} {B : Type} [Fintype B] [DecidableEq B] (I : B → Finset (Idx ℓ)) (hd : ∀ b b', b ≠ b' → Disjoint (I b) (I b'))
    (hc : Finset.univ.biUnion I = Finset.univ) (f₀ : Buf (Elt F) ℓ) :
    (iprop(∃ f, ℓ ↦{fullShare} f) : sProp 𝕄) = BI.bigSep Finset.univ fun b => iprop(∃ f, ℓ ↦[I b]{fullShare} f) := by
  have h0 : ∀ (f : Buf (Elt F) ℓ) (b : B), (ℓ ↦[I b]{fullShare} f : sProp 𝕄) ⊢ iprop(∃ f, ℓ ↦[I b]{fullShare} f) := fun f b => by
    iintro H
    iexists f
    iexact H
  have h2 : ∀ f : Buf (Elt F) ℓ, (ℓ ↦{fullShare} f : sProp 𝕄) ⊢ BI.bigSep Finset.univ fun b => iprop(∃ f, ℓ ↦[I b]{fullShare} f) := fun f => by
    rw [Idealize.ShloMosaic.Ring.pointsTo_blocks I hd hc f]
    exact BI.bigSep_mono fun b _ => h0 f b
  have h1 : (iprop(∃ f, ℓ ↦{fullShare} f) : sProp 𝕄) ⊢ BI.bigSep Finset.univ fun b => iprop(∃ f, ℓ ↦[I b]{fullShare} f) := by
    iintro ⟨%f, H⟩
    iapply (h2 f)
    iexact H
  exact Entails.antisymm h1 (Idealize.ShloMosaic.Ring.pointsTo_blocks_join_exists I hd hc f₀)

variable (c : Dev nD)
variable (x : Vec F S96x13312 .bf16) (w : Vec F S13312x16384 .i8) (d : Vec F S416x16384 .f32)

include x in
/-- The left operand's buffer, whole, is its four column chunks. -/
theorem bX_parts : (iprop(∃ f, (c : Thread nD τ).loc cc0_scratch0 ↦{fullShare} f) : sProp 𝕄)
    = iprop((∃ f, bX.view.loc (c : Thread nD τ) ↦[colsSet 0]{fullShare} f) ∗ (∃ f, bX.view.loc (c : Thread nD τ) ↦[colsSet 1]{fullShare} f)
      ∗ (∃ f, bX.view.loc (c : Thread nD τ) ↦[colsSet 2]{fullShare} f) ∗ (∃ f, bX.view.loc (c : Thread nD τ) ↦[colsSet 3]{fullShare} f)) := by
  refine (exists_blocks (ℓ := bX.view.loc (c : Thread nD τ)) (fun j : Fin 4 => colsSet j) ?_ ?_ (x : Buf (Elt F) (bX.view.loc (c : Thread nD τ)))).trans ?_
  · intro a b h
    refine Finset.disjoint_left.mpr fun i h1 h2 => h (Fin.ext ?_)
    have h1' := mem_colsSet.mp h1
    have h2' := mem_colsSet.mp h2
    omega
  · refine Finset.eq_univ_iff_forall.mpr fun i => Finset.mem_biUnion.mpr ?_
    have h1 : (i 1).val < 13312 := (i 1).isLt
    refine ⟨⟨(i 1).val / 3328, by omega⟩, Finset.mem_univ _, mem_colsSet.mpr ?_⟩
    show 3328 * ((i 1).val / 3328) ≤ (i 1).val ∧ (i 1).val < 3328 * ((i 1).val / 3328) + 3328
    omega
  · rw [BI.bigSep_eq_bigSepL_of_eq [0, 1, 2, 3] (by decide) (by decide)]
    rfl

include w in
/-- The ring's buffer, whole, is its six slots. -/
theorem bW_parts : (iprop(∃ f, (c : Thread nD τ).loc cc0_scratch1 ↦{fullShare} f) : sProp 𝕄)
    = iprop((∃ f, bW.view.loc (c : Thread nD τ) ↦[slotSet 0]{fullShare} f) ∗ (∃ f, bW.view.loc (c : Thread nD τ) ↦[slotSet 1]{fullShare} f)
      ∗ (∃ f, bW.view.loc (c : Thread nD τ) ↦[slotSet 2]{fullShare} f) ∗ (∃ f, bW.view.loc (c : Thread nD τ) ↦[slotSet 3]{fullShare} f)
      ∗ (∃ f, bW.view.loc (c : Thread nD τ) ↦[slotSet 4]{fullShare} f) ∗ (∃ f, bW.view.loc (c : Thread nD τ) ↦[slotSet 5]{fullShare} f)) := by
  refine (exists_blocks (ℓ := bW.view.loc (c : Thread nD τ)) (fun j : Fin 6 => slotSet j.val) ?_ ?_ (wRing w 0 : Buf (Elt F) (bW.view.loc (c : Thread nD τ)))).trans ?_
  · intro a b h
    refine Finset.disjoint_left.mpr fun i h1 h2 => h (Fin.ext ?_)
    have h1' := mem_slotSet.mp h1
    have h2' := mem_slotSet.mp h2
    omega
  · refine Finset.eq_univ_iff_forall.mpr fun i => Finset.mem_biUnion.mpr ?_
    have h1 : (i 0).val < 6 := (i 0).isLt
    refine ⟨⟨(i 0).val, h1⟩, Finset.mem_univ _, mem_slotSet.mpr ?_⟩
    show (i 0).val = (i 0).val % 6
    omega
  · rw [BI.bigSep_eq_bigSepL_of_eq [0, 1, 2, 3, 4, 5] (by decide) (by decide)]
    rfl

include x w d in
/-- The result's buffer, whole, is its two slots. -/
theorem bO_parts : (iprop(∃ f, (c : Thread nD τ).loc cc0_scratch2 ↦{fullShare} f) : sProp 𝕄)
    = iprop((∃ f, bO.view.loc (c : Thread nD τ) ↦[oslot 0]{fullShare} f) ∗ (∃ f, bO.view.loc (c : Thread nD τ) ↦[oslot 1]{fullShare} f)) := by
  refine (exists_blocks (ℓ := bO.view.loc (c : Thread nD τ)) (fun j : Fin 2 => oslot j.val) ?_ ?_ (oBuf x w d 0 : Buf (Elt F) (bO.view.loc (c : Thread nD τ)))).trans ?_
  · intro a b h
    refine Finset.disjoint_left.mpr fun i h1 h2 => h (Fin.ext ?_)
    have h1' := mem_oslot.mp h1
    have h2' := mem_oslot.mp h2
    omega
  · refine Finset.eq_univ_iff_forall.mpr fun i => Finset.mem_biUnion.mpr ?_
    have h1 : (i 0).val < 2 := (i 0).isLt
    refine ⟨⟨(i 0).val, h1⟩, Finset.mem_univ _, mem_oslot.mpr ?_⟩
    show (i 0).val = (i 0).val % 2
    omega
  · rw [BI.bigSep_eq_bigSepL_of_eq [0, 1] (by decide) (by decide)]
    rfl

/-- What is left of the operands' buffers beside the shares that the copies read. -/
def Rest : sProp 𝕄 :=
  iprop((mX.view.loc (c : Thread nD τ) ↦[Finset.univ]{shareDrop fullShare 4} (x : Buf (Elt F) (mX.view.loc (c : Thread nD τ))))
    ∗ (mW.view.loc (c : Thread nD τ) ↦[Finset.univ]{shareDrop fullShare 6} (w : Buf (Elt F) (mW.view.loc (c : Thread nD τ)))))

theorem mX_parts : ((c : Thread nD τ).loc main_v0 ↦{fullShare} x : sProp 𝕄)
    = iprop((mX.view.loc (c : Thread nD τ) ↦[Finset.univ]{shareDrop fullShare 4} (x : Buf (Elt F) (mX.view.loc (c : Thread nD τ))))
      ∗ ptX c x 0 Finset.univ ∗ ptX c x 1 Finset.univ ∗ ptX c x 2 Finset.univ ∗ ptX c x 3 Finset.univ) := by
  have h := pointsTo_toks_range (Ix := Unit) (Name := ℕ) (U := Pipeline.UD sig nD τ) (Lvl := ℕ) (ℓ := mX.view.loc (c : Thread nD τ)) (S := Finset.univ) (f := (x : Buf (Elt F) (mX.view.loc (c : Thread nD τ)))) fullShare 4
  refine (Entails.antisymm h.1 h.2).trans ?_
  rw [BI.bigSep_eq_bigSepL_of_eq [0, 1, 2, 3] (by decide) (by decide)]
  rfl

theorem mW_parts : ((c : Thread nD τ).loc main_arg1 ↦{fullShare} w : sProp 𝕄)
    = iprop((mW.view.loc (c : Thread nD τ) ↦[Finset.univ]{shareDrop fullShare 6} (w : Buf (Elt F) (mW.view.loc (c : Thread nD τ))))
      ∗ ptW c w 0 Finset.univ ∗ ptW c w 1 Finset.univ ∗ ptW c w 2 Finset.univ ∗ ptW c w 3 Finset.univ ∗ ptW c w 4 Finset.univ ∗ ptW c w 5 Finset.univ) := by
  have h := pointsTo_toks_range (Ix := Unit) (Name := ℕ) (U := Pipeline.UD sig nD τ) (Lvl := ℕ) (ℓ := mW.view.loc (c : Thread nD τ)) (S := Finset.univ) (f := (w : Buf (Elt F) (mW.view.loc (c : Thread nD τ)))) fullShare 6
  refine (Entails.antisymm h.1 h.2).trans ?_
  rw [BI.bigSep_eq_bigSepL_of_eq [0, 1, 2, 3, 4, 5] (by decide) (by decide)]
  rfl

theorem outSet_disj (a b : Nat) (h : a ≠ b) : Disjoint (outSet a) (outSet b) := by
  refine Finset.disjoint_left.mpr fun i h1 h2 => h ?_
  rw [← mem_outSet.mp h1, ← mem_outSet.mp h2]

theorem outSet_cover : (Finset.range 32).biUnion outSet = Finset.univ := by
  refine Finset.eq_univ_iff_forall.mpr fun i => Finset.mem_biUnion.mpr ?_
  have h1 : (i 1).val < 16384 := (i 1).isLt
  exact ⟨(i 1).val / 512, Finset.mem_range.mpr (by omega), mem_outSet.mpr rfl⟩

theorem mO_parts (f : Vec F S96x16384 .bf16) : ((c : Thread nD τ).loc main_v1 ↦{fullShare} f : sProp 𝕄)
    = BI.bigSep (Finset.range 32) fun p => mO.view.loc (c : Thread nD τ) ↦[outSet p]{fullShare} (f : Buf (Elt F) (mO.view.loc (c : Thread nD τ))) := by
  have h := pointsTo_biUnion (Ix := Unit) (Name := ℕ) (U := Pipeline.UD sig nD τ) (Lvl := ℕ) (ℓ := mO.view.loc (c : Thread nD τ)) (q := fullShare) (f := (f : Buf (Elt F) (mO.view.loc (c : Thread nD τ))))
    (Finset.range 32) outSet (fun a _ b _ h => outSet_disj a b h)
  rw [outSet_cover] at h
  exact h

/-- The result's array, whole at anything, is every panel's columns at anything. -/
theorem Todo_start (f : Vec F S96x16384 .bf16) : ((c : Thread nD τ).loc main_v1 ↦{fullShare} f : sProp 𝕄) ⊢ Todo c 0 := by
  rw [mO_parts c f]
  unfold Todo
  rw [← Finset.range_eq_Ico]
  refine BI.bigSep_mono fun p _ => show (mO.view.loc (c : Thread nD τ) ↦[outSet p]{fullShare} (f : Buf (Elt F) (mO.view.loc (c : Thread nD τ)))) ⊢ OutAny c p by
    unfold OutAny
    iintro H
    iexists f
    iexact H

/-- Every panel's columns final is the result's array whole. -/
theorem Out_whole : (BI.bigSep (Finset.range 32) fun p => OutPt c x w d p) = ((c : Thread nD τ).loc main_v1 ↦{fullShare} outV x w d : sProp 𝕄) := by
  rw [mO_parts c (outV x w d)]
  rfl

/-- The kernel's own semaphores. -/
def osem : Fin 12 → SemLoc sig := ![.dma 1, .dma 2, .dma 3, .dma 4, .dma 5, .dma 6, .dma 7, .dma 8, .dma 9, .dma 10, .dma 11, .dma 12]

theorem ownSemFacts : Pipeline.OwnSemFacts spec0 osem := by decide

theorem ownSems_eq : (Pipeline.ownSems0 (Ix := Unit) (Name := ℕ) (U := Pipeline.UD sig nD τ) (Lvl := ℕ) (Val := Elt F) (τ := τ) osem c : sProp 𝕄)
    = iprop(semVal ((c : Thread nD τ), .dma (semX 0)) 0 ∗ semVal ((c : Thread nD τ), .dma (semX 1)) 0 ∗ semVal ((c : Thread nD τ), .dma (semX 2)) 0 ∗ semVal ((c : Thread nD τ), .dma (semX 3)) 0
      ∗ semVal ((c : Thread nD τ), .dma (semW 0)) 0 ∗ semVal ((c : Thread nD τ), .dma (semW 1)) 0 ∗ semVal ((c : Thread nD τ), .dma (semW 2)) 0
      ∗ semVal ((c : Thread nD τ), .dma (semW 3)) 0 ∗ semVal ((c : Thread nD τ), .dma (semW 4)) 0 ∗ semVal ((c : Thread nD τ), .dma (semW 5)) 0
      ∗ semVal ((c : Thread nD τ), .dma (semO 0)) 0 ∗ semVal ((c : Thread nD τ), .dma (semO 1)) 0) := by
  rw [Pipeline.ownSems0_eq_of_list c osem [0, 1, 2, 3, 4, 5, 6, 7, 8, 9, 10, 11] (by decide) (by decide)]
  rfl

/-- What the kernel works in: its buffers and semaphores, and the shares it reads the operands by. -/
def Works : sProp 𝕄 := iprop(FreeX c x 0 ∗ FreeX c x 1 ∗ FreeX c x 2 ∗ FreeX c x 3 ∗ Ring c w ∗ FreeO c 0 ∗ FreeO c 1)

/-- It is the scratch buffers whole, the semaphores at zero, and the operands whole. -/
theorem Works_eq : iprop(Works c x w ∗ Rest c x w)
    = iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem c
      ∗ ((c : Thread nD τ).loc main_arg1 ↦{fullShare} w) ∗ ((c : Thread nD τ).loc main_v0 ↦{fullShare} x)) := by
  rw [scopedRest0_eq, ownSems_eq, bX_parts c x, bW_parts c w, bO_parts c x w (fun _ => FloatOps.ofBits .f32 0), mX_parts, mW_parts]
  unfold Works Rest Ring FreeX FreeW FreeO
  ac_rfl

theorem Loaded_free (j : Fin 4) : LoadedX c x j ⊢ FreeX c x j := by
  unfold LoadedX FreeX colsPt
  iintro ⟨H1, H2, H3⟩
  isplitl [H1]
  · iexists x
    iexact H1
  isplitl [H2]
  · iexact H2
  iexact H3

variable (arg2 : Memref sig .tc .vmem S416x16384 .f32) (f2 : Buf (Elt F) (arg2.view.loc (c : Thread nD τ)))

theorem Start_eq : Start c x w arg2 f2 = iprop(Works c x w ∗ Scales c arg2 f2 ∗ Todo c 0 ∗ Owes c) := by
  unfold Start Works
  ac_rfl

theorem Final_to : Final c x w d arg2 f2 ⊢ iprop(Works c x w ∗ Scales c arg2 f2 ∗ ((c : Thread nD τ).loc main_v1 ↦{fullShare} outV x w d) ∗ Owes c) := by
  unfold Final Works
  rw [Out_whole]
  iintro ⟨H0, H1, H2, H3, H4, H5, H6, H7, H8, H9⟩
  isplitl [H0 H1 H2 H3 H4 H6 H7]
  · isplitl [H0]
    · iapply (Loaded_free c x 0); iexact H0
    isplitl [H1]
    · iapply (Loaded_free c x 1); iexact H1
    isplitl [H2]
    · iapply (Loaded_free c x 2); iexact H2
    isplitl [H3]
    · iapply (Loaded_free c x 3); iexact H3
    isplitl [H4]; · iexact H4
    isplitl [H6]; · iexact H6
    iexact H7
  isplitl [H5]; · iexact H5
  isplitl [H8]; · iexact H8
  iexact H9

end Cert.Kernel.K
-- ==== Proof.Run.lean ====
module

public import proofs.«01_k».proof.Proof.Split

@[expose] public section

set_option maxRecDepth 16384

noncomputable section

namespace Cert.Kernel.K

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel is launched on -/

/-- The buffers the kernel reads in place, and the one it writes in place. -/
def H : Finset (Ref sig .tc) := {main_arg1, main_v0}
def R : Finset (Ref sig .tc) := {main_v1}
theorem H_sub : H ⊆ Pipeline.restRefs sig spec0 := by decide
theorem R_sub : R ⊆ Pipeline.restRefs sig spec0 \ H := by decide

/-- The left operand, the codes and the scales, as the kernel finds them on core `c`. -/
abbrev xOf (c : Dev nD) : Vec F S96x13312 .bf16 := V m c main_v0
abbrev wOf (c : Dev nD) : Vec F S13312x16384 .i8 := V m c main_arg1
abbrev dOf (c : Dev nD) : Vec F S416x16384 .f32 := iblk m c 0 t0_0

/-- What the buffers hold once the kernel is done: the result's array at the result, the others as before. -/
def G (c : Dev nD) (b : Ref sig .tc) : Buf (Elt F) ((c : Thread nD τ).loc b) :=
  if h : b = main_v1 then h ▸ (outV (xOf m c) (wOf m c) (dOf m c) : Buf (Elt F) ((c : Thread nD τ).loc main_v1)) else V m c b
theorem G_v1 (c : Dev nD) : G m c main_v1 = outV (xOf m c) (wOf m c) (dOf m c) := by
  unfold G; rw [dif_pos rfl]

/-- The kernel's state between its points: its own buffers and semaphores, its operands, and the result's array at `g`. -/
def Held (g : (c : Dev nD) → (b : Ref sig .tc) → Buf (Elt F) ((c : Thread nD τ).loc b)) (c : Dev nD) : sProp 𝕄 :=
  Pipeline.ΦDRV osem spec0 H R (V m) g c

theorem Held_eq (g : (c : Dev nD) → (b : Ref sig .tc) → Buf (Elt F) ((c : Thread nD τ).loc b)) (c : Dev nD) :
    Held m g c = iprop((Works c (xOf m c) (wOf m c) ∗ Rest c (xOf m c) (wOf m c)) ∗ ((c : Thread nD τ).loc main_v1 ↦{fullShare} g c main_v1)) := by
  rw [Works_eq]
  unfold Held Pipeline.ΦDRV
  have h1 : (BI.bigSep H fun b => ((c : Thread nD τ).loc b ↦{fullShare} V m c b : sProp 𝕄))
      = iprop(((c : Thread nD τ).loc main_arg1 ↦{fullShare} V m c main_arg1) ∗ ((c : Thread nD τ).loc main_v0 ↦{fullShare} V m c main_v0)) := by
    rw [BI.bigSep_eq_bigSepL_of_eq [main_arg1, main_v0] (by decide) (by decide)]
    rfl
  have h2 : (BI.bigSep R fun b => ((c : Thread nD τ).loc b ↦{fullShare} g c b : sProp 𝕄)) = ((c : Thread nD τ).loc main_v1 ↦{fullShare} g c main_v1) := by
    rw [BI.bigSep_eq_bigSepL_of_eq [main_v1] (by decide) (by decide)]
    rfl
  rw [h1, h2]
  ac_rfl

/-- The proof data of the one pipeline: the scales' window left as found; the result's array at the result after the one point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := if t.val = 0 then Held m (V m) c else Held m (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem Phi_eq (c : Dev nD) (t : Fin (cfg0.N + 1)) : (dats m 0 c).Φ t = if t.val = 0 then Held m (V m) c else Held m (G m) c := by dsimp only [dats]
theorem Phi_zero (c : Dev nD) (t : Fin (cfg0.N + 1)) (h : t.val = 0) : (dats m 0 c).Φ t = Held m (V m) c := by rw [Phi_eq, if_pos h]
theorem Phi_pos (c : Dev nD) (t : Fin (cfg0.N + 1)) (h : t.val ≠ 0) : (dats m 0 c).Φ t = Held m (G m) c := by rw [Phi_eq, if_neg h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The kernel's body at the one point. -/
theorem sound_body (c : Dev nD) :
    bodyPre m c t0_0 ⊢ wp frame (wpE (defs₀ (F := F)) Variants.none c none) Set.univ (bodyAt0 t0_0) (fun _ => bodyPost m c t0_0) := by
  unfold bodyPre bodyPost bodyAt0
  rw [Phi_zero m c (t0_0 : Fin cfg0.N).castSucc rfl, Phi_pos m c (t0_0 : Fin cfg0.N).succ (Nat.succ_ne_zero _), Held_eq, Held_eq, after0_0]
  simp only [before0_0]
  unfold Dat.owesAt Pipeline.owesWithin
  rw [show (dats m 0 c).owed (t0_0 : Fin cfg0.N).castSucc = 0 from rfl, show (dats m 0 c).owed (t0_0 : Fin cfg0.N).succ = 0 from rfl, G_v1]
  unfold owns
  iintro ⟨⟨⟨HW, HR⟩, HO⟩, ⟨%W, -, Howe⟩, ⟨%d, %f, %hf, Hs⟩⟩
  iapply (T_kernel c (xOf m c) (wOf m c) (dOf m c) (st0_0 t0_0) f hf (hstage0_0 0) _)
  isplitl [HW HO Howe Hs]
  · rw [Start_eq]
    isplitl [HW]
    · iexact HW
    isplitl [Hs]
    · unfold Scales
      iexact Hs
    isplitl [HO]
    · iapply (Todo_start c (V m c main_v1))
      iexact HO
    unfold Owes
    iexists W
    iexact Howe
  iintro HF
  ihave HF := (Final_to c (xOf m c) (wOf m c) (dOf m c) (st0_0 t0_0) f) $$ HF
  icases HF with ⟨HW, HS, HO, Howe⟩
  isplitl [HW HR HO]
  · isplitl [HW HR]
    · isplitl [HW]
      · iexact HW
      iexact HR
    iexact HO
  isplitl [Howe]
  · unfold Owes
    icases Howe with ⟨%W', Howe⟩
    iexists W'
    isplitr
    · ipureintro; exact fun _ _ => Or.inl trivial
    iexact Howe
  iexists f
  isplitr
  · ipureintro; exact hf
  unfold Scales
  iexact HS

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  obtain rfl := fin_N0 t
  exact triple_restated (sound_body m c) rfl .rfl fun _ => .rfl

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the buffers hold at the end: the lines after the kernel, run from where the kernel leaves them. -/
abbrev End (c : Dev nD) : Valuation τ sig (Elt F) :=
  StableHlo.after (List.flatten [hostOps1]) (Pipeline.withArrays spec0 c (Pipeline.withR (V0 m c) R c (G m c)) fun w => (dats m 0 c).arrAt w cfg0.N)

set_option backward.isDefEq.respectTransparency.types false in
/-- The whole program runs, and every array ends as `End` says. -/
theorem run_main : θ_run defs (onTc (τ := τ) (main (F := F))) (s₀ m ρ)
    (fun r => (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = End m c (Proc.devRef .tc b)) ∧ r.2.sem = fun _ => 0) :=
  Pipeline.θ_run_frame_dmaR_aroundV (Q' := _) (hQ' := fun _ h => h) cfgs (dats m) (0 : Fin 1) launch0 osem defs₀ Variants.none ownSemFacts H R H_sub R_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := hmainD m) (hA := A_eq m)
    (hin := fun c => by
      rw [Phi_zero m c 0 rfl]
      exact .rfl)
    (hout := fun c => by
      rw [Phi_pos m c (Fin.last cfg0.N) (by show cfg0.N ≠ 0; exact (by decide : grid0.N ≠ 0))]
      exact .rfl)

theorem End_of_ne (c : Dev nD) (b : Ref sig .tc) (h1 : b ≠ main_v2) (h2 : b ∉ R) (h3 : ∀ w, Pipeline.arrRef spec0 w ≠ b) :
    End m c (Proc.devRef .tc b) = V m c b := by
  unfold End
  simp only [List.flatten_cons, List.flatten_nil, List.append_nil, StableHlo.after_cons, StableHlo.after_nil]
  rw [StableHlo.reshape_result_ne _ _ _ _ _ _ _ h1, Pipeline.withArrays_of_ne _ c _ _ b h3, Pipeline.withR_of_not_mem _ _ _ _ b h2]

/-- The result at the end: the kernel's, reshaped. -/
theorem End_v2 (c : Dev nD) : End m c (Proc.devRef .tc main_v2)
    = shapeCast S96x1x16384 (outV (xOf m c) (wOf m c) (dOf m c)) shapeCasts_S96x16384_S96x1x16384 := by
  unfold End
  simp only [List.flatten_cons, List.flatten_nil, List.append_nil, StableHlo.after_cons, StableHlo.after_nil]
  rw [StableHlo.reshape_result, Pipeline.withArrays_of_ne _ c _ _ main_v1 (by decide), Pipeline.withR_of_mem _ _ _ _ main_v1 (by decide), G_v1]
  rfl

/-- The left operand as the kernel finds it: the argument, reshaped. -/
theorem xOf_eq (c : Dev nD) : xOf m c = shapeCast S96x13312 (m ((c : Thread nD τ).loc main_arg0)) shapeCasts_S96x1x13312_S96x13312 := by
  unfold xOf V V0
  simp only [List.flatten_cons, List.flatten_nil, List.append_nil, StableHlo.after_cons, StableHlo.after_nil]
  rw [StableHlo.reshape_result]
  rfl

theorem wOf_eq (c : Dev nD) : wOf m c = m ((c : Thread nD τ).loc main_arg1) := V_main_arg1 m c

theorem dOf_eq (c : Dev nD) : dOf m c = m ((c : Thread nD τ).loc main_arg2) := by
  rw [← V_main_arg2 m c]
  funext i
  unfold dOf iblk
  rw [View.read_apply]
  show V m c main_arg2 _ = V m c main_arg2 i
  congr 1
  funext a
  apply Fin.ext
  fin_cases a
  · show 0 + 1 * (i 0).val = (i 0).val
    omega
  · show 0 + 1 * (i 1).val = (i 1).val
    omega

/-- The whole program runs; its result, and its arguments unchanged; every semaphore ends at zero. -/
theorem run : θ_run defs (onTc (τ := τ) (main (F := F))) ⟨m, fun _ => 0, ρ⟩ (fun r => (∀ c : Dev nD,
      r.2.mem ((c.tc : Thread nD τ).loc main_v2) = shapeCast S96x1x16384 (outV (shapeCast S96x13312 (m ((c : Thread nD τ).loc main_arg0)) shapeCasts_S96x1x13312_S96x13312)
          (m ((c : Thread nD τ).loc main_arg1)) (m ((c : Thread nD τ).loc main_arg2))) shapeCasts_S96x16384_S96x1x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨by
      rw [(h.1 c).2 main_v2 (Pipeline.mem_restRefs_of main_v2 (by decide) (by decide)), End_v2, xOf_eq, wOf_eq, dOf_eq],
    by rw [(h.1 c).2 main_arg0 (Pipeline.mem_restRefs_of main_arg0 (by decide) (by decide)), End_of_ne m c main_arg0 (by decide) (by decide) (by decide), V_main_arg0],
    by rw [(h.1 c).2 main_arg1 (Pipeline.mem_restRefs_of main_arg1 (by decide) (by decide)), End_of_ne m c main_arg1 (by decide) (by decide) (by decide), V_main_arg1],
    ((h.1 c).1 0).trans (((dats m 0 c).arrAt_in 0 rfl _).trans ((A_eq m c 0).trans (V_main_arg2 m c)))⟩, h.2⟩) (run_main m ρ)

/-- The whole program runs, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.Kernel.K
-- ==== Proof.Ideal.Rolled.lean ====
module

public import proofs.«01_k».proof.Proof.Gen.KernelIdeal.Skeleton

@[expose] public section

noncomputable section

namespace Cert.KernelIdeal.K

open Idealize.ShloMosaic Idealize.SL.Sem Cert.KernelIdeal Cert.KernelIdeal.Gen

variable {F : FTy → Type} [FloatOps F]

/-- The ring slot chunk `c` of trip `k` reads, as the kernel computes it. -/
def slotW (k : Fin k0_t1_loop.trips) (c : Nat) : Nat := k0_off9 k (BitVec.ofNat 32 c) 0

/-- The first column of unit `q`'s half of the panel of trip `k`, as the kernel computes it. -/
def colW (k : Fin k0_t1_loop.trips) (q : Nat) : Nat := k0_off10 k (BitVec.ofNat 32 (256 * q)) 1

/-- Where block `b` of unit `q`'s tile `t` of chunk `c` lies in the ring of weight slots. -/
def offC (k : Fin k0_t1_loop.trips) (c t q b : Nat) : Fin 3 → Nat := ![slotW k c, 256 * t + 32 * b, 256 * q]

/-- Where the scales of that block lie. -/
def offS (k : Fin k0_t1_loop.trips) (c t q b : Nat) : Fin 2 → Nat := ![(13 * c + t) * 8 + b, colW k q]

theorem slotW_lt : ∀ k : Fin k0_t1_loop.trips, ∀ c : Fin 4, slotW k c.val + 1 ≤ 6 := by decide +kernel
theorem colW_le : ∀ k : Fin k0_t1_loop.trips, ∀ q : Fin 2, colW k q.val + 256 ≤ 16384 := by decide +kernel

theorem offC_inb (k : Fin k0_t1_loop.trips) (c : Fin 4) (t : Fin 13) (q : Fin 2) (b : Fin 8) :
    ∀ a, offC k c.val t.val q.val b.val a + S1x32x256.size a ≤ S6x3328x512.size a := by
  intro a
  have h1 := slotW_lt k c
  have := t.isLt
  have := q.isLt
  have := b.isLt
  fin_cases a
  · exact h1
  · show 256 * t.val + 32 * b.val + 32 ≤ 3328
    omega
  · show 256 * q.val + 256 ≤ 512
    omega

theorem offS_inb (k : Fin k0_t1_loop.trips) (c : Fin 4) (t : Fin 13) (q : Fin 2) (b : Fin 8) :
    ∀ a, offS k c.val t.val q.val b.val a + S1x256.size a ≤ S416x16384.size a := by
  intro a
  have h1 := colW_le k q
  have := t.isLt
  have := c.isLt
  have := b.isLt
  fin_cases a
  · show (13 * c.val + t.val) * 8 + b.val + 1 ≤ 416
    omega
  · exact h1

theorem offX_inb (c : Fin 4) (t : Fin 13) :
    ∀ a, (![0, 256 * (13 * c.val + t.val)] : Fin 2 → Nat) a + S96x256.size a ≤ S96x13312.size a := by
  intro a
  have := t.isLt
  have := c.isLt
  fin_cases a
  · show 0 + 96 ≤ 96
    omega
  · show 256 * (13 * c.val + t.val) + 256 ≤ 13312
    omega

variable (arg2 : Memref sig .tc .vmem S416x16384 .f32) (arg4 : Memref sig .tc .vmem S96x13312 .bf16)
  (arg5 : Memref sig .tc .vmem S6x3328x512 .i8)

/-- Thirty-two rows of weights: the codes times their block's scales. -/
def wBlk (u : Vec F S1x32x256 .i8) (v : Vec F S1x256 .f32) : FVec F S32x256 .bf16 :=
  truncf .bf16 (mulf (extf .f32 (sitofp .bf16 (shapeCast S32x256 u shapeCasts_S1x32x256_S32x256) : FVec F S32x256 .bf16) bitsLt_bf16_f32)
    (broadcastTo S32x256 v broadcasts_S1x256_S32x256)) bitsLt_bf16_f32

/-- Eight blocks of weights one below the other: a tile. -/
def wTile (w : Fin 8 → FVec F S32x256 .bf16) : FVec F S256x256 .bf16 :=
  concatenate S256x256 0 [⟨S32x256, w 0⟩, ⟨S32x256, w 1⟩, ⟨S32x256, w 2⟩, ⟨S32x256, w 3⟩, ⟨S32x256, w 4⟩, ⟨S32x256, w 5⟩, ⟨S32x256, w 6⟩, ⟨S32x256, w 7⟩]
    concatenates_S32x256_S32x256_S32x256_S32x256_S32x256_S32x256_S32x256_S32x256_S256x256_d0

/-- Loading one block of weights. -/
def loadBlk (k : Fin k0_t1_loop.trips) (c : Fin 4) (t : Fin 13) (q : Fin 2) (b : Fin 8) :
    Prog (TpuEff nD τ sig (Elt F) Λ₀ .tc) (FVec F S32x256 .bf16) := do
  let u : Vec F S1x32x256 .i8 ← Prog.lift (.load arg5 (Rect.unit (s := S6x3328x512) (offC k c.val t.val q.val b.val) S1x32x256.size (offC_inb k c t q b)).toLoadRect (View.loadsAt_vmem h_S1x32x256))
  let v : Vec F S1x256 .f32 ← Prog.lift (.load arg2 (Rect.unit (s := S416x16384) (offS k c.val t.val q.val b.val) S1x256.size (offS_inb k c t q b)).toLoadRect (View.loadsAt_vmem h_S1x256))
  pure (wBlk u v)

/-- Loading a tile of weights, block by block. -/
def loadTile (k : Fin k0_t1_loop.trips) (c : Fin 4) (t : Fin 13) (q : Fin 2) :
    Prog (TpuEff nD τ sig (Elt F) Λ₀ .tc) (FVec F S256x256 .bf16) := do
  let w0 ← loadBlk arg2 arg5 k c t q 0
  let w1 ← loadBlk arg2 arg5 k c t q 1
  let w2 ← loadBlk arg2 arg5 k c t q 2
  let w3 ← loadBlk arg2 arg5 k c t q 3
  let w4 ← loadBlk arg2 arg5 k c t q 4
  let w5 ← loadBlk arg2 arg5 k c t q 5
  let w6 ← loadBlk arg2 arg5 k c t q 6
  let w7 ← loadBlk arg2 arg5 k c t q 7
  pure (wTile ![w0, w1, w2, w3, w4, w5, w6, w7])

/-- One tile of the contraction: both units' weights staged, and the columns of the left operand multiplied by them. -/
def tile (k : Fin k0_t1_loop.trips) (c : Fin 4) (t : Fin 13) (s : Mxu F) : Prog (TpuEff nD τ sig (Elt F) Λ₀ .tc) (Mxu F) := do
  let w0 ← loadTile arg2 arg5 k c t 0
  let s ← s.pushRhs 0 (Fin.ofNat 2 t.val) false w0
  let w1 ← loadTile arg2 arg5 k c t 1
  let s ← s.pushRhs 1 (Fin.ofNat 2 t.val) false w1
  let x : Vec F S96x256 .bf16 ← Prog.lift (.load arg4 (Rect.unit (s := S96x13312) ![0, 256 * (13 * c.val + t.val)] S96x256.size (offX_inb c t)).toLoadRect (View.loadsAt_vmem h_S96x256))
  pure ((s.accLhs 0 (Fin.ofNat 2 t.val) 0 (M := 96) (φ := .bf16) x fits_0_96).accLhs 1 (Fin.ofNat 2 t.val) 0 (M := 96) (φ := .bf16) x fits_0_96)

/-- Tiles `t, t + 1, …, t + n - 1` of a chunk. -/
def tilesFrom (k : Fin k0_t1_loop.trips) (c : Fin 4) : (n t : Nat) → t + n ≤ 13 → Mxu F → Prog (TpuEff nD τ sig (Elt F) Λ₀ .tc) (Mxu F)
  | 0, _, _, s => pure s
  | n + 1, t, h, s => (tile arg2 arg4 arg5 k c ⟨t, by omega⟩ s).bind fun s => tilesFrom k c n (t + 1) (by omega) s

variable (arg0 : Memref sig .tc .hbm S96x13312 .bf16) (harg0 : arg0.IsWhole) (arg1 : Memref sig .tc .hbm S13312x16384 .i8) (harg1 : arg1.IsWhole)
  (arg3 : Memref sig .tc .hbm S96x16384 .bf16) (harg3 : arg3.IsWhole) (harg4 : arg4.IsWhole) (harg5 : arg5.IsWhole)
  (arg6 : Memref sig .tc .vmem S2x96x512 .bf16) (harg6 : arg6.IsWhole) (arg7 : DmaSems sig S4) (arg8 : DmaSems sig S6) (arg9 : DmaSems sig S2)

theorem semX_inb (c : Fin 4) : ∀ a, (![c.val] : Fin 1 → Nat) a + S1.size a ≤ S4.size a := by revert c; decide
theorem colsX_inb (c : Fin 4) : ∀ a, (![0, 3328 * c.val] : Fin 2 → Nat) a + S96x3328.size a ≤ S96x13312.size a := by revert c; decide
theorem colsX_words (c : Fin 4) :
    (Rect.unit (s := S96x13312) ![0, 3328 * c.val] S96x3328.size (colsX_inb c)).WholeWords (EltTy.packing .bf16) := by revert c; decide

/-- In the first trip, waiting for the columns chunk `c` of the left operand. -/
def waitX (k : Fin k0_t1_loop.trips) (c : Fin 4) : Prog (TpuEff nD τ sig (Elt F) Λ₀ .tc) PUnit :=
  if Scalar.cmpi .ne (Scalar.extui (Scalar.cmpi .eq (Scf.iv 0#32 1#32 k) 0#32) : BitVec 32) 0#32 = 1#1 then
    Prog.lift (.waitDma2 ((arg7.slice (Rect.unit (s := S4) ![c.val] S1.size (semX_inb c))).squeeze S_ squeezes_S1_S_).sem
      (arg0.slice (Rect.unit (s := S96x13312) ![0, 3328 * c.val] S96x3328.size (colsX_inb c)) (fun _ => rfl))
      (arg4.slice (Rect.unit (s := S96x13312) ![0, 3328 * c.val] S96x3328.size (colsX_inb c)) (fun _ => rfl))
      (harg0.wordExact_slice rfl _ (colsX_words c)) (harg4.wordExact_slice rfl _ (colsX_words c)))
  else pure ⟨⟩

/-- Waiting for the weights of chunk `c` of the panel of trip `k`. -/
def waitW (k : Fin k0_t1_loop.trips) (c : Fin 4) : Prog (TpuEff nD τ sig (Elt F) Λ₀ .tc) PUnit :=
  Prog.lift (.waitDma2 ((arg8.slice (Rect.unit (s := S6) (k0_off1 k (BitVec.ofNat 32 c.val)) S1.size (k0_off1_inb k c))).squeeze S_ squeezes_S1_S_).sem
    (arg1.slice (Rect.unit (s := S13312x16384) (k0_off3 k (BitVec.ofNat 32 c.val)) S3328x512.size (k0_off3_inb k c)) (fun _ => rfl))
    ((arg5.slice (Rect.unit (s := S6x3328x512) (k0_off2 k (BitVec.ofNat 32 c.val)) S1x3328x512.size (k0_off2_inb k c)) (fun _ => rfl)).squeeze S3328x512 squeezes_S1x3328x512_S3328x512)
    (harg1.wordExact_slice rfl _ (k0_off3_wordsi8 k c)) ((harg5.wordExact_slice rfl _ (k0_off2_wordsi8 k c)).reshape _ _))

/-- Where the weights of step `n` go: a ring of six slots. -/
def offSlot (n : Nat) : Fin 3 → Nat := ![n % 6, 0, 0]
/-- Where the weights of step `n` come from. -/
def offSrc (n : Nat) : Fin 2 → Nat := ![3328 * (n % 4), 512 * (n / 4)]

theorem semW_inb (n : Nat) : ∀ a, (![n % 6] : Fin 1 → Nat) a + S1.size a ≤ S6.size a := by
  intro a
  fin_cases a
  show n % 6 + 1 ≤ 6
  omega
theorem offSlot_inb (n : Nat) : ∀ a, offSlot n a + S1x3328x512.size a ≤ S6x3328x512.size a := by
  intro a
  fin_cases a
  · show n % 6 + 1 ≤ 6
    omega
  · show 0 + 3328 ≤ 3328
    omega
  · show 0 + 512 ≤ 512
    omega
theorem offSrc_inb (n : Nat) (h : n < 128) : ∀ a, offSrc n a + S3328x512.size a ≤ S13312x16384.size a := by
  intro a
  fin_cases a
  · show 3328 * (n % 4) + 3328 ≤ 13312
    omega
  · show 512 * (n / 4) + 512 ≤ 16384
    omega
theorem offSlot_words (n : Nat) :
    (Rect.unit (s := S6x3328x512) (offSlot n) S1x3328x512.size (offSlot_inb n)).WholeWords (EltTy.packing .i8) := by
  have h : ∀ m : Fin 6, (Rect.unit (s := S6x3328x512) (offSlot m.val) S1x3328x512.size (offSlot_inb m.val)).WholeWords (EltTy.packing .i8) := by decide +kernel
  have e : offSlot n = offSlot (n % 6) := by simp only [offSlot, Nat.mod_mod]
  have := h ⟨n % 6, by omega⟩
  simpa only [e] using this
theorem offSrc_words : ∀ n : Fin 128,
    (Rect.unit (s := S13312x16384) (offSrc n.val) S3328x512.size (offSrc_inb n.val n.isLt)).WholeWords (EltTy.packing .i8) := by decide +kernel

/-- Starting the copy of the weights of step `n`, if there is such a step. -/
def startW (n : Nat) : Prog (TpuEff nD τ sig (Elt F) Λ₀ .tc) PUnit :=
  if h : n < 128 then
    Prog.lift (.enqueueDma
      (arg1.slice (Rect.unit (s := S13312x16384) (offSrc n) S3328x512.size (offSrc_inb n h)) (fun _ => rfl))
      (.here ((arg5.slice (Rect.unit (s := S6x3328x512) (offSlot n) S1x3328x512.size (offSlot_inb n)) (fun _ => rfl)).squeeze S3328x512 squeezes_S1x3328x512_S3328x512))
      (.dma ((arg8.slice (Rect.unit (s := S6) ![n % 6] S1.size (semW_inb n))).squeeze S_ squeezes_S1_S_).sem)
      (harg1.wordExact_slice rfl _ (offSrc_words ⟨n, h⟩)) ((harg5.wordExact_slice rfl _ (offSlot_words n)).reshape _ _) ⟨Or.inl rfl, trivial⟩)
  else pure ⟨⟩

/-- Chunk `c` of the panel of trip `k`: the waits, the copy started ahead, and the thirteen tiles. -/
def chunk (k : Fin k0_t1_loop.trips) (c : Fin 4) (s : Mxu F) : Prog (TpuEff nD τ sig (Elt F) Λ₀ .tc) (Mxu F) := do
  waitX arg4 arg0 harg0 harg4 arg7 k c
  waitW arg5 arg1 harg1 harg5 arg8 k c
  startW arg5 arg1 harg1 harg5 arg8 (4 * k.val + c.val + 5)
  tilesFrom arg2 arg4 arg5 k c 13 0 (by decide) s

/-- The first conditional of the panel's end: before the result's slot is written again, waiting for the copy that reads it. -/
def waitO (k : Fin k0_t1_loop.trips) : Prog (TpuEff nD τ sig (Elt F) Λ₀ .tc) PUnit :=
  if h : k0_cond9 k = 1#1 then
    Prog.lift (.waitDma2 ((arg9.slice (Rect.unit (s := S2) (k0_off640 k) S1.size (k0_off640_inb k h))).squeeze S_ squeezes_S1_S_).sem
      ((arg6.slice (Rect.unit (s := S2x96x512) (k0_off642 k) S1x96x512.size (k0_off642_inb k h)) (fun _ => rfl)).squeeze S96x512 squeezes_S1x96x512_S96x512)
      (arg3.slice (Rect.unit (s := S96x16384) (k0_off641 k) S96x512.size (k0_off641_inb k h)) (fun _ => rfl))
      ((harg6.wordExact_slice rfl _ (k0_off642_wordsbf16 k h)).reshape _ _) (harg3.wordExact_slice rfl _ (k0_off641_wordsbf16 k h)))
  else pure ⟨⟩

/-- The panel's end: the accumulators popped, rounded and stored in the result's slot, and the slot's copy out started. -/
def finish (k : Fin k0_t1_loop.trips) (s : Mxu F) : Prog (TpuEff nD τ sig (Elt F) Λ₀ .tc) (Mxu F) := do
  waitO arg3 harg3 arg6 harg6 arg9 k
  let _ : Vec F S1x96x256 .bf16 ← Prog.lift (.load arg6 (Rect.unit (s := S2x96x512) (k0_off643 k) S1x96x256.size (k0_off643_inb k)).toLoadRect (View.loadsAt_vmem h_S1x96x256))
  Prog.lift (.store arg6 (Rect.unit (s := S2x96x512) (k0_off643 k) S1x96x256.size (k0_off643_inb k)) (k0_pay808 (s.read 0 0 fits_0_96)) Finset.univ (View.stores_vmem h_S1x96x256 (harg6.storeExact_slice rfl _ (k0_off643_packedbf16 k)) (fun _ => rfl)) (.inl rfl))
  let _ : Vec F S1x96x256 .bf16 ← Prog.lift (.load arg6 (Rect.unit (s := S2x96x512) (k0_off644 k) S1x96x256.size (k0_off644_inb k)).toLoadRect (View.loadsAt_vmem h_S1x96x256))
  Prog.lift (.store arg6 (Rect.unit (s := S2x96x512) (k0_off644 k) S1x96x256.size (k0_off644_inb k)) (k0_pay809 ((s.pop 0 0 96 fits_0_96).read 1 0 fits_0_96)) Finset.univ (View.stores_vmem h_S1x96x256 (harg6.storeExact_slice rfl _ (k0_off644_packedbf16 k)) (fun _ => rfl)) (.inl rfl))
  Prog.lift (.enqueueDma
    ((arg6.slice (Rect.unit (s := S2x96x512) (k0_off647 k) S1x96x512.size (k0_off647_inb k)) (fun _ => rfl)).squeeze S96x512 squeezes_S1x96x512_S96x512)
    (.here (arg3.slice (Rect.unit (s := S96x16384) (k0_off646 k) S96x512.size (k0_off646_inb k)) (fun _ => rfl)))
    (.dma ((arg9.slice (Rect.unit (s := S2) (k0_off645 k) S1.size (k0_off645_inb k))).squeeze S_ squeezes_S1_S_).sem)
    ((harg6.wordExact_slice rfl _ (k0_off647_wordsbf16 k)).reshape _ _) (harg3.wordExact_slice rfl _ (k0_off646_wordsbf16 k)) ⟨Or.inl rfl, trivial⟩)
  pure ((s.pop 0 0 96 fits_0_96).pop 1 0 96 fits_0_96)

/-- One trip of the kernel's loop, rolled up: the four chunks of a panel and the panel's end. -/
def trip (k : Fin k0_t1_loop.trips) (s : Mxu F) : Prog (TpuEff nD τ sig (Elt F) Λ₀ .tc) (Mxu F) := do
  let s ← chunk arg2 arg4 arg5 arg0 harg0 arg1 harg1 harg4 harg5 arg7 arg8 k 0 s
  let s ← chunk arg2 arg4 arg5 arg0 harg0 arg1 harg1 harg4 harg5 arg7 arg8 k 1 s
  let s ← chunk arg2 arg4 arg5 arg0 harg0 arg1 harg1 harg4 harg5 arg7 arg8 k 2 s
  let s ← chunk arg2 arg4 arg5 arg0 harg0 arg1 harg1 harg4 harg5 arg7 arg8 k 3 s
  finish arg3 harg3 arg6 harg6 arg9 k s

end Cert.KernelIdeal.K
-- ==== Proof.Ideal.Fold.lean ====
module

public import proofs.«01_k».proof.Proof.Ideal.Rolled

@[expose] public section

noncomputable section

namespace Cert.KernelIdeal.K

open Idealize.ShloMosaic Idealize.SL.Sem Cert.KernelIdeal Cert.KernelIdeal.Gen

variable {F : FTy → Type} [FloatOps F]

/-- The left operand at a row and a column given as numbers. -/
def xAt (x : Vec F S96x13312 .bf16) (r c : Nat) : Elt F .bf16 := x (Mxu.ix (m := 96) (n := 13312) (Fin.ofNat 96 r) (Fin.ofNat 13312 c))
/-- The codes at a row and a column given as numbers. -/
def wAt (w : Vec F S13312x16384 .i8) (r c : Nat) : Elt F .i8 := w (Mxu.ix (m := 13312) (n := 16384) (Fin.ofNat 13312 r) (Fin.ofNat 16384 c))
/-- The scales at a row and a column given as numbers. -/
def dAt (d : Vec F S416x16384 .f32) (r c : Nat) : Elt F .f32 := d (Mxu.ix (m := 416) (n := 16384) (Fin.ofNat 416 r) (Fin.ofNat 16384 c))

variable (x : Vec F S96x13312 .bf16) (w : Vec F S13312x16384 .i8) (d : Vec F S416x16384 .f32)

/-- What a slot of the ring holds once the weights of step `n` have landed in it. -/
def wRing (n : Nat) : Vec F S6x3328x512 .i8 := fun i => wAt w (3328 * (n % 4) + (i 1).val) (512 * (n / 4) + (i 2).val)

/-- The codes of block `b` of unit `q`'s tile `t` of step `n`. -/
def codesV (n t q b : Nat) : Vec F S1x32x256 .i8 := fun i =>
  wAt w (3328 * (n % 4) + (256 * t + 32 * b + (i 1).val)) (512 * (n / 4) + (256 * q + (i 2).val))
/-- Their scales. -/
def scalesV (n t q b : Nat) : Vec F S1x256 .f32 := fun i => dAt d ((13 * (n % 4) + t) * 8 + b) (512 * (n / 4) + 256 * q + (i 1).val)
/-- The columns of the left operand that tile `t` of step `n` multiplies. -/
def colsV (n t : Nat) : Vec F S96x256 .bf16 := fun i => xAt x (i 0).val (256 * (13 * (n % 4) + t) + (i 1).val)

/-- The weights unit `q` is given for tile `t` of step `n`. -/
def tileW (n t q : Nat) : FVec F S256x256 .bf16 := wTile fun b => wBlk (codesV w n t q b.val) (scalesV d n t q b.val)

/-- The matrix units after tile `t` of step `n`. -/
def tileV (n t : Nat) (s : Mxu F) : Mxu F :=
  ((((s.pushed 0 (Fin.ofNat 2 t) false (tileW w d n t 0)).pushed 1 (Fin.ofNat 2 t) false (tileW w d n t 1)).accLhs 0 (Fin.ofNat 2 t) 0 (M := 96) (φ := .bf16)
    (colsV x n t) fits_0_96).accLhs 1 (Fin.ofNat 2 t) 0 (M := 96) (φ := .bf16) (colsV x n t) fits_0_96)

/-- The matrix units after tiles `t, …, t + m - 1` of step `n`. -/
def tilesV (n : Nat) : (m t : Nat) → Mxu F → Mxu F
  | 0, _, s => s
  | m + 1, t, s => tilesV n m (t + 1) (tileV x w d n t s)

/-- The matrix units after the four steps of panel `p`. -/
def panelV (p : Nat) (s : Mxu F) : Mxu F :=
  tilesV x w d (4 * p + 3) 13 0 (tilesV x w d (4 * p + 2) 13 0 (tilesV x w d (4 * p + 1) 13 0 (tilesV x w d (4 * p + 0) 13 0 s)))

/-- The matrix units before panel `p`. -/
def stateV : Nat → Mxu F
  | 0 => Mxu.init
  | p + 1 => ((panelV x w d p (stateV p)).pop 0 0 96 fits_0_96).pop 1 0 96 fits_0_96

/-- The matrix units when the accumulators of panel `p` are complete. -/
def fullV (p : Nat) : Mxu F := panelV x w d p (stateV x w d p)

/-- The first 256 columns of panel `p` of the result. -/
def leftV (p : Nat) : Vec F S1x96x256 .bf16 := k0_pay808 ((fullV x w d p).read 0 0 fits_0_96)
/-- The last 256 columns of panel `p` of the result. -/
def rightV (p : Nat) : Vec F S1x96x256 .bf16 := k0_pay809 (((fullV x w d p).pop 0 0 96 fits_0_96).read 1 0 fits_0_96)

/-- The result at a row and a column of panel `p`, both given as numbers. -/
def outAt (p r c : Nat) : Elt F .bf16 :=
  if c < 256 then leftV x w d p (fun a => match a with | ⟨0, _⟩ => (0 : Fin 1) | ⟨1, _⟩ => Fin.ofNat 96 r | ⟨2, _⟩ => Fin.ofNat 256 c)
  else rightV x w d p (fun a => match a with | ⟨0, _⟩ => (0 : Fin 1) | ⟨1, _⟩ => Fin.ofNat 96 r | ⟨2, _⟩ => Fin.ofNat 256 c)

/-- What a slot of the result's buffer holds once panel `p` has been stored in it. -/
def oBuf (p : Nat) : Vec F S2x96x512 .bf16 := fun i => outAt x w d p (i 1).val (i 2).val

/-- The whole result. -/
def outV : Vec F S96x16384 .bf16 := fun i => outAt x w d ((i 1).val / 512) (i 0).val ((i 1).val % 512)

/-! ## The matrix units' registers and liveness -/

/-- No staging register holds a tile, and only the rows the kernel uses can be live. -/
structure Clear (s : Mxu F) : Prop where
  reg : ∀ q r, s.reg q r = none
  live : ∀ q (R : Fin 1024), 96 ≤ R.val → s.live q R = false

theorem clear_init : Clear (Mxu.init : Mxu F) := ⟨fun _ _ => rfl, fun _ _ _ => rfl⟩

theorem clear_tileV {s : Mxu F} (h : Clear s) (n t : Nat) : Clear (tileV x w d n t s) := by
  constructor
  · intro q r
    unfold tileV
    by_cases h1 : q = 1 ∧ r = Fin.ofNat 2 t
    · obtain ⟨rfl, rfl⟩ := h1
      exact Mxu.reg_accLhs _ _ _ _ _ _
    · rw [Mxu.reg_accLhs_ne _ _ _ _ _ _ _ _ h1]
      by_cases h0 : q = 0 ∧ r = Fin.ofNat 2 t
      · obtain ⟨rfl, rfl⟩ := h0
        exact Mxu.reg_accLhs _ _ _ _ _ _
      · rw [Mxu.reg_accLhs_ne _ _ _ _ _ _ _ _ h0, Mxu.reg_pushed_ne _ _ _ _ _ _ _ h1, Mxu.reg_pushed_ne _ _ _ _ _ _ _ h0]
        exact h.reg q r
  · intro q R hR
    unfold tileV
    rw [Mxu.live_accLhs, Mxu.live_accLhs, if_neg (by omega), if_neg (by omega), Mxu.live_pushed, Mxu.live_pushed]
    exact h.live q R hR

theorem clear_tilesV (n m : Nat) : ∀ (t : Nat) {s : Mxu F}, Clear s → Clear (tilesV x w d n m t s) := by
  induction m with
  | zero => exact fun t s h => h
  | succ m ih => exact fun t s h => ih (t + 1) (clear_tileV x w d h n t)

theorem clear_panelV (p : Nat) {s : Mxu F} (h : Clear s) : Clear (panelV x w d p s) :=
  clear_tilesV _ _ _ _ _ _ (clear_tilesV _ _ _ _ _ _ (clear_tilesV _ _ _ _ _ _ (clear_tilesV _ _ _ _ _ _ h)))

/-- Reading both accumulators out leaves the matrix units drained. -/
theorem drained_pop {s : Mxu F} (h : Clear s) : ((s.pop 0 0 96 fits_0_96).pop 1 0 96 fits_0_96).Drained := by
  constructor
  · intro q r
    rw [Mxu.reg_pop, Mxu.reg_pop, h.reg q r]
    rfl
  · intro q R
    rw [Mxu.live_pop, Mxu.live_pop]
    by_cases hR : 96 ≤ R.val
    · rw [if_neg (by omega), if_neg (by omega), h.live q R hR]
    · have hq : q = 0 ∨ q = 1 := by revert q; decide
      rcases hq with rfl | rfl
      · rw [if_neg (by simp), if_pos ⟨rfl, by omega, by omega⟩]
      · rw [if_pos ⟨rfl, by omega, by omega⟩]

theorem clear_of_drained {s : Mxu F} (h : s.Drained) : Clear s :=
  ⟨fun q r => Option.isNone_iff_eq_none.mp (h.1 q r), fun q R _ => h.2 q R⟩

/-- Before every panel the matrix units are drained. -/
theorem drained_stateV : ∀ p : Nat, (stateV x w d p).Drained
  | 0 => Mxu.init_drained
  | p + 1 => drained_pop (clear_panelV x w d p (clear_of_drained (drained_stateV p)))

theorem clear_stateV (p : Nat) : Clear (stateV x w d p) := clear_of_drained (drained_stateV x w d p)

end Cert.KernelIdeal.K
-- ==== Proof.Ideal.Tile.lean ====
module

public import proofs.«01_k».proof.Proof.Ideal.Fold
public import Idealize.ShloMosaic.Lib.Pipeline.FrameBody
public import Idealize.ShloMosaic.Lib.Tactic

@[expose] public section

noncomputable section

namespace Cert.KernelIdeal.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The kernel's buffers: the left operand, the codes and the result as they lie outside, and the three the kernel copies through. -/
abbrev mX : Memref sig .tc .hbm S96x13312 .bf16 := Memref.whole main_v0
abbrev mW : Memref sig .tc .hbm S13312x16384 .i8 := Memref.whole main_arg1
abbrev mO : Memref sig .tc .hbm S96x16384 .bf16 := Memref.whole main_v1
abbrev bX : Memref sig .tc .vmem S96x13312 .bf16 := Memref.whole cc0_scratch0
abbrev bW : Memref sig .tc .vmem S6x3328x512 .i8 := Memref.whole cc0_scratch1
abbrev bO : Memref sig .tc .vmem S2x96x512 .bf16 := Memref.whole cc0_scratch2

/-- The elements of the ring that the weights of step `n` go to. -/
def slotSet (n : Nat) : Finset S6x3328x512.Idx := (Rect.unit (s := S6x3328x512) (offSlot n) S1x3328x512.size (offSlot_inb n)).set
/-- The columns chunk `c` of the left operand's buffer. -/
def colsSet (c : Fin 4) : Finset S96x13312.Idx := (Rect.unit (s := S96x13312) ![0, 3328 * c.val] S96x3328.size (colsX_inb c)).set

theorem mem_slotSet {n : Nat} {i : S6x3328x512.Idx} : i ∈ slotSet n ↔ (i 0).val = n % 6 := by
  unfold slotSet
  rw [Rect.mem_set_unit]
  constructor
  · intro h
    have h0 := h 0
    have e0 : offSlot n 0 = n % 6 := rfl
    have e1 : S1x3328x512.size 0 = 1 := rfl
    omega
  · intro h a
    have h1 : (i 1).val < 3328 := (i 1).isLt
    have h2 : (i 2).val < 512 := (i 2).isLt
    fin_cases a
    · show n % 6 ≤ (i 0).val ∧ (i 0).val < n % 6 + 1
      omega
    · show 0 ≤ (i 1).val ∧ (i 1).val < 0 + 3328
      omega
    · show 0 ≤ (i 2).val ∧ (i 2).val < 0 + 512
      omega

theorem mem_colsSet {c : Fin 4} {i : S96x13312.Idx} : i ∈ colsSet c ↔ 3328 * c.val ≤ (i 1).val ∧ (i 1).val < 3328 * c.val + 3328 := by
  unfold colsSet
  rw [Rect.mem_set_unit]
  constructor
  · intro h
    exact h 1
  · intro h a
    have h0 : (i 0).val < 96 := (i 0).isLt
    fin_cases a
    · show 0 ≤ (i 0).val ∧ (i 0).val < 0 + 96
      omega
    · exact h

theorem slotW_eq : ∀ k : Fin k0_t1_loop.trips, ∀ c : Fin 4, slotW k c.val = (4 * k.val + c.val) % 6 := by decide +kernel
theorem colW_eq : ∀ k : Fin k0_t1_loop.trips, ∀ q : Fin 2, colW k q.val = 512 * k.val + 256 * q.val := by decide +kernel

variable (c : Dev nD)

variable (x : Vec F S96x13312 .bf16) (w : Vec F S13312x16384 .i8) (d : Vec F S416x16384 .f32)

/-- The slot of step `n`, holding the weights of step `n`. -/
def slotPt (n : Nat) : sProp 𝕄 := (bW.view.loc (c : Thread nD τ)) ↦[slotSet n]{fullShare} (wRing w n : Buf (Elt F) (bW.view.loc (c : Thread nD τ)))
/-- Columns chunk `j` of the left operand's buffer, holding the left operand's. -/
def colsPt (j : Fin 4) : sProp 𝕄 := (bX.view.loc (c : Thread nD τ)) ↦[colsSet j]{fullShare} (x : Buf (Elt F) (bX.view.loc (c : Thread nD τ)))

abbrev W {α : Type} (p : Prog (TpuEff nD τ sig (Elt F) Λ₀ .tc) α) (Q : α → sProp 𝕄) : sProp 𝕄 :=
  wp frame (wpE (defs₀ (F := F)) Variants.none (c : Thread nD τ) none) Set.univ p Q

variable (arg2 : Memref sig .tc .vmem S416x16384 .f32)

/-- Running `p` from `P` leads to the result `v` and to `P'`. -/
def T {α : Type} (P : sProp 𝕄) (p : Prog (TpuEff nD τ sig (Elt F) Λ₀ .tc) α) (v : α) (P' : sProp 𝕄) : Prop :=
  ∀ Q : α → sProp 𝕄, iprop(P ∗ (P' -∗ Q v)) ⊢ W c p Q

variable {c} in
theorem T.bind {α β : Type} {P P' P'' : sProp 𝕄} {p : Prog (TpuEff nD τ sig (Elt F) Λ₀ .tc) α} {k : α → Prog (TpuEff nD τ sig (Elt F) Λ₀ .tc) β} {v : α} {u : β}
    (h : T c P p v P') (h' : T c P' (k v) u P'') : T c P (p >>= k) u P'' := by
  intro Q
  unfold W
  rw [wp_bind]
  iintro ⟨HP, HQ⟩
  iapply (h fun a => W c (k a) Q)
  isplitl [HP]
  · iexact HP
  iintro HP'
  iapply (h' Q)
  isplitl [HP']
  · iexact HP'
  iexact HQ

variable {c} in
theorem T.pure {α : Type} {P : sProp 𝕄} (v : α) : T c P (pure v) v P := by
  intro Q
  unfold W
  rw [wp_pure]
  iintro ⟨HP, HQ⟩
  imodintro
  iapply HQ
  iexact HP

variable {c} in
theorem T.conseq {α : Type} {P P' O O' : sProp 𝕄} {p : Prog (TpuEff nD τ sig (Elt F) Λ₀ .tc) α} {v : α}
    (h : T c P p v P') (h1 : O ⊢ P) (h2 : P' ⊢ O') : T c O p v O' := by
  intro Q
  iintro ⟨HP, HQ⟩
  iapply (h Q)
  isplitl [HP]
  · iapply h1; iexact HP
  iintro HP'
  iapply HQ
  iapply h2
  iexact HP'

variable {c} in
/-- What the program does not touch stays. -/
theorem T.framed {α : Type} {P P' : sProp 𝕄} {p : Prog (TpuEff nD τ sig (Elt F) Λ₀ .tc) α} {v : α}
    (h : T c P p v P') (R : sProp 𝕄) : T c iprop(P ∗ R) p v iprop(P' ∗ R) := by
  intro Q
  iintro ⟨⟨HP, HR⟩, HQ⟩
  iapply (h Q)
  isplitl [HP]
  · iexact HP
  iintro HP'
  iapply HQ
  isplitl [HP']
  · iexact HP'
  iexact HR

variable {c} in
theorem T.assume {α : Type} {P P' : sProp 𝕄} {A : Prop} {dA : Decidable A} {k : PLift A → Prog (TpuEff nD τ sig (Elt F) Λ₀ .tc) α} {v : α} (hA : A)
    (h : T c P (k ⟨hA⟩) v P') : T c P (.op (.assume A dA) k) v P' := by
  intro Q
  exact (h Q).trans (wp_assume (defs := defs₀ (F := F)) (c := (c : Thread nD τ)) Variants.none none Set.univ hA)

/-- What a tile's loads read: the step's slot of the ring, a chunk of columns of the left operand, and the scales, all of known contents. -/
def Reads (f2 : Buf (Elt F) (arg2.view.loc (c : Thread nD τ))) (n : Nat) (j : Fin 4) : sProp 𝕄 :=
  iprop(slotPt c w n ∗ colsPt c x j ∗ (arg2.view.loc (c : Thread nD τ) ↦[arg2.view.set]{fullShare} f2))

theorem readAt_slot (k : Fin k0_t1_loop.trips) (j : Fin 4) (t : Fin 13) (q : Fin 2) (b : Fin 8) :
    bW.view.readAt (Elt F) (Rect.unit (s := S6x3328x512) (offC k j.val t.val q.val b.val) S1x32x256.size (offC_inb k j t q b)).toLoadRect (wRing w (4 * k.val + j.val))
      = codesV w (4 * k.val + j.val) t.val q.val b.val := by
  funext i
  show wAt w _ _ = wAt w _ _
  congr 2
  · show 256 * t.val + 32 * b.val + 1 * (i 1).val = _
    omega
  · show 256 * q.val + 1 * (i 2).val = _
    omega

theorem readAt_scales (k : Fin k0_t1_loop.trips) (j : Fin 4) (t : Fin 13) (q : Fin 2) (b : Fin 8) :
    (fun i : S1x256.Idx => d ((Rect.unit (s := S416x16384) (offS k j.val t.val q.val b.val) S1x256.size (offS_inb k j t q b)).idx i))
      = scalesV d (4 * k.val + j.val) t.val q.val b.val := by
  funext i
  have hk : k.val < 32 := k.isLt
  have hq := q.isLt
  have ht := t.isLt
  have hb := b.isLt
  have hj := j.isLt
  have h0 : (i 0).val < 1 := (i 0).isLt
  have h1 : (i 1).val < 256 := (i 1).isLt
  show d _ = d _
  congr 1
  funext a
  apply Fin.ext
  fin_cases a
  · show (13 * j.val + t.val) * 8 + b.val + 1 * (i 0).val = ((13 * ((4 * k.val + j.val) % 4) + t.val) * 8 + b.val) % 416
    omega
  · show colW k q.val + 1 * (i 1).val = (512 * ((4 * k.val + j.val) / 4) + 256 * q.val + (i 1).val) % 16384
    rw [colW_eq]
    omega

theorem readAt_cols (k : Fin k0_t1_loop.trips) (j : Fin 4) (t : Fin 13) :
    bX.view.readAt (Elt F) (Rect.unit (s := S96x13312) ![0, 256 * (13 * j.val + t.val)] S96x256.size (offX_inb j t)).toLoadRect x
      = colsV x (4 * k.val + j.val) t.val := by
  funext i
  have ht := t.isLt
  have hj := j.isLt
  have h0 : (i 0).val < 96 := (i 0).isLt
  have h1 : (i 1).val < 256 := (i 1).isLt
  show x _ = x _
  congr 1
  funext a
  apply Fin.ext
  fin_cases a
  · show 0 + 1 * (i 0).val = (i 0).val % 96
    omega
  · show 256 * (13 * j.val + t.val) + 1 * (i 1).val = (256 * (13 * ((4 * k.val + j.val) % 4) + t.val) + (i 1).val) % 13312
    omega

theorem blk_sub (k : Fin k0_t1_loop.trips) (j : Fin 4) (t : Fin 13) (q : Fin 2) (b : Fin 8) :
    bW.view.setOn (Rect.unit (s := S6x3328x512) (offC k j.val t.val q.val b.val) S1x32x256.size (offC_inb k j t q b)).set ⊆ slotSet (4 * k.val + j.val) := by
  intro i hi
  obtain ⟨i', hi', rfl⟩ := Finset.mem_map.mp hi
  have h := Rect.mem_set_unit.mp hi' 0
  have e0 : offC k j.val t.val q.val b.val 0 = (4 * k.val + j.val) % 6 := slotW_eq k j
  have e1 : S1x32x256.size 0 = 1 := rfl
  rw [mem_slotSet]
  show (i' 0).val = _
  omega

theorem cols_sub (j : Fin 4) (t : Fin 13) :
    bX.view.setOn (Rect.unit (s := S96x13312) ![0, 256 * (13 * j.val + t.val)] S96x256.size (offX_inb j t)).set ⊆ colsSet j := by
  intro i hi
  obtain ⟨i', hi', rfl⟩ := Finset.mem_map.mp hi
  have h : 256 * (13 * j.val + t.val) ≤ (i' 1).val ∧ (i' 1).val < 256 * (13 * j.val + t.val) + 256 := Rect.mem_set_unit.mp hi' 1
  have ht := t.isLt
  rw [mem_colsSet]
  show 3328 * j.val ≤ (i' 1).val ∧ (i' 1).val < 3328 * j.val + 3328
  omega

variable (f2 : Buf (Elt F) (arg2.view.loc (c : Thread nD τ))) (hf2 : arg2.view.read (Elt F) f2 = d)
include hf2

theorem T_loadBlk (k : Fin k0_t1_loop.trips) (j : Fin 4) (t : Fin 13) (q : Fin 2) (b : Fin 8) :
    T c (Reads c x w arg2 f2 (4 * k.val + j.val) j) (loadBlk arg2 bW k j t q b)
      (wBlk (codesV w (4 * k.val + j.val) t.val q.val b.val) (scalesV d (4 * k.val + j.val) t.val q.val b.val)) (Reads c x w arg2 f2 (4 * k.val + j.val) j) := by
  intro Q
  have e : arg2.view.readAt (Elt F) (Rect.unit (s := S416x16384) (offS k j.val t.val q.val b.val) S1x256.size (offS_inb k j t q b)).toLoadRect f2
      = scalesV d (4 * k.val + j.val) t.val q.val b.val := by
    rw [← readAt_scales, ← hf2]; rfl
  rw [← e, ← readAt_slot]
  unfold Reads slotPt colsPt
  iintro ⟨⟨Hs, Hc, Hd⟩, HQ⟩
  iapply (wp_load (defs := defs₀ (F := F)) (c := (c : Thread nD τ)) Variants.none none Set.univ (m := bW) (S := slotSet (4 * k.val + j.val)) (blk_sub k j t q b)) $$ Hs
  iintro Hs
  iapply (wp_load (defs := defs₀ (F := F)) (c := (c : Thread nD τ)) Variants.none none Set.univ (m := arg2) (S := arg2.view.set) (View.setOn_subset_set _ _)) $$ Hd
  iintro Hd
  iapply (T.pure (c := c) (P := Reads c x w arg2 f2 (4 * k.val + j.val) j) _ Q)
  isplitl [Hs Hc Hd]
  · unfold Reads slotPt colsPt
    isplitl [Hs]
    · iexact Hs
    isplitl [Hc]
    · iexact Hc
    iexact Hd
  iexact HQ

theorem T_loadTile (k : Fin k0_t1_loop.trips) (j : Fin 4) (t : Fin 13) (q : Fin 2) :
    T c (Reads c x w arg2 f2 (4 * k.val + j.val) j) (loadTile arg2 bW k j t q)
      (tileW w d (4 * k.val + j.val) t.val q.val) (Reads c x w arg2 f2 (4 * k.val + j.val) j) := by
  have h := T_loadBlk c x w d arg2 f2 hf2 k j t q
  exact (h 0).bind <| (h 1).bind <| (h 2).bind <| (h 3).bind <| (h 4).bind <| (h 5).bind <| (h 6).bind <| (h 7).bind <| T.pure _

omit hf2 in
theorem T_loadX (k : Fin k0_t1_loop.trips) (j : Fin 4) (t : Fin 13) :
    T c (Reads c x w arg2 f2 (4 * k.val + j.val) j)
      (Prog.lift (.load bX (Rect.unit (s := S96x13312) ![0, 256 * (13 * j.val + t.val)] S96x256.size (offX_inb j t)).toLoadRect (View.loadsAt_vmem h_S96x256)))
      (colsV x (4 * k.val + j.val) t.val) (Reads c x w arg2 f2 (4 * k.val + j.val) j) := by
  intro Q
  rw [← readAt_cols]
  unfold Reads slotPt colsPt
  iintro ⟨⟨Hs, Hc, Hd⟩, HQ⟩
  iapply (wp_load (defs := defs₀ (F := F)) (c := (c : Thread nD τ)) Variants.none none Set.univ (m := bX) (S := colsSet j) (cols_sub j t)) $$ Hc
  iintro Hc
  iapply (T.pure (c := c) (P := Reads c x w arg2 f2 (4 * k.val + j.val) j) _ Q)
  isplitl [Hs Hc Hd]
  · unfold Reads slotPt colsPt
    isplitl [Hs]
    · iexact Hs
    isplitl [Hc]
    · iexact Hc
    iexact Hd
  iexact HQ

/-- One tile: the matrix units' state becomes `tileV`. -/
theorem T_tile (k : Fin k0_t1_loop.trips) (j : Fin 4) (t : Fin 13) {s : Mxu F} (hs : Clear s) :
    T c (Reads c x w arg2 f2 (4 * k.val + j.val) j) (tile arg2 bX bW k j t s)
      (tileV x w d (4 * k.val + j.val) t.val s) (Reads c x w arg2 f2 (4 * k.val + j.val) j) := by
  have h := T_loadTile c x w d arg2 f2 hf2 k j t
  refine (h 0).bind <| T.assume (Mxu.pushOk_of_none _ _ _ _ (hs.reg _ _)) <| (h 1).bind <| T.assume ?_ <| (T_loadX c x w arg2 f2 k j t).bind <| T.pure _
  refine Mxu.pushOk_of_none _ _ _ _ ?_
  rw [Mxu.reg_pushed_ne _ _ _ _ _ _ _ (fun h => absurd h.1 (by decide))]
  exact hs.reg _ _

theorem T_tiles (k : Fin k0_t1_loop.trips) (j : Fin 4) (m : Nat) : ∀ (t : Nat) (ht : t + m ≤ 13) {s : Mxu F} (hs : Clear s),
    T c (Reads c x w arg2 f2 (4 * k.val + j.val) j) (tilesFrom arg2 bX bW k j m t ht s)
      (tilesV x w d (4 * k.val + j.val) m t s) (Reads c x w arg2 f2 (4 * k.val + j.val) j) := by
  induction m with
  | zero => exact fun t ht s hs => T.pure _
  | succ m ih => exact fun t ht s hs => (T_tile c x w d arg2 f2 hf2 k j ⟨t, by omega⟩ hs).bind (ih (t + 1) _ (clear_tileV x w d hs _ _))

end Cert.KernelIdeal.K
-- ==== Proof.Ideal.Dma.lean ====
module

public import proofs.«01_k».proof.Proof.Ideal.Tile
public import Idealize.ShloMosaic.Lib.Transfers
public import Idealize.ShloMosaic.Lib.Ring

@[expose] public section

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- Separating conjunction is commutative and associative, so that two conjunctions of the same parts are equal. -/
instance sepComm {M : Type} [RA M] : _root_.Std.Commutative (α := sProp M) BIBase.sep :=
  ⟨fun P Q => _root_.Std.Commutative.comm (op := fun P Q : sProp M => BI.sep P Q) P Q⟩
instance sepAssoc {M : Type} [RA M] : _root_.Std.Associative (α := sProp M) BIBase.sep :=
  ⟨fun P Q R => _root_.Std.Associative.assoc (op := fun P Q : sProp M => BI.sep P Q) P Q R⟩

variable (c : Dev nD)

/-- What the core owes for the waits it has made: something. -/
def Owes : sProp 𝕄 := iprop(∃ W, owes (c : Thread nD τ) 0 W)

variable {c} in
/-- A step from `P` to `P'`, from any state that splits into `P` and a rest. -/
theorem T.use {α : Type} {P P' O O' : sProp 𝕄} {p : Prog (TpuEff nD τ sig (Elt F) Λ₀ .tc) α} {v : α}
    (h : T c P p v P') (R : sProp 𝕄) (e : O = iprop(P ∗ R)) (e' : iprop(P' ∗ R) = O') : T c O p v O' := by
  rw [e, ← e']
  exact h.framed R

variable {c} in
/-- Waiting for a copy in flight: what it delivers, and its semaphore at zero. -/
theorem T_wait {sp sp' : Space} {s s' : Shape} {e e' : EltTy} (sem : DmaSem sig) {srcw : Memref sig .tc sp' s' e'} {dstw : Memref sig .tc sp s e}
    {hsrc : srcw.view.WordExact} {hdst : dstw.view.WordExact} (N : ℕ) (hN : dstw.view.dmaCredit = N) (D : sProp 𝕄) :
    T c iprop(Flight (countersEmb (U := Pipeline.UD sig nD τ)) (c : Thread nD τ) (.dma sem) () N D ∗ Owes c)
      (Prog.lift (.waitDma2 sem srcw dstw hsrc hdst)) ⟨⟩ iprop(D ∗ semVal ((c : Thread nD τ), .dma sem) 0 ∗ Owes c) := by
  intro Q
  unfold Owes
  iintro ⟨⟨HF, %W, HO⟩, HQ⟩
  iapply (wp_waitLocal (countersEmb (U := Pipeline.UD sig nD τ)) (defs := defs₀ (F := F)) Variants.none (c : Thread nD τ) none () hN (D := D) (W := W)) $$ [HF HO]
  · isplitl [HF]
    · iexact HF
    iexact HO
  iintro ⟨HD, Hv, HO⟩
  iapply (T.pure (c := c) (P := iprop(D ∗ semVal ((c : Thread nD τ), .dma sem) 0 ∗ Owes c)) _ Q)
  isplitl [HD Hv HO]
  · isplitl [HD]
    · iexact HD
    isplitl [Hv]
    · iexact Hv
    unfold Owes
    iexists _
    iexact HO
  iexact HQ

/-- What a view's elements hold after a copy that the view then reads as the source. -/
theorem write_eq_of_read {sp : Space} {s : Shape} {e : EltTy} (v : View sig .tc sp s e) (f g : v.ty.Contents (Elt F)) (u : s.Idx → Elt F e)
    (h : v.read (Elt F) g = u) : ∀ i ∈ v.set, v.write (Elt F) f u Finset.univ i = g i := by
  intro i hi
  obtain ⟨j, -, rfl⟩ := Finset.mem_map.mp hi
  rw [View.write_emb_of_mem _ _ (Finset.mem_univ j), ← h, View.read_apply, cast_cast, cast_eq]

variable {c} in
/-- Starting a copy: what it will deliver is the destination reading as the source does, and the source back. -/
theorem T_copy {sp sp' : Space} {s : Shape} {e : EltTy} (sem : DmaSem sig) {src : Memref sig .tc sp' s e} {dst : Memref sig .tc sp s e}
    {hsrc : src.view.WordExact} {hdst : dst.view.WordExact} {hsem : DmaTarget.Typed (nD := nD) (τ := τ) (p := .tc) sp' (.dma sem) (.here dst)}
    (N : ℕ) (hN : dst.view.dmaCredit = N) (hN0 : 0 < N) (q : PosShare TreeShare) (fs : Buf (Elt F) (src.view.loc (c : Thread nD τ)))
    (g : Buf (Elt F) (dst.view.loc (c : Thread nD τ))) (hg : dst.view.read (Elt F) g = src.view.read (Elt F) fs) :
    T c iprop((src.view.loc (c : Thread nD τ) ↦[src.view.set]{q} fs) ∗ (∃ f, dst.view.loc (c : Thread nD τ) ↦[dst.view.set]{fullShare} f) ∗ semVal ((c : Thread nD τ), .dma sem) 0)
      (Prog.lift (.enqueueDma src (.here dst) (.dma sem) hsrc hdst hsem)) ⟨⟩
      (Flight (countersEmb (U := Pipeline.UD sig nD τ)) (c : Thread nD τ) (.dma sem) () N
        iprop((dst.view.loc (c : Thread nD τ) ↦[dst.view.set]{fullShare} g) ∗ (src.view.loc (c : Thread nD τ) ↦[src.view.set]{q} fs))) := by
  intro Q
  iintro ⟨⟨Hs, ⟨%f, Hd⟩, Hv⟩, HQ⟩
  iapply (wp_dmaLocal (countersEmb (U := Pipeline.UD sig nD τ)) (defs := defs₀ (F := F)) Variants.none (c : Thread nD τ) none (src := src) (dst := dst) (sm := .dma sem) () N hN hN0 (Finset.Subset.refl _)) $$ [Hs Hd Hv]
  · isplitl [Hs]
    · iexact Hs
    isplitl [Hd]
    · iexact Hd
    iexact Hv
  iintro HF
  iapply (T.pure (c := c) (P := (Flight (countersEmb (U := Pipeline.UD sig nD τ)) (c : Thread nD τ) (.dma sem) () N
        iprop((dst.view.loc (c : Thread nD τ) ↦[dst.view.set]{fullShare} g) ∗ (src.view.loc (c : Thread nD τ) ↦[src.view.set]{q} fs)))) _ Q)
  isplitl [HF]
  · rw [pointsTo_congr (f := g) (fun i hi => (write_eq_of_read dst.view f g _ hg i hi).symm)]
    iexact HF
  iexact HQ

end Cert.KernelIdeal.K
-- ==== Proof.Ideal.Ring.lean ====
module

public import proofs.«01_k».proof.Proof.Ideal.Dma
public import Idealize.ShloMosaic.Lib.Pipeline.Value

@[expose] public section

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The copies' ends and their semaphores -/

/-- The semaphore of the copy of columns chunk `j` of the left operand. -/
abbrev semX (j : Fin 4) : DmaSem sig := ((cc0_scratch3.slice (Rect.unit (s := S4) ![j.val] S1.size (semX_inb j))).squeeze S_ squeezes_S1_S_).sem
/-- The semaphore of the copy of the weights of step `n`. -/
abbrev semW (n : Nat) : DmaSem sig := ((cc0_scratch4.slice (Rect.unit (s := S6) ![n % 6] S1.size (semW_inb n))).squeeze S_ squeezes_S1_S_).sem

abbrev srcX (j : Fin 4) : Memref sig .tc .hbm S96x3328 .bf16 := mX.slice (Rect.unit (s := S96x13312) ![0, 3328 * j.val] S96x3328.size (colsX_inb j)) (fun _ => rfl)
abbrev dstX (j : Fin 4) : Memref sig .tc .vmem S96x3328 .bf16 := bX.slice (Rect.unit (s := S96x13312) ![0, 3328 * j.val] S96x3328.size (colsX_inb j)) (fun _ => rfl)
abbrev srcW (n : Nat) (h : n < 128) : Memref sig .tc .hbm S3328x512 .i8 := mW.slice (Rect.unit (s := S13312x16384) (offSrc n) S3328x512.size (offSrc_inb n h)) (fun _ => rfl)
abbrev dstW (n : Nat) : Memref sig .tc .vmem S3328x512 .i8 :=
  (bW.slice (Rect.unit (s := S6x3328x512) (offSlot n) S1x3328x512.size (offSlot_inb n)) (fun _ => rfl)).squeeze S3328x512 squeezes_S1x3328x512_S3328x512

/-- What a copy of columns of the left operand, and one of weights, moves. -/
abbrev NX : ℕ := (dstX 0).view.dmaCredit
abbrev NW : ℕ := (dstW 0).view.dmaCredit
theorem NX_pos : 0 < NX := View.dmaCredit_pos _ (by decide)
theorem NW_pos : 0 < NW := View.dmaCredit_pos _ (by decide)

theorem set_dstX (j : Fin 4) : (dstX j).view.set = colsSet j := View.set_slice_whole _ _
theorem set_dstW (n : Nat) : (dstW n).view.set = slotSet n := (View.set_reshape _ _).trans (View.set_slice_whole _ _)

variable (c : Dev nD)
variable (x : Vec F S96x13312 .bf16) (w : Vec F S13312x16384 .i8) (d : Vec F S416x16384 .f32)

theorem read_dstX (j : Fin 4) : (dstX j).view.read (Elt F) x = (srcX j).view.read (Elt F) x := rfl

theorem read_dstW (n : Nat) (h : n < 128) : (dstW n).view.read (Elt F) (wRing w n) = (srcW n h).view.read (Elt F) w := by
  funext i
  have h0 : (i 0).val < 3328 := (i 0).isLt
  have h1 : (i 1).val < 512 := (i 1).isLt
  refine (shapeCast_dropUnit_apply ![3328, 512] (fun i : S1x3328x512.Idx => wRing w n ((Rect.unit (s := S6x3328x512) (offSlot n) S1x3328x512.size (offSlot_inb n)).idx i))
    (by decide) i).trans ?_
  show w _ = w _
  congr 1
  funext a
  apply Fin.ext
  fin_cases a
  · show (3328 * (n % 4) + (0 + 1 * (i 0).val)) % 13312 = 3328 * (n % 4) + 1 * (i 0).val
    omega
  · show (512 * (n / 4) + (0 + 1 * (i 1).val)) % 16384 = 512 * (n / 4) + 1 * (i 1).val
    omega

/-! ## The left operand's columns -/

/-- The share of the left operand that chunk `j`'s copy reads. -/
abbrev shX (j : Fin 4) : PosShare TreeShare := shareTokN fullShare j.val
abbrev ptX (j : Fin 4) (S : Finset S96x13312.Idx) : sProp 𝕄 := mX.view.loc (c : Thread nD τ) ↦[S]{shX j} (x : Buf (Elt F) (mX.view.loc (c : Thread nD τ)))

/-- Before chunk `j`'s copy: its columns of the buffer at anything, the semaphore at zero, a share of the operand. -/
def FreeX (j : Fin 4) : sProp 𝕄 :=
  iprop((∃ f, bX.view.loc (c : Thread nD τ) ↦[colsSet j]{fullShare} f) ∗ semVal ((c : Thread nD τ), .dma (semX j)) 0 ∗ ptX c x j Finset.univ)
/-- The copy in flight. -/
def FlightX (j : Fin 4) : sProp 𝕄 :=
  iprop(Flight (countersEmb (U := Pipeline.UD sig nD τ)) (c : Thread nD τ) (.dma (semX j)) () NX iprop(colsPt c x j ∗ ptX c x j (srcX j).view.set)
    ∗ ptX c x j (Finset.univ \ (srcX j).view.set))
/-- The copy done. -/
def LoadedX (j : Fin 4) : sProp 𝕄 :=
  iprop(colsPt c x j ∗ semVal ((c : Thread nD τ), .dma (semX j)) 0 ∗ ptX c x j Finset.univ)

theorem ptX_split (j : Fin 4) (I : Finset S96x13312.Idx) :
    ptX c x j Finset.univ = iprop(ptX c x j I ∗ ptX c x j (Finset.univ \ I)) :=
  Entails.antisymm (pointsTo_split_subset (Finset.subset_univ I)).1 (pointsTo_split_subset (Finset.subset_univ I)).2

theorem T_startX (j : Fin 4) {h1 : (srcX j).view.WordExact} {h2 : (dstX j).view.WordExact}
    {h3 : DmaTarget.Typed (nD := nD) (τ := τ) (p := .tc) .hbm (.dma (semX j)) (.here (dstX j))} :
    T c (FreeX c x j) (Prog.lift (.enqueueDma (srcX j) (.here (dstX j)) (.dma (semX j)) h1 h2 h3)) ⟨⟩ (FlightX c x j) := by
  have h := T_copy (c := c) (semX j) (src := srcX j) (dst := dstX j) (hsrc := h1) (hdst := h2) (hsem := h3) NX rfl NX_pos (shX j) x x (read_dstX x j)
  rw [set_dstX] at h
  replace h : T c iprop(ptX c x j (srcX j).view.set ∗ (∃ f, bX.view.loc (c : Thread nD τ) ↦[colsSet j]{fullShare} f) ∗ semVal ((c : Thread nD τ), .dma (semX j)) 0) _ (⟨⟩ : PUnit)
    (Flight (countersEmb (U := Pipeline.UD sig nD τ)) (c : Thread nD τ) (.dma (semX j)) () NX iprop(colsPt c x j ∗ ptX c x j (srcX j).view.set)) := h
  refine h.use (ptX c x j (Finset.univ \ (srcX j).view.set)) ?_ rfl
  unfold FreeX
  rw [ptX_split c x j (srcX j).view.set]
  ac_rfl

theorem T_waitX' (j : Fin 4) {h1 : (srcX j).view.WordExact} {h2 : (dstX j).view.WordExact} :
    T c iprop(FlightX c x j ∗ Owes c) (Prog.lift (.waitDma2 (semX j) (srcX j) (dstX j) h1 h2)) ⟨⟩ iprop(LoadedX c x j ∗ Owes c) := by
  have h := T_wait (c := c) (semX j) (srcw := srcX j) (dstw := dstX j) (hsrc := h1) (hdst := h2) NX rfl iprop(colsPt c x j ∗ ptX c x j (srcX j).view.set)
  refine h.use (ptX c x j (Finset.univ \ (srcX j).view.set)) ?_ ?_
  · unfold FlightX
    ac_rfl
  · unfold LoadedX
    rw [ptX_split c x j (srcX j).view.set]
    ac_rfl

/-! ## The ring of weights -/

abbrev shW (n : Nat) : PosShare TreeShare := shareTokN fullShare (n % 6)
abbrev ptW (n : Nat) (S : Finset S13312x16384.Idx) : sProp 𝕄 := mW.view.loc (c : Thread nD τ) ↦[S]{shW n} (w : Buf (Elt F) (mW.view.loc (c : Thread nD τ)))

/-- Step `n`'s slot free: at anything, its semaphore at zero, and a share of the codes. -/
def FreeW (n : Nat) : sProp 𝕄 :=
  iprop((∃ f, bW.view.loc (c : Thread nD τ) ↦[slotSet n]{fullShare} f) ∗ semVal ((c : Thread nD τ), .dma (semW n)) 0 ∗ ptW c w n Finset.univ)
/-- The copy of step `n`'s weights in flight. -/
def FlightW (n : Nat) (h : n < 128) : sProp 𝕄 :=
  iprop(Flight (countersEmb (U := Pipeline.UD sig nD τ)) (c : Thread nD τ) (.dma (semW n)) () NW iprop(slotPt c w n ∗ ptW c w n (srcW n h).view.set)
    ∗ ptW c w n (Finset.univ \ (srcW n h).view.set))
/-- Step `n`'s weights landed. -/
def LoadedW (n : Nat) : sProp 𝕄 :=
  iprop(slotPt c w n ∗ semVal ((c : Thread nD τ), .dma (semW n)) 0 ∗ ptW c w n Finset.univ)
/-- Step `n`'s slot once its copy is started, if there is such a step. -/
def InW (n : Nat) : sProp 𝕄 := if h : n < 128 then FlightW c w n h else FreeW c w n

theorem ptW_split (n : Nat) (I : Finset S13312x16384.Idx) :
    ptW c w n Finset.univ = iprop(ptW c w n I ∗ ptW c w n (Finset.univ \ I)) :=
  Entails.antisymm (pointsTo_split_subset (Finset.subset_univ I)).1 (pointsTo_split_subset (Finset.subset_univ I)).2

theorem T_enqW (n : Nat) (h : n < 128) {h1 : (srcW n h).view.WordExact} {h2 : (dstW n).view.WordExact}
    {h3 : DmaTarget.Typed (nD := nD) (τ := τ) (p := .tc) .hbm (.dma (semW n)) (.here (dstW n))} :
    T c (FreeW c w n) (Prog.lift (.enqueueDma (srcW n h) (.here (dstW n)) (.dma (semW n)) h1 h2 h3)) ⟨⟩ (InW c w n) := by
  have hc := T_copy (c := c) (semW n) (src := srcW n h) (dst := dstW n) (hsrc := h1) (hdst := h2) (hsem := h3) NW rfl NW_pos (shW n) w (wRing w n) (read_dstW w n h)
  rw [set_dstW] at hc
  replace hc : T c iprop(ptW c w n (srcW n h).view.set ∗ (∃ f, bW.view.loc (c : Thread nD τ) ↦[slotSet n]{fullShare} f) ∗ semVal ((c : Thread nD τ), .dma (semW n)) 0) _ (⟨⟩ : PUnit)
    (Flight (countersEmb (U := Pipeline.UD sig nD τ)) (c : Thread nD τ) (.dma (semW n)) () NW iprop(slotPt c w n ∗ ptW c w n (srcW n h).view.set)) := hc
  have e : InW c w n = FlightW c w n h := by unfold InW; rw [dif_pos h]
  rw [e]
  refine hc.use (ptW c w n (Finset.univ \ (srcW n h).view.set)) ?_ rfl
  unfold FreeW
  rw [ptW_split c w n (srcW n h).view.set]
  ac_rfl

theorem T_startW (n : Nat) : T c (FreeW c w n) (startW bW mW (Memref.isWhole_whole _) (Memref.isWhole_whole _) cc0_scratch4 n) ⟨⟩ (InW c w n) := by
  unfold startW
  by_cases h : n < 128
  · rw [dif_pos h]
    exact T_enqW c w n h
  · rw [dif_neg h]
    have e : InW c w n = FreeW c w n := by unfold InW; rw [dif_neg h]
    rw [e]
    exact T.pure _

theorem sem_congr {o o' : Fin 1 → Nat} (e : o = o') (b : ∀ a, o a + S1.size a ≤ S6.size a) (b' : ∀ a, o' a + S1.size a ≤ S6.size a) :
    ((cc0_scratch4.slice (Rect.unit (s := S6) o S1.size b)).squeeze S_ squeezes_S1_S_).sem
      = ((cc0_scratch4.slice (Rect.unit (s := S6) o' S1.size b')).squeeze S_ squeezes_S1_S_).sem := by
  subst e; rfl

theorem FreeW_add (n : Nat) : FreeW c w (n + 6) = FreeW c w n := by
  have e : (n + 6) % 6 = n % 6 := by omega
  have e1 : slotSet (n + 6) = slotSet n := by
    ext i; rw [mem_slotSet, mem_slotSet, e]
  have e2 : semW (n + 6) = semW n := sem_congr (by rw [e]) _ _
  unfold FreeW
  rw [e1, e2]
  unfold ptW shW
  rw [e]

theorem off1_eq : ∀ k : Fin k0_t1_loop.trips, ∀ j : Fin 4, k0_off1 k (BitVec.ofNat 32 j.val) = ![(4 * k.val + j.val) % 6] := by decide +kernel

theorem T_waitW (k : Fin k0_t1_loop.trips) (j : Fin 4) :
    T c iprop(InW c w (4 * k.val + j.val) ∗ Owes c) (waitW bW mW (Memref.isWhole_whole _) (Memref.isWhole_whole _) cc0_scratch4 k j) ⟨⟩
      iprop(LoadedW c w (4 * k.val + j.val) ∗ Owes c) := by
  have hk : k.val < 32 := k.isLt
  have hn : 4 * k.val + j.val < 128 := by have := j.isLt; omega
  unfold waitW
  rw [sem_congr (off1_eq k j) _ (semW_inb (4 * k.val + j.val))]
  have e : InW c w (4 * k.val + j.val) = FlightW c w (4 * k.val + j.val) hn := by unfold InW; rw [dif_pos hn]
  rw [e]
  generalize 4 * k.val + j.val = n at hn ⊢
  refine T.use (P := iprop(Flight (countersEmb (U := Pipeline.UD sig nD τ)) (c : Thread nD τ) (.dma (semW n)) () NW iprop(slotPt c w n ∗ ptW c w n (srcW n hn).view.set) ∗ Owes c))
    (P' := iprop(iprop(slotPt c w n ∗ ptW c w n (srcW n hn).view.set) ∗ semVal ((c : Thread nD τ), .dma (semW n)) 0 ∗ Owes c)) ?h
    (ptW c w n (Finset.univ \ (srcW n hn).view.set)) ?_ ?_
  case h =>
    apply T_wait
    rfl
  · unfold FlightW
    ac_rfl
  · unfold LoadedW
    rw [ptW_split c w n (srcW n hn).view.set]
    ac_rfl

theorem LoadedW_free (n : Nat) : LoadedW c w n ⊢ FreeW c w (n + 6) := by
  rw [FreeW_add]
  unfold LoadedW FreeW slotPt
  iintro ⟨H, Hr⟩
  isplitl [H]
  · iexists _
    iexact H
  iexact Hr

/-! ## A chunk -/

/-- Columns chunk `j` before chunk `j` of trip `k`: in flight before the first trip, landed later. -/
def XP (k : Nat) (j : Fin 4) : sProp 𝕄 := if k = 0 then FlightX c x j else LoadedX c x j

theorem waitX_iff : ∀ k : Fin k0_t1_loop.trips,
    (Scalar.cmpi .ne (Scalar.extui (Scalar.cmpi .eq (Scf.iv 0#32 1#32 k) 0#32) : BitVec 32) 0#32 = 1#1) ↔ k.val = 0 := by decide +kernel

theorem T_waitX (k : Fin k0_t1_loop.trips) (j : Fin 4) :
    T c iprop(XP c x k.val j ∗ Owes c) (waitX bX mX (Memref.isWhole_whole _) (Memref.isWhole_whole _) cc0_scratch3 k j) ⟨⟩ iprop(LoadedX c x j ∗ Owes c) := by
  unfold waitX XP
  by_cases hk : k.val = 0
  · rw [if_pos ((waitX_iff k).mpr hk), if_pos hk]
    exact T_waitX' c x j
  · rw [if_neg (fun h => hk ((waitX_iff k).mp h)), if_neg hk]
    exact T.pure _

/-- The ring before step `n`: five copies started, one slot free. -/
def RingS (n : Nat) : sProp 𝕄 :=
  iprop(InW c w n ∗ InW c w (n + 1) ∗ InW c w (n + 2) ∗ InW c w (n + 3) ∗ InW c w (n + 4) ∗ FreeW c w (n + 5))

theorem RingS_succ (n : Nat) : RingS c w (n + 1)
    = iprop(InW c w (n + 1) ∗ InW c w (n + 2) ∗ InW c w (n + 3) ∗ InW c w (n + 4) ∗ InW c w (n + 5) ∗ FreeW c w (n + 6)) := rfl

variable (arg2 : Memref sig .tc .vmem S416x16384 .f32) (f2 : Buf (Elt F) (arg2.view.loc (c : Thread nD τ))) (hf2 : arg2.view.read (Elt F) f2 = d)

/-- The scales, as the kernel holds them. -/
def Scales : sProp 𝕄 := arg2.view.loc (c : Thread nD τ) ↦[arg2.view.set]{fullShare} f2

include hf2 in
/-- Chunk `j` of trip `k`: its thirteen tiles are multiplied in, and the ring moves on by one step. -/
theorem T_chunk (k : Fin k0_t1_loop.trips) (j : Fin 4) {s : Mxu F} (hs : Clear s) :
    T c iprop(XP c x k.val j ∗ RingS c w (4 * k.val + j.val) ∗ Scales c arg2 f2 ∗ Owes c)
      (chunk arg2 bX bW mX (Memref.isWhole_whole _) mW (Memref.isWhole_whole _) (Memref.isWhole_whole _) (Memref.isWhole_whole _) cc0_scratch3 cc0_scratch4 k j s)
      (tilesV x w d (4 * k.val + j.val) 13 0 s)
      iprop(LoadedX c x j ∗ RingS c w (4 * k.val + j.val + 1) ∗ Scales c arg2 f2 ∗ Owes c) := by
  have h1 := T_waitX c x k j
  have h2 := T_waitW c w k j
  have h3 := T_startW c w (4 * k.val + j.val + 5)
  have h4 := T_tiles c x w d arg2 f2 hf2 k j 13 0 (by decide) hs
  have h5 := LoadedW_free c w (4 * k.val + j.val)
  unfold chunk
  generalize hn : 4 * k.val + j.val = n at h2 h3 h4 h5 ⊢
  rw [RingS_succ]
  refine T.bind (P' := iprop(LoadedX c x j ∗ RingS c w n ∗ Scales c arg2 f2 ∗ Owes c)) (h1.use iprop(RingS c w n ∗ Scales c arg2 f2) (by ac_rfl) (by ac_rfl)) ?_
  unfold RingS
  refine T.bind (P' := iprop(LoadedX c x j ∗ LoadedW c w n ∗ InW c w (n + 1) ∗ InW c w (n + 2) ∗ InW c w (n + 3) ∗ InW c w (n + 4) ∗ FreeW c w (n + 5) ∗ Scales c arg2 f2 ∗ Owes c))
    (h2.use iprop(LoadedX c x j ∗ InW c w (n + 1) ∗ InW c w (n + 2) ∗ InW c w (n + 3) ∗ InW c w (n + 4) ∗ FreeW c w (n + 5) ∗ Scales c arg2 f2) (by ac_rfl) (by ac_rfl)) ?_
  refine T.bind (P' := iprop(LoadedX c x j ∗ LoadedW c w n ∗ InW c w (n + 1) ∗ InW c w (n + 2) ∗ InW c w (n + 3) ∗ InW c w (n + 4) ∗ InW c w (n + 5) ∗ Scales c arg2 f2 ∗ Owes c))
    (h3.use iprop(LoadedX c x j ∗ LoadedW c w n ∗ InW c w (n + 1) ∗ InW c w (n + 2) ∗ InW c w (n + 3) ∗ InW c w (n + 4) ∗ Scales c arg2 f2 ∗ Owes c) (by ac_rfl) (by ac_rfl)) ?_
  refine T.conseq (T.use h4 iprop(semVal ((c : Thread nD τ), .dma (semX j)) 0 ∗ ptX c x j Finset.univ ∗ semVal ((c : Thread nD τ), .dma (semW n)) 0 ∗ ptW c w n Finset.univ
    ∗ InW c w (n + 1) ∗ InW c w (n + 2) ∗ InW c w (n + 3) ∗ InW c w (n + 4) ∗ InW c w (n + 5) ∗ Owes c) rfl rfl)
    (O' := iprop(LoadedX c x j ∗ (InW c w (n + 1) ∗ InW c w (n + 2) ∗ InW c w (n + 3) ∗ InW c w (n + 4) ∗ InW c w (n + 5) ∗ FreeW c w (n + 6)) ∗ Scales c arg2 f2 ∗ Owes c)) ?_ ?_
  · refine (Entails.of_eq ?_)
    unfold LoadedX LoadedW Reads Scales
    ac_rfl
  · refine (Entails.of_eq ?_).trans ((sep_mono_right h5 (P := iprop(LoadedX c x j ∗ InW c w (n + 1) ∗ InW c w (n + 2) ∗ InW c w (n + 3) ∗ InW c w (n + 4) ∗ InW c w (n + 5)
      ∗ Scales c arg2 f2 ∗ Owes c))).trans (Entails.of_eq ?_))
    · unfold LoadedX LoadedW Reads Scales
      ac_rfl
    · ac_rfl

end Cert.KernelIdeal.K
-- ==== Proof.Ideal.Out.lean ====
module

public import proofs.«01_k».proof.Proof.Ideal.Ring
public import Idealize.ShloMosaic.Lib.Pipeline.Value

@[expose] public section

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The result's slots and their copies out -/

/-- The semaphore of the copy out of panel `p`. -/
abbrev semO (p : Nat) : DmaSem sig := ((cc0_scratch5.slice (Rect.unit (s := S2) ![p % 2] S1.size (by intro a; fin_cases a; show p % 2 + 1 ≤ 2; omega))).squeeze S_ squeezes_S1_S_).sem

theorem semO_congr {o o' : Fin 1 → Nat} (e : o = o') (b : ∀ a, o a + S1.size a ≤ S2.size a) (b' : ∀ a, o' a + S1.size a ≤ S2.size a) :
    ((cc0_scratch5.slice (Rect.unit (s := S2) o S1.size b)).squeeze S_ squeezes_S1_S_).sem
      = ((cc0_scratch5.slice (Rect.unit (s := S2) o' S1.size b')).squeeze S_ squeezes_S1_S_).sem := by
  subst e; rfl

/-- The slot of the result's buffer that panel `p` is stored in. -/
def oslot (p : Nat) : Finset S2x96x512.Idx := Finset.univ.filter fun i => (i 0).val = p % 2
/-- The columns of the result that make panel `p`. -/
def outSet (p : Nat) : Finset S96x16384.Idx := Finset.univ.filter fun i => (i 1).val / 512 = p

theorem mem_oslot {p : Nat} {i : S2x96x512.Idx} : i ∈ oslot p ↔ (i 0).val = p % 2 := by
  unfold oslot; rw [Finset.mem_filter]; exact ⟨fun h => h.2, fun h => ⟨Finset.mem_univ _, h⟩⟩
theorem mem_outSet {p : Nat} {i : S96x16384.Idx} : i ∈ outSet p ↔ (i 1).val / 512 = p := by
  unfold outSet; rw [Finset.mem_filter]; exact ⟨fun h => h.2, fun h => ⟨Finset.mem_univ _, h⟩⟩

abbrev slO (o : Fin 3 → Nat) (b : ∀ a, o a + S1x96x512.size a ≤ S2x96x512.size a) : Memref sig .tc .vmem S96x512 .bf16 :=
  (bO.slice (Rect.unit (s := S2x96x512) o S1x96x512.size b) (fun _ => rfl)).squeeze S96x512 squeezes_S1x96x512_S96x512
abbrev dsO (o : Fin 2 → Nat) (b : ∀ a, o a + S96x512.size a ≤ S96x16384.size a) : Memref sig .tc .hbm S96x512 .bf16 :=
  mO.slice (Rect.unit (s := S96x16384) o S96x512.size b) (fun _ => rfl)

theorem set_slO {p : Nat} {o : Fin 3 → Nat} (e : o = ![p % 2, 0, 0]) (b : ∀ a, o a + S1x96x512.size a ≤ S2x96x512.size a) : (slO o b).view.set = oslot p := by
  refine (View.set_reshape _ _).trans ((View.set_slice_whole _ _).trans ?_)
  subst e
  ext i
  rw [mem_oslot]
  refine Rect.mem_set_unit.trans ⟨fun h => ?_, fun h a => ?_⟩
  · have h0 : p % 2 ≤ (i 0).val ∧ (i 0).val < p % 2 + 1 := h 0
    omega
  · have h1 : (i 1).val < 96 := (i 1).isLt
    have h2 : (i 2).val < 512 := (i 2).isLt
    fin_cases a
    · show p % 2 ≤ (i 0).val ∧ (i 0).val < p % 2 + 1
      omega
    · show 0 ≤ (i 1).val ∧ (i 1).val < 0 + 96
      omega
    · show 0 ≤ (i 2).val ∧ (i 2).val < 0 + 512
      omega

theorem set_dsO {p : Nat} {o : Fin 2 → Nat} (e : o = ![0, 512 * p]) (b : ∀ a, o a + S96x512.size a ≤ S96x16384.size a) : (dsO o b).view.set = outSet p := by
  refine (View.set_slice_whole _ _).trans ?_
  subst e
  ext i
  rw [mem_outSet]
  refine Rect.mem_set_unit.trans ⟨fun h => ?_, fun h a => ?_⟩
  · have h0 : 512 * p ≤ (i 1).val ∧ (i 1).val < 512 * p + 512 := h 1
    omega
  · have h1 : (i 0).val < 96 := (i 0).isLt
    fin_cases a
    · show 0 ≤ (i 0).val ∧ (i 0).val < 0 + 96
      omega
    · show 512 * p ≤ (i 1).val ∧ (i 1).val < 512 * p + 512
      omega

variable (c : Dev nD)
variable (x : Vec F S96x13312 .bf16) (w : Vec F S13312x16384 .i8) (d : Vec F S416x16384 .f32)

theorem read_dsO {p : Nat} {o : Fin 2 → Nat} (e : o = ![0, 512 * p]) (b : ∀ a, o a + S96x512.size a ≤ S96x16384.size a)
    {o' : Fin 3 → Nat} (e' : o' = ![p % 2, 0, 0]) (b' : ∀ a, o' a + S1x96x512.size a ≤ S2x96x512.size a) :
    (dsO o b).view.read (Elt F) (outV x w d) = (slO o' b').view.read (Elt F) (oBuf x w d p) := by
  subst e e'
  funext i
  have h0 : (i 0).val < 96 := (i 0).isLt
  have h1 : (i 1).val < 512 := (i 1).isLt
  refine Eq.trans ?_ (shapeCast_dropUnit_apply ![96, 512] (fun i : S1x96x512.Idx => oBuf x w d p ((Rect.unit (s := S2x96x512) ![p % 2, 0, 0] S1x96x512.size b').idx i))
    (by decide) i).symm
  show outAt x w d ((512 * p + 1 * (i 1).val) / 512) (0 + 1 * (i 0).val) ((512 * p + 1 * (i 1).val) % 512) = outAt x w d p (0 + 1 * (i 0).val) (0 + 1 * (i 1).val)
  have e1 : (512 * p + 1 * (i 1).val) / 512 = p := by omega
  have e2 : (512 * p + 1 * (i 1).val) % 512 = 0 + 1 * (i 1).val := by omega
  rw [e1, e2]

/-- Panel `p`'s columns of the result, final. -/
def OutPt (p : Nat) : sProp 𝕄 := mO.view.loc (c : Thread nD τ) ↦[outSet p]{fullShare} (outV x w d : Buf (Elt F) (mO.view.loc (c : Thread nD τ)))
/-- Panel `p`'s columns of the result, at anything. -/
def OutAny (p : Nat) : sProp 𝕄 := iprop(∃ f, mO.view.loc (c : Thread nD τ) ↦[outSet p]{fullShare} f)
/-- The slot that holds panel `p`. -/
def SlotO (p : Nat) : sProp 𝕄 := bO.view.loc (c : Thread nD τ) ↦[oslot p]{fullShare} (oBuf x w d p : Buf (Elt F) (bO.view.loc (c : Thread nD τ)))

abbrev NO : ℕ := (dsO ![0, 0] (by decide)).view.dmaCredit
theorem NO_pos : 0 < NO := View.dmaCredit_pos _ (by decide)

/-- Panel `p`'s slot free, and its semaphore at zero. -/
def FreeO (p : Nat) : sProp 𝕄 := iprop((∃ f, bO.view.loc (c : Thread nD τ) ↦[oslot p]{fullShare} f) ∗ semVal ((c : Thread nD τ), .dma (semO p)) 0)
/-- Panel `p`'s copy out in flight. -/
def FlightO (p : Nat) : sProp 𝕄 :=
  Flight (countersEmb (U := Pipeline.UD sig nD τ)) (c : Thread nD τ) (.dma (semO p)) () NO iprop(OutPt c x w d p ∗ SlotO c x w d p)

theorem FreeO_add (p : Nat) : FreeO (F := F) c (p + 2) = FreeO c p := by
  have e : (p + 2) % 2 = p % 2 := by omega
  have e1 : oslot (p + 2) = oslot p := by
    ext i; rw [mem_oslot, mem_oslot, e]
  have e2 : semO (p + 2) = semO p := semO_congr (by rw [e]) _ _
  unfold FreeO
  rw [e1, e2]

theorem T_enqO {p : Nat} {o5 : Fin 1 → Nat} (e5 : o5 = ![p % 2]) (b5 : ∀ a, o5 a + S1.size a ≤ S2.size a)
    {o6 : Fin 2 → Nat} (e6 : o6 = ![0, 512 * p]) (b6 : ∀ a, o6 a + S96x512.size a ≤ S96x16384.size a)
    {o7 : Fin 3 → Nat} (e7 : o7 = ![p % 2, 0, 0]) (b7 : ∀ a, o7 a + S1x96x512.size a ≤ S2x96x512.size a)
    {h1 : (slO o7 b7).view.WordExact} {h2 : (dsO o6 b6).view.WordExact}
    {h3 : DmaTarget.Typed (nD := nD) (τ := τ) (p := .tc) .vmem (.dma ((cc0_scratch5.slice (Rect.unit (s := S2) o5 S1.size b5)).squeeze S_ squeezes_S1_S_).sem) (.here (dsO o6 b6))} :
    T c iprop(SlotO c x w d p ∗ OutAny c p ∗ semVal ((c : Thread nD τ), .dma (semO p)) 0)
      (Prog.lift (.enqueueDma (slO o7 b7) (.here (dsO o6 b6)) (.dma ((cc0_scratch5.slice (Rect.unit (s := S2) o5 S1.size b5)).squeeze S_ squeezes_S1_S_).sem) h1 h2 h3)) ⟨⟩
      (FlightO c x w d p) := by
  have h := T_copy (c := c) _ (src := slO o7 b7) (dst := dsO o6 b6) (hsrc := h1) (hdst := h2) (hsem := h3) NO rfl NO_pos fullShare (oBuf x w d p) (outV x w d)
    (read_dsO x w d e6 b6 e7 b7)
  rw [set_slO e7, set_dsO e6] at h
  subst e5
  exact h

theorem T_waitO' (p : Nat) {o : Fin 1 → Nat} (e : o = ![p % 2]) (b : ∀ a, o a + S1.size a ≤ S2.size a)
    {o6 : Fin 2 → Nat} (b6 : ∀ a, o6 a + S96x512.size a ≤ S96x16384.size a) {o7 : Fin 3 → Nat} (b7 : ∀ a, o7 a + S1x96x512.size a ≤ S2x96x512.size a)
    {h1 : (slO o7 b7).view.WordExact} {h2 : (dsO o6 b6).view.WordExact} :
    T c iprop(FlightO c x w d p ∗ Owes c)
      (Prog.lift (.waitDma2 ((cc0_scratch5.slice (Rect.unit (s := S2) o S1.size b)).squeeze S_ squeezes_S1_S_).sem (slO o7 b7) (dsO o6 b6) h1 h2)) ⟨⟩
      iprop(OutPt c x w d p ∗ FreeO c p ∗ Owes c) := by
  subst e
  refine T.conseq (P := iprop(FlightO c x w d p ∗ Owes c)) (P' := iprop(iprop(OutPt c x w d p ∗ SlotO c x w d p) ∗ semVal ((c : Thread nD τ), .dma (semO p)) 0 ∗ Owes c)) ?_ .rfl ?_
  · apply T_wait
    rfl
  · unfold FreeO SlotO
    iintro ⟨⟨HO, Hs⟩, Hv, Hw⟩
    isplitl [HO]
    · iexact HO
    isplitl [Hs Hv]
    · isplitl [Hs]
      · iexists _
        iexact Hs
      iexact Hv
    iexact Hw

variable {c} in
/-- What holds of every contents holds of some. -/
theorem T.ex {α β : Type} {P : β → sProp 𝕄} {R P' : sProp 𝕄} {p : Prog (TpuEff nD τ sig (Elt F) Λ₀ .tc) α} {v : α}
    (h : ∀ f, T c iprop(P f ∗ R) p v P') : T c iprop((∃ f, P f) ∗ R) p v P' := by
  intro Q
  iintro ⟨⟨⟨%f, HP⟩, HR⟩, HQ⟩
  iapply (h f Q)
  isplitl [HP HR]
  · isplitl [HP]
    · iexact HP
    iexact HR
  iexact HQ

/-! ## A panel's two halves stored -/

abbrev rO (o : Fin 3 → Nat) (b : ∀ a, o a + S1x96x256.size a ≤ S2x96x512.size a) : Rect S2x96x512 := Rect.unit (s := S2x96x512) o S1x96x256.size b

theorem half_sub {p q : Nat} {o : Fin 3 → Nat} (e : o = ![p % 2, 0, q]) (b : ∀ a, o a + S1x96x256.size a ≤ S2x96x512.size a)
    {i : S2x96x512.Idx} (hi : i ∈ (bO.access (rO o b)).setOn Finset.univ) : (i 0).val = p % 2 ∧ q ≤ (i 2).val ∧ (i 2).val < q + 256 := by
  subst e
  obtain ⟨j, -, rfl⟩ := Finset.mem_map.mp hi
  have h0 : (j 0).val < 1 := (j 0).isLt
  have h2 : (j 2).val < 256 := (j 2).isLt
  constructor
  · show p % 2 + 1 * (j 0).val = p % 2
    omega
  · show q ≤ q + 1 * (j 2).val ∧ q + 1 * (j 2).val < q + 256
    omega

theorem half_sub' {p q : Nat} {o : Fin 3 → Nat} (e : o = ![p % 2, 0, q]) (b : ∀ a, o a + S1x96x256.size a ≤ S2x96x512.size a) :
    bO.view.setOn (rO o b).set ⊆ oslot p := by
  intro i hi
  obtain ⟨i', hi', rfl⟩ := Finset.mem_map.mp hi
  subst e
  have h : p % 2 ≤ (i' 0).val ∧ (i' 0).val < p % 2 + 1 := Rect.mem_set_unit.mp hi' 0
  rw [mem_oslot]
  show (i' 0).val = _
  omega

abbrev SlotAt (p : Nat) (f : Buf (Elt F) (bO.view.loc (c : Thread nD τ))) : sProp 𝕄 := bO.view.loc (c : Thread nD τ) ↦[oslot p]{fullShare} f

theorem T_loadO {p q : Nat} {o : Fin 3 → Nat} (e : o = ![p % 2, 0, q]) (b : ∀ a, o a + S1x96x256.size a ≤ S2x96x512.size a) (f : Buf (Elt F) (bO.view.loc (c : Thread nD τ)))
    {h1 : bO.view.LoadsAt (rO o b).toLoadRect} :
    T c (SlotAt c p f) (Prog.lift (.load bO (rO o b).toLoadRect h1)) (bO.view.readAt (Elt F) (rO o b).toLoadRect f) (SlotAt c p f) := by
  intro Q
  iintro ⟨Hs, HQ⟩
  iapply (wp_load (defs := defs₀ (F := F)) (c := (c : Thread nD τ)) Variants.none none Set.univ (m := bO) (S := oslot p) (half_sub' e b)) $$ Hs
  iintro Hs
  iapply (T.pure (c := c) (P := SlotAt c p f) _ Q)
  isplitl [Hs]
  · iexact Hs
  iexact HQ

theorem T_storeO {p q : Nat} {o : Fin 3 → Nat} (e : o = ![p % 2, 0, q]) (b : ∀ a, o a + S1x96x256.size a ≤ S2x96x512.size a) (f : Buf (Elt F) (bO.view.loc (c : Thread nD τ)))
    (u : Vec F S1x96x256 .bf16) {h1 : (bO.access (rO o b)).Stores Finset.univ} {h2 : (Finset.univ : Finset (rO o b).shape.Idx) = Finset.univ ∨ ∀ a, (rO o b).stride a = 1} :
    T c (SlotAt c p f) (Prog.lift (.store bO (rO o b) u Finset.univ h1 h2)) ⟨⟩ (SlotAt c p ((bO.access (rO o b)).write (Elt F) f u Finset.univ)) := by
  intro Q
  iintro ⟨Hs, HQ⟩
  iapply (wp_store (defs := defs₀ (F := F)) (c := (c : Thread nD τ)) Variants.none none Set.univ (m := bO) (r := rO o b)
    (S := oslot p) (fun i hi => mem_oslot.mpr (half_sub e b hi).1)) $$ Hs
  iintro Hs
  iapply (T.pure (c := c) (P := SlotAt c p ((bO.access (rO o b)).write (Elt F) f u Finset.univ)) _ Q)
  isplitl [Hs]
  · iexact Hs
  iexact HQ

/-- An index of a half of a slot, from its row and column. -/
abbrev ixH (r c : Nat) : S1x96x256.Idx := fun a => match a with | ⟨0, _⟩ => (0 : Fin 1) | ⟨1, _⟩ => Fin.ofNat 96 r | ⟨2, _⟩ => Fin.ofNat 256 c

theorem ixH_eq (r c : Nat) : ixH r c = fun a => match a with | ⟨0, _⟩ => (0 : Fin 1) | ⟨1, _⟩ => Fin.ofNat 96 r | ⟨2, _⟩ => Fin.ofNat 256 c := by
  funext a
  fin_cases a <;> rfl

theorem emb_half {p q : Nat} {o : Fin 3 → Nat} (e : o = ![p % 2, 0, q]) (b : ∀ a, o a + S1x96x256.size a ≤ S2x96x512.size a) {i : S2x96x512.Idx}
    (hi : (i 0).val = p % 2) (hq : q + (i 2).val % 256 = (i 2).val) : (bO.access (rO o b)).emb (ixH (i 1).val (i 2).val) = i := by
  subst e
  have h1 : (i 1).val < 96 := (i 1).isLt
  funext a
  apply Fin.ext
  fin_cases a
  · show p % 2 + 1 * 0 = (i 0).val
    omega
  · show 0 + 1 * ((i 1).val % 96) = (i 1).val
    omega
  · show q + 1 * ((i 2).val % 256) = (i 2).val
    omega

theorem stored {p : Nat} {o3 : Fin 3 → Nat} (e3 : o3 = ![p % 2, 0, 0]) (b3 : ∀ a, o3 a + S1x96x256.size a ≤ S2x96x512.size a)
    {o4 : Fin 3 → Nat} (e4 : o4 = ![p % 2, 0, 256]) (b4 : ∀ a, o4 a + S1x96x256.size a ≤ S2x96x512.size a) (f : Buf (Elt F) (bO.view.loc (c : Thread nD τ))) :
    SlotAt c p ((bO.access (rO o4 b4)).write (Elt F) ((bO.access (rO o3 b3)).write (Elt F) f (leftV x w d p) Finset.univ) (rightV x w d p) Finset.univ) = SlotO c x w d p := by
  refine pointsTo_congr fun i hi => ?_
  have h2 : (i 2).val < 512 := (i 2).isLt
  rw [mem_oslot] at hi
  by_cases h : (i 2).val < 256
  · refine (View.write_of_not_mem _ _ _ (fun hm => ?_)).trans ?_
    · have := (half_sub e4 b4 hm).2.1
      omega
    · refine (congrArg _ (emb_half e3 b3 hi (by omega)).symm).trans ((View.write_emb_of_mem _ _ (Finset.mem_univ _)).trans ?_)
      show leftV x w d p _ = outAt x w d p (i 1).val (i 2).val
      unfold outAt
      rw [if_pos h]
      exact congrArg _ (ixH_eq _ _)
  · refine (congrArg _ (emb_half e4 b4 hi (by omega)).symm).trans ((View.write_emb_of_mem _ _ (Finset.mem_univ _)).trans ?_)
    show rightV x w d p _ = outAt x w d p (i 1).val (i 2).val
    unfold outAt
    rw [if_neg h]
    exact congrArg _ (ixH_eq _ _)

end Cert.KernelIdeal.K
-- ==== Proof.Ideal.TripEq.lean ====
module

public import proofs.«01_k».proof.Proof.Ideal.Rolled
public import Idealize.ShloMosaic.Lib.Tactic

@[expose] public section

noncomputable section

namespace Cert.KernelIdeal.K

open Idealize.ShloMosaic Idealize.SL.Sem Cert.KernelIdeal Cert.KernelIdeal.Gen

variable {F : FTy → Type} [FloatOps F]
variable (arg0 : Memref sig .tc .hbm S96x13312 .bf16) (harg0 : arg0.IsWhole) (arg1 : Memref sig .tc .hbm S13312x16384 .i8) (harg1 : arg1.IsWhole)
  (arg2 : Memref sig .tc .vmem S416x16384 .f32) (harg2 : arg2.IsWhole) (arg3 : Memref sig .tc .hbm S96x16384 .bf16) (harg3 : arg3.IsWhole)
  (arg4 : Memref sig .tc .vmem S96x13312 .bf16)
  (harg4 : arg4.IsWhole) (arg5 : Memref sig .tc .vmem S6x3328x512 .i8)  (harg5 : arg5.IsWhole)
  (arg6 : Memref sig .tc .vmem S2x96x512 .bf16) (harg6 : arg6.IsWhole) (arg7 : DmaSems sig S4) (arg8 : DmaSems sig S6) (arg9 : DmaSems sig S2)

theorem off4_eq : ∀ k : Fin k0_t1_loop.trips, k0_off4 k = ![(4 * k.val + 0 + 5) % 6] := by decide +kernel
theorem off5_eq : ∀ k : Fin k0_t1_loop.trips, k0_off5 k = offSlot (4 * k.val + 0 + 5) := by decide +kernel
theorem off6_eq : ∀ k : Fin k0_t1_loop.trips, k0_off6 k = offSrc (4 * k.val + 0 + 5) := by decide +kernel
theorem cond2_eq : ∀ k : Fin k0_t1_loop.trips, (k0_cond2 k = 1#1) = (4 * k.val + 0 + 5 < 128) := by
  have h : ∀ k : Fin k0_t1_loop.trips, (k0_cond2 k = 1#1) ↔ (4 * k.val + 0 + 5 < 128) := by decide +kernel
  exact fun k => propext (h k)
theorem off319_eq : ∀ k : Fin k0_t1_loop.trips, k0_off319 k = ![(4 * k.val + 1 + 5) % 6] := by decide +kernel
theorem off320_eq : ∀ k : Fin k0_t1_loop.trips, k0_off320 k = offSlot (4 * k.val + 1 + 5) := by decide +kernel
theorem off321_eq : ∀ k : Fin k0_t1_loop.trips, k0_off321 k = offSrc (4 * k.val + 1 + 5) := by decide +kernel
theorem cond4_eq : ∀ k : Fin k0_t1_loop.trips, (k0_cond4 k = 1#1) = (4 * k.val + 1 + 5 < 128) := by
  have h : ∀ k : Fin k0_t1_loop.trips, (k0_cond4 k = 1#1) ↔ (4 * k.val + 1 + 5 < 128) := by decide +kernel
  exact fun k => propext (h k)
theorem off426_eq : ∀ k : Fin k0_t1_loop.trips, k0_off426 k = ![(4 * k.val + 2 + 5) % 6] := by decide +kernel
theorem off427_eq : ∀ k : Fin k0_t1_loop.trips, k0_off427 k = offSlot (4 * k.val + 2 + 5) := by decide +kernel
theorem off428_eq : ∀ k : Fin k0_t1_loop.trips, k0_off428 k = offSrc (4 * k.val + 2 + 5) := by decide +kernel
theorem cond6_eq : ∀ k : Fin k0_t1_loop.trips, (k0_cond6 k = 1#1) = (4 * k.val + 2 + 5 < 128) := by
  have h : ∀ k : Fin k0_t1_loop.trips, (k0_cond6 k = 1#1) ↔ (4 * k.val + 2 + 5 < 128) := by decide +kernel
  exact fun k => propext (h k)
theorem off533_eq : ∀ k : Fin k0_t1_loop.trips, k0_off533 k = ![(4 * k.val + 3 + 5) % 6] := by decide +kernel
theorem off534_eq : ∀ k : Fin k0_t1_loop.trips, k0_off534 k = offSlot (4 * k.val + 3 + 5) := by decide +kernel
theorem off535_eq : ∀ k : Fin k0_t1_loop.trips, k0_off535 k = offSrc (4 * k.val + 3 + 5) := by decide +kernel
theorem cond8_eq : ∀ k : Fin k0_t1_loop.trips, (k0_cond8 k = 1#1) = (4 * k.val + 3 + 5 < 128) := by
  have h : ∀ k : Fin k0_t1_loop.trips, (k0_cond8 k = 1#1) ↔ (4 * k.val + 3 + 5 < 128) := by decide +kernel
  exact fun k => propext (h k)

/-- A conditional whose branches both go on with the same program, the first after one more. -/
theorem dite_join {E : Type → Type _} {β : Type} {c : Prop} [Decidable c] (e : c → Prog E PUnit) (J : Prog E β) :
    (if h : c then (e h >>= fun _ => J) else J) = ((if h : c then e h else pure ⟨⟩) >>= fun _ => J) := by
  split <;> simp only [pure_bind]

theorem ite_join {E : Type → Type _} {β : Type} {c : Prop} [Decidable c] (e : Prog E PUnit) (J : Prog E β) :
    (if c then (e >>= fun _ => J) else J) = ((if c then e else pure ⟨⟩) >>= fun _ => J) := by
  split <;> simp only [pure_bind]

/-- The copy of the weights of step `n`, its offsets as the kernel computes them. -/
theorem startW_eq {n : Nat} (h : n < 128) {o4 : Fin 1 → Nat} {o5 : Fin 3 → Nat} {o6 : Fin 2 → Nat} (e4 : o4 = ![n % 6]) (e5 : o5 = offSlot n)
    (e6 : o6 = offSrc n) (b4 : ∀ a, o4 a + S1.size a ≤ S6.size a) (b5 : ∀ a, o5 a + S1x3328x512.size a ≤ S6x3328x512.size a)
    (b6 : ∀ a, o6 a + S3328x512.size a ≤ S13312x16384.size a)
    (w5 : (Rect.unit (s := S6x3328x512) o5 S1x3328x512.size b5).WholeWords (EltTy.packing .i8))
    (w6 : (Rect.unit (s := S13312x16384) o6 S3328x512.size b6).WholeWords (EltTy.packing .i8)) :
    (Prog.lift (.enqueueDma
      (arg1.slice (Rect.unit (s := S13312x16384) o6 S3328x512.size b6) (fun _ => rfl))
      (.here ((arg5.slice (Rect.unit (s := S6x3328x512) o5 S1x3328x512.size b5) (fun _ => rfl)).squeeze S3328x512 squeezes_S1x3328x512_S3328x512))
      (.dma ((arg8.slice (Rect.unit (s := S6) o4 S1.size b4)).squeeze S_ squeezes_S1_S_).sem)
      (harg1.wordExact_slice rfl _ w6) ((harg5.wordExact_slice rfl _ w5).reshape _ _) ⟨Or.inl rfl, trivial⟩) :
      Prog (TpuEff nD τ sig (Elt F) Λ₀ .tc) PUnit) =
    Prog.lift (.enqueueDma
      (arg1.slice (Rect.unit (s := S13312x16384) (offSrc n) S3328x512.size (offSrc_inb n h)) (fun _ => rfl))
      (.here ((arg5.slice (Rect.unit (s := S6x3328x512) (offSlot n) S1x3328x512.size (offSlot_inb n)) (fun _ => rfl)).squeeze S3328x512 squeezes_S1x3328x512_S3328x512))
      (.dma ((arg8.slice (Rect.unit (s := S6) ![n % 6] S1.size (semW_inb n))).squeeze S_ squeezes_S1_S_).sem)
      (harg1.wordExact_slice rfl _ (offSrc_words ⟨n, h⟩)) ((harg5.wordExact_slice rfl _ (offSlot_words n)).reshape _ _) ⟨Or.inl rfl, trivial⟩) := by
  subst e4 e5 e6
  rfl

/-- The copy started ahead in chunk 0. -/
theorem startW_0 (k : Fin k0_t1_loop.trips) :
    (if h : k0_cond2 k = 1#1 then
      (Prog.lift (.enqueueDma
        (arg1.slice (Rect.unit (s := S13312x16384) (k0_off6 k) S3328x512.size (k0_off6_inb k h)) (fun _ => rfl))
        (.here ((arg5.slice (Rect.unit (s := S6x3328x512) (k0_off5 k) S1x3328x512.size (k0_off5_inb k h)) (fun _ => rfl)).squeeze S3328x512 squeezes_S1x3328x512_S3328x512))
        (.dma ((arg8.slice (Rect.unit (s := S6) (k0_off4 k) S1.size (k0_off4_inb k h))).squeeze S_ squeezes_S1_S_).sem)
        (harg1.wordExact_slice rfl _ (k0_off6_wordsi8 k h)) ((harg5.wordExact_slice rfl _ (k0_off5_wordsi8 k h)).reshape _ _) ⟨Or.inl rfl, trivial⟩) :
        Prog (TpuEff nD τ sig (Elt F) Λ₀ .tc) PUnit)
      else pure ⟨⟩) = startW arg5 arg1 harg1 harg5 arg8 (4 * k.val + 0 + 5) :=
  dite_congr (cond2_eq k) (fun h => startW_eq arg1 harg1 arg5 harg5 arg8 h (off4_eq k) (off5_eq k) (off6_eq k)
    (k0_off4_inb k ((cond2_eq k).mpr h)) (k0_off5_inb k ((cond2_eq k).mpr h)) (k0_off6_inb k ((cond2_eq k).mpr h))
    (k0_off5_wordsi8 k ((cond2_eq k).mpr h)) (k0_off6_wordsi8 k ((cond2_eq k).mpr h))) fun _ => rfl

/-- The copy started ahead in chunk 1. -/
theorem startW_1 (k : Fin k0_t1_loop.trips) :
    (if h : k0_cond4 k = 1#1 then
      (Prog.lift (.enqueueDma
        (arg1.slice (Rect.unit (s := S13312x16384) (k0_off321 k) S3328x512.size (k0_off321_inb k h)) (fun _ => rfl))
        (.here ((arg5.slice (Rect.unit (s := S6x3328x512) (k0_off320 k) S1x3328x512.size (k0_off320_inb k h)) (fun _ => rfl)).squeeze S3328x512 squeezes_S1x3328x512_S3328x512))
        (.dma ((arg8.slice (Rect.unit (s := S6) (k0_off319 k) S1.size (k0_off319_inb k h))).squeeze S_ squeezes_S1_S_).sem)
        (harg1.wordExact_slice rfl _ (k0_off321_wordsi8 k h)) ((harg5.wordExact_slice rfl _ (k0_off320_wordsi8 k h)).reshape _ _) ⟨Or.inl rfl, trivial⟩) :
        Prog (TpuEff nD τ sig (Elt F) Λ₀ .tc) PUnit)
      else pure ⟨⟩) = startW arg5 arg1 harg1 harg5 arg8 (4 * k.val + 1 + 5) :=
  dite_congr (cond4_eq k) (fun h => startW_eq arg1 harg1 arg5 harg5 arg8 h (off319_eq k) (off320_eq k) (off321_eq k)
    (k0_off319_inb k ((cond4_eq k).mpr h)) (k0_off320_inb k ((cond4_eq k).mpr h)) (k0_off321_inb k ((cond4_eq k).mpr h))
    (k0_off320_wordsi8 k ((cond4_eq k).mpr h)) (k0_off321_wordsi8 k ((cond4_eq k).mpr h))) fun _ => rfl

/-- The copy started ahead in chunk 2. -/
theorem startW_2 (k : Fin k0_t1_loop.trips) :
    (if h : k0_cond6 k = 1#1 then
      (Prog.lift (.enqueueDma
        (arg1.slice (Rect.unit (s := S13312x16384) (k0_off428 k) S3328x512.size (k0_off428_inb k h)) (fun _ => rfl))
        (.here ((arg5.slice (Rect.unit (s := S6x3328x512) (k0_off427 k) S1x3328x512.size (k0_off427_inb k h)) (fun _ => rfl)).squeeze S3328x512 squeezes_S1x3328x512_S3328x512))
        (.dma ((arg8.slice (Rect.unit (s := S6) (k0_off426 k) S1.size (k0_off426_inb k h))).squeeze S_ squeezes_S1_S_).sem)
        (harg1.wordExact_slice rfl _ (k0_off428_wordsi8 k h)) ((harg5.wordExact_slice rfl _ (k0_off427_wordsi8 k h)).reshape _ _) ⟨Or.inl rfl, trivial⟩) :
        Prog (TpuEff nD τ sig (Elt F) Λ₀ .tc) PUnit)
      else pure ⟨⟩) = startW arg5 arg1 harg1 harg5 arg8 (4 * k.val + 2 + 5) :=
  dite_congr (cond6_eq k) (fun h => startW_eq arg1 harg1 arg5 harg5 arg8 h (off426_eq k) (off427_eq k) (off428_eq k)
    (k0_off426_inb k ((cond6_eq k).mpr h)) (k0_off427_inb k ((cond6_eq k).mpr h)) (k0_off428_inb k ((cond6_eq k).mpr h))
    (k0_off427_wordsi8 k ((cond6_eq k).mpr h)) (k0_off428_wordsi8 k ((cond6_eq k).mpr h))) fun _ => rfl

/-- The copy started ahead in chunk 3. -/
theorem startW_3 (k : Fin k0_t1_loop.trips) :
    (if h : k0_cond8 k = 1#1 then
      (Prog.lift (.enqueueDma
        (arg1.slice (Rect.unit (s := S13312x16384) (k0_off535 k) S3328x512.size (k0_off535_inb k h)) (fun _ => rfl))
        (.here ((arg5.slice (Rect.unit (s := S6x3328x512) (k0_off534 k) S1x3328x512.size (k0_off534_inb k h)) (fun _ => rfl)).squeeze S3328x512 squeezes_S1x3328x512_S3328x512))
        (.dma ((arg8.slice (Rect.unit (s := S6) (k0_off533 k) S1.size (k0_off533_inb k h))).squeeze S_ squeezes_S1_S_).sem)
        (harg1.wordExact_slice rfl _ (k0_off535_wordsi8 k h)) ((harg5.wordExact_slice rfl _ (k0_off534_wordsi8 k h)).reshape _ _) ⟨Or.inl rfl, trivial⟩) :
        Prog (TpuEff nD τ sig (Elt F) Λ₀ .tc) PUnit)
      else pure ⟨⟩) = startW arg5 arg1 harg1 harg5 arg8 (4 * k.val + 3 + 5) :=
  dite_congr (cond8_eq k) (fun h => startW_eq arg1 harg1 arg5 harg5 arg8 h (off533_eq k) (off534_eq k) (off535_eq k)
    (k0_off533_inb k ((cond8_eq k).mpr h)) (k0_off534_inb k ((cond8_eq k).mpr h)) (k0_off535_inb k ((cond8_eq k).mpr h))
    (k0_off534_wordsi8 k ((cond8_eq k).mpr h)) (k0_off535_wordsi8 k ((cond8_eq k).mpr h))) fun _ => rfl

theorem bind_eq {E : Type → Type _} {α β : Type} {p p' : Prog E α} {K K' : α → Prog E β} (h : p = p') (h' : ∀ x, K x = K' x) :
    p >>= K = p' >>= K' := by
  obtain rfl := h
  exact congrArg _ (funext h')

set_option maxHeartbeats 1000000
set_option maxRecDepth 100000
/-- The printed trip is the rolled one. -/
theorem body_eq_trip (m0 : Mxu F) (k : Fin k0_t1_loop.trips) (s : Mxu F) :
    k0_t1_body arg0 harg0 arg1 harg1 arg2 harg2 arg3 harg3 arg4 harg4 arg5 harg5 arg6 harg6 arg7 arg8 arg9 m0 k s =
      trip arg2 arg4 arg5 arg0 harg0 arg1 harg1 arg3 harg3 harg4 harg5 arg6 harg6 arg7 arg8 arg9 k s := by
  unfold k0_t1_body k0_part208 k0_part209 k0_part210 k0_part211
  simp only [bind_assoc, pure_bind, dite_join, ite_join, dite_eq_ite, k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part55_eq_skeleton, k0_part55_skel, k0_part56_eq_skeleton, k0_part56_skel, k0_part106_eq_skeleton, k0_part106_skel, k0_part107_eq_skeleton, k0_part107_skel, k0_part156_eq_skeleton, k0_part156_skel, k0_part157_eq_skeleton, k0_part157_skel, k0_part207_eq_skeleton, k0_part207_skel,
    startW_0 arg1 harg1 arg5 harg5 arg8 k, startW_1 arg1 harg1 arg5 harg5 arg8 k, startW_2 arg1 harg1 arg5 harg5 arg8 k, startW_3 arg1 harg1 arg5 harg5 arg8 k]
  unfold trip chunk finish
  simp only [bind_assoc, pure_bind]
  refine bind_eq ?_ fun _ => bind_eq ?_ fun _ => bind_eq ?_ fun _ => ?_
  · sl_kernel_rfl
  · sl_kernel_rfl
  · sl_kernel_rfl
  · sl_kernel_rfl

end Cert.KernelIdeal.K
-- ==== Proof.Ideal.Loop.lean ====
module

public import proofs.«01_k».proof.Proof.Ideal.Out
public import proofs.«01_k».proof.Proof.Ideal.TripEq
public import Idealize.ShloMosaic.Lib.Pipeline.Value

@[expose] public section

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (x : Vec F S96x13312 .bf16) (w : Vec F S13312x16384 .i8) (d : Vec F S416x16384 .f32)

/-! ## The panel's end -/

/-- Panel `k`'s slot before trip `k`: still being copied out for panel `k - 2`, if there is such a panel. -/
def PreO (k : Nat) : sProp 𝕄 := if 2 ≤ k then FlightO c x w d (k - 2) else FreeO c k
/-- The panels copied out before trip `k`. -/
def Done (k : Nat) : sProp 𝕄 := BI.bigSep (Finset.range (k - 2)) fun p => OutPt c x w d p
/-- The panels still to come. -/
def Todo (k : Nat) : sProp 𝕄 := BI.bigSep (Finset.Ico k 32) fun p => OutAny c p

theorem Done_succ {k : Nat} (h : 2 ≤ k) : Done c x w d (k + 1) = iprop(OutPt c x w d (k - 2) ∗ Done c x w d k) := by
  have e : k + 1 - 2 = (k - 2) + 1 := by omega
  unfold Done
  rw [e, Finset.range_add_one]
  exact BI.bigSep_insert (by simp)

theorem Todo_step {k : Nat} (h : k < 32) : Todo (F := F) c k = iprop(OutAny c k ∗ Todo c (k + 1)) := by
  have e : Finset.Ico k 32 = insert k (Finset.Ico (k + 1) 32) := by
    ext i
    simp only [Finset.mem_Ico, Finset.mem_insert]
    omega
  unfold Todo
  rw [e]
  exact BI.bigSep_insert (by simp)

theorem cond9_iff : ∀ k : Fin k0_t1_loop.trips, k0_cond9 k = 1#1 ↔ 2 ≤ k.val := by decide +kernel
theorem off640_eq : ∀ k : Fin k0_t1_loop.trips, k0_off640 k = ![k.val % 2] := by decide +kernel
theorem off643_eq : ∀ k : Fin k0_t1_loop.trips, k0_off643 k = ![k.val % 2, 0, 0] := by decide +kernel
theorem off644_eq : ∀ k : Fin k0_t1_loop.trips, k0_off644 k = ![k.val % 2, 0, 256] := by decide +kernel
theorem off645_eq : ∀ k : Fin k0_t1_loop.trips, k0_off645 k = ![k.val % 2] := by decide +kernel
theorem off646_eq : ∀ k : Fin k0_t1_loop.trips, k0_off646 k = ![0, 512 * k.val] := by decide +kernel
theorem off647_eq : ∀ k : Fin k0_t1_loop.trips, k0_off647 k = ![k.val % 2, 0, 0] := by decide +kernel

theorem T_waitO (k : Fin k0_t1_loop.trips) :
    T c iprop(PreO c x w d k.val ∗ Done c x w d k.val ∗ Owes c) (waitO mO (Memref.isWhole_whole _) bO (Memref.isWhole_whole _) cc0_scratch5 k) ⟨⟩
      iprop(FreeO c k.val ∗ Done c x w d (k.val + 1) ∗ Owes c) := by
  unfold waitO PreO
  by_cases h : 2 ≤ k.val
  · rw [dif_pos ((cond9_iff k).mpr h), if_pos h, Done_succ c x w d h]
    have e : FreeO (F := F) c k.val = FreeO c (k.val - 2) := by
      rw [← FreeO_add c (k.val - 2)]
      congr 1
      omega
    rw [e]
    have e' : k.val % 2 = (k.val - 2) % 2 := by omega
    exact (T_waitO' c x w d (k.val - 2) ((off640_eq k).trans (by rw [e'])) _ _ _).use (Done c x w d k.val) (by ac_rfl) (by ac_rfl)
  · rw [dif_neg (fun h' => h ((cond9_iff k).mp h')), if_neg h]
    have e : Done c x w d (k.val + 1) = Done c x w d k.val := by
      unfold Done
      congr 2
      omega
    rw [e]
    exact T.pure _

/-- The panel's end: the slot is taken back, filled with panel `k` and sent. -/
theorem T_finish (k : Fin k0_t1_loop.trips) :
    T c iprop(PreO c x w d k.val ∗ Done c x w d k.val ∗ Todo c k.val ∗ Owes c)
      (finish mO (Memref.isWhole_whole _) bO (Memref.isWhole_whole _) cc0_scratch5 k (fullV x w d k.val)) (stateV x w d (k.val + 1))
      iprop(PreO c x w d (k.val + 2) ∗ Done c x w d (k.val + 1) ∗ Todo c (k.val + 1) ∗ Owes c) := by
  have hk : k.val < 32 := k.isLt
  have e2 : PreO c x w d (k.val + 2) = FlightO c x w d k.val := by
    unfold PreO
    rw [if_pos (by omega)]
    rfl
  rw [e2, Todo_step c hk]
  unfold finish
  refine T.bind ((T_waitO c x w d k).use iprop(OutAny c k.val ∗ Todo c (k.val + 1)) (by ac_rfl) rfl) ?_
  refine T.conseq (P := iprop((∃ f, SlotAt c k.val f) ∗ semVal ((c : Thread nD τ), .dma (semO k.val)) 0 ∗ OutAny c k.val ∗ Done c x w d (k.val + 1) ∗ Todo c (k.val + 1) ∗ Owes c))
    (T.ex fun f => ?_) (Entails.of_eq ?_) .rfl
  · refine T.bind ((T_loadO c (off643_eq k) _ f).framed _) ?_
    refine T.bind ((T_storeO c (off643_eq k) _ f (leftV x w d k.val)).framed _) ?_
    refine T.bind ((T_loadO c (off644_eq k) _ _).framed _) ?_
    refine T.bind ((T_storeO c (off644_eq k) _ _ (rightV x w d k.val)).framed _) ?_
    rw [stored c x w d (off643_eq k) _ (off644_eq k) _]
    refine T.bind ((T_enqO c x w d (off645_eq k) _ (off646_eq k) _ (off647_eq k) _).use iprop(Done c x w d (k.val + 1) ∗ Todo c (k.val + 1) ∗ Owes c) (by ac_rfl) rfl) ?_
    exact T.pure _
  · unfold FreeO
    ac_rfl

/-! ## The loop -/

variable (arg2 : Memref sig .tc .vmem S416x16384 .f32) (f2 : Buf (Elt F) (arg2.view.loc (c : Thread nD τ))) (hf2 : arg2.view.read (Elt F) f2 = d)

/-- What the kernel holds before trip `k`. -/
def Inv (k : Nat) : sProp 𝕄 :=
  iprop(XP c x k 0 ∗ XP c x k 1 ∗ XP c x k 2 ∗ XP c x k 3 ∗ RingS c w (4 * k) ∗ Scales c arg2 f2 ∗ PreO c x w d k ∗ PreO c x w d (k + 1) ∗ Done c x w d k ∗ Todo c k ∗ Owes c)

theorem XP_succ (k : Nat) (j : Fin 4) : XP c x (k + 1) j = LoadedX c x j := if_neg (Nat.succ_ne_zero k)

include hf2 in
/-- One trip takes the state before panel `k` to the state before the next. -/
theorem T_trip (k : Fin k0_t1_loop.trips) :
    T c (Inv c x w d arg2 f2 k.val)
      (trip arg2 bX bW mX (Memref.isWhole_whole _) mW (Memref.isWhole_whole _) mO (Memref.isWhole_whole _) (Memref.isWhole_whole _) (Memref.isWhole_whole _)
        bO (Memref.isWhole_whole _) cc0_scratch3 cc0_scratch4 cc0_scratch5 k (stateV x w d k.val))
      (stateV x w d (k.val + 1)) (Inv c x w d arg2 f2 (k.val + 1)) := by
  have s0 := clear_stateV x w d k.val
  have s1 := clear_tilesV x w d (4 * k.val + 0) 13 0 s0
  have s2 := clear_tilesV x w d (4 * k.val + 1) 13 0 s1
  have s3 := clear_tilesV x w d (4 * k.val + 2) 13 0 s2
  have h0 := T_chunk c x w d arg2 f2 hf2 k 0 s0
  have h1 := T_chunk c x w d arg2 f2 hf2 k 1 s1
  have h2 := T_chunk c x w d arg2 f2 hf2 k 2 s2
  have h3 := T_chunk c x w d arg2 f2 hf2 k 3 s3
  have h4 := T_finish c x w d k
  unfold trip Inv
  rw [XP_succ, XP_succ, XP_succ, XP_succ]
  refine T.bind (h0.use iprop(XP c x k.val 1 ∗ XP c x k.val 2 ∗ XP c x k.val 3 ∗ PreO c x w d k.val ∗ PreO c x w d (k.val + 1) ∗ Done c x w d k.val ∗ Todo c k.val) ?_ rfl) ?_
  · show _ = iprop((XP c x k.val 0 ∗ RingS c w (4 * k.val) ∗ Scales c arg2 f2 ∗ Owes c) ∗ _)
    ac_rfl
  refine T.bind (h1.use iprop(LoadedX c x 0 ∗ XP c x k.val 2 ∗ XP c x k.val 3 ∗ PreO c x w d k.val ∗ PreO c x w d (k.val + 1) ∗ Done c x w d k.val ∗ Todo c k.val) ?_ rfl) ?_
  · show iprop((LoadedX c x 0 ∗ RingS c w (4 * k.val + 1) ∗ Scales c arg2 f2 ∗ Owes c) ∗ _) = iprop((XP c x k.val 1 ∗ RingS c w (4 * k.val + 1) ∗ Scales c arg2 f2 ∗ Owes c) ∗ _)
    ac_rfl
  refine T.bind (h2.use iprop(LoadedX c x 0 ∗ LoadedX c x 1 ∗ XP c x k.val 3 ∗ PreO c x w d k.val ∗ PreO c x w d (k.val + 1) ∗ Done c x w d k.val ∗ Todo c k.val) ?_ rfl) ?_
  · show iprop((LoadedX c x 1 ∗ RingS c w (4 * k.val + 2) ∗ Scales c arg2 f2 ∗ Owes c) ∗ _) = iprop((XP c x k.val 2 ∗ RingS c w (4 * k.val + 2) ∗ Scales c arg2 f2 ∗ Owes c) ∗ _)
    ac_rfl
  refine T.bind (h3.use iprop(LoadedX c x 0 ∗ LoadedX c x 1 ∗ LoadedX c x 2 ∗ PreO c x w d k.val ∗ PreO c x w d (k.val + 1) ∗ Done c x w d k.val ∗ Todo c k.val) ?_ rfl) ?_
  · show iprop((LoadedX c x 2 ∗ RingS c w (4 * k.val + 3) ∗ Scales c arg2 f2 ∗ Owes c) ∗ _) = iprop((XP c x k.val 3 ∗ RingS c w (4 * k.val + 3) ∗ Scales c arg2 f2 ∗ Owes c) ∗ _)
    ac_rfl
  refine h4.use iprop(LoadedX c x 0 ∗ LoadedX c x 1 ∗ LoadedX c x 2 ∗ LoadedX c x 3 ∗ RingS c w (4 * (k.val + 1)) ∗ Scales c arg2 f2 ∗ PreO c x w d (k.val + 1)) ?_ ?_
  · show iprop((LoadedX c x 3 ∗ RingS c w (4 * (k.val + 1)) ∗ Scales c arg2 f2 ∗ Owes c) ∗ _) = _
    ac_rfl
  · show _ = iprop(LoadedX c x 0 ∗ LoadedX c x 1 ∗ LoadedX c x 2 ∗ LoadedX c x 3 ∗ RingS c w (4 * (k.val + 1)) ∗ Scales c arg2 f2 ∗ PreO c x w d (k.val + 1) ∗ PreO c x w d (k.val + 2)
      ∗ Done c x w d (k.val + 1) ∗ Todo c (k.val + 1) ∗ Owes c)
    ac_rfl

variable {c} in
/-- A loop whose trips each take one state to the next takes the first state to the last. -/
theorem T.loop {σ : Type} {n : Nat} (lb ub st : BitVec n) (hok : Scf.OK lb ub st) (body : Fin (Scf.trips lb ub st) → σ → Prog (TpuEff nD τ sig (Elt F) Λ₀ .tc) σ)
    (I : Nat → sProp 𝕄) (s : Nat → σ) (h : ∀ k : Fin (Scf.trips lb ub st), T c (I k.val) (body k (s k.val)) (s (k.val + 1)) (I (k.val + 1))) :
    T c (I 0) (Scf.for lb ub st hok (s 0) body) (s (Scf.trips lb ub st)) (I (Scf.trips lb ub st)) := by
  intro Q
  have hb : ∀ (k : Fin (Scf.trips lb ub st)) (a : σ), (fun k a => iprop(⌜a = s k⌝ ∗ I k)) k.val a
      ⊢ wp frame (wpE (defs₀ (F := F)) Variants.none (c : Thread nD τ) none) Set.univ (body k a) ((fun k a => iprop(⌜a = s k⌝ ∗ I k)) (k.val + 1)) := by
    intro k a
    iintro ⟨%ha, HI⟩
    subst ha
    iapply (h k fun a => iprop(⌜a = s (k.val + 1)⌝ ∗ I (k.val + 1)))
    isplitl [HI]
    · iexact HI
    iintro HI
    isplitr
    · ipureintro; rfl
    iexact HI
  refine BIBase.Entails.trans ?_ (Scf.wp_for frame (wpE (defs₀ (F := F)) Variants.none (c : Thread nD τ) none) Set.univ lb ub st hok (s 0) body (fun k a => iprop(⌜a = s k⌝ ∗ I k)) hb)
  iintro ⟨HI, HQ⟩
  isplitl [HI]
  · isplitr
    · ipureintro; rfl
    iexact HI
  iintro %a ⟨%ha, HI⟩
  subst ha
  iapply HQ
  iexact HI

include hf2 in
/-- The kernel's loop. -/
theorem T_for (harg2 : arg2.IsWhole) (m0 : Mxu F) :
    T c (Inv c x w d arg2 f2 0)
      (Scf.for k0_t1_loop.lb k0_t1_loop.ub k0_t1_loop.st k0_t1_ok Mxu.init
        (k0_t1_body (F := F) mX (Memref.isWhole_whole _) mW (Memref.isWhole_whole _) arg2 harg2 mO (Memref.isWhole_whole _) bX (Memref.isWhole_whole _) bW (Memref.isWhole_whole _)
          bO (Memref.isWhole_whole _) cc0_scratch3 cc0_scratch4 cc0_scratch5 m0))
      (stateV x w d 32) (Inv c x w d arg2 f2 32) := by
  refine T.loop k0_t1_loop.lb k0_t1_loop.ub k0_t1_loop.st k0_t1_ok _ (Inv c x w d arg2 f2) (stateV x w d) fun k => ?_
  rw [body_eq_trip]
  exact T_trip c x w d arg2 f2 hf2 k

end Cert.KernelIdeal.K
-- ==== Proof.Ideal.Body.lean ====
module

public import proofs.«01_k».proof.Proof.Ideal.Loop
public import Idealize.ShloMosaic.Lib.Pipeline.Value

@[expose] public section

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD)
variable (x : Vec F S96x13312 .bf16) (w : Vec F S13312x16384 .i8) (d : Vec F S416x16384 .f32)
variable (arg2 : Memref sig .tc .vmem S416x16384 .f32) (f2 : Buf (Elt F) (arg2.view.loc (c : Thread nD τ))) (hf2 : arg2.view.read (Elt F) f2 = d)

theorem FreeW_congr {n m : Nat} (e : n % 6 = m % 6) : FreeW c w n = FreeW c w m := by
  have e1 : slotSet n = slotSet m := by
    ext i; rw [mem_slotSet, mem_slotSet, e]
  have e2 : semW n = semW m := sem_congr (by rw [e]) _ _
  unfold FreeW
  rw [e1, e2]
  unfold ptW shW
  rw [e]

theorem FreeO_congr {n m : Nat} (e : n % 2 = m % 2) : FreeO (F := F) c n = FreeO c m := by
  have e1 : oslot n = oslot m := by
    ext i; rw [mem_oslot, mem_oslot, e]
  have e2 : semO n = semO m := semO_congr (by rw [e]) _ _
  unfold FreeO
  rw [e1, e2]

/-- The six slots of the ring, free. -/
def Ring : sProp 𝕄 := iprop(FreeW c w 0 ∗ FreeW c w 1 ∗ FreeW c w 2 ∗ FreeW c w 3 ∗ FreeW c w 4 ∗ FreeW c w 5)

/-- After the last step every slot of the ring is free. -/
theorem RingS_last : RingS c w 128 = Ring c w := by
  have e : ∀ n, 128 ≤ n → InW c w n = FreeW c w n := fun n h => by unfold InW; rw [dif_neg (by omega)]
  unfold RingS Ring
  rw [e 128 (by omega), e (128 + 1) (by omega), e (128 + 2) (by omega), e (128 + 3) (by omega), e (128 + 4) (by omega),
    FreeW_congr c w (show 128 % 6 = 2 % 6 from rfl), FreeW_congr c w (show (128 + 1) % 6 = 3 % 6 from rfl), FreeW_congr c w (show (128 + 2) % 6 = 4 % 6 from rfl),
    FreeW_congr c w (show (128 + 3) % 6 = 5 % 6 from rfl), FreeW_congr c w (show (128 + 4) % 6 = 0 % 6 from rfl), FreeW_congr c w (show (128 + 5) % 6 = 1 % 6 from rfl)]
  ac_rfl

/-- What the kernel is given. -/
def Start : sProp 𝕄 :=
  iprop(FreeX c x 0 ∗ FreeX c x 1 ∗ FreeX c x 2 ∗ FreeX c x 3 ∗ Ring c w ∗ Scales c arg2 f2 ∗ FreeO c 0 ∗ FreeO c 1 ∗ Todo c 0 ∗ Owes c)
/-- What the kernel leaves: every panel of the result final. -/
def Final : sProp 𝕄 :=
  iprop(LoadedX c x 0 ∗ LoadedX c x 1 ∗ LoadedX c x 2 ∗ LoadedX c x 3 ∗ Ring c w ∗ Scales c arg2 f2 ∗ FreeO c 0 ∗ FreeO c 1
    ∗ (BI.bigSep (Finset.range 32) fun p => OutPt c x w d p) ∗ Owes c)

/-- The first copies started. -/
theorem T_part212 (harg2 : arg2.IsWhole) (R : sProp 𝕄) :
    T c iprop(FreeX c x 0 ∗ FreeX c x 1 ∗ FreeX c x 2 ∗ FreeW c w 0 ∗ FreeW c w 1 ∗ R)
      (k0_part212 (F := F) mX (Memref.isWhole_whole _) mW (Memref.isWhole_whole _) arg2 harg2 mO (Memref.isWhole_whole _) bX (Memref.isWhole_whole _) bW (Memref.isWhole_whole _)
        bO (Memref.isWhole_whole _) cc0_scratch3 cc0_scratch4 cc0_scratch5) Mxu.init
      iprop(FlightX c x 0 ∗ FlightX c x 1 ∗ FlightX c x 2 ∗ InW c w 0 ∗ InW c w 1 ∗ R) := by
  rw [k0_part212_eq_skeleton]
  unfold k0_part212_skel
  refine T.bind ((T_startX c x 0).use iprop(FreeX c x 1 ∗ FreeX c x 2 ∗ FreeW c w 0 ∗ FreeW c w 1 ∗ R) (by ac_rfl) rfl) ?_
  refine T.bind ((T_enqW c w 0 (by decide)).use iprop(FlightX c x 0 ∗ FreeX c x 1 ∗ FreeX c x 2 ∗ FreeW c w 1 ∗ R) (by ac_rfl) rfl) ?_
  refine T.bind ((T_startX c x 1).use iprop(FlightX c x 0 ∗ FreeX c x 2 ∗ InW c w 0 ∗ FreeW c w 1 ∗ R) (by ac_rfl) rfl) ?_
  refine T.bind ((T_enqW c w 1 (by decide)).use iprop(FlightX c x 0 ∗ FlightX c x 1 ∗ FreeX c x 2 ∗ InW c w 0 ∗ R) (by ac_rfl) rfl) ?_
  refine T.bind ((T_startX c x 2).use iprop(FlightX c x 0 ∗ FlightX c x 1 ∗ InW c w 0 ∗ InW c w 1 ∗ R) (by ac_rfl)
    (O' := iprop(FlightX c x 0 ∗ FlightX c x 1 ∗ FlightX c x 2 ∗ InW c w 0 ∗ InW c w 1 ∗ R)) (by ac_rfl)) ?_
  exact T.pure _

theorem Inv_zero : Inv c x w d arg2 f2 0 = iprop(FlightX c x 0 ∗ FlightX c x 1 ∗ FlightX c x 2 ∗ FlightX c x 3
    ∗ (InW c w 0 ∗ InW c w 1 ∗ InW c w 2 ∗ InW c w 3 ∗ InW c w 4 ∗ FreeW c w 5) ∗ Scales c arg2 f2 ∗ FreeO c 0 ∗ FreeO c 1 ∗ Done c x w d 0 ∗ Todo c 0 ∗ Owes c) := rfl

theorem Inv_last : Inv c x w d arg2 f2 32 = iprop(LoadedX c x 0 ∗ LoadedX c x 1 ∗ LoadedX c x 2 ∗ LoadedX c x 3
    ∗ RingS c w 128 ∗ Scales c arg2 f2 ∗ FlightO c x w d 30 ∗ FlightO c x w d 31 ∗ (BI.bigSep (Finset.range 30) fun p => OutPt c x w d p) ∗ Todo c 32 ∗ Owes c) := rfl

include hf2 in
/-- The loop, and the wait for the last copy but one. -/
theorem T_part213 (harg2 : arg2.IsWhole) :
    T c iprop(FlightX c x 0 ∗ FlightX c x 1 ∗ FlightX c x 2 ∗ FreeX c x 3 ∗ (InW c w 0 ∗ InW c w 1 ∗ FreeW c w 2 ∗ FreeW c w 3 ∗ FreeW c w 4 ∗ FreeW c w 5)
        ∗ Scales c arg2 f2 ∗ FreeO c 0 ∗ FreeO c 1 ∗ Done c x w d 0 ∗ Todo c 0 ∗ Owes c)
      (k0_part213 (F := F) mX (Memref.isWhole_whole _) mW (Memref.isWhole_whole _) arg2 harg2 mO (Memref.isWhole_whole _) bX (Memref.isWhole_whole _) bW (Memref.isWhole_whole _)
        bO (Memref.isWhole_whole _) cc0_scratch3 cc0_scratch4 cc0_scratch5 Mxu.init) (stateV x w d 32)
      iprop(LoadedX c x 0 ∗ LoadedX c x 1 ∗ LoadedX c x 2 ∗ LoadedX c x 3 ∗ RingS c w 128 ∗ Scales c arg2 f2 ∗ FreeO c 30 ∗ FlightO c x w d 31
        ∗ OutPt c x w d 30 ∗ (BI.bigSep (Finset.range 30) fun p => OutPt c x w d p) ∗ Todo c 32 ∗ Owes c) := by
  rw [k0_part213_eq_skeleton]
  unfold k0_part213_skel
  refine T.bind ((T_enqW c w 2 (by decide)).use iprop(FlightX c x 0 ∗ FlightX c x 1 ∗ FlightX c x 2 ∗ FreeX c x 3 ∗ (InW c w 0 ∗ InW c w 1 ∗ FreeW c w 3 ∗ FreeW c w 4 ∗ FreeW c w 5)
        ∗ Scales c arg2 f2 ∗ FreeO c 0 ∗ FreeO c 1 ∗ Done c x w d 0 ∗ Todo c 0 ∗ Owes c) (by ac_rfl) rfl) ?_
  refine T.bind ((T_startX c x 3).use iprop(FlightX c x 0 ∗ FlightX c x 1 ∗ FlightX c x 2 ∗ (InW c w 0 ∗ InW c w 1 ∗ InW c w 2 ∗ FreeW c w 3 ∗ FreeW c w 4 ∗ FreeW c w 5)
        ∗ Scales c arg2 f2 ∗ FreeO c 0 ∗ FreeO c 1 ∗ Done c x w d 0 ∗ Todo c 0 ∗ Owes c) (by ac_rfl) rfl) ?_
  refine T.bind ((T_enqW c w 3 (by decide)).use iprop(FlightX c x 0 ∗ FlightX c x 1 ∗ FlightX c x 2 ∗ FlightX c x 3 ∗ (InW c w 0 ∗ InW c w 1 ∗ InW c w 2 ∗ FreeW c w 4 ∗ FreeW c w 5)
        ∗ Scales c arg2 f2 ∗ FreeO c 0 ∗ FreeO c 1 ∗ Done c x w d 0 ∗ Todo c 0 ∗ Owes c) (by ac_rfl) rfl) ?_
  refine T.bind ((T_enqW c w 4 (by decide)).use iprop(FlightX c x 0 ∗ FlightX c x 1 ∗ FlightX c x 2 ∗ FlightX c x 3 ∗ (InW c w 0 ∗ InW c w 1 ∗ InW c w 2 ∗ InW c w 3 ∗ FreeW c w 5)
        ∗ Scales c arg2 f2 ∗ FreeO c 0 ∗ FreeO c 1 ∗ Done c x w d 0 ∗ Todo c 0 ∗ Owes c) (by ac_rfl) (O' := Inv c x w d arg2 f2 0) (by rw [Inv_zero]; ac_rfl)) ?_
  refine T.bind (T_for c x w d arg2 f2 hf2 harg2 Mxu.init) ?_
  rw [Inv_last]
  refine T.bind ((T_waitO' c x w d 30 (o := ![0]) rfl _ _ _).use iprop(LoadedX c x 0 ∗ LoadedX c x 1 ∗ LoadedX c x 2 ∗ LoadedX c x 3 ∗ RingS c w 128 ∗ Scales c arg2 f2
    ∗ FlightO c x w d 31 ∗ (BI.bigSep (Finset.range 30) fun p => OutPt c x w d p) ∗ Todo c 32) (by ac_rfl) rfl) ?_
  refine T.conseq (T.pure _) (Entails.of_eq ?_) .rfl
  ac_rfl

theorem range_32 : (BI.bigSep (Finset.range 32) fun p => OutPt c x w d p) = iprop(OutPt c x w d 31 ∗ OutPt c x w d 30 ∗ (BI.bigSep (Finset.range 30) fun p => OutPt c x w d p)) := by
  rw [show (32 : Nat) = 31 + 1 from rfl, Finset.range_add_one]
  refine (BI.bigSep_insert (by simp)).trans ?_
  rw [show (31 : Nat) = 30 + 1 from rfl, Finset.range_add_one]
  exact congrArg _ (BI.bigSep_insert (by simp))

include hf2 in
/-- The whole kernel: from what it is given to every panel of the result final. -/
theorem T_kernel (harg2 : arg2.IsWhole) :
    T c (Start c x w arg2 f2) (cc0_q8_0_linear (F := F) mX (Memref.isWhole_whole _) mW (Memref.isWhole_whole _) arg2 harg2 mO (Memref.isWhole_whole _) bX (Memref.isWhole_whole _) bW (Memref.isWhole_whole _)
        bO (Memref.isWhole_whole _) cc0_scratch3 cc0_scratch4 cc0_scratch5) ⟨⟩ (Final c x w d arg2 f2) := by
  have hD : Done c x w d 0 = (iprop(emp) : sProp 𝕄) := BI.bigSep_empty
  have hT : Todo (F := F) c 32 = (iprop(emp) : sProp 𝕄) := BI.bigSep_empty
  have h0 := T_part212 c x w arg2 harg2 iprop(FreeX c x 3 ∗ (FreeW c w 2 ∗ FreeW c w 3 ∗ FreeW c w 4 ∗ FreeW c w 5)
        ∗ Scales c arg2 f2 ∗ FreeO c 0 ∗ FreeO c 1 ∗ Todo c 0 ∗ Owes c)
  have h1 := T_part213 c x w d arg2 f2 hf2 harg2
  rw [hD] at h1
  rw [hT] at h1
  rw [cc0_q8_0_linear_eq_skeleton]
  unfold cc0_q8_0_linear_skel
  refine T.bind (T.conseq h0 (Entails.of_eq ?_) .rfl) ?_
  · unfold Start Ring
    ac_rfl
  refine T.bind (T.conseq h1 ?_ .rfl) ?_
  · iintro ⟨H1, H2, H3, H4, H5, H6, ⟨H7, H8, H9, H10⟩, H11, H12, H13, H14⟩
    isplitl [H1]; · iexact H1
    isplitl [H2]; · iexact H2
    isplitl [H3]; · iexact H3
    isplitl [H6]; · iexact H6
    isplitl [H4 H5 H7 H8 H9 H10]
    · isplitl [H4]; · iexact H4
      isplitl [H5]; · iexact H5
      isplitl [H7]; · iexact H7
      isplitl [H8]; · iexact H8
      isplitl [H9]; · iexact H9
      iexact H10
    isplitl [H11]; · iexact H11
    isplitl [H12]; · iexact H12
    isplitl [H13]; · iexact H13
    isplitr
    · iempintro
    iexact H14
  refine T.bind ((T_waitO' c x w d 31 (o := ![1]) rfl _ _ _).use iprop(LoadedX c x 0 ∗ LoadedX c x 1 ∗ LoadedX c x 2 ∗ LoadedX c x 3 ∗ RingS c w 128 ∗ Scales c arg2 f2
    ∗ FreeO c 30 ∗ OutPt c x w d 30 ∗ (BI.bigSep (Finset.range 30) fun p => OutPt c x w d p) ∗ emp) (by ac_rfl) rfl) ?_
  refine T.assume (drained_stateV x w d 32) (T.conseq (T.pure _) ?_ .rfl)
  unfold Final
  rw [RingS_last, range_32, FreeO_congr c (show 30 % 2 = 0 % 2 from rfl), FreeO_congr c (show 31 % 2 = 1 % 2 from rfl)]
  iintro ⟨⟨H1, H2, H3⟩, H4, H5, H6, H7, H8, H9, H10, H11, H12, H13⟩
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H2]; · iexact H2
  isplitl [H1 H11 H12]
  · isplitl [H1]; · iexact H1
    isplitl [H11]; · iexact H11
    iexact H12
  iexact H3

end Cert.KernelIdeal.K
-- ==== Proof.Ideal.Split.lean ====
module

public import proofs.«01_k».proof.Proof.Ideal.Body
public import Idealize.ShloMosaic.Lib.Pipeline.FrameSuffixV
public import Idealize.ShloMosaic.Lib.Ring
public import proofs.«01_k».proof.Proof.Gen.KernelIdeal.Frame

@[expose] public section

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A buffer held whole is held part by part -/

theorem exists_blocks {ℓ : Loc nD τ sig} {B : Type} [Fintype B] [DecidableEq B] (I : B → Finset (Idx ℓ)) (hd : ∀ b b', b ≠ b' → Disjoint (I b) (I b'))
    (hc : Finset.univ.biUnion I = Finset.univ) (f₀ : Buf (Elt F) ℓ) :
    (iprop(∃ f, ℓ ↦{fullShare} f) : sProp 𝕄) = BI.bigSep Finset.univ fun b => iprop(∃ f, ℓ ↦[I b]{fullShare} f) := by
  have h0 : ∀ (f : Buf (Elt F) ℓ) (b : B), (ℓ ↦[I b]{fullShare} f : sProp 𝕄) ⊢ iprop(∃ f, ℓ ↦[I b]{fullShare} f) := fun f b => by
    iintro H
    iexists f
    iexact H
  have h2 : ∀ f : Buf (Elt F) ℓ, (ℓ ↦{fullShare} f : sProp 𝕄) ⊢ BI.bigSep Finset.univ fun b => iprop(∃ f, ℓ ↦[I b]{fullShare} f) := fun f => by
    rw [Idealize.ShloMosaic.Ring.pointsTo_blocks I hd hc f]
    exact BI.bigSep_mono fun b _ => h0 f b
  have h1 : (iprop(∃ f, ℓ ↦{fullShare} f) : sProp 𝕄) ⊢ BI.bigSep Finset.univ fun b => iprop(∃ f, ℓ ↦[I b]{fullShare} f) := by
    iintro ⟨%f, H⟩
    iapply (h2 f)
    iexact H
  exact Entails.antisymm h1 (Idealize.ShloMosaic.Ring.pointsTo_blocks_join_exists I hd hc f₀)

variable (c : Dev nD)
variable (x : Vec F S96x13312 .bf16) (w : Vec F S13312x16384 .i8) (d : Vec F S416x16384 .f32)

include x in
/-- The left operand's buffer, whole, is its four column chunks. -/
theorem bX_parts : (iprop(∃ f, (c : Thread nD τ).loc cc0_scratch0 ↦{fullShare} f) : sProp 𝕄)
    = iprop((∃ f, bX.view.loc (c : Thread nD τ) ↦[colsSet 0]{fullShare} f) ∗ (∃ f, bX.view.loc (c : Thread nD τ) ↦[colsSet 1]{fullShare} f)
      ∗ (∃ f, bX.view.loc (c : Thread nD τ) ↦[colsSet 2]{fullShare} f) ∗ (∃ f, bX.view.loc (c : Thread nD τ) ↦[colsSet 3]{fullShare} f)) := by
  refine (exists_blocks (ℓ := bX.view.loc (c : Thread nD τ)) (fun j : Fin 4 => colsSet j) ?_ ?_ (x : Buf (Elt F) (bX.view.loc (c : Thread nD τ)))).trans ?_
  · intro a b h
    refine Finset.disjoint_left.mpr fun i h1 h2 => h (Fin.ext ?_)
    have h1' := mem_colsSet.mp h1
    have h2' := mem_colsSet.mp h2
    omega
  · refine Finset.eq_univ_iff_forall.mpr fun i => Finset.mem_biUnion.mpr ?_
    have h1 : (i 1).val < 13312 := (i 1).isLt
    refine ⟨⟨(i 1).val / 3328, by omega⟩, Finset.mem_univ _, mem_colsSet.mpr ?_⟩
    show 3328 * ((i 1).val / 3328) ≤ (i 1).val ∧ (i 1).val < 3328 * ((i 1).val / 3328) + 3328
    omega
  · rw [BI.bigSep_eq_bigSepL_of_eq [0, 1, 2, 3] (by decide) (by decide)]
    rfl

include w in
/-- The ring's buffer, whole, is its six slots. -/
theorem bW_parts : (iprop(∃ f, (c : Thread nD τ).loc cc0_scratch1 ↦{fullShare} f) : sProp 𝕄)
    = iprop((∃ f, bW.view.loc (c : Thread nD τ) ↦[slotSet 0]{fullShare} f) ∗ (∃ f, bW.view.loc (c : Thread nD τ) ↦[slotSet 1]{fullShare} f)
      ∗ (∃ f, bW.view.loc (c : Thread nD τ) ↦[slotSet 2]{fullShare} f) ∗ (∃ f, bW.view.loc (c : Thread nD τ) ↦[slotSet 3]{fullShare} f)
      ∗ (∃ f, bW.view.loc (c : Thread nD τ) ↦[slotSet 4]{fullShare} f) ∗ (∃ f, bW.view.loc (c : Thread nD τ) ↦[slotSet 5]{fullShare} f)) := by
  refine (exists_blocks (ℓ := bW.view.loc (c : Thread nD τ)) (fun j : Fin 6 => slotSet j.val) ?_ ?_ (wRing w 0 : Buf (Elt F) (bW.view.loc (c : Thread nD τ)))).trans ?_
  · intro a b h
    refine Finset.disjoint_left.mpr fun i h1 h2 => h (Fin.ext ?_)
    have h1' := mem_slotSet.mp h1
    have h2' := mem_slotSet.mp h2
    omega
  · refine Finset.eq_univ_iff_forall.mpr fun i => Finset.mem_biUnion.mpr ?_
    have h1 : (i 0).val < 6 := (i 0).isLt
    refine ⟨⟨(i 0).val, h1⟩, Finset.mem_univ _, mem_slotSet.mpr ?_⟩
    show (i 0).val = (i 0).val % 6
    omega
  · rw [BI.bigSep_eq_bigSepL_of_eq [0, 1, 2, 3, 4, 5] (by decide) (by decide)]
    rfl

include x w d in
/-- The result's buffer, whole, is its two slots. -/
theorem bO_parts : (iprop(∃ f, (c : Thread nD τ).loc cc0_scratch2 ↦{fullShare} f) : sProp 𝕄)
    = iprop((∃ f, bO.view.loc (c : Thread nD τ) ↦[oslot 0]{fullShare} f) ∗ (∃ f, bO.view.loc (c : Thread nD τ) ↦[oslot 1]{fullShare} f)) := by
  refine (exists_blocks (ℓ := bO.view.loc (c : Thread nD τ)) (fun j : Fin 2 => oslot j.val) ?_ ?_ (oBuf x w d 0 : Buf (Elt F) (bO.view.loc (c : Thread nD τ)))).trans ?_
  · intro a b h
    refine Finset.disjoint_left.mpr fun i h1 h2 => h (Fin.ext ?_)
    have h1' := mem_oslot.mp h1
    have h2' := mem_oslot.mp h2
    omega
  · refine Finset.eq_univ_iff_forall.mpr fun i => Finset.mem_biUnion.mpr ?_
    have h1 : (i 0).val < 2 := (i 0).isLt
    refine ⟨⟨(i 0).val, h1⟩, Finset.mem_univ _, mem_oslot.mpr ?_⟩
    show (i 0).val = (i 0).val % 2
    omega
  · rw [BI.bigSep_eq_bigSepL_of_eq [0, 1] (by decide) (by decide)]
    rfl

/-- What is left of the operands' buffers beside the shares that the copies read. -/
def Rest : sProp 𝕄 :=
  iprop((mX.view.loc (c : Thread nD τ) ↦[Finset.univ]{shareDrop fullShare 4} (x : Buf (Elt F) (mX.view.loc (c : Thread nD τ))))
    ∗ (mW.view.loc (c : Thread nD τ) ↦[Finset.univ]{shareDrop fullShare 6} (w : Buf (Elt F) (mW.view.loc (c : Thread nD τ)))))

theorem mX_parts : ((c : Thread nD τ).loc main_v0 ↦{fullShare} x : sProp 𝕄)
    = iprop((mX.view.loc (c : Thread nD τ) ↦[Finset.univ]{shareDrop fullShare 4} (x : Buf (Elt F) (mX.view.loc (c : Thread nD τ))))
      ∗ ptX c x 0 Finset.univ ∗ ptX c x 1 Finset.univ ∗ ptX c x 2 Finset.univ ∗ ptX c x 3 Finset.univ) := by
  have h := pointsTo_toks_range (Ix := Unit) (Name := ℕ) (U := Pipeline.UD sig nD τ) (Lvl := ℕ) (ℓ := mX.view.loc (c : Thread nD τ)) (S := Finset.univ) (f := (x : Buf (Elt F) (mX.view.loc (c : Thread nD τ)))) fullShare 4
  refine (Entails.antisymm h.1 h.2).trans ?_
  rw [BI.bigSep_eq_bigSepL_of_eq [0, 1, 2, 3] (by decide) (by decide)]
  rfl

theorem mW_parts : ((c : Thread nD τ).loc main_arg1 ↦{fullShare} w : sProp 𝕄)
    = iprop((mW.view.loc (c : Thread nD τ) ↦[Finset.univ]{shareDrop fullShare 6} (w : Buf (Elt F) (mW.view.loc (c : Thread nD τ))))
      ∗ ptW c w 0 Finset.univ ∗ ptW c w 1 Finset.univ ∗ ptW c w 2 Finset.univ ∗ ptW c w 3 Finset.univ ∗ ptW c w 4 Finset.univ ∗ ptW c w 5 Finset.univ) := by
  have h := pointsTo_toks_range (Ix := Unit) (Name := ℕ) (U := Pipeline.UD sig nD τ) (Lvl := ℕ) (ℓ := mW.view.loc (c : Thread nD τ)) (S := Finset.univ) (f := (w : Buf (Elt F) (mW.view.loc (c : Thread nD τ)))) fullShare 6
  refine (Entails.antisymm h.1 h.2).trans ?_
  rw [BI.bigSep_eq_bigSepL_of_eq [0, 1, 2, 3, 4, 5] (by decide) (by decide)]
  rfl

theorem outSet_disj (a b : Nat) (h : a ≠ b) : Disjoint (outSet a) (outSet b) := by
  refine Finset.disjoint_left.mpr fun i h1 h2 => h ?_
  rw [← mem_outSet.mp h1, ← mem_outSet.mp h2]

theorem outSet_cover : (Finset.range 32).biUnion outSet = Finset.univ := by
  refine Finset.eq_univ_iff_forall.mpr fun i => Finset.mem_biUnion.mpr ?_
  have h1 : (i 1).val < 16384 := (i 1).isLt
  exact ⟨(i 1).val / 512, Finset.mem_range.mpr (by omega), mem_outSet.mpr rfl⟩

theorem mO_parts (f : Vec F S96x16384 .bf16) : ((c : Thread nD τ).loc main_v1 ↦{fullShare} f : sProp 𝕄)
    = BI.bigSep (Finset.range 32) fun p => mO.view.loc (c : Thread nD τ) ↦[outSet p]{fullShare} (f : Buf (Elt F) (mO.view.loc (c : Thread nD τ))) := by
  have h := pointsTo_biUnion (Ix := Unit) (Name := ℕ) (U := Pipeline.UD sig nD τ) (Lvl := ℕ) (ℓ := mO.view.loc (c : Thread nD τ)) (q := fullShare) (f := (f : Buf (Elt F) (mO.view.loc (c : Thread nD τ))))
    (Finset.range 32) outSet (fun a _ b _ h => outSet_disj a b h)
  rw [outSet_cover] at h
  exact h

/-- The result's array, whole at anything, is every panel's columns at anything. -/
theorem Todo_start (f : Vec F S96x16384 .bf16) : ((c : Thread nD τ).loc main_v1 ↦{fullShare} f : sProp 𝕄) ⊢ Todo c 0 := by
  rw [mO_parts c f]
  unfold Todo
  rw [← Finset.range_eq_Ico]
  refine BI.bigSep_mono fun p _ => show (mO.view.loc (c : Thread nD τ) ↦[outSet p]{fullShare} (f : Buf (Elt F) (mO.view.loc (c : Thread nD τ)))) ⊢ OutAny c p by
    unfold OutAny
    iintro H
    iexists f
    iexact H

/-- Every panel's columns final is the result's array whole. -/
theorem Out_whole : (BI.bigSep (Finset.range 32) fun p => OutPt c x w d p) = ((c : Thread nD τ).loc main_v1 ↦{fullShare} outV x w d : sProp 𝕄) := by
  rw [mO_parts c (outV x w d)]
  rfl

/-- The kernel's own semaphores. -/
def osem : Fin 12 → SemLoc sig := ![.dma 1, .dma 2, .dma 3, .dma 4, .dma 5, .dma 6, .dma 7, .dma 8, .dma 9, .dma 10, .dma 11, .dma 12]

theorem ownSemFacts : Pipeline.OwnSemFacts spec0 osem := by decide

theorem ownSems_eq : (Pipeline.ownSems0 (Ix := Unit) (Name := ℕ) (U := Pipeline.UD sig nD τ) (Lvl := ℕ) (Val := Elt F) (τ := τ) osem c : sProp 𝕄)
    = iprop(semVal ((c : Thread nD τ), .dma (semX 0)) 0 ∗ semVal ((c : Thread nD τ), .dma (semX 1)) 0 ∗ semVal ((c : Thread nD τ), .dma (semX 2)) 0 ∗ semVal ((c : Thread nD τ), .dma (semX 3)) 0
      ∗ semVal ((c : Thread nD τ), .dma (semW 0)) 0 ∗ semVal ((c : Thread nD τ), .dma (semW 1)) 0 ∗ semVal ((c : Thread nD τ), .dma (semW 2)) 0
      ∗ semVal ((c : Thread nD τ), .dma (semW 3)) 0 ∗ semVal ((c : Thread nD τ), .dma (semW 4)) 0 ∗ semVal ((c : Thread nD τ), .dma (semW 5)) 0
      ∗ semVal ((c : Thread nD τ), .dma (semO 0)) 0 ∗ semVal ((c : Thread nD τ), .dma (semO 1)) 0) := by
  rw [Pipeline.ownSems0_eq_of_list c osem [0, 1, 2, 3, 4, 5, 6, 7, 8, 9, 10, 11] (by decide) (by decide)]
  rfl

/-- What the kernel works in: its buffers and semaphores, and the shares it reads the operands by. -/
def Works : sProp 𝕄 := iprop(FreeX c x 0 ∗ FreeX c x 1 ∗ FreeX c x 2 ∗ FreeX c x 3 ∗ Ring c w ∗ FreeO c 0 ∗ FreeO c 1)

/-- It is the scratch buffers whole, the semaphores at zero, and the operands whole. -/
theorem Works_eq : iprop(Works c x w ∗ Rest c x w)
    = iprop(Pipeline.scopedRest (Ix := Unit) (Name := ℕ) (U := Pipeline.UD sig nD τ) (Lvl := ℕ) (Val := Elt F) spec0 c
      ∗ Pipeline.ownSems0 (Ix := Unit) (Name := ℕ) (U := Pipeline.UD sig nD τ) (Lvl := ℕ) (Val := Elt F) (τ := τ) osem c
      ∗ ((c : Thread nD τ).loc main_arg1 ↦{fullShare} w) ∗ ((c : Thread nD τ).loc main_v0 ↦{fullShare} x)) := by
  rw [scopedRest0_eq, ownSems_eq, bX_parts c x, bW_parts c w, bO_parts c x w (fun _ => FloatOps.ofBits .f32 0), mX_parts, mW_parts]
  unfold Works Rest Ring FreeX FreeW FreeO
  ac_rfl

theorem Loaded_free (j : Fin 4) : LoadedX c x j ⊢ FreeX c x j := by
  unfold LoadedX FreeX colsPt
  iintro ⟨H1, H2, H3⟩
  isplitl [H1]
  · iexists x
    iexact H1
  isplitl [H2]
  · iexact H2
  iexact H3

variable (arg2 : Memref sig .tc .vmem S416x16384 .f32) (f2 : Buf (Elt F) (arg2.view.loc (c : Thread nD τ)))

theorem Start_eq : Start c x w arg2 f2 = iprop(Works c x w ∗ Scales c arg2 f2 ∗ Todo c 0 ∗ Owes c) := by
  unfold Start Works
  ac_rfl

theorem Final_to : Final c x w d arg2 f2 ⊢ iprop(Works c x w ∗ Scales c arg2 f2 ∗ ((c : Thread nD τ).loc main_v1 ↦{fullShare} outV x w d) ∗ Owes c) := by
  unfold Final Works
  rw [Out_whole]
  iintro ⟨H0, H1, H2, H3, H4, H5, H6, H7, H8, H9⟩
  isplitl [H0 H1 H2 H3 H4 H6 H7]
  · isplitl [H0]
    · iapply (Loaded_free c x 0); iexact H0
    isplitl [H1]
    · iapply (Loaded_free c x 1); iexact H1
    isplitl [H2]
    · iapply (Loaded_free c x 2); iexact H2
    isplitl [H3]
    · iapply (Loaded_free c x 3); iexact H3
    isplitl [H4]; · iexact H4
    isplitl [H6]; · iexact H6
    iexact H7
  isplitl [H5]; · iexact H5
  isplitl [H8]; · iexact H8
  iexact H9

end Cert.KernelIdeal.K
-- ==== Proof.Ideal.Run.lean ====
module

public import proofs.«01_k».proof.Proof.Ideal.Split

@[expose] public section

set_option maxRecDepth 16384

noncomputable section

namespace Cert.KernelIdeal.K

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the kernel is launched on -/

/-- The buffers the kernel reads in place, and the one it writes in place. -/
def H : Finset (Ref sig .tc) := {main_arg1, main_v0}
def R : Finset (Ref sig .tc) := {main_v1}
theorem H_sub : H ⊆ Pipeline.restRefs sig spec0 := by decide
theorem R_sub : R ⊆ Pipeline.restRefs sig spec0 \ H := by decide

/-- The left operand, the codes and the scales, as the kernel finds them on core `c`. -/
abbrev xOf (c : Dev nD) : Vec F S96x13312 .bf16 := V m c main_v0
abbrev wOf (c : Dev nD) : Vec F S13312x16384 .i8 := V m c main_arg1
abbrev dOf (c : Dev nD) : Vec F S416x16384 .f32 := iblk m c 0 t0_0

/-- What the buffers hold once the kernel is done: the result's array at the result, the others as before. -/
def G (c : Dev nD) (b : Ref sig .tc) : Buf (Elt F) ((c : Thread nD τ).loc b) :=
  if h : b = main_v1 then h ▸ (outV (xOf m c) (wOf m c) (dOf m c) : Buf (Elt F) ((c : Thread nD τ).loc main_v1)) else V m c b
theorem G_v1 (c : Dev nD) : G m c main_v1 = outV (xOf m c) (wOf m c) (dOf m c) := by
  unfold G; rw [dif_pos rfl]

/-- The kernel's state between its points: its own buffers and semaphores, its operands, and the result's array at `g`. -/
def Held (g : (c : Dev nD) → (b : Ref sig .tc) → Buf (Elt F) ((c : Thread nD τ).loc b)) (c : Dev nD) : sProp 𝕄 :=
  Pipeline.ΦDRV osem spec0 H R (V m) g c

theorem Held_eq (g : (c : Dev nD) → (b : Ref sig .tc) → Buf (Elt F) ((c : Thread nD τ).loc b)) (c : Dev nD) :
    Held m g c = iprop((Works c (xOf m c) (wOf m c) ∗ Rest c (xOf m c) (wOf m c)) ∗ ((c : Thread nD τ).loc main_v1 ↦{fullShare} g c main_v1)) := by
  rw [Works_eq]
  unfold Held Pipeline.ΦDRV
  have h1 : (BI.bigSep H fun b => ((c : Thread nD τ).loc b ↦{fullShare} V m c b : sProp 𝕄))
      = iprop(((c : Thread nD τ).loc main_arg1 ↦{fullShare} V m c main_arg1) ∗ ((c : Thread nD τ).loc main_v0 ↦{fullShare} V m c main_v0)) := by
    rw [BI.bigSep_eq_bigSepL_of_eq [main_arg1, main_v0] (by decide) (by decide)]
    rfl
  have h2 : (BI.bigSep R fun b => ((c : Thread nD τ).loc b ↦{fullShare} g c b : sProp 𝕄)) = ((c : Thread nD τ).loc main_v1 ↦{fullShare} g c main_v1) := by
    rw [BI.bigSep_eq_bigSepL_of_eq [main_v1] (by decide) (by decide)]
    rfl
  rw [h1, h2]
  ac_rfl

/-- The proof data of the one pipeline: the scales' window left as found; the result's array at the result after the one point. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
  Φ t := if t.val = 0 then Held m (V m) c else Held m (G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)

theorem Phi_eq (c : Dev nD) (t : Fin (cfg0.N + 1)) : (dats m 0 c).Φ t = if t.val = 0 then Held m (V m) c else Held m (G m) c := by dsimp only [dats]
theorem Phi_zero (c : Dev nD) (t : Fin (cfg0.N + 1)) (h : t.val = 0) : (dats m 0 c).Φ t = Held m (V m) c := by rw [Phi_eq, if_pos h]
theorem Phi_pos (c : Dev nD) (t : Fin (cfg0.N + 1)) (h : t.val ≠ 0) : (dats m 0 c).Φ t = Held m (G m) c := by rw [Phi_eq, if_neg h]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t))

/-- The kernel's body at the one point. -/
theorem sound_body (c : Dev nD) :
    bodyPre m c t0_0 ⊢ wp frame (wpE (defs₀ (F := F)) Variants.none c none) Set.univ (bodyAt0 t0_0) (fun _ => bodyPost m c t0_0) := by
  unfold bodyPre bodyPost bodyAt0
  rw [Phi_zero m c (t0_0 : Fin cfg0.N).castSucc rfl, Phi_pos m c (t0_0 : Fin cfg0.N).succ (Nat.succ_ne_zero _), Held_eq, Held_eq, after0_0]
  simp only [before0_0]
  unfold Dat.owesAt Pipeline.owesWithin
  rw [show (dats m 0 c).owed (t0_0 : Fin cfg0.N).castSucc = 0 from rfl, show (dats m 0 c).owed (t0_0 : Fin cfg0.N).succ = 0 from rfl, G_v1]
  unfold owns
  iintro ⟨⟨⟨HW, HR⟩, HO⟩, ⟨%W, -, Howe⟩, ⟨%d, %f, %hf, Hs⟩⟩
  iapply (T_kernel c (xOf m c) (wOf m c) (dOf m c) (st0_0 t0_0) f hf (hstage0_0 0) _)
  isplitl [HW HO Howe Hs]
  · rw [Start_eq]
    isplitl [HW]
    · iexact HW
    isplitl [Hs]
    · unfold Scales
      iexact Hs
    isplitl [HO]
    · iapply (Todo_start c (V m c main_v1))
      iexact HO
    unfold Owes
    iexists W
    iexact Howe
  iintro HF
  ihave HF := (Final_to c (xOf m c) (wOf m c) (dOf m c) (st0_0 t0_0) f) $$ HF
  icases HF with ⟨HW, HS, HO, Howe⟩
  isplitl [HW HR HO]
  · isplitl [HW HR]
    · isplitl [HW]
      · iexact HW
      iexact HR
    iexact HO
  isplitl [Howe]
  · unfold Owes
    icases Howe with ⟨%W', Howe⟩
    iexists W'
    isplitr
    · ipureintro; exact fun _ _ => Or.inl trivial
    iexact Howe
  iexists f
  isplitr
  · ipureintro; exact hf
  unfold Scales
  iexact HS

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  obtain rfl := fin_N0 t
  exact triple_restated (sound_body m c) rfl .rfl fun _ => .rfl

theorem hmainD : Pipeline.HMainK (Ix := Unit) (Name := ℕ) (U := Pipeline.UD sig nD τ) (Lvl := ℕ) cfgs 0 defs₀ Variants.none m (main (F := F)) (V m)
      (fun _ => Pipeline.chain ([hostOps1].map StableHlo.seq)) :=
  Pipeline.hmain_around cfgs 0 defs₀ Variants.none m main [hostOps0] [hostOps1] (by simp only [List.Forall]; exact hostOps0_sub)
    (by simp only [List.Forall]; exact hostOps0_fresh) main_chain

/-- What the buffers hold at the end: the lines after the kernel, run from where the kernel leaves them. -/
abbrev End (c : Dev nD) : Valuation τ sig (Elt F) :=
  StableHlo.after (List.flatten [hostOps1]) (Pipeline.withArrays spec0 c (Pipeline.withR (V0 m c) R c (G m c)) fun w => (dats m 0 c).arrAt w cfg0.N)

set_option backward.isDefEq.respectTransparency.types false in
/-- The whole program runs, and every array ends as `End` says. -/
theorem run_main : θ_run defs (onTc (τ := τ) (main (F := F))) (s₀ m ρ)
    (fun r => (∀ c : Dev nD, (∀ w, r.2.mem ((spec0 w).arr.view.loc (c.tc : Thread nD τ)) = (dats m 0 c).arrAt w cfg0.N)
      ∧ ∀ b ∈ Pipeline.restRefs sig spec0, r.2.mem ((c.tc : Thread nD τ).loc b) = End m c (Proc.devRef .tc b)) ∧ r.2.sem = fun _ => 0) :=
  Pipeline.θ_run_frame_dmaR_aroundV (Q' := _) (hQ' := fun _ h => h) cfgs (dats m) (0 : Fin 1) launch0 osem defs₀ Variants.none ownSemFacts H R H_sub R_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m) (hmain := hmainD m) (hA := A_eq m)
    (hin := fun c => by
      rw [Phi_zero m c 0 rfl]
      exact .rfl)
    (hout := fun c => by
      rw [Phi_pos m c (Fin.last cfg0.N) (by show cfg0.N ≠ 0; exact (by decide : grid0.N ≠ 0))]
      exact .rfl)

theorem End_of_ne (c : Dev nD) (b : Ref sig .tc) (h1 : b ≠ main_v2) (h2 : b ∉ R) (h3 : ∀ w, Pipeline.arrRef spec0 w ≠ b) :
    End m c (Proc.devRef .tc b) = V m c b := by
  unfold End
  simp only [List.flatten_cons, List.flatten_nil, List.append_nil, StableHlo.after_cons, StableHlo.after_nil]
  rw [StableHlo.reshape_result_ne _ _ _ _ _ _ _ h1, Pipeline.withArrays_of_ne _ c _ _ b h3, Pipeline.withR_of_not_mem _ _ _ _ b h2]

/-- The result at the end: the kernel's, reshaped. -/
theorem End_v2 (c : Dev nD) : End m c (Proc.devRef .tc main_v2)
    = shapeCast S96x1x16384 (outV (xOf m c) (wOf m c) (dOf m c)) shapeCasts_S96x16384_S96x1x16384 := by
  unfold End
  simp only [List.flatten_cons, List.flatten_nil, List.append_nil, StableHlo.after_cons, StableHlo.after_nil]
  rw [StableHlo.reshape_result, Pipeline.withArrays_of_ne _ c _ _ main_v1 (by decide), Pipeline.withR_of_mem _ _ _ _ main_v1 (by decide), G_v1]
  rfl

/-- The left operand as the kernel finds it: the argument, reshaped. -/
theorem xOf_eq (c : Dev nD) : xOf m c = shapeCast S96x13312 (m ((c : Thread nD τ).loc main_arg0)) shapeCasts_S96x1x13312_S96x13312 := by
  unfold xOf V V0
  simp only [List.flatten_cons, List.flatten_nil, List.append_nil, StableHlo.after_cons, StableHlo.after_nil]
  rw [StableHlo.reshape_result]
  rfl

theorem wOf_eq (c : Dev nD) : wOf m c = m ((c : Thread nD τ).loc main_arg1) := V_main_arg1 m c

theorem dOf_eq (c : Dev nD) : dOf m c = m ((c : Thread nD τ).loc main_arg2) := by
  rw [← V_main_arg2 m c]
  funext i
  unfold dOf iblk
  rw [View.read_apply]
  show V m c main_arg2 _ = V m c main_arg2 i
  congr 1
  funext a
  apply Fin.ext
  fin_cases a
  · show 0 + 1 * (i 0).val = (i 0).val
    omega
  · show 0 + 1 * (i 1).val = (i 1).val
    omega

/-- The whole program runs; its result, and its arguments unchanged; every semaphore ends at zero. -/
theorem run : θ_run defs (onTc (τ := τ) (main (F := F))) ⟨m, fun _ => 0, ρ⟩ (fun r => (∀ c : Dev nD,
      r.2.mem ((c.tc : Thread nD τ).loc main_v2) = shapeCast S96x1x16384 (outV (shapeCast S96x13312 (m ((c : Thread nD τ).loc main_arg0)) shapeCasts_S96x1x13312_S96x13312)
          (m ((c : Thread nD τ).loc main_arg1)) (m ((c : Thread nD τ).loc main_arg2))) shapeCasts_S96x16384_S96x1x16384
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨by
      rw [(h.1 c).2 main_v2 (Pipeline.mem_restRefs_of main_v2 (by decide) (by decide)), End_v2, xOf_eq, wOf_eq, dOf_eq],
    by rw [(h.1 c).2 main_arg0 (Pipeline.mem_restRefs_of main_arg0 (by decide) (by decide)), End_of_ne m c main_arg0 (by decide) (by decide) (by decide), V_main_arg0],
    by rw [(h.1 c).2 main_arg1 (Pipeline.mem_restRefs_of main_arg1 (by decide) (by decide)), End_of_ne m c main_arg1 (by decide) (by decide) (by decide), V_main_arg1],
    ((h.1 c).1 0).trans (((dats m 0 c).arrAt_in 0 rfl _).trans ((A_eq m c 0).trans (V_main_arg2 m c)))⟩, h.2⟩) (run_main m ρ)

/-- The whole program runs, leaves its arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.K
-- ==== Proof.Ideal.Blocks.lean ====
module

public import proofs.«01_k».proof.Proof.Ideal.Fold
public import Idealize.ShloMosaic.Lib.MatmulPlain
public import Idealize.ShloMosaic.Lib.ValueLayout
public import Idealize.ShloMosaic.Lib.ValueIdx
public import Idealize.ShloMosaic.Lib.Pipeline.Value
public import Idealize.ShloMosaic.PureOps.Ideal.Laws
public import Idealize.ShloMosaic.Lib.Mxu.Lemmas

@[expose] public section

noncomputable section

namespace Cert.KernelIdeal.K

open Idealize.ShloMosaic Idealize.ShloMosaic.ValueIdx Cert.KernelIdeal Cert.KernelIdeal.Gen
open scoped BigOperators

/-! ## One tile of weights -/

/-- A block of weights at an index: the code times the scale of its column. -/
theorem wBlk_apply (u : Vec Ideal S1x32x256 .i8) (v : Vec Ideal S1x256 .f32) (r : Fin 32) (c : Fin 256) :
    wBlk u v (ix2 r c) = ((((u (ix3 (0 : Fin 1) r c) : BitVec 8).toInt : ℝ) : EReal)) * v (ix2 (0 : Fin 1) c) := by
  have e1 : shapeCast S32x256 u shapeCasts_S1x32x256_S32x256 (ix2 r c) = u (ix3 (0 : Fin 1) r c) :=
    shapeCast_1ab_ab_apply u _ r c
  have e2 : broadcastTo S32x256 v broadcasts_S1x256_S32x256 (ix2 r c) = v (ix2 (0 : Fin 1) c) :=
    broadcastTo_apply v _ _ _ (fun a => by fin_cases a <;> rfl)
  show ((((shapeCast S32x256 u shapeCasts_S1x32x256_S32x256 (ix2 r c) : BitVec 8).toInt : ℝ) : EReal))
    * (broadcastTo S32x256 v broadcasts_S1x256_S32x256 (ix2 r c) : EReal) = _
  rw [e1, e2]

/-- A tile at row `k` is block `k / 32` at row `k % 32`. -/
theorem wTile_apply (f : Fin 8 → FVec Ideal S32x256 .bf16) (k c : Fin 256) :
    wTile f (ix2 k c) = f ⟨k.val / 32, by omega⟩ (ix2 ⟨k.val % 32, by omega⟩ c) := by
  have key : ∀ (xs : List ((s : Shape) × (s.Idx → Ideal .bf16))) (h : Shape.Concatenates (xs.map (·.1)) S256x256 0),
      xs = (List.ofFn fun n : Fin 8 => (⟨S32x256, f n⟩ : (s : Shape) × (s.Idx → Ideal .bf16))) →
      concatenate S256x256 0 xs h (ix2 k c) = f ⟨k.val / 32, by omega⟩ (ix2 ⟨k.val % 32, by omega⟩ c) := by
    intro xs h e
    subst e
    refine concatenate_ofFn_apply (t := S256x256) (s₁ := S32x256) 0 f h rfl 32 rfl (ix2 k c) ⟨k.val / 32, by omega⟩ rfl _ rfl ?_
    intro b hb
    fin_cases b
    · exact absurd rfl hb
    · rfl
  unfold wTile
  exact key _ _ (by simp [List.ofFn_succ])

variable (x : Vec Ideal S96x13312 .bf16) (w : Vec Ideal S13312x16384 .i8) (d : Vec Ideal S416x16384 .f32)

/-- The weight at row `k` and column `n`: its code times the scale of its block of 32 rows. -/
def wtAt (k n : Nat) : EReal := ((((wAt w k n : BitVec 8).toInt : ℝ) : EReal)) * (dAt d (k / 32) n : EReal)

/-- The product's term at row `r`, column `n` and contraction position `k`. -/
def termAt (r n k : Nat) : EReal := (xAt x r k : EReal) * wtAt w d k n

/-- A tile's weights are the matrix' at the tile's rows and columns. -/
theorem tileW_apply (n t q : Nat) (k c : Fin 256) :
    tileW w d n t q (ix2 k c) = wtAt w d (256 * (13 * (n % 4) + t) + k.val) (512 * (n / 4) + 256 * q + c.val) := by
  unfold tileW
  rw [wTile_apply, wBlk_apply]
  have e1 : 3328 * (n % 4) + (256 * t + 32 * (k.val / 32) + k.val % 32) = 256 * (13 * (n % 4) + t) + k.val := by omega
  have e2 : 512 * (n / 4) + (256 * q + c.val) = 512 * (n / 4) + 256 * q + c.val := by omega
  have e3 : (13 * (n % 4) + t) * 8 + k.val / 32 = (256 * (13 * (n % 4) + t) + k.val) / 32 := by omega
  show ((((wAt w (3328 * (n % 4) + (256 * t + 32 * (k.val / 32) + k.val % 32)) (512 * (n / 4) + (256 * q + c.val)) : BitVec 8).toInt : ℝ) : EReal))
    * (dAt d ((13 * (n % 4) + t) * 8 + k.val / 32) (512 * (n / 4) + 256 * q + c.val) : EReal) = _
  rw [e1, e2, e3]
  rfl

/-! ## The matrix units over the extended reals -/

/-- What a tile adds at row `r` and column `c` of a unit's accumulator. -/
def tileSum (n t q r c : Nat) : EReal := ∑ k ∈ Finset.range 256, termAt x w d r (512 * (n / 4) + 256 * q + c) (256 * (13 * (n % 4) + t) + k)

/-- The pass of a tile of the left operand's columns over a tile of weights. -/
theorem pass_apply (n t q : Nat) (r : Fin 96) (c : Fin 256) :
    (⟨.bf16, false, tileW w d n t q⟩ : Mxu.Staged Ideal).pass (M := 96) (φ := .bf16) (colsV x n t) (ix2 r c) = tileSum x w d n t q r.val c.val := by
  have h := Ideal.matmul_plain_apply (M := 96) (K := 256) (N := 256) (φ₁ := .bf16) (φ₂ := .bf16) none (colsV x n t) (tileW w d n t q) (fun _ => (0 : EReal)) r c
  refine ((zero_add _).symm.trans (h.trans (zero_add _))).trans ?_
  unfold tileSum
  rw [Finset.sum_range]
  refine Finset.sum_congr rfl fun k _ => ?_
  rw [tileW_apply]
  rfl

/-- An accumulate adds its pass, whether the rows were live or not: a row that is not live is zero. -/
theorem read_accLhs_add (s : Mxu Ideal) (q r : Fin 2) (lhs : FVec Ideal (Mxu.STile 96) .bf16) (i : (Mxu.STile 96).Idx) :
    (s.accLhs q r 0 (M := 96) lhs fits_0_96).read q 0 fits_0_96 i = (s.read q 0 fits_0_96 i : EReal) + ((s.staged q r).pass lhs i : EReal) := by
  rw [Mxu.read_accLhs]
  by_cases hl : s.live q (Mxu.row fits_0_96 (i 0)) = true
  · show Mxu.deposit (s.live q (Mxu.row fits_0_96 (i 0))) _ _ = _
    rw [hl]
    rfl
  · have hl' : s.live q (Mxu.row fits_0_96 (i 0)) = false := by simpa using hl
    have h0 : s.read q 0 fits_0_96 i = (0 : EReal) := (s.clean q _ (i 1) hl').trans Ideal.ofBits_zero_f32
    show Mxu.deposit (s.live q (Mxu.row fits_0_96 (i 0))) _ _ = _
    rw [hl', h0, zero_add]
    rfl

/-- A tile adds its sum to both units' accumulators. -/
theorem read_tileV {s : Mxu Ideal} (hs : Clear s) (n t : Nat) (q : Fin 2) (r : Fin 96) (c : Fin 256) :
    (tileV x w d n t s).read q 0 fits_0_96 (ix2 r c) = (s.read q 0 fits_0_96 (ix2 r c) : EReal) + tileSum x w d n t q.val r.val c.val := by
  unfold tileV
  have hq : q = 0 ∨ q = 1 := by revert q; decide
  rcases hq with rfl | rfl
  · rw [Mxu.read_accLhs_ne _ _ _ _ _ _ _ _ _ (Or.inl (by decide)), read_accLhs_add, Mxu.read_pushed, Mxu.read_pushed]
    refine congrArg _ ?_
    rw [← pass_apply]
    unfold Mxu.staged
    rw [Mxu.reg_pushed_ne _ _ _ _ _ _ _ (fun h => absurd h.1 (by decide)), Mxu.reg_pushed_of_none _ _ _ _ _ (hs.reg _ _)]
    rfl
  · rw [read_accLhs_add, Mxu.read_accLhs_ne _ _ _ _ _ _ _ _ _ (Or.inl (by decide)), Mxu.read_pushed, Mxu.read_pushed]
    refine congrArg _ ?_
    rw [← pass_apply]
    unfold Mxu.staged
    rw [Mxu.reg_accLhs_ne _ _ _ _ _ _ _ _ (fun h => absurd h.1 (by decide)), Mxu.reg_pushed_of_none]
    · rfl
    · rw [Mxu.reg_pushed_ne _ _ _ _ _ _ _ (fun h => absurd h.1 (by decide))]
      exact hs.reg _ _

/-- Tiles `t, …, t + m - 1` add their sums. -/
theorem read_tilesV (n m : Nat) : ∀ (t : Nat) {s : Mxu Ideal} (_ : Clear s) (q : Fin 2) (r : Fin 96) (c : Fin 256),
    (tilesV x w d n m t s).read q 0 fits_0_96 (ix2 r c)
      = (s.read q 0 fits_0_96 (ix2 r c) : EReal) + ∑ j ∈ Finset.range m, tileSum x w d n (t + j) q.val r.val c.val := by
  induction m with
  | zero => intro t s hs q r c; exact (add_zero _).symm
  | succ m ih =>
    intro t s hs q r c
    refine (ih (t + 1) (clear_tileV x w d hs n t) q r c).trans ?_
    rw [read_tileV x w d hs, Finset.sum_range_succ', add_assoc, add_comm (tileSum x w d n t q.val r.val c.val)]
    refine congrArg _ (congrArg₂ _ (Finset.sum_congr rfl fun j _ => ?_) rfl)
    rw [show t + 1 + j = t + (j + 1) by omega]

/-- A sum over blocks of `b` is the sum over the whole. -/
theorem sum_blocks (b a : Nat) (g : Nat → EReal) : ∑ t ∈ Finset.range a, ∑ k ∈ Finset.range b, g (b * t + k) = ∑ k ∈ Finset.range (b * a), g k := by
  induction a with
  | zero => rfl
  | succ a ih => rw [Finset.sum_range_succ, ih, Nat.mul_succ, Finset.sum_range_add]

/-- The 13 tiles of step `4 p + j` add the terms of 3328 contraction positions. -/
theorem step_sum (p j q r c : Nat) (hj : j < 4) :
    ∑ t ∈ Finset.range 13, tileSum x w d (4 * p + j) (0 + t) q r c
      = ∑ k ∈ Finset.range 3328, termAt x w d r (512 * p + 256 * q + c) (3328 * j + k) := by
  have e : (4 * p + j) % 4 = j := by omega
  have e' : (4 * p + j) / 4 = p := by omega
  unfold tileSum
  rw [e, e', ← sum_blocks 256 13 fun k => termAt x w d r (512 * p + 256 * q + c) (3328 * j + k)]
  refine Finset.sum_congr rfl fun t _ => Finset.sum_congr rfl fun k _ => ?_
  rw [show 256 * (13 * j + (0 + t)) + k = 3328 * j + (256 * t + k) by omega]

/-- Before every panel the accumulators are zero. -/
theorem read_stateV (p : Nat) (q : Fin 2) (i : (Mxu.STile 96).Idx) : (stateV x w d p).read q 0 fits_0_96 i = (0 : EReal) :=
  ((stateV x w d p).clean q _ (i 1) ((drained_stateV x w d p).2 q _)).trans Ideal.ofBits_zero_f32

/-- When panel `p` is complete a unit's accumulator holds the whole sum over the contraction. -/
theorem read_fullV (p : Nat) (q : Fin 2) (r : Fin 96) (c : Fin 256) :
    (fullV x w d p).read q 0 fits_0_96 (ix2 r c) = ∑ k ∈ Finset.range 13312, termAt x w d r.val (512 * p + 256 * q.val + c.val) k := by
  have s0 := clear_stateV x w d p
  have s1 := clear_tilesV x w d (4 * p + 0) 13 0 s0
  have s2 := clear_tilesV x w d (4 * p + 1) 13 0 s1
  have s3 := clear_tilesV x w d (4 * p + 2) 13 0 s2
  unfold fullV panelV
  rw [read_tilesV x w d _ 13 0 s3, read_tilesV x w d _ 13 0 s2, read_tilesV x w d _ 13 0 s1, read_tilesV x w d _ 13 0 s0, read_stateV,
    step_sum x w d p 0 _ _ _ (by omega), step_sum x w d p 1 _ _ _ (by omega), step_sum x w d p 2 _ _ _ (by omega), step_sum x w d p 3 _ _ _ (by omega),
    ← sum_blocks 3328 4 fun k => termAt x w d r.val (512 * p + 256 * q.val + c.val) k]
  simp only [Finset.sum_range_succ _ 3, Finset.sum_range_succ _ 2, Finset.sum_range_succ _ 1, Finset.sum_range_succ _ 0, Finset.sum_range_zero]

/-! ## The result -/

theorem leftV_apply (p : Nat) (r : Fin 96) (c : Fin 256) :
    leftV x w d p (ix3 (0 : Fin 1) r c) = ∑ k ∈ Finset.range 13312, termAt x w d r.val (512 * p + c.val) k := by
  have h := read_fullV x w d p 0 r c
  unfold leftV k0_pay808
  exact (shapeCast_ab_1ab_apply _ _ (0 : Fin 1) r c).trans h

theorem rightV_apply (p : Nat) (r : Fin 96) (c : Fin 256) :
    rightV x w d p (ix3 (0 : Fin 1) r c) = ∑ k ∈ Finset.range 13312, termAt x w d r.val (512 * p + 256 + c.val) k := by
  have h := read_fullV x w d p 1 r c
  unfold rightV k0_pay809
  rw [Mxu.read_pop_ne _ _ _ _ _ _ _ (Or.inl (by decide))]
  exact (shapeCast_ab_1ab_apply _ _ (0 : Fin 1) r c).trans h

theorem outAt_eq (p r c : Nat) (hr : r < 96) (hc : c < 512) :
    outAt x w d p r c = ∑ k ∈ Finset.range 13312, termAt x w d r (512 * p + c) k := by
  unfold outAt
  have er : r % 96 = r := Nat.mod_eq_of_lt hr
  split
  · next h =>
    refine (congrArg (leftV x w d p) (?_ : _ = ix3 (0 : Fin 1) ⟨r, hr⟩ (Fin.ofNat 256 c))).trans ((leftV_apply x w d p _ _).trans ?_)
    · funext a
      fin_cases a
      · rfl
      · exact Fin.ext er
      · rfl
    · rw [show (Fin.ofNat 256 c).val = c from Nat.mod_eq_of_lt h]
  · next h =>
    refine (congrArg (rightV x w d p) (?_ : _ = ix3 (0 : Fin 1) ⟨r, hr⟩ (Fin.ofNat 256 c))).trans ((rightV_apply x w d p _ _).trans ?_)
    · funext a
      fin_cases a
      · rfl
      · exact Fin.ext er
      · rfl
    · rw [show 512 * p + 256 + (Fin.ofNat 256 c).val = 512 * p + c from by
        show 512 * p + 256 + c % 256 = _
        omega]

/-- The kernel's result at a row and a column is the whole product's. -/
theorem outV_apply (r : Fin 96) (n : Fin 16384) :
    outV x w d (ix2 r n) = ∑ k ∈ Finset.range 13312, termAt x w d r.val n.val k := by
  refine (outAt_eq x w d (n.val / 512) r.val (n.val % 512) r.isLt (by omega)).trans ?_
  rw [show 512 * (n.val / 512) + n.val % 512 = n.val by omega]

end Cert.KernelIdeal.K
-- ==== Proof.Ideal.Ref.lean ====
module

public import proofs.«01_k».proof.Proof.Gen.ReferenceIdeal.Run
public import Idealize.ShloMosaic.Lib.ValueLayout
public import Idealize.ShloMosaic.Lib.ValueIdx
public import Idealize.ShloMosaic.Lib.Pipeline.Value
public import Idealize.ShloMosaic.PureOps.Ideal.Laws

@[expose] public section

noncomputable section

namespace Cert.ReferenceIdeal.Ref

open Idealize.ShloMosaic Idealize.ShloMosaic.ValueIdx Cert.ReferenceIdeal Cert.ReferenceIdeal.Gen
open scoped BigOperators

variable (x : FVec Ideal S96x1x13312 .bf16) (w : Vec Ideal S13312x16384 .i8) (d : FVec Ideal S416x16384 .f32)

/-- The reference's weights: the codes times their blocks' scales. -/
def wts : FVec Ideal S13312x16384 .bf16 :=
  shapeCast _ (truncf .bf16 (mulf (shapeCast _ (sitofp .f32 (extsi 32 w natLt_8_32)) shapeCasts_S13312x16384_S416x32x16384) (broadcastInDim S416x32x16384 ![0, 1, 2] bcast_S416x1x16384_S416x32x16384_0_1_2 (broadcastInDim S416x1x16384 ![0, 2] bcast_S416x16384_S416x1x16384_0_2 d))) bitsLt_bf16_f32) shapeCasts_S416x32x16384_S13312x16384

/-- The reference's result, of its arguments. -/
def out : FVec Ideal S96x1x16384 .bf16 :=
  truncf .bf16 (Host.dotGeneral (φ₁ := .bf16) (φ₂ := .bf16) dot_S96x1x13312_S13312x16384_S96x1x16384_2_0_01_1_n_n none x (wts w d)) bitsLt_bf16_f32

/-- A weight is its code times the scale of its block of 32 rows. -/
theorem wts_apply (k : Fin 13312) (n : Fin 16384) :
    wts w d (ix2 k n) = ((((w (ix2 k n) : BitVec 8).toInt : ℝ) : EReal)) * (d (ix2 (⟨k.val / 32, by omega⟩ : Fin 416) n) : EReal) := by
  unfold wts
  refine (shapeCast_apply _ _ (ix2 k n) (ix3 (⟨k.val / 32, by omega⟩ : Fin 416) (⟨k.val % 32, by omega⟩ : Fin 32) n) ?_).trans ?_
  · rw [Shape.rowMajor_val_three, Shape.rowMajor_val_two]
    show (k.val / 32 * 32 + k.val % 32) * 16384 + n.val = k.val * 16384 + n.val
    omega
  · refine congrArg₂ (fun a b : EReal => a * b) ?_ ?_
    · refine (shapeCast_apply _ _ _ (ix2 k n) ?_).trans ?_
      · rw [Shape.rowMajor_val_three, Shape.rowMajor_val_two]
        show k.val * 16384 + n.val = (k.val / 32 * 32 + k.val % 32) * 16384 + n.val
        omega
      · show (((((w (ix2 k n) : BitVec 8).signExtend 32).toInt : ℝ) : EReal)) = _
        rw [BitVec.toInt_signExtend_of_le (by omega)]
    · refine (broadcastInDim_apply _ _ _ _ (ix3 (⟨k.val / 32, by omega⟩ : Fin 416) (0 : Fin 1) n) ?_).trans ?_
      · intro a; fin_cases a <;> rfl
      · refine broadcastInDim_apply _ _ _ _ _ ?_
        intro a; fin_cases a <;> rfl

/-- The reference's result at an index: the sum over the contraction. -/
theorem out_apply (r : Fin 96) (n : Fin 16384) :
    out x w d (ix3 r (0 : Fin 1) n) = ∑ k : Fin 13312, (x (ix3 r (0 : Fin 1) k) : EReal) * wts w d (ix2 k n) := by
  have tr : ∀ (v : FVec Ideal S96x1x16384 .f32) (h : FTy.bf16.bits < FTy.f32.bits) (i : S96x1x16384.Idx), (truncf .bf16 v h i : EReal) = v i := fun _ _ _ => rfl
  unfold out
  refine (tr _ _ _).trans ?_
  show FloatOps.dotGeneral _ none _ x (wts w d) (ix3 r (0 : Fin 1) n) = _
  rw [Ideal.dotGeneral_apply, ← Equiv.sum_comp (contrEquiv1 dot_S96x1x13312_S13312x16384_S96x1x16384_2_0_01_1_n_n 13312 rfl rfl).symm]
  refine Finset.sum_congr rfl fun k _ => ?_
  have hk := contrEquiv1_symm_val dot_S96x1x13312_S13312x16384_S96x1x16384_2_0_01_1_n_n 13312 rfl rfl k
  have el : dot_S96x1x13312_S13312x16384_S96x1x16384_2_0_01_1_n_n.lhsIdx (ix3 r (0 : Fin 1) n) ((contrEquiv1 _ 13312 rfl rfl).symm k) = ix3 r (0 : Fin 1) k := by
    funext a; apply Fin.ext
    match a with
    | ⟨0, _⟩ => simp [DotDims.lhsIdx, dot_S96x1x13312_S13312x16384_S96x1x16384_2_0_01_1_n_n]; rfl
    | ⟨1, _⟩ => simp [DotDims.lhsIdx, dot_S96x1x13312_S13312x16384_S96x1x16384_2_0_01_1_n_n]
    | ⟨2, _⟩ => simp [DotDims.lhsIdx, dot_S96x1x13312_S13312x16384_S96x1x16384_2_0_01_1_n_n]; exact hk
  have er : dot_S96x1x13312_S13312x16384_S96x1x16384_2_0_01_1_n_n.rhsIdx (ix3 r (0 : Fin 1) n) ((contrEquiv1 _ 13312 rfl rfl).symm k) = ix2 k n := by
    funext a; apply Fin.ext
    match a with
    | ⟨0, _⟩ => simp [DotDims.rhsIdx, dot_S96x1x13312_S13312x16384_S96x1x16384_2_0_01_1_n_n]; exact hk
    | ⟨1, _⟩ => simp [DotDims.rhsIdx, dot_S96x1x13312_S13312x16384_S96x1x16384_2_0_01_1_n_n]; rfl
  rw [el, er]

end Cert.ReferenceIdeal.Ref
-- ==== Proof.Ideal.Equal.lean ====
module

public import proofs.«01_k».proof.Proof.Ideal.Blocks
public import proofs.«01_k».proof.Proof.Ideal.Ref

@[expose] public section

noncomputable section

namespace Cert.KernelIdeal.K

open Idealize.ShloMosaic Idealize.ShloMosaic.ValueIdx Cert.KernelIdeal Cert.KernelIdeal.Gen
open scoped BigOperators

variable (x : Vec Ideal S96x1x13312 .bf16) (w : Vec Ideal S13312x16384 .i8) (d : Vec Ideal S416x16384 .f32)

/-- Of the same arguments the kernel and the reference give the same result. -/
theorem out_eq : shapeCast S96x1x16384 (outV (shapeCast S96x13312 x shapeCasts_S96x1x13312_S96x13312) w d) shapeCasts_S96x16384_S96x1x16384
    = Cert.ReferenceIdeal.Ref.out x w d := by
  funext i
  obtain ⟨r, u, n, rfl⟩ : ∃ (r : Fin 96) (u : Fin 1) (n : Fin 16384), i = ix3 r u n := ⟨i 0, i 1, i 2, eq_ix3 i⟩
  obtain rfl : u = 0 := Subsingleton.elim _ _
  refine (shapeCast_apply _ _ _ (ix2 r n) ?_).trans ?_
  · rw [Shape.rowMajor_val_three, Shape.rowMajor_val_two]
    show r.val * 16384 + n.val = (r.val * 1 + 0) * 16384 + n.val
    omega
  refine (outV_apply _ w d r n).trans (Eq.trans ?_ (Cert.ReferenceIdeal.Ref.out_apply x w d r n).symm)
  rw [Finset.sum_range]
  refine Finset.sum_congr rfl fun k _ => ?_
  rw [Cert.ReferenceIdeal.Ref.wts_apply]
  have ek : (Fin.ofNat 13312 k.val) = k := Fin.ext (Nat.mod_eq_of_lt k.isLt)
  have en : (Fin.ofNat 16384 n.val) = n := Fin.ext (Nat.mod_eq_of_lt n.isLt)
  have er : (Fin.ofNat 96 r.val) = r := Fin.ext (Nat.mod_eq_of_lt r.isLt)
  have ed : (Fin.ofNat 416 (k.val / 32)) = ⟨k.val / 32, by omega⟩ := Fin.ext (Nat.mod_eq_of_lt (by omega))
  have ix : ∀ {a b : Nat} (p : Fin a) (q : Fin b), Mxu.ix p q = ix2 p q := fun p q => by
    funext j; fin_cases j <;> rfl
  unfold termAt wtAt xAt wAt dAt
  rw [ek, en, er, ed, ix, ix, ix]
  refine congrArg (fun a : EReal => a * _) ?_
  refine shapeCast_apply _ _ _ _ ?_
  rw [Shape.rowMajor_val_three, Shape.rowMajor_val_two]
  show (r.val * 1 + 0) * 13312 + k.val = r.val * 13312 + k.val
  omega

end Cert.KernelIdeal.K
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.Ideal.Run
public import proofs.«01_k».proof.Proof.Ideal.Equal
public import Idealize.ShloMosaic.Lib.Quiescent

@[expose] public section

namespace Cert.Proof

open Idealize.ShloMosaic Idealize.SL.Sem Cert.Kernel

/-- The reference runs and leaves its arguments as they were; it has no semaphore at all. -/
theorem reference_frame : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- Over the extended reals the kernel and the reference end with the same result. -/
theorem value : algebraic_KernelIdeal_ReferenceIdeal (hKernelIdeal := Cert.KernelIdeal.Gen.facts) (hReferenceIdeal := Cert.ReferenceIdeal.Gen.facts) := by
  intro m g m' g' _ hm
  refine ⟨fun c => Cert.ReferenceIdeal.Ref.out (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · exact (θ_run _ _ _).mono (fun r h c => ⟨(h.1 c).1.trans (Cert.KernelIdeal.K.out_eq _ _ _), (h.1 c).2⟩) (Cert.KernelIdeal.K.run (F := Ideal) m g)
  · refine (θ_run _ _ _).mono (fun r h c => ⟨(h c).1.trans ?_, (h c).2⟩) (Cert.ReferenceIdeal.Value.run (F := Ideal) m' g')
    obtain ⟨h0, h1, h2⟩ := hm c
    rw [h0, h1, h2]
    rfl

/-- The kernel, its ideal form and the ideal reference run, leave their arguments as they were and every semaphore at zero;
    the kernel's ideal form and the ideal reference give the same result. -/
theorem claim : Cert.Claim := ⟨Cert.Kernel.Gen.facts, Cert.KernelIdeal.Gen.facts, Cert.ReferenceIdeal.Gen.facts,
  fun m g _ => Cert.Kernel.K.frame m g, fun m g _ => Cert.KernelIdeal.K.frame m g, reference_frame, trivial, value⟩

end Cert.Proof

end
